-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelDwO (m : (ℓ : Loc Cert.KernelDwO.nD Cert.KernelDwO.τ Cert.KernelDwO.sig) → Buf (Elt Bits) ℓ) : Prop :=
  True

def Pre_KernelDwOIdeal (m : (ℓ : Loc Cert.KernelDwOIdeal.nD Cert.KernelDwOIdeal.τ Cert.KernelDwOIdeal.sig) → Buf (Elt Ideal) ℓ) : Prop :=
  True

def Pre_ReferenceDwOIdeal (m : (ℓ : Loc Cert.ReferenceDwOIdeal.nD Cert.ReferenceDwOIdeal.τ Cert.ReferenceDwOIdeal.sig) → Buf (Elt Ideal) ℓ) : Prop :=
  True

def Pre_KernelDwA (m : (ℓ : Loc Cert.KernelDwA.nD Cert.KernelDwA.τ Cert.KernelDwA.sig) → Buf (Elt Bits) ℓ) : Prop :=
  True

def Pre_KernelDwAIdeal (m : (ℓ : Loc Cert.KernelDwAIdeal.nD Cert.KernelDwAIdeal.τ Cert.KernelDwAIdeal.sig) → Buf (Elt Ideal) ℓ) : Prop :=
  True

def Pre_ReferenceDwAIdeal (m : (ℓ : Loc Cert.ReferenceDwAIdeal.nD Cert.ReferenceDwAIdeal.τ Cert.ReferenceDwAIdeal.sig) → Buf (Elt Ideal) ℓ) : Prop :=
  True

def Pre_KernelDhA (m : (ℓ : Loc Cert.KernelDhA.nD Cert.KernelDhA.τ Cert.KernelDhA.sig) → Buf (Elt Bits) ℓ) : Prop :=
  True

def Pre_KernelDhAIdeal (m : (ℓ : Loc Cert.KernelDhAIdeal.nD Cert.KernelDhAIdeal.τ Cert.KernelDhAIdeal.sig) → Buf (Elt Ideal) ℓ) : Prop :=
  True

def Pre_ReferenceDhAIdeal (m : (ℓ : Loc Cert.ReferenceDhAIdeal.nD Cert.ReferenceDhAIdeal.τ Cert.ReferenceDhAIdeal.sig) → Buf (Elt Ideal) ℓ) : Prop :=
  True

def Pre_KernelInB (m : (ℓ : Loc Cert.KernelInB.nD Cert.KernelInB.τ Cert.KernelInB.sig) → Buf (Elt Bits) ℓ) : Prop :=
  True

def Pre_KernelInBIdeal (m : (ℓ : Loc Cert.KernelInBIdeal.nD Cert.KernelInBIdeal.τ Cert.KernelInBIdeal.sig) → Buf (Elt Ideal) ℓ) : Prop :=
  True

def Pre_ReferenceInBIdeal (m : (ℓ : Loc Cert.ReferenceInBIdeal.nD Cert.ReferenceInBIdeal.τ Cert.ReferenceInBIdeal.sig) → Buf (Elt Ideal) ℓ) : Prop :=
  True

def Pre_KernelDwB (m : (ℓ : Loc Cert.KernelDwB.nD Cert.KernelDwB.τ Cert.KernelDwB.sig) → Buf (Elt Bits) ℓ) : Prop :=
  True

def Pre_KernelDwBIdeal (m : (ℓ : Loc Cert.KernelDwBIdeal.nD Cert.KernelDwBIdeal.τ Cert.KernelDwBIdeal.sig) → Buf (Elt Ideal) ℓ) : Prop :=
  True

def Pre_ReferenceDwBIdeal (m : (ℓ : Loc Cert.ReferenceDwBIdeal.nD Cert.ReferenceDwBIdeal.τ Cert.ReferenceDwBIdeal.sig) → Buf (Elt Ideal) ℓ) : Prop :=
  True

def Pre_KernelDhB (m : (ℓ : Loc Cert.KernelDhB.nD Cert.KernelDhB.τ Cert.KernelDhB.sig) → Buf (Elt Bits) ℓ) : Prop :=
  True

def Pre_KernelDhBIdeal (m : (ℓ : Loc Cert.KernelDhBIdeal.nD Cert.KernelDhBIdeal.τ Cert.KernelDhBIdeal.sig) → Buf (Elt Ideal) ℓ) : Prop :=
  True

def Pre_ReferenceDhBIdeal (m : (ℓ : Loc Cert.ReferenceDhBIdeal.nD Cert.ReferenceDhBIdeal.τ Cert.ReferenceDhBIdeal.sig) → Buf (Elt Ideal) ℓ) : Prop :=
  True

def Pre_KernelLat (m : (ℓ : Loc Cert.KernelLat.nD Cert.KernelLat.τ Cert.KernelLat.sig) → Buf (Elt Bits) ℓ) : Prop :=
  True

def Pre_KernelLatIdeal (m : (ℓ : Loc Cert.KernelLatIdeal.nD Cert.KernelLatIdeal.τ Cert.KernelLatIdeal.sig) → Buf (Elt Ideal) ℓ) : Prop :=
  True

def Pre_ReferenceLatIdeal (m : (ℓ : Loc Cert.ReferenceLatIdeal.nD Cert.ReferenceLatIdeal.τ Cert.ReferenceLatIdeal.sig) → Buf (Elt Ideal) ℓ) : Prop :=
  True

def Pre_KernelDwLat (m : (ℓ : Loc Cert.KernelDwLat.nD Cert.KernelDwLat.τ Cert.KernelDwLat.sig) → Buf (Elt Bits) ℓ) : Prop :=
  True

def Pre_KernelDwLatIdeal (m : (ℓ : Loc Cert.KernelDwLatIdeal.nD Cert.KernelDwLatIdeal.τ Cert.KernelDwLatIdeal.sig) → Buf (Elt Ideal) ℓ) : Prop :=
  True

def Pre_ReferenceDwLatIdeal (m : (ℓ : Loc Cert.ReferenceDwLatIdeal.nD Cert.ReferenceDwLatIdeal.τ Cert.ReferenceDwLatIdeal.sig) → Buf (Elt Ideal) ℓ) : Prop :=
  True

def Pre_KernelDhLat (m : (ℓ : Loc Cert.KernelDhLat.nD Cert.KernelDhLat.τ Cert.KernelDhLat.sig) → Buf (Elt Bits) ℓ) : Prop :=
  True

def Pre_KernelDhLatIdeal (m : (ℓ : Loc Cert.KernelDhLatIdeal.nD Cert.KernelDhLatIdeal.τ Cert.KernelDhLatIdeal.sig) → Buf (Elt Ideal) ℓ) : Prop :=
  True

def Pre_ReferenceDhLatIdeal (m : (ℓ : Loc Cert.ReferenceDhLatIdeal.nD Cert.ReferenceDhLatIdeal.τ Cert.ReferenceDhLatIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def Pre_KernelDwHead (m : (ℓ : Loc Cert.KernelDwHead.nD Cert.KernelDwHead.τ Cert.KernelDwHead.sig) → Buf (Elt Bits) ℓ) : Prop :=
  True

def Pre_KernelDwHeadIdeal (m : (ℓ : Loc Cert.KernelDwHeadIdeal.nD Cert.KernelDwHeadIdeal.τ Cert.KernelDwHeadIdeal.sig) → Buf (Elt Ideal) ℓ) : Prop :=
  True

def Pre_ReferenceDwHeadIdeal (m : (ℓ : Loc Cert.ReferenceDwHeadIdeal.nD Cert.ReferenceDwHeadIdeal.τ Cert.ReferenceDwHeadIdeal.sig) → Buf (Elt Ideal) ℓ) : Prop :=
  True

def Pre_KernelDcHead (m : (ℓ : Loc Cert.KernelDcHead.nD Cert.KernelDcHead.τ Cert.KernelDcHead.sig) → Buf (Elt Bits) ℓ) : Prop :=
  True

def Pre_KernelDcHeadIdeal (m : (ℓ : Loc Cert.KernelDcHeadIdeal.nD Cert.KernelDcHeadIdeal.τ Cert.KernelDcHeadIdeal.sig) → Buf (Elt Ideal) ℓ) : Prop :=
  True

def Pre_ReferenceDcHeadIdeal (m : (ℓ : Loc Cert.ReferenceDcHeadIdeal.nD Cert.ReferenceDcHeadIdeal.τ Cert.ReferenceDcHeadIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamLat (m : (ℓ : Loc Cert.KernelAdamLat.nD Cert.KernelAdamLat.τ Cert.KernelAdamLat.sig) → Buf (Elt Bits) ℓ) : Prop :=
  True

def Pre_KernelAdamLatIdeal (m : (ℓ : Loc Cert.KernelAdamLatIdeal.nD Cert.KernelAdamLatIdeal.τ Cert.KernelAdamLatIdeal.sig) → Buf (Elt Ideal) ℓ) : Prop :=
  True

def Pre_ReferenceAdamLatIdeal (m : (ℓ : Loc Cert.ReferenceAdamLatIdeal.nD Cert.ReferenceAdamLatIdeal.τ Cert.ReferenceAdamLatIdeal.sig) → Buf (Elt Ideal) ℓ) : Prop :=
  True

def Pre_KernelAdamUq (m : (ℓ : Loc Cert.KernelAdamUq.nD Cert.KernelAdamUq.τ Cert.KernelAdamUq.sig) → Buf (Elt Bits) ℓ) : Prop :=
  True

def Pre_KernelAdamUqIdeal (m : (ℓ : Loc Cert.KernelAdamUqIdeal.nD Cert.KernelAdamUqIdeal.τ Cert.KernelAdamUqIdeal.sig) → Buf (Elt Ideal) ℓ) : Prop :=
  True

def Pre_ReferenceAdamUqIdeal (m : (ℓ : Loc Cert.ReferenceAdamUqIdeal.nD Cert.ReferenceAdamUqIdeal.τ Cert.ReferenceAdamUqIdeal.sig) → Buf (Elt Ideal) ℓ) : Prop :=
  True

def Pre_KernelAdamUkv (m : (ℓ : Loc Cert.KernelAdamUkv.nD Cert.KernelAdamUkv.τ Cert.KernelAdamUkv.sig) → Buf (Elt Bits) ℓ) : Prop :=
  True

def Pre_KernelAdamUkvIdeal (m : (ℓ : Loc Cert.KernelAdamUkvIdeal.nD Cert.KernelAdamUkvIdeal.τ Cert.KernelAdamUkvIdeal.sig) → Buf (Elt Ideal) ℓ) : Prop :=
  True

def Pre_ReferenceAdamUkvIdeal (m : (ℓ : Loc Cert.ReferenceAdamUkvIdeal.nD Cert.ReferenceAdamUkvIdeal.τ Cert.ReferenceAdamUkvIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1)
      ∧ r.2.mem ((c.tc : Thread Cert.KernelDwDown.nD Cert.KernelDwDown.τ).loc Cert.KernelDwDown.main_arg2) = m ((c.tc : Thread Cert.KernelDwDown.nD Cert.KernelDwDown.τ).loc Cert.KernelDwDown.main_arg2))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
      ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1)
      ∧ r.2.mem ((c.tc : Thread Cert.ReferenceDwDownIdeal.nD Cert.ReferenceDwDownIdeal.τ).loc Cert.ReferenceDwDownIdeal.main_arg2) = m ((c.tc : Thread Cert.ReferenceDwDownIdeal.nD Cert.ReferenceDwDownIdeal.τ).loc Cert.ReferenceDwDownIdeal.main_arg2))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1)
      ∧ r.2.mem ((c.tc : Thread Cert.KernelDu.nD Cert.KernelDu.τ).loc Cert.KernelDu.main_arg2) = m ((c.tc : Thread Cert.KernelDu.nD Cert.KernelDu.τ).loc Cert.KernelDu.main_arg2)
      ∧ r.2.mem ((c.tc : Thread Cert.KernelDu.nD Cert.KernelDu.τ).loc Cert.KernelDu.main_arg3) = m ((c.tc : Thread Cert.KernelDu.nD Cert.KernelDu.τ).loc Cert.KernelDu.main_arg3))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
      ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
      ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1)
      ∧ r.2.mem ((c.tc : Thread Cert.ReferenceDuIdeal.nD Cert.ReferenceDuIdeal.τ).loc Cert.ReferenceDuIdeal.main_arg2) = m ((c.tc : Thread Cert.ReferenceDuIdeal.nD Cert.ReferenceDuIdeal.τ).loc Cert.ReferenceDuIdeal.main_arg2)
      ∧ r.2.mem ((c.tc : Thread Cert.ReferenceDuIdeal.nD Cert.ReferenceDuIdeal.τ).loc Cert.ReferenceDuIdeal.main_arg3) = m ((c.tc : Thread Cert.ReferenceDuIdeal.nD Cert.ReferenceDuIdeal.τ).loc Cert.ReferenceDuIdeal.main_arg3))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelDwO [hKernelDwO : Cert.KernelDwO.Facts] : Prop :=
  ∀ (m : (ℓ : Loc Cert.KernelDwO.nD Cert.KernelDwO.τ Cert.KernelDwO.sig) → Buf (Elt Bits) ℓ) (g : Dev Cert.KernelDwO.nD → PrngReg), Pre_KernelDwO m →
    θ_run (Cert.KernelDwO.defs (F := Bits)) (onTc (τ := Cert.KernelDwO.τ) (Cert.KernelDwO.main (F := Bits))) ⟨m, fun _ => 0, g⟩ (fun r => (∀ c : Dev Cert.KernelDwO.nD,
      r.2.mem ((c.tc : Thread Cert.KernelDwO.nD Cert.KernelDwO.τ).loc Cert.KernelDwO.main_arg0) = m ((c.tc : Thread Cert.KernelDwO.nD Cert.KernelDwO.τ).loc Cert.KernelDwO.main_arg0)
      ∧ r.2.mem ((c.tc : Thread Cert.KernelDwO.nD Cert.KernelDwO.τ).loc Cert.KernelDwO.main_arg1) = m ((c.tc : Thread Cert.KernelDwO.nD Cert.KernelDwO.τ).loc Cert.KernelDwO.main_arg1))
      ∧ r.2.sem = fun _ => 0)

def quiescent_KernelDwOIdeal [hKernelDwOIdeal : Cert.KernelDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg), Pre_KernelDwOIdeal m →
    θ_run (Cert.KernelDwOIdeal.defs (F := Ideal)) (onTc (τ := Cert.KernelDwOIdeal.τ) (Cert.KernelDwOIdeal.main (F := Ideal))) ⟨m, fun _ => 0, g⟩ (fun r => (∀ c : Dev Cert.KernelDwOIdeal.nD,
      r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
      ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ r.2.sem = fun _ => 0)

def quiescent_ReferenceDwOIdeal [hReferenceDwOIdeal : Cert.ReferenceDwOIdeal.Facts] : Prop :=
  ∀ (m : (ℓ : Loc Cert.ReferenceDwOIdeal.nD Cert.ReferenceDwOIdeal.τ Cert.ReferenceDwOIdeal.sig) → Buf (Elt Ideal) ℓ) (g : Dev Cert.ReferenceDwOIdeal.nD → PrngReg), Pre_ReferenceDwOIdeal m →
    θ_run (Cert.ReferenceDwOIdeal.defs (F := Ideal)) (onTc (τ := Cert.ReferenceDwOIdeal.τ) (Cert.ReferenceDwOIdeal.main (F := Ideal))) ⟨m, fun _ => 0, g⟩ (fun r => (∀ c : Dev Cert.ReferenceDwOIdeal.nD,
      r.2.mem ((c.tc : Thread Cert.ReferenceDwOIdeal.nD Cert.ReferenceDwOIdeal.τ).loc Cert.ReferenceDwOIdeal.main_arg0) = m ((c.tc : Thread Cert.ReferenceDwOIdeal.nD Cert.ReferenceDwOIdeal.τ).loc Cert.ReferenceDwOIdeal.main_arg0)
      ∧ r.2.mem ((c.tc : Thread Cert.ReferenceDwOIdeal.nD Cert.ReferenceDwOIdeal.τ).loc Cert.ReferenceDwOIdeal.main_arg1) = m ((c.tc : Thread Cert.ReferenceDwOIdeal.nD Cert.ReferenceDwOIdeal.τ).loc Cert.ReferenceDwOIdeal.main_arg1))
      ∧ r.2.sem = fun _ => 0)

def quiescent_KernelDwA [hKernelDwA : Cert.KernelDwA.Facts] : Prop :=
  ∀ (m : (ℓ : Loc Cert.KernelDwA.nD Cert.KernelDwA.τ Cert.KernelDwA.sig) → Buf (Elt Bits) ℓ) (g : Dev Cert.KernelDwA.nD → PrngReg), Pre_KernelDwA m →
    θ_run (Cert.KernelDwA.defs (F := Bits)) (onTc (τ := Cert.KernelDwA.τ) (Cert.KernelDwA.main (F := Bits))) ⟨m, fun _ => 0, g⟩ (fun r => (∀ c : Dev Cert.KernelDwA.nD,
      r.2.mem ((c.tc : Thread Cert.KernelDwA.nD Cert.KernelDwA.τ).loc Cert.KernelDwA.main_arg0) = m ((c.tc : Thread Cert.KernelDwA.nD Cert.KernelDwA.τ).loc Cert.KernelDwA.main_arg0)
      ∧ r.2.mem ((c.tc : Thread Cert.KernelDwA.nD Cert.KernelDwA.τ).loc Cert.KernelDwA.main_arg1) = m ((c.tc : Thread Cert.KernelDwA.nD Cert.KernelDwA.τ).loc Cert.KernelDwA.main_arg1))
      ∧ r.2.sem = fun _ => 0)

def quiescent_KernelDwAIdeal [hKernelDwAIdeal : Cert.KernelDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg), Pre_KernelDwAIdeal m →
    θ_run (Cert.KernelDwAIdeal.defs (F := Ideal)) (onTc (τ := Cert.KernelDwAIdeal.τ) (Cert.KernelDwAIdeal.main (F := Ideal))) ⟨m, fun _ => 0, g⟩ (fun r => (∀ c : Dev Cert.KernelDwAIdeal.nD,
      r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
      ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ r.2.sem = fun _ => 0)

def quiescent_ReferenceDwAIdeal [hReferenceDwAIdeal : Cert.ReferenceDwAIdeal.Facts] : Prop :=
  ∀ (m : (ℓ : Loc Cert.ReferenceDwAIdeal.nD Cert.ReferenceDwAIdeal.τ Cert.ReferenceDwAIdeal.sig) → Buf (Elt Ideal) ℓ) (g : Dev Cert.ReferenceDwAIdeal.nD → PrngReg), Pre_ReferenceDwAIdeal m →
    θ_run (Cert.ReferenceDwAIdeal.defs (F := Ideal)) (onTc (τ := Cert.ReferenceDwAIdeal.τ) (Cert.ReferenceDwAIdeal.main (F := Ideal))) ⟨m, fun _ => 0, g⟩ (fun r => (∀ c : Dev Cert.ReferenceDwAIdeal.nD,
      r.2.mem ((c.tc : Thread Cert.ReferenceDwAIdeal.nD Cert.ReferenceDwAIdeal.τ).loc Cert.ReferenceDwAIdeal.main_arg0) = m ((c.tc : Thread Cert.ReferenceDwAIdeal.nD Cert.ReferenceDwAIdeal.τ).loc Cert.ReferenceDwAIdeal.main_arg0)
      ∧ r.2.mem ((c.tc : Thread Cert.ReferenceDwAIdeal.nD Cert.ReferenceDwAIdeal.τ).loc Cert.ReferenceDwAIdeal.main_arg1) = m ((c.tc : Thread Cert.ReferenceDwAIdeal.nD Cert.ReferenceDwAIdeal.τ).loc Cert.ReferenceDwAIdeal.main_arg1))
      ∧ r.2.sem = fun _ => 0)

def quiescent_KernelDhA [hKernelDhA : Cert.KernelDhA.Facts] : Prop :=
  ∀ (m : (ℓ : Loc Cert.KernelDhA.nD Cert.KernelDhA.τ Cert.KernelDhA.sig) → Buf (Elt Bits) ℓ) (g : Dev Cert.KernelDhA.nD → PrngReg), Pre_KernelDhA m →
    θ_run (Cert.KernelDhA.defs (F := Bits)) (onTc (τ := Cert.KernelDhA.τ) (Cert.KernelDhA.main (F := Bits))) ⟨m, fun _ => 0, g⟩ (fun r => (∀ c : Dev Cert.KernelDhA.nD,
      r.2.mem ((c.tc : Thread Cert.KernelDhA.nD Cert.KernelDhA.τ).loc Cert.KernelDhA.main_arg0) = m ((c.tc : Thread Cert.KernelDhA.nD Cert.KernelDhA.τ).loc Cert.KernelDhA.main_arg0)
      ∧ r.2.mem ((c.tc : Thread Cert.KernelDhA.nD Cert.KernelDhA.τ).loc Cert.KernelDhA.main_arg1) = m ((c.tc : Thread Cert.KernelDhA.nD Cert.KernelDhA.τ).loc Cert.KernelDhA.main_arg1)
      ∧ r.2.mem ((c.tc : Thread Cert.KernelDhA.nD Cert.KernelDhA.τ).loc Cert.KernelDhA.main_arg2) = m ((c.tc : Thread Cert.KernelDhA.nD Cert.KernelDhA.τ).loc Cert.KernelDhA.main_arg2))
      ∧ r.2.sem = fun _ => 0)

def quiescent_KernelDhAIdeal [hKernelDhAIdeal : Cert.KernelDhAIdeal.Facts] : Prop :=
  ∀ (m : (ℓ : Loc Cert.KernelDhAIdeal.nD Cert.KernelDhAIdeal.τ Cert.KernelDhAIdeal.sig) → Buf (Elt Ideal) ℓ) (g : Dev Cert.KernelDhAIdeal.nD → PrngReg), Pre_KernelDhAIdeal m →
    θ_run (Cert.KernelDhAIdeal.defs (F := Ideal)) (onTc (τ := Cert.KernelDhAIdeal.τ) (Cert.KernelDhAIdeal.main (F := Ideal))) ⟨m, fun _ => 0, g⟩ (fun r => (∀ c : Dev Cert.KernelDhAIdeal.nD,
      r.2.mem ((c.tc : Thread Cert.KernelDhAIdeal.nD Cert.KernelDhAIdeal.τ).loc Cert.KernelDhAIdeal.main_arg0) = m ((c.tc : Thread Cert.KernelDhAIdeal.nD Cert.KernelDhAIdeal.τ).loc Cert.KernelDhAIdeal.main_arg0)
      ∧ r.2.mem ((c.tc : Thread Cert.KernelDhAIdeal.nD Cert.KernelDhAIdeal.τ).loc Cert.KernelDhAIdeal.main_arg1) = m ((c.tc : Thread Cert.KernelDhAIdeal.nD Cert.KernelDhAIdeal.τ).loc Cert.KernelDhAIdeal.main_arg1)
      ∧ r.2.mem ((c.tc : Thread Cert.KernelDhAIdeal.nD Cert.KernelDhAIdeal.τ).loc Cert.KernelDhAIdeal.main_arg2) = m ((c.tc : Thread Cert.KernelDhAIdeal.nD Cert.KernelDhAIdeal.τ).loc Cert.KernelDhAIdeal.main_arg2))
      ∧ r.2.sem = fun _ => 0)

def quiescent_ReferenceDhAIdeal [hReferenceDhAIdeal : Cert.ReferenceDhAIdeal.Facts] : Prop :=
  ∀ (m : (ℓ : Loc Cert.ReferenceDhAIdeal.nD Cert.ReferenceDhAIdeal.τ Cert.ReferenceDhAIdeal.sig) → Buf (Elt Ideal) ℓ) (g : Dev Cert.ReferenceDhAIdeal.nD → PrngReg), Pre_ReferenceDhAIdeal m →
    θ_run (Cert.ReferenceDhAIdeal.defs (F := Ideal)) (onTc (τ := Cert.ReferenceDhAIdeal.τ) (Cert.ReferenceDhAIdeal.main (F := Ideal))) ⟨m, fun _ => 0, g⟩ (fun r => (∀ c : Dev Cert.ReferenceDhAIdeal.nD,
      r.2.mem ((c.tc : Thread Cert.ReferenceDhAIdeal.nD Cert.ReferenceDhAIdeal.τ).loc Cert.ReferenceDhAIdeal.main_arg0) = m ((c.tc : Thread Cert.ReferenceDhAIdeal.nD Cert.ReferenceDhAIdeal.τ).loc Cert.ReferenceDhAIdeal.main_arg0)
      ∧ r.2.mem ((c.tc : Thread Cert.ReferenceDhAIdeal.nD Cert.ReferenceDhAIdeal.τ).loc Cert.ReferenceDhAIdeal.main_arg1) = m ((c.tc : Thread Cert.ReferenceDhAIdeal.nD Cert.ReferenceDhAIdeal.τ).loc Cert.ReferenceDhAIdeal.main_arg1)
      ∧ r.2.mem ((c.tc : Thread Cert.ReferenceDhAIdeal.nD Cert.ReferenceDhAIdeal.τ).loc Cert.ReferenceDhAIdeal.main_arg2) = m ((c.tc : Thread Cert.ReferenceDhAIdeal.nD Cert.ReferenceDhAIdeal.τ).loc Cert.ReferenceDhAIdeal.main_arg2))
      ∧ r.2.sem = fun _ => 0)

def quiescent_KernelInB [hKernelInB : Cert.KernelInB.Facts] : Prop :=
  ∀ (m : (ℓ : Loc Cert.KernelInB.nD Cert.KernelInB.τ Cert.KernelInB.sig) → Buf (Elt Bits) ℓ) (g : Dev Cert.KernelInB.nD → PrngReg), Pre_KernelInB m →
    θ_run (Cert.KernelInB.defs (F := Bits)) (onTc (τ := Cert.KernelInB.τ) (Cert.KernelInB.main (F := Bits))) ⟨m, fun _ => 0, g⟩ (fun r => (∀ c : Dev Cert.KernelInB.nD,
      r.2.mem ((c.tc : Thread Cert.KernelInB.nD Cert.KernelInB.τ).loc Cert.KernelInB.main_arg0) = m ((c.tc : Thread Cert.KernelInB.nD Cert.KernelInB.τ).loc Cert.KernelInB.main_arg0)
      ∧ r.2.mem ((c.tc : Thread Cert.KernelInB.nD Cert.KernelInB.τ).loc Cert.KernelInB.main_arg1) = m ((c.tc : Thread Cert.KernelInB.nD Cert.KernelInB.τ).loc Cert.KernelInB.main_arg1))
      ∧ r.2.sem = fun _ => 0)

def quiescent_KernelInBIdeal [hKernelInBIdeal : Cert.KernelInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg), Pre_KernelInBIdeal m →
    θ_run (Cert.KernelInBIdeal.defs (F := Ideal)) (onTc (τ := Cert.KernelInBIdeal.τ) (Cert.KernelInBIdeal.main (F := Ideal))) ⟨m, fun _ => 0, g⟩ (fun r => (∀ c : Dev Cert.KernelInBIdeal.nD,
      r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
      ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ r.2.sem = fun _ => 0)

def quiescent_ReferenceInBIdeal [hReferenceInBIdeal : Cert.ReferenceInBIdeal.Facts] : Prop :=
  ∀ (m : (ℓ : Loc Cert.ReferenceInBIdeal.nD Cert.ReferenceInBIdeal.τ Cert.ReferenceInBIdeal.sig) → Buf (Elt Ideal) ℓ) (g : Dev Cert.ReferenceInBIdeal.nD → PrngReg), Pre_ReferenceInBIdeal m →
    θ_run (Cert.ReferenceInBIdeal.defs (F := Ideal)) (onTc (τ := Cert.ReferenceInBIdeal.τ) (Cert.ReferenceInBIdeal.main (F := Ideal))) ⟨m, fun _ => 0, g⟩ (fun r => (∀ c : Dev Cert.ReferenceInBIdeal.nD,
      r.2.mem ((c.tc : Thread Cert.ReferenceInBIdeal.nD Cert.ReferenceInBIdeal.τ).loc Cert.ReferenceInBIdeal.main_arg0) = m ((c.tc : Thread Cert.ReferenceInBIdeal.nD Cert.ReferenceInBIdeal.τ).loc Cert.ReferenceInBIdeal.main_arg0)
      ∧ r.2.mem ((c.tc : Thread Cert.ReferenceInBIdeal.nD Cert.ReferenceInBIdeal.τ).loc Cert.ReferenceInBIdeal.main_arg1) = m ((c.tc : Thread Cert.ReferenceInBIdeal.nD Cert.ReferenceInBIdeal.τ).loc Cert.ReferenceInBIdeal.main_arg1))
      ∧ r.2.sem = fun _ => 0)

def quiescent_KernelDwB [hKernelDwB : Cert.KernelDwB.Facts] : Prop :=
  ∀ (m : (ℓ : Loc Cert.KernelDwB.nD Cert.KernelDwB.τ Cert.KernelDwB.sig) → Buf (Elt Bits) ℓ) (g : Dev Cert.KernelDwB.nD → PrngReg), Pre_KernelDwB m →
    θ_run (Cert.KernelDwB.defs (F := Bits)) (onTc (τ := Cert.KernelDwB.τ) (Cert.KernelDwB.main (F := Bits))) ⟨m, fun _ => 0, g⟩ (fun r => (∀ c : Dev Cert.KernelDwB.nD,
      r.2.mem ((c.tc : Thread Cert.KernelDwB.nD Cert.KernelDwB.τ).loc Cert.KernelDwB.main_arg0) = m ((c.tc : Thread Cert.KernelDwB.nD Cert.KernelDwB.τ).loc Cert.KernelDwB.main_arg0)
      ∧ r.2.mem ((c.tc : Thread Cert.KernelDwB.nD Cert.KernelDwB.τ).loc Cert.KernelDwB.main_arg1) = m ((c.tc : Thread Cert.KernelDwB.nD Cert.KernelDwB.τ).loc Cert.KernelDwB.main_arg1))
      ∧ r.2.sem = fun _ => 0)

def quiescent_KernelDwBIdeal [hKernelDwBIdeal : Cert.KernelDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg), Pre_KernelDwBIdeal m →
    θ_run (Cert.KernelDwBIdeal.defs (F := Ideal)) (onTc (τ := Cert.KernelDwBIdeal.τ) (Cert.KernelDwBIdeal.main (F := Ideal))) ⟨m, fun _ => 0, g⟩ (fun r => (∀ c : Dev Cert.KernelDwBIdeal.nD,
      r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
      ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ r.2.sem = fun _ => 0)

def quiescent_ReferenceDwBIdeal [hReferenceDwBIdeal : Cert.ReferenceDwBIdeal.Facts] : Prop :=
  ∀ (m : (ℓ : Loc Cert.ReferenceDwBIdeal.nD Cert.ReferenceDwBIdeal.τ Cert.ReferenceDwBIdeal.sig) → Buf (Elt Ideal) ℓ) (g : Dev Cert.ReferenceDwBIdeal.nD → PrngReg), Pre_ReferenceDwBIdeal m →
    θ_run (Cert.ReferenceDwBIdeal.defs (F := Ideal)) (onTc (τ := Cert.ReferenceDwBIdeal.τ) (Cert.ReferenceDwBIdeal.main (F := Ideal))) ⟨m, fun _ => 0, g⟩ (fun r => (∀ c : Dev Cert.ReferenceDwBIdeal.nD,
      r.2.mem ((c.tc : Thread Cert.ReferenceDwBIdeal.nD Cert.ReferenceDwBIdeal.τ).loc Cert.ReferenceDwBIdeal.main_arg0) = m ((c.tc : Thread Cert.ReferenceDwBIdeal.nD Cert.ReferenceDwBIdeal.τ).loc Cert.ReferenceDwBIdeal.main_arg0)
      ∧ r.2.mem ((c.tc : Thread Cert.ReferenceDwBIdeal.nD Cert.ReferenceDwBIdeal.τ).loc Cert.ReferenceDwBIdeal.main_arg1) = m ((c.tc : Thread Cert.ReferenceDwBIdeal.nD Cert.ReferenceDwBIdeal.τ).loc Cert.ReferenceDwBIdeal.main_arg1))
      ∧ r.2.sem = fun _ => 0)

def quiescent_KernelDhB [hKernelDhB : Cert.KernelDhB.Facts] : Prop :=
  ∀ (m : (ℓ : Loc Cert.KernelDhB.nD Cert.KernelDhB.τ Cert.KernelDhB.sig) → Buf (Elt Bits) ℓ) (g : Dev Cert.KernelDhB.nD → PrngReg), Pre_KernelDhB m →
    θ_run (Cert.KernelDhB.defs (F := Bits)) (onTc (τ := Cert.KernelDhB.τ) (Cert.KernelDhB.main (F := Bits))) ⟨m, fun _ => 0, g⟩ (fun r => (∀ c : Dev Cert.KernelDhB.nD,
      r.2.mem ((c.tc : Thread Cert.KernelDhB.nD Cert.KernelDhB.τ).loc Cert.KernelDhB.main_arg0) = m ((c.tc : Thread Cert.KernelDhB.nD Cert.KernelDhB.τ).loc Cert.KernelDhB.main_arg0)
      ∧ r.2.mem ((c.tc : Thread Cert.KernelDhB.nD Cert.KernelDhB.τ).loc Cert.KernelDhB.main_arg1) = m ((c.tc : Thread Cert.KernelDhB.nD Cert.KernelDhB.τ).loc Cert.KernelDhB.main_arg1))
      ∧ r.2.sem = fun _ => 0)

def quiescent_KernelDhBIdeal [hKernelDhBIdeal : Cert.KernelDhBIdeal.Facts] : Prop :=
  ∀ (m : (ℓ : Loc Cert.KernelDhBIdeal.nD Cert.KernelDhBIdeal.τ Cert.KernelDhBIdeal.sig) → Buf (Elt Ideal) ℓ) (g : Dev Cert.KernelDhBIdeal.nD → PrngReg), Pre_KernelDhBIdeal m →
    θ_run (Cert.KernelDhBIdeal.defs (F := Ideal)) (onTc (τ := Cert.KernelDhBIdeal.τ) (Cert.KernelDhBIdeal.main (F := Ideal))) ⟨m, fun _ => 0, g⟩ (fun r => (∀ c : Dev Cert.KernelDhBIdeal.nD,
      r.2.mem ((c.tc : Thread Cert.KernelDhBIdeal.nD Cert.KernelDhBIdeal.τ).loc Cert.KernelDhBIdeal.main_arg0) = m ((c.tc : Thread Cert.KernelDhBIdeal.nD Cert.KernelDhBIdeal.τ).loc Cert.KernelDhBIdeal.main_arg0)
      ∧ r.2.mem ((c.tc : Thread Cert.KernelDhBIdeal.nD Cert.KernelDhBIdeal.τ).loc Cert.KernelDhBIdeal.main_arg1) = m ((c.tc : Thread Cert.KernelDhBIdeal.nD Cert.KernelDhBIdeal.τ).loc Cert.KernelDhBIdeal.main_arg1))
      ∧ r.2.sem = fun _ => 0)

def quiescent_ReferenceDhBIdeal [hReferenceDhBIdeal : Cert.ReferenceDhBIdeal.Facts] : Prop :=
  ∀ (m : (ℓ : Loc Cert.ReferenceDhBIdeal.nD Cert.ReferenceDhBIdeal.τ Cert.ReferenceDhBIdeal.sig) → Buf (Elt Ideal) ℓ) (g : Dev Cert.ReferenceDhBIdeal.nD → PrngReg), Pre_ReferenceDhBIdeal m →
    θ_run (Cert.ReferenceDhBIdeal.defs (F := Ideal)) (onTc (τ := Cert.ReferenceDhBIdeal.τ) (Cert.ReferenceDhBIdeal.main (F := Ideal))) ⟨m, fun _ => 0, g⟩ (fun r => (∀ c : Dev Cert.ReferenceDhBIdeal.nD,
      r.2.mem ((c.tc : Thread Cert.ReferenceDhBIdeal.nD Cert.ReferenceDhBIdeal.τ).loc Cert.ReferenceDhBIdeal.main_arg0) = m ((c.tc : Thread Cert.ReferenceDhBIdeal.nD Cert.ReferenceDhBIdeal.τ).loc Cert.ReferenceDhBIdeal.main_arg0)
      ∧ r.2.mem ((c.tc : Thread Cert.ReferenceDhBIdeal.nD Cert.ReferenceDhBIdeal.τ).loc Cert.ReferenceDhBIdeal.main_arg1) = m ((c.tc : Thread Cert.ReferenceDhBIdeal.nD Cert.ReferenceDhBIdeal.τ).loc Cert.ReferenceDhBIdeal.main_arg1))
      ∧ r.2.sem = fun _ => 0)

def quiescent_KernelLat [hKernelLat : Cert.KernelLat.Facts] : Prop :=
  ∀ (m : (ℓ : Loc Cert.KernelLat.nD Cert.KernelLat.τ Cert.KernelLat.sig) → Buf (Elt Bits) ℓ) (g : Dev Cert.KernelLat.nD → PrngReg), Pre_KernelLat m →
    θ_run (Cert.KernelLat.defs (F := Bits)) (onTc (τ := Cert.KernelLat.τ) (Cert.KernelLat.main (F := Bits))) ⟨m, fun _ => 0, g⟩ (fun r => (∀ c : Dev Cert.KernelLat.nD,
      r.2.mem ((c.tc : Thread Cert.KernelLat.nD Cert.KernelLat.τ).loc Cert.KernelLat.main_arg0) = m ((c.tc : Thread Cert.KernelLat.nD Cert.KernelLat.τ).loc Cert.KernelLat.main_arg0)
      ∧ r.2.mem ((c.tc : Thread Cert.KernelLat.nD Cert.KernelLat.τ).loc Cert.KernelLat.main_arg1) = m ((c.tc : Thread Cert.KernelLat.nD Cert.KernelLat.τ).loc Cert.KernelLat.main_arg1))
      ∧ r.2.sem = fun _ => 0)

def quiescent_KernelLatIdeal [hKernelLatIdeal : Cert.KernelLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1))
      ∧ r.2.sem = fun _ => 0)

def quiescent_ReferenceLatIdeal [hReferenceLatIdeal : Cert.ReferenceLatIdeal.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1))
      ∧ r.2.sem = fun _ => 0)

def quiescent_KernelDwLat [hKernelDwLat : Cert.KernelDwLat.Facts] : Prop :=
  ∀ (m : (ℓ : Loc Cert.KernelDwLat.nD Cert.KernelDwLat.τ Cert.KernelDwLat.sig) → Buf (Elt Bits) ℓ) (g : Dev Cert.KernelDwLat.nD → PrngReg), Pre_KernelDwLat m →
    θ_run (Cert.KernelDwLat.defs (F := Bits)) (onTc (τ := Cert.KernelDwLat.τ) (Cert.KernelDwLat.main (F := Bits))) ⟨m, fun _ => 0, g⟩ (fun r => (∀ c : Dev Cert.KernelDwLat.nD,
      r.2.mem ((c.tc : Thread Cert.KernelDwLat.nD Cert.KernelDwLat.τ).loc Cert.KernelDwLat.main_arg0) = m ((c.tc : Thread Cert.KernelDwLat.nD Cert.KernelDwLat.τ).loc Cert.KernelDwLat.main_arg0)
      ∧ r.2.mem ((c.tc : Thread Cert.KernelDwLat.nD Cert.KernelDwLat.τ).loc Cert.KernelDwLat.main_arg1) = m ((c.tc : Thread Cert.KernelDwLat.nD Cert.KernelDwLat.τ).loc Cert.KernelDwLat.main_arg1))
      ∧ r.2.sem = fun _ => 0)

def quiescent_KernelDwLatIdeal [hKernelDwLatIdeal : Cert.KernelDwLatIdeal.Facts] : Prop :=
  ∀ (m : (ℓ : Loc Cert.KernelDwLatIdeal.nD Cert.KernelDwLatIdeal.τ Cert.KernelDwLatIdeal.sig) → Buf (Elt Ideal) ℓ) (g : Dev Cert.KernelDwLatIdeal.nD → PrngReg), Pre_KernelDwLatIdeal m →
    θ_run (Cert.KernelDwLatIdeal.defs (F := Ideal)) (onTc (τ := Cert.KernelDwLatIdeal.τ) (Cert.KernelDwLatIdeal.main (F := Ideal))) ⟨m, fun _ => 0, g⟩ (fun r => (∀ c : Dev Cert.KernelDwLatIdeal.nD,
      r.2.mem ((c.tc : Thread Cert.KernelDwLatIdeal.nD Cert.KernelDwLatIdeal.τ).loc Cert.KernelDwLatIdeal.main_arg0) = m ((c.tc : Thread Cert.KernelDwLatIdeal.nD Cert.KernelDwLatIdeal.τ).loc Cert.KernelDwLatIdeal.main_arg0)
      ∧ r.2.mem ((c.tc : Thread Cert.KernelDwLatIdeal.nD Cert.KernelDwLatIdeal.τ).loc Cert.KernelDwLatIdeal.main_arg1) = m ((c.tc : Thread Cert.KernelDwLatIdeal.nD Cert.KernelDwLatIdeal.τ).loc Cert.KernelDwLatIdeal.main_arg1))
      ∧ r.2.sem = fun _ => 0)

def quiescent_ReferenceDwLatIdeal [hReferenceDwLatIdeal : Cert.ReferenceDwLatIdeal.Facts] : Prop :=
  ∀ (m : (ℓ : Loc Cert.ReferenceDwLatIdeal.nD Cert.ReferenceDwLatIdeal.τ Cert.ReferenceDwLatIdeal.sig) → Buf (Elt Ideal) ℓ) (g : Dev Cert.ReferenceDwLatIdeal.nD → PrngReg), Pre_ReferenceDwLatIdeal m →
    θ_run (Cert.ReferenceDwLatIdeal.defs (F := Ideal)) (onTc (τ := Cert.ReferenceDwLatIdeal.τ) (Cert.ReferenceDwLatIdeal.main (F := Ideal))) ⟨m, fun _ => 0, g⟩ (fun r => (∀ c : Dev Cert.ReferenceDwLatIdeal.nD,
      r.2.mem ((c.tc : Thread Cert.ReferenceDwLatIdeal.nD Cert.ReferenceDwLatIdeal.τ).loc Cert.ReferenceDwLatIdeal.main_arg0) = m ((c.tc : Thread Cert.ReferenceDwLatIdeal.nD Cert.ReferenceDwLatIdeal.τ).loc Cert.ReferenceDwLatIdeal.main_arg0)
      ∧ r.2.mem ((c.tc : Thread Cert.ReferenceDwLatIdeal.nD Cert.ReferenceDwLatIdeal.τ).loc Cert.ReferenceDwLatIdeal.main_arg1) = m ((c.tc : Thread Cert.ReferenceDwLatIdeal.nD Cert.ReferenceDwLatIdeal.τ).loc Cert.ReferenceDwLatIdeal.main_arg1))
      ∧ r.2.sem = fun _ => 0)

def quiescent_KernelDhLat [hKernelDhLat : Cert.KernelDhLat.Facts] : Prop :=
  ∀ (m : (ℓ : Loc Cert.KernelDhLat.nD Cert.KernelDhLat.τ Cert.KernelDhLat.sig) → Buf (Elt Bits) ℓ) (g : Dev Cert.KernelDhLat.nD → PrngReg), Pre_KernelDhLat m →
    θ_run (Cert.KernelDhLat.defs (F := Bits)) (onTc (τ := Cert.KernelDhLat.τ) (Cert.KernelDhLat.main (F := Bits))) ⟨m, fun _ => 0, g⟩ (fun r => (∀ c : Dev Cert.KernelDhLat.nD,
      r.2.mem ((c.tc : Thread Cert.KernelDhLat.nD Cert.KernelDhLat.τ).loc Cert.KernelDhLat.main_arg0) = m ((c.tc : Thread Cert.KernelDhLat.nD Cert.KernelDhLat.τ).loc Cert.KernelDhLat.main_arg0)
      ∧ r.2.mem ((c.tc : Thread Cert.KernelDhLat.nD Cert.KernelDhLat.τ).loc Cert.KernelDhLat.main_arg1) = m ((c.tc : Thread Cert.KernelDhLat.nD Cert.KernelDhLat.τ).loc Cert.KernelDhLat.main_arg1))
      ∧ r.2.sem = fun _ => 0)

def quiescent_KernelDhLatIdeal [hKernelDhLatIdeal : Cert.KernelDhLatIdeal.Facts] : Prop :=
  ∀ (m : (ℓ : Loc Cert.KernelDhLatIdeal.nD Cert.KernelDhLatIdeal.τ Cert.KernelDhLatIdeal.sig) → Buf (Elt Ideal) ℓ) (g : Dev Cert.KernelDhLatIdeal.nD → PrngReg), Pre_KernelDhLatIdeal m →
    θ_run (Cert.KernelDhLatIdeal.defs (F := Ideal)) (onTc (τ := Cert.KernelDhLatIdeal.τ) (Cert.KernelDhLatIdeal.main (F := Ideal))) ⟨m, fun _ => 0, g⟩ (fun r => (∀ c : Dev Cert.KernelDhLatIdeal.nD,
      r.2.mem ((c.tc : Thread Cert.KernelDhLatIdeal.nD Cert.KernelDhLatIdeal.τ).loc Cert.KernelDhLatIdeal.main_arg0) = m ((c.tc : Thread Cert.KernelDhLatIdeal.nD Cert.KernelDhLatIdeal.τ).loc Cert.KernelDhLatIdeal.main_arg0)
      ∧ r.2.mem ((c.tc : Thread Cert.KernelDhLatIdeal.nD Cert.KernelDhLatIdeal.τ).loc Cert.KernelDhLatIdeal.main_arg1) = m ((c.tc : Thread Cert.KernelDhLatIdeal.nD Cert.KernelDhLatIdeal.τ).loc Cert.KernelDhLatIdeal.main_arg1))
      ∧ r.2.sem = fun _ => 0)

def quiescent_ReferenceDhLatIdeal [hReferenceDhLatIdeal : Cert.ReferenceDhLatIdeal.Facts] : Prop :=
  ∀ (m : (ℓ : Loc Cert.ReferenceDhLatIdeal.nD Cert.ReferenceDhLatIdeal.τ Cert.ReferenceDhLatIdeal.sig) → Buf (Elt Ideal) ℓ) (g : Dev Cert.ReferenceDhLatIdeal.nD → PrngReg), Pre_ReferenceDhLatIdeal m →
    θ_run (Cert.ReferenceDhLatIdeal.defs (F := Ideal)) (onTc (τ := Cert.ReferenceDhLatIdeal.τ) (Cert.ReferenceDhLatIdeal.main (F := Ideal))) ⟨m, fun _ => 0, g⟩ (fun r => (∀ c : Dev Cert.ReferenceDhLatIdeal.nD,
      r.2.mem ((c.tc : Thread Cert.ReferenceDhLatIdeal.nD Cert.ReferenceDhLatIdeal.τ).loc Cert.ReferenceDhLatIdeal.main_arg0) = m ((c.tc : Thread Cert.ReferenceDhLatIdeal.nD Cert.ReferenceDhLatIdeal.τ).loc Cert.ReferenceDhLatIdeal.main_arg0)
      ∧ r.2.mem ((c.tc : Thread Cert.ReferenceDhLatIdeal.nD Cert.ReferenceDhLatIdeal.τ).loc Cert.ReferenceDhLatIdeal.main_arg1) = m ((c.tc : Thread Cert.ReferenceDhLatIdeal.nD Cert.ReferenceDhLatIdeal.τ).loc Cert.ReferenceDhLatIdeal.main_arg1))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1))
      ∧ r.2.sem = fun _ => 0)

def quiescent_KernelDwHead [hKernelDwHead : Cert.KernelDwHead.Facts] : Prop :=
  ∀ (m : (ℓ : Loc Cert.KernelDwHead.nD Cert.KernelDwHead.τ Cert.KernelDwHead.sig) → Buf (Elt Bits) ℓ) (g : Dev Cert.KernelDwHead.nD → PrngReg), Pre_KernelDwHead m →
    θ_run (Cert.KernelDwHead.defs (F := Bits)) (onTc (τ := Cert.KernelDwHead.τ) (Cert.KernelDwHead.main (F := Bits))) ⟨m, fun _ => 0, g⟩ (fun r => (∀ c : Dev Cert.KernelDwHead.nD,
      r.2.mem ((c.tc : Thread Cert.KernelDwHead.nD Cert.KernelDwHead.τ).loc Cert.KernelDwHead.main_arg0) = m ((c.tc : Thread Cert.KernelDwHead.nD Cert.KernelDwHead.τ).loc Cert.KernelDwHead.main_arg0)
      ∧ r.2.mem ((c.tc : Thread Cert.KernelDwHead.nD Cert.KernelDwHead.τ).loc Cert.KernelDwHead.main_arg1) = m ((c.tc : Thread Cert.KernelDwHead.nD Cert.KernelDwHead.τ).loc Cert.KernelDwHead.main_arg1))
      ∧ r.2.sem = fun _ => 0)

def quiescent_KernelDwHeadIdeal [hKernelDwHeadIdeal : Cert.KernelDwHeadIdeal.Facts] : Prop :=
  ∀ (m : (ℓ : Loc Cert.KernelDwHeadIdeal.nD Cert.KernelDwHeadIdeal.τ Cert.KernelDwHeadIdeal.sig) → Buf (Elt Ideal) ℓ) (g : Dev Cert.KernelDwHeadIdeal.nD → PrngReg), Pre_KernelDwHeadIdeal m →
    θ_run (Cert.KernelDwHeadIdeal.defs (F := Ideal)) (onTc (τ := Cert.KernelDwHeadIdeal.τ) (Cert.KernelDwHeadIdeal.main (F := Ideal))) ⟨m, fun _ => 0, g⟩ (fun r => (∀ c : Dev Cert.KernelDwHeadIdeal.nD,
      r.2.mem ((c.tc : Thread Cert.KernelDwHeadIdeal.nD Cert.KernelDwHeadIdeal.τ).loc Cert.KernelDwHeadIdeal.main_arg0) = m ((c.tc : Thread Cert.KernelDwHeadIdeal.nD Cert.KernelDwHeadIdeal.τ).loc Cert.KernelDwHeadIdeal.main_arg0)
      ∧ r.2.mem ((c.tc : Thread Cert.KernelDwHeadIdeal.nD Cert.KernelDwHeadIdeal.τ).loc Cert.KernelDwHeadIdeal.main_arg1) = m ((c.tc : Thread Cert.KernelDwHeadIdeal.nD Cert.KernelDwHeadIdeal.τ).loc Cert.KernelDwHeadIdeal.main_arg1))
      ∧ r.2.sem = fun _ => 0)

def quiescent_ReferenceDwHeadIdeal [hReferenceDwHeadIdeal : Cert.ReferenceDwHeadIdeal.Facts] : Prop :=
  ∀ (m : (ℓ : Loc Cert.ReferenceDwHeadIdeal.nD Cert.ReferenceDwHeadIdeal.τ Cert.ReferenceDwHeadIdeal.sig) → Buf (Elt Ideal) ℓ) (g : Dev Cert.ReferenceDwHeadIdeal.nD → PrngReg), Pre_ReferenceDwHeadIdeal m →
    θ_run (Cert.ReferenceDwHeadIdeal.defs (F := Ideal)) (onTc (τ := Cert.ReferenceDwHeadIdeal.τ) (Cert.ReferenceDwHeadIdeal.main (F := Ideal))) ⟨m, fun _ => 0, g⟩ (fun r => (∀ c : Dev Cert.ReferenceDwHeadIdeal.nD,
      r.2.mem ((c.tc : Thread Cert.ReferenceDwHeadIdeal.nD Cert.ReferenceDwHeadIdeal.τ).loc Cert.ReferenceDwHeadIdeal.main_arg0) = m ((c.tc : Thread Cert.ReferenceDwHeadIdeal.nD Cert.ReferenceDwHeadIdeal.τ).loc Cert.ReferenceDwHeadIdeal.main_arg0)
      ∧ r.2.mem ((c.tc : Thread Cert.ReferenceDwHeadIdeal.nD Cert.ReferenceDwHeadIdeal.τ).loc Cert.ReferenceDwHeadIdeal.main_arg1) = m ((c.tc : Thread Cert.ReferenceDwHeadIdeal.nD Cert.ReferenceDwHeadIdeal.τ).loc Cert.ReferenceDwHeadIdeal.main_arg1))
      ∧ r.2.sem = fun _ => 0)

def quiescent_KernelDcHead [hKernelDcHead : Cert.KernelDcHead.Facts] : Prop :=
  ∀ (m : (ℓ : Loc Cert.KernelDcHead.nD Cert.KernelDcHead.τ Cert.KernelDcHead.sig) → Buf (Elt Bits) ℓ) (g : Dev Cert.KernelDcHead.nD → PrngReg), Pre_KernelDcHead m →
    θ_run (Cert.KernelDcHead.defs (F := Bits)) (onTc (τ := Cert.KernelDcHead.τ) (Cert.KernelDcHead.main (F := Bits))) ⟨m, fun _ => 0, g⟩ (fun r => (∀ c : Dev Cert.KernelDcHead.nD,
      r.2.mem ((c.tc : Thread Cert.KernelDcHead.nD Cert.KernelDcHead.τ).loc Cert.KernelDcHead.main_arg0) = m ((c.tc : Thread Cert.KernelDcHead.nD Cert.KernelDcHead.τ).loc Cert.KernelDcHead.main_arg0)
      ∧ r.2.mem ((c.tc : Thread Cert.KernelDcHead.nD Cert.KernelDcHead.τ).loc Cert.KernelDcHead.main_arg1) = m ((c.tc : Thread Cert.KernelDcHead.nD Cert.KernelDcHead.τ).loc Cert.KernelDcHead.main_arg1))
      ∧ r.2.sem = fun _ => 0)

def quiescent_KernelDcHeadIdeal [hKernelDcHeadIdeal : Cert.KernelDcHeadIdeal.Facts] : Prop :=
  ∀ (m : (ℓ : Loc Cert.KernelDcHeadIdeal.nD Cert.KernelDcHeadIdeal.τ Cert.KernelDcHeadIdeal.sig) → Buf (Elt Ideal) ℓ) (g : Dev Cert.KernelDcHeadIdeal.nD → PrngReg), Pre_KernelDcHeadIdeal m →
    θ_run (Cert.KernelDcHeadIdeal.defs (F := Ideal)) (onTc (τ := Cert.KernelDcHeadIdeal.τ) (Cert.KernelDcHeadIdeal.main (F := Ideal))) ⟨m, fun _ => 0, g⟩ (fun r => (∀ c : Dev Cert.KernelDcHeadIdeal.nD,
      r.2.mem ((c.tc : Thread Cert.KernelDcHeadIdeal.nD Cert.KernelDcHeadIdeal.τ).loc Cert.KernelDcHeadIdeal.main_arg0) = m ((c.tc : Thread Cert.KernelDcHeadIdeal.nD Cert.KernelDcHeadIdeal.τ).loc Cert.KernelDcHeadIdeal.main_arg0)
      ∧ r.2.mem ((c.tc : Thread Cert.KernelDcHeadIdeal.nD Cert.KernelDcHeadIdeal.τ).loc Cert.KernelDcHeadIdeal.main_arg1) = m ((c.tc : Thread Cert.KernelDcHeadIdeal.nD Cert.KernelDcHeadIdeal.τ).loc Cert.KernelDcHeadIdeal.main_arg1))
      ∧ r.2.sem = fun _ => 0)

def quiescent_ReferenceDcHeadIdeal [hReferenceDcHeadIdeal : Cert.ReferenceDcHeadIdeal.Facts] : Prop :=
  ∀ (m : (ℓ : Loc Cert.ReferenceDcHeadIdeal.nD Cert.ReferenceDcHeadIdeal.τ Cert.ReferenceDcHeadIdeal.sig) → Buf (Elt Ideal) ℓ) (g : Dev Cert.ReferenceDcHeadIdeal.nD → PrngReg), Pre_ReferenceDcHeadIdeal m →
    θ_run (Cert.ReferenceDcHeadIdeal.defs (F := Ideal)) (onTc (τ := Cert.ReferenceDcHeadIdeal.τ) (Cert.ReferenceDcHeadIdeal.main (F := Ideal))) ⟨m, fun _ => 0, g⟩ (fun r => (∀ c : Dev Cert.ReferenceDcHeadIdeal.nD,
      r.2.mem ((c.tc : Thread Cert.ReferenceDcHeadIdeal.nD Cert.ReferenceDcHeadIdeal.τ).loc Cert.ReferenceDcHeadIdeal.main_arg0) = m ((c.tc : Thread Cert.ReferenceDcHeadIdeal.nD Cert.ReferenceDcHeadIdeal.τ).loc Cert.ReferenceDcHeadIdeal.main_arg0)
      ∧ r.2.mem ((c.tc : Thread Cert.ReferenceDcHeadIdeal.nD Cert.ReferenceDcHeadIdeal.τ).loc Cert.ReferenceDcHeadIdeal.main_arg1) = m ((c.tc : Thread Cert.ReferenceDcHeadIdeal.nD Cert.ReferenceDcHeadIdeal.τ).loc Cert.ReferenceDcHeadIdeal.main_arg1))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamLat [hKernelAdamLat : Cert.KernelAdamLat.Facts] : Prop :=
  ∀ (m : (ℓ : Loc Cert.KernelAdamLat.nD Cert.KernelAdamLat.τ Cert.KernelAdamLat.sig) → Buf (Elt Bits) ℓ) (g : Dev Cert.KernelAdamLat.nD → PrngReg), Pre_KernelAdamLat m →
    θ_run (Cert.KernelAdamLat.defs (F := Bits)) (onTc (τ := Cert.KernelAdamLat.τ) (Cert.KernelAdamLat.main (F := Bits))) ⟨m, fun _ => 0, g⟩ (fun r => (∀ c : Dev Cert.KernelAdamLat.nD,
      r.2.mem ((c.tc : Thread Cert.KernelAdamLat.nD Cert.KernelAdamLat.τ).loc Cert.KernelAdamLat.main_arg0) = m ((c.tc : Thread Cert.KernelAdamLat.nD Cert.KernelAdamLat.τ).loc Cert.KernelAdamLat.main_arg0)
      ∧ r.2.mem ((c.tc : Thread Cert.KernelAdamLat.nD Cert.KernelAdamLat.τ).loc Cert.KernelAdamLat.main_arg1) = m ((c.tc : Thread Cert.KernelAdamLat.nD Cert.KernelAdamLat.τ).loc Cert.KernelAdamLat.main_arg1)
      ∧ r.2.mem ((c.tc : Thread Cert.KernelAdamLat.nD Cert.KernelAdamLat.τ).loc Cert.KernelAdamLat.main_arg2) = m ((c.tc : Thread Cert.KernelAdamLat.nD Cert.KernelAdamLat.τ).loc Cert.KernelAdamLat.main_arg2)
      ∧ r.2.mem ((c.tc : Thread Cert.KernelAdamLat.nD Cert.KernelAdamLat.τ).loc Cert.KernelAdamLat.main_arg3) = m ((c.tc : Thread Cert.KernelAdamLat.nD Cert.KernelAdamLat.τ).loc Cert.KernelAdamLat.main_arg3))
      ∧ r.2.sem = fun _ => 0)

def quiescent_KernelAdamLatIdeal [hKernelAdamLatIdeal : Cert.KernelAdamLatIdeal.Facts] : Prop :=
  ∀ (m : (ℓ : Loc Cert.KernelAdamLatIdeal.nD Cert.KernelAdamLatIdeal.τ Cert.KernelAdamLatIdeal.sig) → Buf (Elt Ideal) ℓ) (g : Dev Cert.KernelAdamLatIdeal.nD → PrngReg), Pre_KernelAdamLatIdeal m →
    θ_run (Cert.KernelAdamLatIdeal.defs (F := Ideal)) (onTc (τ := Cert.KernelAdamLatIdeal.τ) (Cert.KernelAdamLatIdeal.main (F := Ideal))) ⟨m, fun _ => 0, g⟩ (fun r => (∀ c : Dev Cert.KernelAdamLatIdeal.nD,
      r.2.mem ((c.tc : Thread Cert.KernelAdamLatIdeal.nD Cert.KernelAdamLatIdeal.τ).loc Cert.KernelAdamLatIdeal.main_arg0) = m ((c.tc : Thread Cert.KernelAdamLatIdeal.nD Cert.KernelAdamLatIdeal.τ).loc Cert.KernelAdamLatIdeal.main_arg0)
      ∧ r.2.mem ((c.tc : Thread Cert.KernelAdamLatIdeal.nD Cert.KernelAdamLatIdeal.τ).loc Cert.KernelAdamLatIdeal.main_arg1) = m ((c.tc : Thread Cert.KernelAdamLatIdeal.nD Cert.KernelAdamLatIdeal.τ).loc Cert.KernelAdamLatIdeal.main_arg1)
      ∧ r.2.mem ((c.tc : Thread Cert.KernelAdamLatIdeal.nD Cert.KernelAdamLatIdeal.τ).loc Cert.KernelAdamLatIdeal.main_arg2) = m ((c.tc : Thread Cert.KernelAdamLatIdeal.nD Cert.KernelAdamLatIdeal.τ).loc Cert.KernelAdamLatIdeal.main_arg2)
      ∧ r.2.mem ((c.tc : Thread Cert.KernelAdamLatIdeal.nD Cert.KernelAdamLatIdeal.τ).loc Cert.KernelAdamLatIdeal.main_arg3) = m ((c.tc : Thread Cert.KernelAdamLatIdeal.nD Cert.KernelAdamLatIdeal.τ).loc Cert.KernelAdamLatIdeal.main_arg3))
      ∧ r.2.sem = fun _ => 0)

def quiescent_ReferenceAdamLatIdeal [hReferenceAdamLatIdeal : Cert.ReferenceAdamLatIdeal.Facts] : Prop :=
  ∀ (m : (ℓ : Loc Cert.ReferenceAdamLatIdeal.nD Cert.ReferenceAdamLatIdeal.τ Cert.ReferenceAdamLatIdeal.sig) → Buf (Elt Ideal) ℓ) (g : Dev Cert.ReferenceAdamLatIdeal.nD → PrngReg), Pre_ReferenceAdamLatIdeal m →
    θ_run (Cert.ReferenceAdamLatIdeal.defs (F := Ideal)) (onTc (τ := Cert.ReferenceAdamLatIdeal.τ) (Cert.ReferenceAdamLatIdeal.main (F := Ideal))) ⟨m, fun _ => 0, g⟩ (fun r => (∀ c : Dev Cert.ReferenceAdamLatIdeal.nD,
      r.2.mem ((c.tc : Thread Cert.ReferenceAdamLatIdeal.nD Cert.ReferenceAdamLatIdeal.τ).loc Cert.ReferenceAdamLatIdeal.main_arg0) = m ((c.tc : Thread Cert.ReferenceAdamLatIdeal.nD Cert.ReferenceAdamLatIdeal.τ).loc Cert.ReferenceAdamLatIdeal.main_arg0)
      ∧ r.2.mem ((c.tc : Thread Cert.ReferenceAdamLatIdeal.nD Cert.ReferenceAdamLatIdeal.τ).loc Cert.ReferenceAdamLatIdeal.main_arg1) = m ((c.tc : Thread Cert.ReferenceAdamLatIdeal.nD Cert.ReferenceAdamLatIdeal.τ).loc Cert.ReferenceAdamLatIdeal.main_arg1)
      ∧ r.2.mem ((c.tc : Thread Cert.ReferenceAdamLatIdeal.nD Cert.ReferenceAdamLatIdeal.τ).loc Cert.ReferenceAdamLatIdeal.main_arg2) = m ((c.tc : Thread Cert.ReferenceAdamLatIdeal.nD Cert.ReferenceAdamLatIdeal.τ).loc Cert.ReferenceAdamLatIdeal.main_arg2)
      ∧ r.2.mem ((c.tc : Thread Cert.ReferenceAdamLatIdeal.nD Cert.ReferenceAdamLatIdeal.τ).loc Cert.ReferenceAdamLatIdeal.main_arg3) = m ((c.tc : Thread Cert.ReferenceAdamLatIdeal.nD Cert.ReferenceAdamLatIdeal.τ).loc Cert.ReferenceAdamLatIdeal.main_arg3))
      ∧ r.2.sem = fun _ => 0)

def quiescent_KernelAdamUq [hKernelAdamUq : Cert.KernelAdamUq.Facts] : Prop :=
  ∀ (m : (ℓ : Loc Cert.KernelAdamUq.nD Cert.KernelAdamUq.τ Cert.KernelAdamUq.sig) → Buf (Elt Bits) ℓ) (g : Dev Cert.KernelAdamUq.nD → PrngReg), Pre_KernelAdamUq m →
    θ_run (Cert.KernelAdamUq.defs (F := Bits)) (onTc (τ := Cert.KernelAdamUq.τ) (Cert.KernelAdamUq.main (F := Bits))) ⟨m, fun _ => 0, g⟩ (fun r => (∀ c : Dev Cert.KernelAdamUq.nD,
      r.2.mem ((c.tc : Thread Cert.KernelAdamUq.nD Cert.KernelAdamUq.τ).loc Cert.KernelAdamUq.main_arg0) = m ((c.tc : Thread Cert.KernelAdamUq.nD Cert.KernelAdamUq.τ).loc Cert.KernelAdamUq.main_arg0)
      ∧ r.2.mem ((c.tc : Thread Cert.KernelAdamUq.nD Cert.KernelAdamUq.τ).loc Cert.KernelAdamUq.main_arg1) = m ((c.tc : Thread Cert.KernelAdamUq.nD Cert.KernelAdamUq.τ).loc Cert.KernelAdamUq.main_arg1)
      ∧ r.2.mem ((c.tc : Thread Cert.KernelAdamUq.nD Cert.KernelAdamUq.τ).loc Cert.KernelAdamUq.main_arg2) = m ((c.tc : Thread Cert.KernelAdamUq.nD Cert.KernelAdamUq.τ).loc Cert.KernelAdamUq.main_arg2)
      ∧ r.2.mem ((c.tc : Thread Cert.KernelAdamUq.nD Cert.KernelAdamUq.τ).loc Cert.KernelAdamUq.main_arg3) = m ((c.tc : Thread Cert.KernelAdamUq.nD Cert.KernelAdamUq.τ).loc Cert.KernelAdamUq.main_arg3))
      ∧ r.2.sem = fun _ => 0)

def quiescent_KernelAdamUqIdeal [hKernelAdamUqIdeal : Cert.KernelAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg), Pre_KernelAdamUqIdeal m →
    θ_run (Cert.KernelAdamUqIdeal.defs (F := Ideal)) (onTc (τ := Cert.KernelAdamUqIdeal.τ) (Cert.KernelAdamUqIdeal.main (F := Ideal))) ⟨m, fun _ => 0, g⟩ (fun r => (∀ c : Dev Cert.KernelAdamUqIdeal.nD,
      r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
      ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
      ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
      ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ r.2.sem = fun _ => 0)

def quiescent_ReferenceAdamUqIdeal [hReferenceAdamUqIdeal : Cert.ReferenceAdamUqIdeal.Facts] : Prop :=
  ∀ (m : (ℓ : Loc Cert.ReferenceAdamUqIdeal.nD Cert.ReferenceAdamUqIdeal.τ Cert.ReferenceAdamUqIdeal.sig) → Buf (Elt Ideal) ℓ) (g : Dev Cert.ReferenceAdamUqIdeal.nD → PrngReg), Pre_ReferenceAdamUqIdeal m →
    θ_run (Cert.ReferenceAdamUqIdeal.defs (F := Ideal)) (onTc (τ := Cert.ReferenceAdamUqIdeal.τ) (Cert.ReferenceAdamUqIdeal.main (F := Ideal))) ⟨m, fun _ => 0, g⟩ (fun r => (∀ c : Dev Cert.ReferenceAdamUqIdeal.nD,
      r.2.mem ((c.tc : Thread Cert.ReferenceAdamUqIdeal.nD Cert.ReferenceAdamUqIdeal.τ).loc Cert.ReferenceAdamUqIdeal.main_arg0) = m ((c.tc : Thread Cert.ReferenceAdamUqIdeal.nD Cert.ReferenceAdamUqIdeal.τ).loc Cert.ReferenceAdamUqIdeal.main_arg0)
      ∧ r.2.mem ((c.tc : Thread Cert.ReferenceAdamUqIdeal.nD Cert.ReferenceAdamUqIdeal.τ).loc Cert.ReferenceAdamUqIdeal.main_arg1) = m ((c.tc : Thread Cert.ReferenceAdamUqIdeal.nD Cert.ReferenceAdamUqIdeal.τ).loc Cert.ReferenceAdamUqIdeal.main_arg1)
      ∧ r.2.mem ((c.tc : Thread Cert.ReferenceAdamUqIdeal.nD Cert.ReferenceAdamUqIdeal.τ).loc Cert.ReferenceAdamUqIdeal.main_arg2) = m ((c.tc : Thread Cert.ReferenceAdamUqIdeal.nD Cert.ReferenceAdamUqIdeal.τ).loc Cert.ReferenceAdamUqIdeal.main_arg2)
      ∧ r.2.mem ((c.tc : Thread Cert.ReferenceAdamUqIdeal.nD Cert.ReferenceAdamUqIdeal.τ).loc Cert.ReferenceAdamUqIdeal.main_arg3) = m ((c.tc : Thread Cert.ReferenceAdamUqIdeal.nD Cert.ReferenceAdamUqIdeal.τ).loc Cert.ReferenceAdamUqIdeal.main_arg3))
      ∧ r.2.sem = fun _ => 0)

def quiescent_KernelAdamUkv [hKernelAdamUkv : Cert.KernelAdamUkv.Facts] : Prop :=
  ∀ (m : (ℓ : Loc Cert.KernelAdamUkv.nD Cert.KernelAdamUkv.τ Cert.KernelAdamUkv.sig) → Buf (Elt Bits) ℓ) (g : Dev Cert.KernelAdamUkv.nD → PrngReg), Pre_KernelAdamUkv m →
    θ_run (Cert.KernelAdamUkv.defs (F := Bits)) (onTc (τ := Cert.KernelAdamUkv.τ) (Cert.KernelAdamUkv.main (F := Bits))) ⟨m, fun _ => 0, g⟩ (fun r => (∀ c : Dev Cert.KernelAdamUkv.nD,
      r.2.mem ((c.tc : Thread Cert.KernelAdamUkv.nD Cert.KernelAdamUkv.τ).loc Cert.KernelAdamUkv.main_arg0) = m ((c.tc : Thread Cert.KernelAdamUkv.nD Cert.KernelAdamUkv.τ).loc Cert.KernelAdamUkv.main_arg0)
      ∧ r.2.mem ((c.tc : Thread Cert.KernelAdamUkv.nD Cert.KernelAdamUkv.τ).loc Cert.KernelAdamUkv.main_arg1) = m ((c.tc : Thread Cert.KernelAdamUkv.nD Cert.KernelAdamUkv.τ).loc Cert.KernelAdamUkv.main_arg1)
      ∧ r.2.mem ((c.tc : Thread Cert.KernelAdamUkv.nD Cert.KernelAdamUkv.τ).loc Cert.KernelAdamUkv.main_arg2) = m ((c.tc : Thread Cert.KernelAdamUkv.nD Cert.KernelAdamUkv.τ).loc Cert.KernelAdamUkv.main_arg2)
      ∧ r.2.mem ((c.tc : Thread Cert.KernelAdamUkv.nD Cert.KernelAdamUkv.τ).loc Cert.KernelAdamUkv.main_arg3) = m ((c.tc : Thread Cert.KernelAdamUkv.nD Cert.KernelAdamUkv.τ).loc Cert.KernelAdamUkv.main_arg3))
      ∧ r.2.sem = fun _ => 0)

def quiescent_KernelAdamUkvIdeal [hKernelAdamUkvIdeal : Cert.KernelAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg), Pre_KernelAdamUkvIdeal m →
    θ_run (Cert.KernelAdamUkvIdeal.defs (F := Ideal)) (onTc (τ := Cert.KernelAdamUkvIdeal.τ) (Cert.KernelAdamUkvIdeal.main (F := Ideal))) ⟨m, fun _ => 0, g⟩ (fun r => (∀ c : Dev Cert.KernelAdamUkvIdeal.nD,
      r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
      ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
      ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
      ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ r.2.sem = fun _ => 0)

def quiescent_ReferenceAdamUkvIdeal [hReferenceAdamUkvIdeal : Cert.ReferenceAdamUkvIdeal.Facts] : Prop :=
  ∀ (m : (ℓ : Loc Cert.ReferenceAdamUkvIdeal.nD Cert.ReferenceAdamUkvIdeal.τ Cert.ReferenceAdamUkvIdeal.sig) → Buf (Elt Ideal) ℓ) (g : Dev Cert.ReferenceAdamUkvIdeal.nD → PrngReg), Pre_ReferenceAdamUkvIdeal m →
    θ_run (Cert.ReferenceAdamUkvIdeal.defs (F := Ideal)) (onTc (τ := Cert.ReferenceAdamUkvIdeal.τ) (Cert.ReferenceAdamUkvIdeal.main (F := Ideal))) ⟨m, fun _ => 0, g⟩ (fun r => (∀ c : Dev Cert.ReferenceAdamUkvIdeal.nD,
      r.2.mem ((c.tc : Thread Cert.ReferenceAdamUkvIdeal.nD Cert.ReferenceAdamUkvIdeal.τ).loc Cert.ReferenceAdamUkvIdeal.main_arg0) = m ((c.tc : Thread Cert.ReferenceAdamUkvIdeal.nD Cert.ReferenceAdamUkvIdeal.τ).loc Cert.ReferenceAdamUkvIdeal.main_arg0)
      ∧ r.2.mem ((c.tc : Thread Cert.ReferenceAdamUkvIdeal.nD Cert.ReferenceAdamUkvIdeal.τ).loc Cert.ReferenceAdamUkvIdeal.main_arg1) = m ((c.tc : Thread Cert.ReferenceAdamUkvIdeal.nD Cert.ReferenceAdamUkvIdeal.τ).loc Cert.ReferenceAdamUkvIdeal.main_arg1)
      ∧ r.2.mem ((c.tc : Thread Cert.ReferenceAdamUkvIdeal.nD Cert.ReferenceAdamUkvIdeal.τ).loc Cert.ReferenceAdamUkvIdeal.main_arg2) = m ((c.tc : Thread Cert.ReferenceAdamUkvIdeal.nD Cert.ReferenceAdamUkvIdeal.τ).loc Cert.ReferenceAdamUkvIdeal.main_arg2)
      ∧ r.2.mem ((c.tc : Thread Cert.ReferenceAdamUkvIdeal.nD Cert.ReferenceAdamUkvIdeal.τ).loc Cert.ReferenceAdamUkvIdeal.main_arg3) = m ((c.tc : Thread Cert.ReferenceAdamUkvIdeal.nD Cert.ReferenceAdamUkvIdeal.τ).loc Cert.ReferenceAdamUkvIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)
      ∧ m' ((c.tc : Thread Cert.ReferenceDwDownIdeal.nD Cert.ReferenceDwDownIdeal.τ).loc Cert.ReferenceDwDownIdeal.main_arg2) = m ((c.tc : Thread Cert.KernelDwDownIdeal.nD Cert.KernelDwDownIdeal.τ).loc Cert.KernelDwDownIdeal.main_arg2)) →
    ∃ (v0 : (c : Dev Cert.KernelDwDownIdeal.nD) → Buf (Elt Ideal) ((c.tc : Thread Cert.KernelDwDownIdeal.nD Cert.KernelDwDownIdeal.τ).loc Cert.KernelDwDownIdeal.main_v4)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v4) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
          ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v10) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1)
          ∧ r.2.mem ((c.tc : Thread Cert.ReferenceDwDownIdeal.nD Cert.ReferenceDwDownIdeal.τ).loc Cert.ReferenceDwDownIdeal.main_arg2) = m' ((c.tc : Thread Cert.ReferenceDwDownIdeal.nD Cert.ReferenceDwDownIdeal.τ).loc Cert.ReferenceDwDownIdeal.main_arg2))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)
      ∧ m' ((c.tc : Thread Cert.ReferenceDuIdeal.nD Cert.ReferenceDuIdeal.τ).loc Cert.ReferenceDuIdeal.main_arg2) = m ((c.tc : Thread Cert.KernelDuIdeal.nD Cert.KernelDuIdeal.τ).loc Cert.KernelDuIdeal.main_arg2)
      ∧ m' ((c.tc : Thread Cert.ReferenceDuIdeal.nD Cert.ReferenceDuIdeal.τ).loc Cert.ReferenceDuIdeal.main_arg3) = m ((c.tc : Thread Cert.KernelDuIdeal.nD Cert.KernelDuIdeal.τ).loc Cert.KernelDuIdeal.main_arg3)) →
    ∃ (v0 : (c : Dev Cert.KernelDuIdeal.nD) → Buf (Elt Ideal) ((c.tc : Thread Cert.KernelDuIdeal.nD Cert.KernelDuIdeal.τ).loc Cert.KernelDuIdeal.main_v1)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v1) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
          ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
          ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v17) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1)
          ∧ r.2.mem ((c.tc : Thread Cert.ReferenceDuIdeal.nD Cert.ReferenceDuIdeal.τ).loc Cert.ReferenceDuIdeal.main_arg2) = m' ((c.tc : Thread Cert.ReferenceDuIdeal.nD Cert.ReferenceDuIdeal.τ).loc Cert.ReferenceDuIdeal.main_arg2)
          ∧ r.2.mem ((c.tc : Thread Cert.ReferenceDuIdeal.nD Cert.ReferenceDuIdeal.τ).loc Cert.ReferenceDuIdeal.main_arg3) = m' ((c.tc : Thread Cert.ReferenceDuIdeal.nD Cert.ReferenceDuIdeal.τ).loc Cert.ReferenceDuIdeal.main_arg3))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v0)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v0) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v8) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_v5) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v5) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelDwO_KernelDwOIdeal : Prop :=
  True

def algebraic_KernelDwOIdeal_ReferenceDwOIdeal [hKernelDwOIdeal : Cert.KernelDwOIdeal.Facts] [hReferenceDwOIdeal : Cert.ReferenceDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg)
    (m' : (ℓ : Loc Cert.ReferenceDwOIdeal.nD Cert.ReferenceDwOIdeal.τ Cert.ReferenceDwOIdeal.sig) → Buf (Elt Ideal) ℓ) (g' : Dev Cert.ReferenceDwOIdeal.nD → PrngReg), Pre_KernelDwOIdeal m →
    (∀ c : Dev Cert.KernelDwOIdeal.nD,
      m' ((c.tc : Thread Cert.ReferenceDwOIdeal.nD Cert.ReferenceDwOIdeal.τ).loc Cert.ReferenceDwOIdeal.main_arg0) = m ((c.tc : Thread Cert.KernelDwOIdeal.nD Cert.KernelDwOIdeal.τ).loc Cert.KernelDwOIdeal.main_arg0)
      ∧ m' ((c.tc : Thread Cert.ReferenceDwOIdeal.nD Cert.ReferenceDwOIdeal.τ).loc Cert.ReferenceDwOIdeal.main_arg1) = m ((c.tc : Thread Cert.KernelDwOIdeal.nD Cert.KernelDwOIdeal.τ).loc Cert.KernelDwOIdeal.main_arg1)) →
    ∃ (v0 : (c : Dev Cert.KernelDwOIdeal.nD) → Buf (Elt Ideal) ((c.tc : Thread Cert.KernelDwOIdeal.nD Cert.KernelDwOIdeal.τ).loc Cert.KernelDwOIdeal.main_v0)),
      θ_run (Cert.KernelDwOIdeal.defs (F := Ideal)) (onTc (τ := Cert.KernelDwOIdeal.τ) (Cert.KernelDwOIdeal.main (F := Ideal))) ⟨m, fun _ => 0, g⟩ (fun r => ∀ c : Dev Cert.KernelDwOIdeal.nD,
          r.2.mem ((c.tc : Thread Cert.KernelDwOIdeal.nD Cert.KernelDwOIdeal.τ).loc Cert.KernelDwOIdeal.main_v0) = v0 c
          ∧ r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
          ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ θ_run (Cert.ReferenceDwOIdeal.defs (F := Ideal)) (onTc (τ := Cert.ReferenceDwOIdeal.τ) (Cert.ReferenceDwOIdeal.main (F := Ideal))) ⟨m', fun _ => 0, g'⟩ (fun r => ∀ c : Dev Cert.ReferenceDwOIdeal.nD,
          r.2.mem ((c.tc : Thread Cert.ReferenceDwOIdeal.nD Cert.ReferenceDwOIdeal.τ).loc Cert.ReferenceDwOIdeal.main_v6) = v0 c
          ∧ r.2.mem ((c.tc : Thread Cert.ReferenceDwOIdeal.nD Cert.ReferenceDwOIdeal.τ).loc Cert.ReferenceDwOIdeal.main_arg0) = m' ((c.tc : Thread Cert.ReferenceDwOIdeal.nD Cert.ReferenceDwOIdeal.τ).loc Cert.ReferenceDwOIdeal.main_arg0)
          ∧ r.2.mem ((c.tc : Thread Cert.ReferenceDwOIdeal.nD Cert.ReferenceDwOIdeal.τ).loc Cert.ReferenceDwOIdeal.main_arg1) = m' ((c.tc : Thread Cert.ReferenceDwOIdeal.nD Cert.ReferenceDwOIdeal.τ).loc Cert.ReferenceDwOIdeal.main_arg1))

def preserves_KernelDwA_KernelDwAIdeal : Prop :=
  True

def algebraic_KernelDwAIdeal_ReferenceDwAIdeal [hKernelDwAIdeal : Cert.KernelDwAIdeal.Facts] [hReferenceDwAIdeal : Cert.ReferenceDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg)
    (m' : (ℓ : Loc Cert.ReferenceDwAIdeal.nD Cert.ReferenceDwAIdeal.τ Cert.ReferenceDwAIdeal.sig) → Buf (Elt Ideal) ℓ) (g' : Dev Cert.ReferenceDwAIdeal.nD → PrngReg), Pre_KernelDwAIdeal m →
    (∀ c : Dev Cert.KernelDwAIdeal.nD,
      m' ((c.tc : Thread Cert.ReferenceDwAIdeal.nD Cert.ReferenceDwAIdeal.τ).loc Cert.ReferenceDwAIdeal.main_arg0) = m ((c.tc : Thread Cert.KernelDwAIdeal.nD Cert.KernelDwAIdeal.τ).loc Cert.KernelDwAIdeal.main_arg0)
      ∧ m' ((c.tc : Thread Cert.ReferenceDwAIdeal.nD Cert.ReferenceDwAIdeal.τ).loc Cert.ReferenceDwAIdeal.main_arg1) = m ((c.tc : Thread Cert.KernelDwAIdeal.nD Cert.KernelDwAIdeal.τ).loc Cert.KernelDwAIdeal.main_arg1)) →
    ∃ (v0 : (c : Dev Cert.KernelDwAIdeal.nD) → Buf (Elt Ideal) ((c.tc : Thread Cert.KernelDwAIdeal.nD Cert.KernelDwAIdeal.τ).loc Cert.KernelDwAIdeal.main_v0)),
      θ_run (Cert.KernelDwAIdeal.defs (F := Ideal)) (onTc (τ := Cert.KernelDwAIdeal.τ) (Cert.KernelDwAIdeal.main (F := Ideal))) ⟨m, fun _ => 0, g⟩ (fun r => ∀ c : Dev Cert.KernelDwAIdeal.nD,
          r.2.mem ((c.tc : Thread Cert.KernelDwAIdeal.nD Cert.KernelDwAIdeal.τ).loc Cert.KernelDwAIdeal.main_v0) = v0 c
          ∧ r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
          ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ θ_run (Cert.ReferenceDwAIdeal.defs (F := Ideal)) (onTc (τ := Cert.ReferenceDwAIdeal.τ) (Cert.ReferenceDwAIdeal.main (F := Ideal))) ⟨m', fun _ => 0, g'⟩ (fun r => ∀ c : Dev Cert.ReferenceDwAIdeal.nD,
          r.2.mem ((c.tc : Thread Cert.ReferenceDwAIdeal.nD Cert.ReferenceDwAIdeal.τ).loc Cert.ReferenceDwAIdeal.main_v6) = v0 c
          ∧ r.2.mem ((c.tc : Thread Cert.ReferenceDwAIdeal.nD Cert.ReferenceDwAIdeal.τ).loc Cert.ReferenceDwAIdeal.main_arg0) = m' ((c.tc : Thread Cert.ReferenceDwAIdeal.nD Cert.ReferenceDwAIdeal.τ).loc Cert.ReferenceDwAIdeal.main_arg0)
          ∧ r.2.mem ((c.tc : Thread Cert.ReferenceDwAIdeal.nD Cert.ReferenceDwAIdeal.τ).loc Cert.ReferenceDwAIdeal.main_arg1) = m' ((c.tc : Thread Cert.ReferenceDwAIdeal.nD Cert.ReferenceDwAIdeal.τ).loc Cert.ReferenceDwAIdeal.main_arg1))

def preserves_KernelDhA_KernelDhAIdeal : Prop :=
  True

def algebraic_KernelDhAIdeal_ReferenceDhAIdeal [hKernelDhAIdeal : Cert.KernelDhAIdeal.Facts] [hReferenceDhAIdeal : Cert.ReferenceDhAIdeal.Facts] : Prop :=
  ∀ (m : (ℓ : Loc Cert.KernelDhAIdeal.nD Cert.KernelDhAIdeal.τ Cert.KernelDhAIdeal.sig) → Buf (Elt Ideal) ℓ) (g : Dev Cert.KernelDhAIdeal.nD → PrngReg)
    (m' : (ℓ : Loc Cert.ReferenceDhAIdeal.nD Cert.ReferenceDhAIdeal.τ Cert.ReferenceDhAIdeal.sig) → Buf (Elt Ideal) ℓ) (g' : Dev Cert.ReferenceDhAIdeal.nD → PrngReg), Pre_KernelDhAIdeal m →
    (∀ c : Dev Cert.KernelDhAIdeal.nD,
      m' ((c.tc : Thread Cert.ReferenceDhAIdeal.nD Cert.ReferenceDhAIdeal.τ).loc Cert.ReferenceDhAIdeal.main_arg0) = m ((c.tc : Thread Cert.KernelDhAIdeal.nD Cert.KernelDhAIdeal.τ).loc Cert.KernelDhAIdeal.main_arg0)
      ∧ m' ((c.tc : Thread Cert.ReferenceDhAIdeal.nD Cert.ReferenceDhAIdeal.τ).loc Cert.ReferenceDhAIdeal.main_arg1) = m ((c.tc : Thread Cert.KernelDhAIdeal.nD Cert.KernelDhAIdeal.τ).loc Cert.KernelDhAIdeal.main_arg1)
      ∧ m' ((c.tc : Thread Cert.ReferenceDhAIdeal.nD Cert.ReferenceDhAIdeal.τ).loc Cert.ReferenceDhAIdeal.main_arg2) = m ((c.tc : Thread Cert.KernelDhAIdeal.nD Cert.KernelDhAIdeal.τ).loc Cert.KernelDhAIdeal.main_arg2)) →
    ∃ (v0 : (c : Dev Cert.KernelDhAIdeal.nD) → Buf (Elt Ideal) ((c.tc : Thread Cert.KernelDhAIdeal.nD Cert.KernelDhAIdeal.τ).loc Cert.KernelDhAIdeal.main_v0)),
      θ_run (Cert.KernelDhAIdeal.defs (F := Ideal)) (onTc (τ := Cert.KernelDhAIdeal.τ) (Cert.KernelDhAIdeal.main (F := Ideal))) ⟨m, fun _ => 0, g⟩ (fun r => ∀ c : Dev Cert.KernelDhAIdeal.nD,
          r.2.mem ((c.tc : Thread Cert.KernelDhAIdeal.nD Cert.KernelDhAIdeal.τ).loc Cert.KernelDhAIdeal.main_v0) = v0 c
          ∧ r.2.mem ((c.tc : Thread Cert.KernelDhAIdeal.nD Cert.KernelDhAIdeal.τ).loc Cert.KernelDhAIdeal.main_arg0) = m ((c.tc : Thread Cert.KernelDhAIdeal.nD Cert.KernelDhAIdeal.τ).loc Cert.KernelDhAIdeal.main_arg0)
          ∧ r.2.mem ((c.tc : Thread Cert.KernelDhAIdeal.nD Cert.KernelDhAIdeal.τ).loc Cert.KernelDhAIdeal.main_arg1) = m ((c.tc : Thread Cert.KernelDhAIdeal.nD Cert.KernelDhAIdeal.τ).loc Cert.KernelDhAIdeal.main_arg1)
          ∧ r.2.mem ((c.tc : Thread Cert.KernelDhAIdeal.nD Cert.KernelDhAIdeal.τ).loc Cert.KernelDhAIdeal.main_arg2) = m ((c.tc : Thread Cert.KernelDhAIdeal.nD Cert.KernelDhAIdeal.τ).loc Cert.KernelDhAIdeal.main_arg2))
      ∧ θ_run (Cert.ReferenceDhAIdeal.defs (F := Ideal)) (onTc (τ := Cert.ReferenceDhAIdeal.τ) (Cert.ReferenceDhAIdeal.main (F := Ideal))) ⟨m', fun _ => 0, g'⟩ (fun r => ∀ c : Dev Cert.ReferenceDhAIdeal.nD,
          r.2.mem ((c.tc : Thread Cert.ReferenceDhAIdeal.nD Cert.ReferenceDhAIdeal.τ).loc Cert.ReferenceDhAIdeal.main_v5) = v0 c
          ∧ r.2.mem ((c.tc : Thread Cert.ReferenceDhAIdeal.nD Cert.ReferenceDhAIdeal.τ).loc Cert.ReferenceDhAIdeal.main_arg0) = m' ((c.tc : Thread Cert.ReferenceDhAIdeal.nD Cert.ReferenceDhAIdeal.τ).loc Cert.ReferenceDhAIdeal.main_arg0)
          ∧ r.2.mem ((c.tc : Thread Cert.ReferenceDhAIdeal.nD Cert.ReferenceDhAIdeal.τ).loc Cert.ReferenceDhAIdeal.main_arg1) = m' ((c.tc : Thread Cert.ReferenceDhAIdeal.nD Cert.ReferenceDhAIdeal.τ).loc Cert.ReferenceDhAIdeal.main_arg1)
          ∧ r.2.mem ((c.tc : Thread Cert.ReferenceDhAIdeal.nD Cert.ReferenceDhAIdeal.τ).loc Cert.ReferenceDhAIdeal.main_arg2) = m' ((c.tc : Thread Cert.ReferenceDhAIdeal.nD Cert.ReferenceDhAIdeal.τ).loc Cert.ReferenceDhAIdeal.main_arg2))

def preserves_KernelInB_KernelInBIdeal : Prop :=
  True

def algebraic_KernelInBIdeal_ReferenceInBIdeal [hKernelInBIdeal : Cert.KernelInBIdeal.Facts] [hReferenceInBIdeal : Cert.ReferenceInBIdeal.Facts] : Prop :=
  ∀ (m : (ℓ : Loc Cert.KernelInBIdeal.nD Cert.KernelInBIdeal.τ Cert.KernelInBIdeal.sig) → Buf (Elt Ideal) ℓ) (g : Dev Cert.KernelInBIdeal.nD → PrngReg)
    (m' : (ℓ : Loc Cert.ReferenceInBIdeal.nD Cert.ReferenceInBIdeal.τ Cert.ReferenceInBIdeal.sig) → Buf (Elt Ideal) ℓ) (g' : Dev Cert.ReferenceInBIdeal.nD → PrngReg), Pre_KernelInBIdeal m →
    (∀ c : Dev Cert.KernelInBIdeal.nD,
      m' ((c.tc : Thread Cert.ReferenceInBIdeal.nD Cert.ReferenceInBIdeal.τ).loc Cert.ReferenceInBIdeal.main_arg0) = m ((c.tc : Thread Cert.KernelInBIdeal.nD Cert.KernelInBIdeal.τ).loc Cert.KernelInBIdeal.main_arg0)
      ∧ m' ((c.tc : Thread Cert.ReferenceInBIdeal.nD Cert.ReferenceInBIdeal.τ).loc Cert.ReferenceInBIdeal.main_arg1) = m ((c.tc : Thread Cert.KernelInBIdeal.nD Cert.KernelInBIdeal.τ).loc Cert.KernelInBIdeal.main_arg1)) →
    ∃ (v0 : (c : Dev Cert.KernelInBIdeal.nD) → Buf (Elt Ideal) ((c.tc : Thread Cert.KernelInBIdeal.nD Cert.KernelInBIdeal.τ).loc Cert.KernelInBIdeal.main_v0)),
      θ_run (Cert.KernelInBIdeal.defs (F := Ideal)) (onTc (τ := Cert.KernelInBIdeal.τ) (Cert.KernelInBIdeal.main (F := Ideal))) ⟨m, fun _ => 0, g⟩ (fun r => ∀ c : Dev Cert.KernelInBIdeal.nD,
          r.2.mem ((c.tc : Thread Cert.KernelInBIdeal.nD Cert.KernelInBIdeal.τ).loc Cert.KernelInBIdeal.main_v0) = v0 c
          ∧ r.2.mem ((c.tc : Thread Cert.KernelInBIdeal.nD Cert.KernelInBIdeal.τ).loc Cert.KernelInBIdeal.main_arg0) = m ((c.tc : Thread Cert.KernelInBIdeal.nD Cert.KernelInBIdeal.τ).loc Cert.KernelInBIdeal.main_arg0)
          ∧ r.2.mem ((c.tc : Thread Cert.KernelInBIdeal.nD Cert.KernelInBIdeal.τ).loc Cert.KernelInBIdeal.main_arg1) = m ((c.tc : Thread Cert.KernelInBIdeal.nD Cert.KernelInBIdeal.τ).loc Cert.KernelInBIdeal.main_arg1))
      ∧ θ_run (Cert.ReferenceInBIdeal.defs (F := Ideal)) (onTc (τ := Cert.ReferenceInBIdeal.τ) (Cert.ReferenceInBIdeal.main (F := Ideal))) ⟨m', fun _ => 0, g'⟩ (fun r => ∀ c : Dev Cert.ReferenceInBIdeal.nD,
          r.2.mem ((c.tc : Thread Cert.ReferenceInBIdeal.nD Cert.ReferenceInBIdeal.τ).loc Cert.ReferenceInBIdeal.main_v2) = v0 c
          ∧ r.2.mem ((c.tc : Thread Cert.ReferenceInBIdeal.nD Cert.ReferenceInBIdeal.τ).loc Cert.ReferenceInBIdeal.main_arg0) = m' ((c.tc : Thread Cert.ReferenceInBIdeal.nD Cert.ReferenceInBIdeal.τ).loc Cert.ReferenceInBIdeal.main_arg0)
          ∧ r.2.mem ((c.tc : Thread Cert.ReferenceInBIdeal.nD Cert.ReferenceInBIdeal.τ).loc Cert.ReferenceInBIdeal.main_arg1) = m' ((c.tc : Thread Cert.ReferenceInBIdeal.nD Cert.ReferenceInBIdeal.τ).loc Cert.ReferenceInBIdeal.main_arg1))

def preserves_KernelDwB_KernelDwBIdeal : Prop :=
  True

def algebraic_KernelDwBIdeal_ReferenceDwBIdeal [hKernelDwBIdeal : Cert.KernelDwBIdeal.Facts] [hReferenceDwBIdeal : Cert.ReferenceDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg)
    (m' : (ℓ : Loc Cert.ReferenceDwBIdeal.nD Cert.ReferenceDwBIdeal.τ Cert.ReferenceDwBIdeal.sig) → Buf (Elt Ideal) ℓ) (g' : Dev Cert.ReferenceDwBIdeal.nD → PrngReg), Pre_KernelDwBIdeal m →
    (∀ c : Dev Cert.KernelDwBIdeal.nD,
      m' ((c.tc : Thread Cert.ReferenceDwBIdeal.nD Cert.ReferenceDwBIdeal.τ).loc Cert.ReferenceDwBIdeal.main_arg0) = m ((c.tc : Thread Cert.KernelDwBIdeal.nD Cert.KernelDwBIdeal.τ).loc Cert.KernelDwBIdeal.main_arg0)
      ∧ m' ((c.tc : Thread Cert.ReferenceDwBIdeal.nD Cert.ReferenceDwBIdeal.τ).loc Cert.ReferenceDwBIdeal.main_arg1) = m ((c.tc : Thread Cert.KernelDwBIdeal.nD Cert.KernelDwBIdeal.τ).loc Cert.KernelDwBIdeal.main_arg1)) →
    ∃ (v0 : (c : Dev Cert.KernelDwBIdeal.nD) → Buf (Elt Ideal) ((c.tc : Thread Cert.KernelDwBIdeal.nD Cert.KernelDwBIdeal.τ).loc Cert.KernelDwBIdeal.main_v0)),
      θ_run (Cert.KernelDwBIdeal.defs (F := Ideal)) (onTc (τ := Cert.KernelDwBIdeal.τ) (Cert.KernelDwBIdeal.main (F := Ideal))) ⟨m, fun _ => 0, g⟩ (fun r => ∀ c : Dev Cert.KernelDwBIdeal.nD,
          r.2.mem ((c.tc : Thread Cert.KernelDwBIdeal.nD Cert.KernelDwBIdeal.τ).loc Cert.KernelDwBIdeal.main_v0) = v0 c
          ∧ r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
          ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ θ_run (Cert.ReferenceDwBIdeal.defs (F := Ideal)) (onTc (τ := Cert.ReferenceDwBIdeal.τ) (Cert.ReferenceDwBIdeal.main (F := Ideal))) ⟨m', fun _ => 0, g'⟩ (fun r => ∀ c : Dev Cert.ReferenceDwBIdeal.nD,
          r.2.mem ((c.tc : Thread Cert.ReferenceDwBIdeal.nD Cert.ReferenceDwBIdeal.τ).loc Cert.ReferenceDwBIdeal.main_v6) = v0 c
          ∧ r.2.mem ((c.tc : Thread Cert.ReferenceDwBIdeal.nD Cert.ReferenceDwBIdeal.τ).loc Cert.ReferenceDwBIdeal.main_arg0) = m' ((c.tc : Thread Cert.ReferenceDwBIdeal.nD Cert.ReferenceDwBIdeal.τ).loc Cert.ReferenceDwBIdeal.main_arg0)
          ∧ r.2.mem ((c.tc : Thread Cert.ReferenceDwBIdeal.nD Cert.ReferenceDwBIdeal.τ).loc Cert.ReferenceDwBIdeal.main_arg1) = m' ((c.tc : Thread Cert.ReferenceDwBIdeal.nD Cert.ReferenceDwBIdeal.τ).loc Cert.ReferenceDwBIdeal.main_arg1))

def preserves_KernelDhB_KernelDhBIdeal : Prop :=
  True

def algebraic_KernelDhBIdeal_ReferenceDhBIdeal [hKernelDhBIdeal : Cert.KernelDhBIdeal.Facts] [hReferenceDhBIdeal : Cert.ReferenceDhBIdeal.Facts] : Prop :=
  ∀ (m : (ℓ : Loc Cert.KernelDhBIdeal.nD Cert.KernelDhBIdeal.τ Cert.KernelDhBIdeal.sig) → Buf (Elt Ideal) ℓ) (g : Dev Cert.KernelDhBIdeal.nD → PrngReg)
    (m' : (ℓ : Loc Cert.ReferenceDhBIdeal.nD Cert.ReferenceDhBIdeal.τ Cert.ReferenceDhBIdeal.sig) → Buf (Elt Ideal) ℓ) (g' : Dev Cert.ReferenceDhBIdeal.nD → PrngReg), Pre_KernelDhBIdeal m →
    (∀ c : Dev Cert.KernelDhBIdeal.nD,
      m' ((c.tc : Thread Cert.ReferenceDhBIdeal.nD Cert.ReferenceDhBIdeal.τ).loc Cert.ReferenceDhBIdeal.main_arg0) = m ((c.tc : Thread Cert.KernelDhBIdeal.nD Cert.KernelDhBIdeal.τ).loc Cert.KernelDhBIdeal.main_arg0)
      ∧ m' ((c.tc : Thread Cert.ReferenceDhBIdeal.nD Cert.ReferenceDhBIdeal.τ).loc Cert.ReferenceDhBIdeal.main_arg1) = m ((c.tc : Thread Cert.KernelDhBIdeal.nD Cert.KernelDhBIdeal.τ).loc Cert.KernelDhBIdeal.main_arg1)) →
    ∃ (v0 : (c : Dev Cert.KernelDhBIdeal.nD) → Buf (Elt Ideal) ((c.tc : Thread Cert.KernelDhBIdeal.nD Cert.KernelDhBIdeal.τ).loc Cert.KernelDhBIdeal.main_v0)),
      θ_run (Cert.KernelDhBIdeal.defs (F := Ideal)) (onTc (τ := Cert.KernelDhBIdeal.τ) (Cert.KernelDhBIdeal.main (F := Ideal))) ⟨m, fun _ => 0, g⟩ (fun r => ∀ c : Dev Cert.KernelDhBIdeal.nD,
          r.2.mem ((c.tc : Thread Cert.KernelDhBIdeal.nD Cert.KernelDhBIdeal.τ).loc Cert.KernelDhBIdeal.main_v0) = v0 c
          ∧ r.2.mem ((c.tc : Thread Cert.KernelDhBIdeal.nD Cert.KernelDhBIdeal.τ).loc Cert.KernelDhBIdeal.main_arg0) = m ((c.tc : Thread Cert.KernelDhBIdeal.nD Cert.KernelDhBIdeal.τ).loc Cert.KernelDhBIdeal.main_arg0)
          ∧ r.2.mem ((c.tc : Thread Cert.KernelDhBIdeal.nD Cert.KernelDhBIdeal.τ).loc Cert.KernelDhBIdeal.main_arg1) = m ((c.tc : Thread Cert.KernelDhBIdeal.nD Cert.KernelDhBIdeal.τ).loc Cert.KernelDhBIdeal.main_arg1))
      ∧ θ_run (Cert.ReferenceDhBIdeal.defs (F := Ideal)) (onTc (τ := Cert.ReferenceDhBIdeal.τ) (Cert.ReferenceDhBIdeal.main (F := Ideal))) ⟨m', fun _ => 0, g'⟩ (fun r => ∀ c : Dev Cert.ReferenceDhBIdeal.nD,
          r.2.mem ((c.tc : Thread Cert.ReferenceDhBIdeal.nD Cert.ReferenceDhBIdeal.τ).loc Cert.ReferenceDhBIdeal.main_v4) = v0 c
          ∧ r.2.mem ((c.tc : Thread Cert.ReferenceDhBIdeal.nD Cert.ReferenceDhBIdeal.τ).loc Cert.ReferenceDhBIdeal.main_arg0) = m' ((c.tc : Thread Cert.ReferenceDhBIdeal.nD Cert.ReferenceDhBIdeal.τ).loc Cert.ReferenceDhBIdeal.main_arg0)
          ∧ r.2.mem ((c.tc : Thread Cert.ReferenceDhBIdeal.nD Cert.ReferenceDhBIdeal.τ).loc Cert.ReferenceDhBIdeal.main_arg1) = m' ((c.tc : Thread Cert.ReferenceDhBIdeal.nD Cert.ReferenceDhBIdeal.τ).loc Cert.ReferenceDhBIdeal.main_arg1))

def preserves_KernelLat_KernelLatIdeal : Prop :=
  True

def algebraic_KernelLatIdeal_ReferenceLatIdeal [hKernelLatIdeal : Cert.KernelLatIdeal.Facts] [hReferenceLatIdeal : Cert.ReferenceLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg)
    (m' : (ℓ : Loc Cert.ReferenceLatIdeal.nD Cert.ReferenceLatIdeal.τ Cert.ReferenceLatIdeal.sig) → Buf (Elt Ideal) ℓ) (g' : Dev Cert.ReferenceLatIdeal.nD → PrngReg), Pre_KernelLatIdeal m →
    (∀ c : Dev Cert.KernelLatIdeal.nD,
      m' ((c.tc : Thread Cert.ReferenceLatIdeal.nD Cert.ReferenceLatIdeal.τ).loc Cert.ReferenceLatIdeal.main_arg0) = m ((c.tc : Thread Cert.KernelLatIdeal.nD Cert.KernelLatIdeal.τ).loc Cert.KernelLatIdeal.main_arg0)
      ∧ m' ((c.tc : Thread Cert.ReferenceLatIdeal.nD Cert.ReferenceLatIdeal.τ).loc Cert.ReferenceLatIdeal.main_arg1) = m ((c.tc : Thread Cert.KernelLatIdeal.nD Cert.KernelLatIdeal.τ).loc Cert.KernelLatIdeal.main_arg1)) →
    ∃ (v0 : (c : Dev Cert.KernelLatIdeal.nD) → Buf (Elt Ideal) ((c.tc : Thread Cert.KernelLatIdeal.nD Cert.KernelLatIdeal.τ).loc Cert.KernelLatIdeal.main_v0)),
      θ_run (Cert.KernelLatIdeal.defs (F := Ideal)) (onTc (τ := Cert.KernelLatIdeal.τ) (Cert.KernelLatIdeal.main (F := Ideal))) ⟨m, fun _ => 0, g⟩ (fun r => ∀ c : Dev Cert.KernelLatIdeal.nD,
          r.2.mem ((c.tc : Thread Cert.KernelLatIdeal.nD Cert.KernelLatIdeal.τ).loc Cert.KernelLatIdeal.main_v0) = v0 c
          ∧ r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
          ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1))
      ∧ θ_run (Cert.ReferenceLatIdeal.defs (F := Ideal)) (onTc (τ := Cert.ReferenceLatIdeal.τ) (Cert.ReferenceLatIdeal.main (F := Ideal))) ⟨m', fun _ => 0, g'⟩ (fun r => ∀ c : Dev Cert.ReferenceLatIdeal.nD,
          r.2.mem ((c.tc : Thread Cert.ReferenceLatIdeal.nD Cert.ReferenceLatIdeal.τ).loc Cert.ReferenceLatIdeal.main_v2) = v0 c
          ∧ r.2.mem ((c.tc : Thread Cert.ReferenceLatIdeal.nD Cert.ReferenceLatIdeal.τ).loc Cert.ReferenceLatIdeal.main_arg0) = m' ((c.tc : Thread Cert.ReferenceLatIdeal.nD Cert.ReferenceLatIdeal.τ).loc Cert.ReferenceLatIdeal.main_arg0)
          ∧ r.2.mem ((c.tc : Thread Cert.ReferenceLatIdeal.nD Cert.ReferenceLatIdeal.τ).loc Cert.ReferenceLatIdeal.main_arg1) = m' ((c.tc : Thread Cert.ReferenceLatIdeal.nD Cert.ReferenceLatIdeal.τ).loc Cert.ReferenceLatIdeal.main_arg1))

def preserves_KernelDwLat_KernelDwLatIdeal : Prop :=
  True

def algebraic_KernelDwLatIdeal_ReferenceDwLatIdeal [hKernelDwLatIdeal : Cert.KernelDwLatIdeal.Facts] [hReferenceDwLatIdeal : Cert.ReferenceDwLatIdeal.Facts] : Prop :=
  ∀ (m : (ℓ : Loc Cert.KernelDwLatIdeal.nD Cert.KernelDwLatIdeal.τ Cert.KernelDwLatIdeal.sig) → Buf (Elt Ideal) ℓ) (g : Dev Cert.KernelDwLatIdeal.nD → PrngReg)
    (m' : (ℓ : Loc Cert.ReferenceDwLatIdeal.nD Cert.ReferenceDwLatIdeal.τ Cert.ReferenceDwLatIdeal.sig) → Buf (Elt Ideal) ℓ) (g' : Dev Cert.ReferenceDwLatIdeal.nD → PrngReg), Pre_KernelDwLatIdeal m →
    (∀ c : Dev Cert.KernelDwLatIdeal.nD,
      m' ((c.tc : Thread Cert.ReferenceDwLatIdeal.nD Cert.ReferenceDwLatIdeal.τ).loc Cert.ReferenceDwLatIdeal.main_arg0) = m ((c.tc : Thread Cert.KernelDwLatIdeal.nD Cert.KernelDwLatIdeal.τ).loc Cert.KernelDwLatIdeal.main_arg0)
      ∧ m' ((c.tc : Thread Cert.ReferenceDwLatIdeal.nD Cert.ReferenceDwLatIdeal.τ).loc Cert.ReferenceDwLatIdeal.main_arg1) = m ((c.tc : Thread Cert.KernelDwLatIdeal.nD Cert.KernelDwLatIdeal.τ).loc Cert.KernelDwLatIdeal.main_arg1)) →
    ∃ (v0 : (c : Dev Cert.KernelDwLatIdeal.nD) → Buf (Elt Ideal) ((c.tc : Thread Cert.KernelDwLatIdeal.nD Cert.KernelDwLatIdeal.τ).loc Cert.KernelDwLatIdeal.main_v0)),
      θ_run (Cert.KernelDwLatIdeal.defs (F := Ideal)) (onTc (τ := Cert.KernelDwLatIdeal.τ) (Cert.KernelDwLatIdeal.main (F := Ideal))) ⟨m, fun _ => 0, g⟩ (fun r => ∀ c : Dev Cert.KernelDwLatIdeal.nD,
          r.2.mem ((c.tc : Thread Cert.KernelDwLatIdeal.nD Cert.KernelDwLatIdeal.τ).loc Cert.KernelDwLatIdeal.main_v0) = v0 c
          ∧ r.2.mem ((c.tc : Thread Cert.KernelDwLatIdeal.nD Cert.KernelDwLatIdeal.τ).loc Cert.KernelDwLatIdeal.main_arg0) = m ((c.tc : Thread Cert.KernelDwLatIdeal.nD Cert.KernelDwLatIdeal.τ).loc Cert.KernelDwLatIdeal.main_arg0)
          ∧ r.2.mem ((c.tc : Thread Cert.KernelDwLatIdeal.nD Cert.KernelDwLatIdeal.τ).loc Cert.KernelDwLatIdeal.main_arg1) = m ((c.tc : Thread Cert.KernelDwLatIdeal.nD Cert.KernelDwLatIdeal.τ).loc Cert.KernelDwLatIdeal.main_arg1))
      ∧ θ_run (Cert.ReferenceDwLatIdeal.defs (F := Ideal)) (onTc (τ := Cert.ReferenceDwLatIdeal.τ) (Cert.ReferenceDwLatIdeal.main (F := Ideal))) ⟨m', fun _ => 0, g'⟩ (fun r => ∀ c : Dev Cert.ReferenceDwLatIdeal.nD,
          r.2.mem ((c.tc : Thread Cert.ReferenceDwLatIdeal.nD Cert.ReferenceDwLatIdeal.τ).loc Cert.ReferenceDwLatIdeal.main_v6) = v0 c
          ∧ r.2.mem ((c.tc : Thread Cert.ReferenceDwLatIdeal.nD Cert.ReferenceDwLatIdeal.τ).loc Cert.ReferenceDwLatIdeal.main_arg0) = m' ((c.tc : Thread Cert.ReferenceDwLatIdeal.nD Cert.ReferenceDwLatIdeal.τ).loc Cert.ReferenceDwLatIdeal.main_arg0)
          ∧ r.2.mem ((c.tc : Thread Cert.ReferenceDwLatIdeal.nD Cert.ReferenceDwLatIdeal.τ).loc Cert.ReferenceDwLatIdeal.main_arg1) = m' ((c.tc : Thread Cert.ReferenceDwLatIdeal.nD Cert.ReferenceDwLatIdeal.τ).loc Cert.ReferenceDwLatIdeal.main_arg1))

def preserves_KernelDhLat_KernelDhLatIdeal : Prop :=
  True

def algebraic_KernelDhLatIdeal_ReferenceDhLatIdeal [hKernelDhLatIdeal : Cert.KernelDhLatIdeal.Facts] [hReferenceDhLatIdeal : Cert.ReferenceDhLatIdeal.Facts] : Prop :=
  ∀ (m : (ℓ : Loc Cert.KernelDhLatIdeal.nD Cert.KernelDhLatIdeal.τ Cert.KernelDhLatIdeal.sig) → Buf (Elt Ideal) ℓ) (g : Dev Cert.KernelDhLatIdeal.nD → PrngReg)
    (m' : (ℓ : Loc Cert.ReferenceDhLatIdeal.nD Cert.ReferenceDhLatIdeal.τ Cert.ReferenceDhLatIdeal.sig) → Buf (Elt Ideal) ℓ) (g' : Dev Cert.ReferenceDhLatIdeal.nD → PrngReg), Pre_KernelDhLatIdeal m →
    (∀ c : Dev Cert.KernelDhLatIdeal.nD,
      m' ((c.tc : Thread Cert.ReferenceDhLatIdeal.nD Cert.ReferenceDhLatIdeal.τ).loc Cert.ReferenceDhLatIdeal.main_arg0) = m ((c.tc : Thread Cert.KernelDhLatIdeal.nD Cert.KernelDhLatIdeal.τ).loc Cert.KernelDhLatIdeal.main_arg0)
      ∧ m' ((c.tc : Thread Cert.ReferenceDhLatIdeal.nD Cert.ReferenceDhLatIdeal.τ).loc Cert.ReferenceDhLatIdeal.main_arg1) = m ((c.tc : Thread Cert.KernelDhLatIdeal.nD Cert.KernelDhLatIdeal.τ).loc Cert.KernelDhLatIdeal.main_arg1)) →
    ∃ (v0 : (c : Dev Cert.KernelDhLatIdeal.nD) → Buf (Elt Ideal) ((c.tc : Thread Cert.KernelDhLatIdeal.nD Cert.KernelDhLatIdeal.τ).loc Cert.KernelDhLatIdeal.main_v0)),
      θ_run (Cert.KernelDhLatIdeal.defs (F := Ideal)) (onTc (τ := Cert.KernelDhLatIdeal.τ) (Cert.KernelDhLatIdeal.main (F := Ideal))) ⟨m, fun _ => 0, g⟩ (fun r => ∀ c : Dev Cert.KernelDhLatIdeal.nD,
          r.2.mem ((c.tc : Thread Cert.KernelDhLatIdeal.nD Cert.KernelDhLatIdeal.τ).loc Cert.KernelDhLatIdeal.main_v0) = v0 c
          ∧ r.2.mem ((c.tc : Thread Cert.KernelDhLatIdeal.nD Cert.KernelDhLatIdeal.τ).loc Cert.KernelDhLatIdeal.main_arg0) = m ((c.tc : Thread Cert.KernelDhLatIdeal.nD Cert.KernelDhLatIdeal.τ).loc Cert.KernelDhLatIdeal.main_arg0)
          ∧ r.2.mem ((c.tc : Thread Cert.KernelDhLatIdeal.nD Cert.KernelDhLatIdeal.τ).loc Cert.KernelDhLatIdeal.main_arg1) = m ((c.tc : Thread Cert.KernelDhLatIdeal.nD Cert.KernelDhLatIdeal.τ).loc Cert.KernelDhLatIdeal.main_arg1))
      ∧ θ_run (Cert.ReferenceDhLatIdeal.defs (F := Ideal)) (onTc (τ := Cert.ReferenceDhLatIdeal.τ) (Cert.ReferenceDhLatIdeal.main (F := Ideal))) ⟨m', fun _ => 0, g'⟩ (fun r => ∀ c : Dev Cert.ReferenceDhLatIdeal.nD,
          r.2.mem ((c.tc : Thread Cert.ReferenceDhLatIdeal.nD Cert.ReferenceDhLatIdeal.τ).loc Cert.ReferenceDhLatIdeal.main_v4) = v0 c
          ∧ r.2.mem ((c.tc : Thread Cert.ReferenceDhLatIdeal.nD Cert.ReferenceDhLatIdeal.τ).loc Cert.ReferenceDhLatIdeal.main_arg0) = m' ((c.tc : Thread Cert.ReferenceDhLatIdeal.nD Cert.ReferenceDhLatIdeal.τ).loc Cert.ReferenceDhLatIdeal.main_arg0)
          ∧ r.2.mem ((c.tc : Thread Cert.ReferenceDhLatIdeal.nD Cert.ReferenceDhLatIdeal.τ).loc Cert.ReferenceDhLatIdeal.main_arg1) = m' ((c.tc : Thread Cert.ReferenceDhLatIdeal.nD Cert.ReferenceDhLatIdeal.τ).loc Cert.ReferenceDhLatIdeal.main_arg1))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)) →
    ∃ (v0 : (c : Dev Cert.KernelHeadIdeal.nD) → Buf (Elt Ideal) ((c.tc : Thread Cert.KernelHeadIdeal.nD Cert.KernelHeadIdeal.τ).loc Cert.KernelHeadIdeal.main_v0)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v0) = v0 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v2) = v0 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1))

def preserves_KernelDwHead_KernelDwHeadIdeal : Prop :=
  True

def algebraic_KernelDwHeadIdeal_ReferenceDwHeadIdeal [hKernelDwHeadIdeal : Cert.KernelDwHeadIdeal.Facts] [hReferenceDwHeadIdeal : Cert.ReferenceDwHeadIdeal.Facts] : Prop :=
  ∀ (m : (ℓ : Loc Cert.KernelDwHeadIdeal.nD Cert.KernelDwHeadIdeal.τ Cert.KernelDwHeadIdeal.sig) → Buf (Elt Ideal) ℓ) (g : Dev Cert.KernelDwHeadIdeal.nD → PrngReg)
    (m' : (ℓ : Loc Cert.ReferenceDwHeadIdeal.nD Cert.ReferenceDwHeadIdeal.τ Cert.ReferenceDwHeadIdeal.sig) → Buf (Elt Ideal) ℓ) (g' : Dev Cert.ReferenceDwHeadIdeal.nD → PrngReg), Pre_KernelDwHeadIdeal m →
    (∀ c : Dev Cert.KernelDwHeadIdeal.nD,
      m' ((c.tc : Thread Cert.ReferenceDwHeadIdeal.nD Cert.ReferenceDwHeadIdeal.τ).loc Cert.ReferenceDwHeadIdeal.main_arg0) = m ((c.tc : Thread Cert.KernelDwHeadIdeal.nD Cert.KernelDwHeadIdeal.τ).loc Cert.KernelDwHeadIdeal.main_arg0)
      ∧ m' ((c.tc : Thread Cert.ReferenceDwHeadIdeal.nD Cert.ReferenceDwHeadIdeal.τ).loc Cert.ReferenceDwHeadIdeal.main_arg1) = m ((c.tc : Thread Cert.KernelDwHeadIdeal.nD Cert.KernelDwHeadIdeal.τ).loc Cert.KernelDwHeadIdeal.main_arg1)) →
    ∃ (v0 : (c : Dev Cert.KernelDwHeadIdeal.nD) → Buf (Elt Ideal) ((c.tc : Thread Cert.KernelDwHeadIdeal.nD Cert.KernelDwHeadIdeal.τ).loc Cert.KernelDwHeadIdeal.main_v0)),
      θ_run (Cert.KernelDwHeadIdeal.defs (F := Ideal)) (onTc (τ := Cert.KernelDwHeadIdeal.τ) (Cert.KernelDwHeadIdeal.main (F := Ideal))) ⟨m, fun _ => 0, g⟩ (fun r => ∀ c : Dev Cert.KernelDwHeadIdeal.nD,
          r.2.mem ((c.tc : Thread Cert.KernelDwHeadIdeal.nD Cert.KernelDwHeadIdeal.τ).loc Cert.KernelDwHeadIdeal.main_v0) = v0 c
          ∧ r.2.mem ((c.tc : Thread Cert.KernelDwHeadIdeal.nD Cert.KernelDwHeadIdeal.τ).loc Cert.KernelDwHeadIdeal.main_arg0) = m ((c.tc : Thread Cert.KernelDwHeadIdeal.nD Cert.KernelDwHeadIdeal.τ).loc Cert.KernelDwHeadIdeal.main_arg0)
          ∧ r.2.mem ((c.tc : Thread Cert.KernelDwHeadIdeal.nD Cert.KernelDwHeadIdeal.τ).loc Cert.KernelDwHeadIdeal.main_arg1) = m ((c.tc : Thread Cert.KernelDwHeadIdeal.nD Cert.KernelDwHeadIdeal.τ).loc Cert.KernelDwHeadIdeal.main_arg1))
      ∧ θ_run (Cert.ReferenceDwHeadIdeal.defs (F := Ideal)) (onTc (τ := Cert.ReferenceDwHeadIdeal.τ) (Cert.ReferenceDwHeadIdeal.main (F := Ideal))) ⟨m', fun _ => 0, g'⟩ (fun r => ∀ c : Dev Cert.ReferenceDwHeadIdeal.nD,
          r.2.mem ((c.tc : Thread Cert.ReferenceDwHeadIdeal.nD Cert.ReferenceDwHeadIdeal.τ).loc Cert.ReferenceDwHeadIdeal.main_v6) = v0 c
          ∧ r.2.mem ((c.tc : Thread Cert.ReferenceDwHeadIdeal.nD Cert.ReferenceDwHeadIdeal.τ).loc Cert.ReferenceDwHeadIdeal.main_arg0) = m' ((c.tc : Thread Cert.ReferenceDwHeadIdeal.nD Cert.ReferenceDwHeadIdeal.τ).loc Cert.ReferenceDwHeadIdeal.main_arg0)
          ∧ r.2.mem ((c.tc : Thread Cert.ReferenceDwHeadIdeal.nD Cert.ReferenceDwHeadIdeal.τ).loc Cert.ReferenceDwHeadIdeal.main_arg1) = m' ((c.tc : Thread Cert.ReferenceDwHeadIdeal.nD Cert.ReferenceDwHeadIdeal.τ).loc Cert.ReferenceDwHeadIdeal.main_arg1))

def preserves_KernelDcHead_KernelDcHeadIdeal : Prop :=
  True

def algebraic_KernelDcHeadIdeal_ReferenceDcHeadIdeal [hKernelDcHeadIdeal : Cert.KernelDcHeadIdeal.Facts] [hReferenceDcHeadIdeal : Cert.ReferenceDcHeadIdeal.Facts] : Prop :=
  ∀ (m : (ℓ : Loc Cert.KernelDcHeadIdeal.nD Cert.KernelDcHeadIdeal.τ Cert.KernelDcHeadIdeal.sig) → Buf (Elt Ideal) ℓ) (g : Dev Cert.KernelDcHeadIdeal.nD → PrngReg)
    (m' : (ℓ : Loc Cert.ReferenceDcHeadIdeal.nD Cert.ReferenceDcHeadIdeal.τ Cert.ReferenceDcHeadIdeal.sig) → Buf (Elt Ideal) ℓ) (g' : Dev Cert.ReferenceDcHeadIdeal.nD → PrngReg), Pre_KernelDcHeadIdeal m →
    (∀ c : Dev Cert.KernelDcHeadIdeal.nD,
      m' ((c.tc : Thread Cert.ReferenceDcHeadIdeal.nD Cert.ReferenceDcHeadIdeal.τ).loc Cert.ReferenceDcHeadIdeal.main_arg0) = m ((c.tc : Thread Cert.KernelDcHeadIdeal.nD Cert.KernelDcHeadIdeal.τ).loc Cert.KernelDcHeadIdeal.main_arg0)
      ∧ m' ((c.tc : Thread Cert.ReferenceDcHeadIdeal.nD Cert.ReferenceDcHeadIdeal.τ).loc Cert.ReferenceDcHeadIdeal.main_arg1) = m ((c.tc : Thread Cert.KernelDcHeadIdeal.nD Cert.KernelDcHeadIdeal.τ).loc Cert.KernelDcHeadIdeal.main_arg1)) →
    ∃ (v0 : (c : Dev Cert.KernelDcHeadIdeal.nD) → Buf (Elt Ideal) ((c.tc : Thread Cert.KernelDcHeadIdeal.nD Cert.KernelDcHeadIdeal.τ).loc Cert.KernelDcHeadIdeal.main_v0)),
      θ_run (Cert.KernelDcHeadIdeal.defs (F := Ideal)) (onTc (τ := Cert.KernelDcHeadIdeal.τ) (Cert.KernelDcHeadIdeal.main (F := Ideal))) ⟨m, fun _ => 0, g⟩ (fun r => ∀ c : Dev Cert.KernelDcHeadIdeal.nD,
          r.2.mem ((c.tc : Thread Cert.KernelDcHeadIdeal.nD Cert.KernelDcHeadIdeal.τ).loc Cert.KernelDcHeadIdeal.main_v0) = v0 c
          ∧ r.2.mem ((c.tc : Thread Cert.KernelDcHeadIdeal.nD Cert.KernelDcHeadIdeal.τ).loc Cert.KernelDcHeadIdeal.main_arg0) = m ((c.tc : Thread Cert.KernelDcHeadIdeal.nD Cert.KernelDcHeadIdeal.τ).loc Cert.KernelDcHeadIdeal.main_arg0)
          ∧ r.2.mem ((c.tc : Thread Cert.KernelDcHeadIdeal.nD Cert.KernelDcHeadIdeal.τ).loc Cert.KernelDcHeadIdeal.main_arg1) = m ((c.tc : Thread Cert.KernelDcHeadIdeal.nD Cert.KernelDcHeadIdeal.τ).loc Cert.KernelDcHeadIdeal.main_arg1))
      ∧ θ_run (Cert.ReferenceDcHeadIdeal.defs (F := Ideal)) (onTc (τ := Cert.ReferenceDcHeadIdeal.τ) (Cert.ReferenceDcHeadIdeal.main (F := Ideal))) ⟨m', fun _ => 0, g'⟩ (fun r => ∀ c : Dev Cert.ReferenceDcHeadIdeal.nD,
          r.2.mem ((c.tc : Thread Cert.ReferenceDcHeadIdeal.nD Cert.ReferenceDcHeadIdeal.τ).loc Cert.ReferenceDcHeadIdeal.main_v4) = v0 c
          ∧ r.2.mem ((c.tc : Thread Cert.ReferenceDcHeadIdeal.nD Cert.ReferenceDcHeadIdeal.τ).loc Cert.ReferenceDcHeadIdeal.main_arg0) = m' ((c.tc : Thread Cert.ReferenceDcHeadIdeal.nD Cert.ReferenceDcHeadIdeal.τ).loc Cert.ReferenceDcHeadIdeal.main_arg0)
          ∧ r.2.mem ((c.tc : Thread Cert.ReferenceDcHeadIdeal.nD Cert.ReferenceDcHeadIdeal.τ).loc Cert.ReferenceDcHeadIdeal.main_arg1) = m' ((c.tc : Thread Cert.ReferenceDcHeadIdeal.nD Cert.ReferenceDcHeadIdeal.τ).loc Cert.ReferenceDcHeadIdeal.main_arg1))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v2) = v0 c
          ∧ r.2.mem ((c.tc : Thread Cert.ReferenceAdamIdeal.nD Cert.ReferenceAdamIdeal.τ).loc Cert.ReferenceAdamIdeal.main_v26) = v1 c
          ∧ r.2.mem ((c.tc : Thread Cert.ReferenceAdamIdeal.nD Cert.ReferenceAdamIdeal.τ).loc Cert.ReferenceAdamIdeal.main_v7) = v2 c
          ∧ r.2.mem ((c.tc : Thread Cert.ReferenceAdamIdeal.nD Cert.ReferenceAdamIdeal.τ).loc Cert.ReferenceAdamIdeal.main_v13) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v6) = v0 c
          ∧ r.2.mem ((c.tc : Thread Cert.ReferenceAdamUpIdeal.nD Cert.ReferenceAdamUpIdeal.τ).loc Cert.ReferenceAdamUpIdeal.main_v30) = v1 c
          ∧ r.2.mem ((c.tc : Thread Cert.ReferenceAdamUpIdeal.nD Cert.ReferenceAdamUpIdeal.τ).loc Cert.ReferenceAdamUpIdeal.main_v11) = v2 c
          ∧ r.2.mem ((c.tc : Thread Cert.ReferenceAdamUpIdeal.nD Cert.ReferenceAdamUpIdeal.τ).loc Cert.ReferenceAdamUpIdeal.main_v17) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v2) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v7) = v2 c
          ∧ r.2.mem ((c.tc : Thread Cert.ReferenceAdamInIdeal.nD Cert.ReferenceAdamInIdeal.τ).loc Cert.ReferenceAdamInIdeal.main_v13) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamLat_KernelAdamLatIdeal : Prop :=
  True

def algebraic_KernelAdamLatIdeal_ReferenceAdamLatIdeal [hKernelAdamLatIdeal : Cert.KernelAdamLatIdeal.Facts] [hReferenceAdamLatIdeal : Cert.ReferenceAdamLatIdeal.Facts] : Prop :=
  ∀ (m : (ℓ : Loc Cert.KernelAdamLatIdeal.nD Cert.KernelAdamLatIdeal.τ Cert.KernelAdamLatIdeal.sig) → Buf (Elt Ideal) ℓ) (g : Dev Cert.KernelAdamLatIdeal.nD → PrngReg)
    (m' : (ℓ : Loc Cert.ReferenceAdamLatIdeal.nD Cert.ReferenceAdamLatIdeal.τ Cert.ReferenceAdamLatIdeal.sig) → Buf (Elt Ideal) ℓ) (g' : Dev Cert.ReferenceAdamLatIdeal.nD → PrngReg), Pre_KernelAdamLatIdeal m →
    (∀ c : Dev Cert.KernelAdamLatIdeal.nD,
      m' ((c.tc : Thread Cert.ReferenceAdamLatIdeal.nD Cert.ReferenceAdamLatIdeal.τ).loc Cert.ReferenceAdamLatIdeal.main_arg0) = m ((c.tc : Thread Cert.KernelAdamLatIdeal.nD Cert.KernelAdamLatIdeal.τ).loc Cert.KernelAdamLatIdeal.main_arg0)
      ∧ m' ((c.tc : Thread Cert.ReferenceAdamLatIdeal.nD Cert.ReferenceAdamLatIdeal.τ).loc Cert.ReferenceAdamLatIdeal.main_arg1) = m ((c.tc : Thread Cert.KernelAdamLatIdeal.nD Cert.KernelAdamLatIdeal.τ).loc Cert.KernelAdamLatIdeal.main_arg1)
      ∧ m' ((c.tc : Thread Cert.ReferenceAdamLatIdeal.nD Cert.ReferenceAdamLatIdeal.τ).loc Cert.ReferenceAdamLatIdeal.main_arg2) = m ((c.tc : Thread Cert.KernelAdamLatIdeal.nD Cert.KernelAdamLatIdeal.τ).loc Cert.KernelAdamLatIdeal.main_arg2)
      ∧ m' ((c.tc : Thread Cert.ReferenceAdamLatIdeal.nD Cert.ReferenceAdamLatIdeal.τ).loc Cert.ReferenceAdamLatIdeal.main_arg3) = m ((c.tc : Thread Cert.KernelAdamLatIdeal.nD Cert.KernelAdamLatIdeal.τ).loc Cert.KernelAdamLatIdeal.main_arg3)) →
    ∃ (v0 : (c : Dev Cert.KernelAdamLatIdeal.nD) → Buf (Elt Ideal) ((c.tc : Thread Cert.KernelAdamLatIdeal.nD Cert.KernelAdamLatIdeal.τ).loc Cert.KernelAdamLatIdeal.main_v0_0)) (v1 : (c : Dev Cert.KernelAdamLatIdeal.nD) → Buf (Elt Ideal) ((c.tc : Thread Cert.KernelAdamLatIdeal.nD Cert.KernelAdamLatIdeal.τ).loc Cert.KernelAdamLatIdeal.main_v0_1)) (v2 : (c : Dev Cert.KernelAdamLatIdeal.nD) → Buf (Elt Ideal) ((c.tc : Thread Cert.KernelAdamLatIdeal.nD Cert.KernelAdamLatIdeal.τ).loc Cert.KernelAdamLatIdeal.main_v0_2)) (v3 : (c : Dev Cert.KernelAdamLatIdeal.nD) → Buf (Elt Ideal) ((c.tc : Thread Cert.KernelAdamLatIdeal.nD Cert.KernelAdamLatIdeal.τ).loc Cert.KernelAdamLatIdeal.main_v0_3)),
      θ_run (Cert.KernelAdamLatIdeal.defs (F := Ideal)) (onTc (τ := Cert.KernelAdamLatIdeal.τ) (Cert.KernelAdamLatIdeal.main (F := Ideal))) ⟨m, fun _ => 0, g⟩ (fun r => ∀ c : Dev Cert.KernelAdamLatIdeal.nD,
          r.2.mem ((c.tc : Thread Cert.KernelAdamLatIdeal.nD Cert.KernelAdamLatIdeal.τ).loc Cert.KernelAdamLatIdeal.main_v0_0) = v0 c
          ∧ r.2.mem ((c.tc : Thread Cert.KernelAdamLatIdeal.nD Cert.KernelAdamLatIdeal.τ).loc Cert.KernelAdamLatIdeal.main_v0_1) = v1 c
          ∧ r.2.mem ((c.tc : Thread Cert.KernelAdamLatIdeal.nD Cert.KernelAdamLatIdeal.τ).loc Cert.KernelAdamLatIdeal.main_v0_2) = v2 c
          ∧ r.2.mem ((c.tc : Thread Cert.KernelAdamLatIdeal.nD Cert.KernelAdamLatIdeal.τ).loc Cert.KernelAdamLatIdeal.main_v0_3) = v3 c
          ∧ r.2.mem ((c.tc : Thread Cert.KernelAdamLatIdeal.nD Cert.KernelAdamLatIdeal.τ).loc Cert.KernelAdamLatIdeal.main_arg0) = m ((c.tc : Thread Cert.KernelAdamLatIdeal.nD Cert.KernelAdamLatIdeal.τ).loc Cert.KernelAdamLatIdeal.main_arg0)
          ∧ r.2.mem ((c.tc : Thread Cert.KernelAdamLatIdeal.nD Cert.KernelAdamLatIdeal.τ).loc Cert.KernelAdamLatIdeal.main_arg1) = m ((c.tc : Thread Cert.KernelAdamLatIdeal.nD Cert.KernelAdamLatIdeal.τ).loc Cert.KernelAdamLatIdeal.main_arg1)
          ∧ r.2.mem ((c.tc : Thread Cert.KernelAdamLatIdeal.nD Cert.KernelAdamLatIdeal.τ).loc Cert.KernelAdamLatIdeal.main_arg2) = m ((c.tc : Thread Cert.KernelAdamLatIdeal.nD Cert.KernelAdamLatIdeal.τ).loc Cert.KernelAdamLatIdeal.main_arg2)
          ∧ r.2.mem ((c.tc : Thread Cert.KernelAdamLatIdeal.nD Cert.KernelAdamLatIdeal.τ).loc Cert.KernelAdamLatIdeal.main_arg3) = m ((c.tc : Thread Cert.KernelAdamLatIdeal.nD Cert.KernelAdamLatIdeal.τ).loc Cert.KernelAdamLatIdeal.main_arg3))
      ∧ θ_run (Cert.ReferenceAdamLatIdeal.defs (F := Ideal)) (onTc (τ := Cert.ReferenceAdamLatIdeal.τ) (Cert.ReferenceAdamLatIdeal.main (F := Ideal))) ⟨m', fun _ => 0, g'⟩ (fun r => ∀ c : Dev Cert.ReferenceAdamLatIdeal.nD,
          r.2.mem ((c.tc : Thread Cert.ReferenceAdamLatIdeal.nD Cert.ReferenceAdamLatIdeal.τ).loc Cert.ReferenceAdamLatIdeal.main_v2) = v0 c
          ∧ r.2.mem ((c.tc : Thread Cert.ReferenceAdamLatIdeal.nD Cert.ReferenceAdamLatIdeal.τ).loc Cert.ReferenceAdamLatIdeal.main_v26) = v1 c
          ∧ r.2.mem ((c.tc : Thread Cert.ReferenceAdamLatIdeal.nD Cert.ReferenceAdamLatIdeal.τ).loc Cert.ReferenceAdamLatIdeal.main_v7) = v2 c
          ∧ r.2.mem ((c.tc : Thread Cert.ReferenceAdamLatIdeal.nD Cert.ReferenceAdamLatIdeal.τ).loc Cert.ReferenceAdamLatIdeal.main_v13) = v3 c
          ∧ r.2.mem ((c.tc : Thread Cert.ReferenceAdamLatIdeal.nD Cert.ReferenceAdamLatIdeal.τ).loc Cert.ReferenceAdamLatIdeal.main_arg0) = m' ((c.tc : Thread Cert.ReferenceAdamLatIdeal.nD Cert.ReferenceAdamLatIdeal.τ).loc Cert.ReferenceAdamLatIdeal.main_arg0)
          ∧ r.2.mem ((c.tc : Thread Cert.ReferenceAdamLatIdeal.nD Cert.ReferenceAdamLatIdeal.τ).loc Cert.ReferenceAdamLatIdeal.main_arg1) = m' ((c.tc : Thread Cert.ReferenceAdamLatIdeal.nD Cert.ReferenceAdamLatIdeal.τ).loc Cert.ReferenceAdamLatIdeal.main_arg1)
          ∧ r.2.mem ((c.tc : Thread Cert.ReferenceAdamLatIdeal.nD Cert.ReferenceAdamLatIdeal.τ).loc Cert.ReferenceAdamLatIdeal.main_arg2) = m' ((c.tc : Thread Cert.ReferenceAdamLatIdeal.nD Cert.ReferenceAdamLatIdeal.τ).loc Cert.ReferenceAdamLatIdeal.main_arg2)
          ∧ r.2.mem ((c.tc : Thread Cert.ReferenceAdamLatIdeal.nD Cert.ReferenceAdamLatIdeal.τ).loc Cert.ReferenceAdamLatIdeal.main_arg3) = m' ((c.tc : Thread Cert.ReferenceAdamLatIdeal.nD Cert.ReferenceAdamLatIdeal.τ).loc Cert.ReferenceAdamLatIdeal.main_arg3))

def preserves_KernelAdamUq_KernelAdamUqIdeal : Prop :=
  True

def algebraic_KernelAdamUqIdeal_ReferenceAdamUqIdeal [hKernelAdamUqIdeal : Cert.KernelAdamUqIdeal.Facts] [hReferenceAdamUqIdeal : Cert.ReferenceAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg)
    (m' : (ℓ : Loc Cert.ReferenceAdamUqIdeal.nD Cert.ReferenceAdamUqIdeal.τ Cert.ReferenceAdamUqIdeal.sig) → Buf (Elt Ideal) ℓ) (g' : Dev Cert.ReferenceAdamUqIdeal.nD → PrngReg), Pre_KernelAdamUqIdeal m →
    (∀ c : Dev Cert.KernelAdamUqIdeal.nD,
      m' ((c.tc : Thread Cert.ReferenceAdamUqIdeal.nD Cert.ReferenceAdamUqIdeal.τ).loc Cert.ReferenceAdamUqIdeal.main_arg0) = m ((c.tc : Thread Cert.KernelAdamUqIdeal.nD Cert.KernelAdamUqIdeal.τ).loc Cert.KernelAdamUqIdeal.main_arg0)
      ∧ m' ((c.tc : Thread Cert.ReferenceAdamUqIdeal.nD Cert.ReferenceAdamUqIdeal.τ).loc Cert.ReferenceAdamUqIdeal.main_arg1) = m ((c.tc : Thread Cert.KernelAdamUqIdeal.nD Cert.KernelAdamUqIdeal.τ).loc Cert.KernelAdamUqIdeal.main_arg1)
      ∧ m' ((c.tc : Thread Cert.ReferenceAdamUqIdeal.nD Cert.ReferenceAdamUqIdeal.τ).loc Cert.ReferenceAdamUqIdeal.main_arg2) = m ((c.tc : Thread Cert.KernelAdamUqIdeal.nD Cert.KernelAdamUqIdeal.τ).loc Cert.KernelAdamUqIdeal.main_arg2)
      ∧ m' ((c.tc : Thread Cert.ReferenceAdamUqIdeal.nD Cert.ReferenceAdamUqIdeal.τ).loc Cert.ReferenceAdamUqIdeal.main_arg3) = m ((c.tc : Thread Cert.KernelAdamUqIdeal.nD Cert.KernelAdamUqIdeal.τ).loc Cert.KernelAdamUqIdeal.main_arg3)) →
    ∃ (v0 : (c : Dev Cert.KernelAdamUqIdeal.nD) → Buf (Elt Ideal) ((c.tc : Thread Cert.KernelAdamUqIdeal.nD Cert.KernelAdamUqIdeal.τ).loc Cert.KernelAdamUqIdeal.main_v0_0)) (v1 : (c : Dev Cert.KernelAdamUqIdeal.nD) → Buf (Elt Ideal) ((c.tc : Thread Cert.KernelAdamUqIdeal.nD Cert.KernelAdamUqIdeal.τ).loc Cert.KernelAdamUqIdeal.main_v0_1)) (v2 : (c : Dev Cert.KernelAdamUqIdeal.nD) → Buf (Elt Ideal) ((c.tc : Thread Cert.KernelAdamUqIdeal.nD Cert.KernelAdamUqIdeal.τ).loc Cert.KernelAdamUqIdeal.main_v0_2)) (v3 : (c : Dev Cert.KernelAdamUqIdeal.nD) → Buf (Elt Ideal) ((c.tc : Thread Cert.KernelAdamUqIdeal.nD Cert.KernelAdamUqIdeal.τ).loc Cert.KernelAdamUqIdeal.main_v0_3)),
      θ_run (Cert.KernelAdamUqIdeal.defs (F := Ideal)) (onTc (τ := Cert.KernelAdamUqIdeal.τ) (Cert.KernelAdamUqIdeal.main (F := Ideal))) ⟨m, fun _ => 0, g⟩ (fun r => ∀ c : Dev Cert.KernelAdamUqIdeal.nD,
          r.2.mem ((c.tc : Thread Cert.KernelAdamUqIdeal.nD Cert.KernelAdamUqIdeal.τ).loc Cert.KernelAdamUqIdeal.main_v0_0) = v0 c
          ∧ r.2.mem ((c.tc : Thread Cert.KernelAdamUqIdeal.nD Cert.KernelAdamUqIdeal.τ).loc Cert.KernelAdamUqIdeal.main_v0_1) = v1 c
          ∧ r.2.mem ((c.tc : Thread Cert.KernelAdamUqIdeal.nD Cert.KernelAdamUqIdeal.τ).loc Cert.KernelAdamUqIdeal.main_v0_2) = v2 c
          ∧ r.2.mem ((c.tc : Thread Cert.KernelAdamUqIdeal.nD Cert.KernelAdamUqIdeal.τ).loc Cert.KernelAdamUqIdeal.main_v0_3) = v3 c
          ∧ r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
          ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
          ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
          ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3))
      ∧ θ_run (Cert.ReferenceAdamUqIdeal.defs (F := Ideal)) (onTc (τ := Cert.ReferenceAdamUqIdeal.τ) (Cert.ReferenceAdamUqIdeal.main (F := Ideal))) ⟨m', fun _ => 0, g'⟩ (fun r => ∀ c : Dev Cert.ReferenceAdamUqIdeal.nD,
          r.2.mem ((c.tc : Thread Cert.ReferenceAdamUqIdeal.nD Cert.ReferenceAdamUqIdeal.τ).loc Cert.ReferenceAdamUqIdeal.main_v2) = v0 c
          ∧ r.2.mem ((c.tc : Thread Cert.ReferenceAdamUqIdeal.nD Cert.ReferenceAdamUqIdeal.τ).loc Cert.ReferenceAdamUqIdeal.main_v26) = v1 c
          ∧ r.2.mem ((c.tc : Thread Cert.ReferenceAdamUqIdeal.nD Cert.ReferenceAdamUqIdeal.τ).loc Cert.ReferenceAdamUqIdeal.main_v7) = v2 c
          ∧ r.2.mem ((c.tc : Thread Cert.ReferenceAdamUqIdeal.nD Cert.ReferenceAdamUqIdeal.τ).loc Cert.ReferenceAdamUqIdeal.main_v13) = v3 c
          ∧ r.2.mem ((c.tc : Thread Cert.ReferenceAdamUqIdeal.nD Cert.ReferenceAdamUqIdeal.τ).loc Cert.ReferenceAdamUqIdeal.main_arg0) = m' ((c.tc : Thread Cert.ReferenceAdamUqIdeal.nD Cert.ReferenceAdamUqIdeal.τ).loc Cert.ReferenceAdamUqIdeal.main_arg0)
          ∧ r.2.mem ((c.tc : Thread Cert.ReferenceAdamUqIdeal.nD Cert.ReferenceAdamUqIdeal.τ).loc Cert.ReferenceAdamUqIdeal.main_arg1) = m' ((c.tc : Thread Cert.ReferenceAdamUqIdeal.nD Cert.ReferenceAdamUqIdeal.τ).loc Cert.ReferenceAdamUqIdeal.main_arg1)
          ∧ r.2.mem ((c.tc : Thread Cert.ReferenceAdamUqIdeal.nD Cert.ReferenceAdamUqIdeal.τ).loc Cert.ReferenceAdamUqIdeal.main_arg2) = m' ((c.tc : Thread Cert.ReferenceAdamUqIdeal.nD Cert.ReferenceAdamUqIdeal.τ).loc Cert.ReferenceAdamUqIdeal.main_arg2)
          ∧ r.2.mem ((c.tc : Thread Cert.ReferenceAdamUqIdeal.nD Cert.ReferenceAdamUqIdeal.τ).loc Cert.ReferenceAdamUqIdeal.main_arg3) = m' ((c.tc : Thread Cert.ReferenceAdamUqIdeal.nD Cert.ReferenceAdamUqIdeal.τ).loc Cert.ReferenceAdamUqIdeal.main_arg3))

def preserves_KernelAdamUkv_KernelAdamUkvIdeal : Prop :=
  True

def algebraic_KernelAdamUkvIdeal_ReferenceAdamUkvIdeal [hKernelAdamUkvIdeal : Cert.KernelAdamUkvIdeal.Facts] [hReferenceAdamUkvIdeal : Cert.ReferenceAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg)
    (m' : (ℓ : Loc Cert.ReferenceAdamUkvIdeal.nD Cert.ReferenceAdamUkvIdeal.τ Cert.ReferenceAdamUkvIdeal.sig) → Buf (Elt Ideal) ℓ) (g' : Dev Cert.ReferenceAdamUkvIdeal.nD → PrngReg), Pre_KernelAdamUkvIdeal m →
    (∀ c : Dev Cert.KernelAdamUkvIdeal.nD,
      m' ((c.tc : Thread Cert.ReferenceAdamUkvIdeal.nD Cert.ReferenceAdamUkvIdeal.τ).loc Cert.ReferenceAdamUkvIdeal.main_arg0) = m ((c.tc : Thread Cert.KernelAdamUkvIdeal.nD Cert.KernelAdamUkvIdeal.τ).loc Cert.KernelAdamUkvIdeal.main_arg0)
      ∧ m' ((c.tc : Thread Cert.ReferenceAdamUkvIdeal.nD Cert.ReferenceAdamUkvIdeal.τ).loc Cert.ReferenceAdamUkvIdeal.main_arg1) = m ((c.tc : Thread Cert.KernelAdamUkvIdeal.nD Cert.KernelAdamUkvIdeal.τ).loc Cert.KernelAdamUkvIdeal.main_arg1)
      ∧ m' ((c.tc : Thread Cert.ReferenceAdamUkvIdeal.nD Cert.ReferenceAdamUkvIdeal.τ).loc Cert.ReferenceAdamUkvIdeal.main_arg2) = m ((c.tc : Thread Cert.KernelAdamUkvIdeal.nD Cert.KernelAdamUkvIdeal.τ).loc Cert.KernelAdamUkvIdeal.main_arg2)
      ∧ m' ((c.tc : Thread Cert.ReferenceAdamUkvIdeal.nD Cert.ReferenceAdamUkvIdeal.τ).loc Cert.ReferenceAdamUkvIdeal.main_arg3) = m ((c.tc : Thread Cert.KernelAdamUkvIdeal.nD Cert.KernelAdamUkvIdeal.τ).loc Cert.KernelAdamUkvIdeal.main_arg3)) →
    ∃ (v0 : (c : Dev Cert.KernelAdamUkvIdeal.nD) → Buf (Elt Ideal) ((c.tc : Thread Cert.KernelAdamUkvIdeal.nD Cert.KernelAdamUkvIdeal.τ).loc Cert.KernelAdamUkvIdeal.main_v0_0)) (v1 : (c : Dev Cert.KernelAdamUkvIdeal.nD) → Buf (Elt Ideal) ((c.tc : Thread Cert.KernelAdamUkvIdeal.nD Cert.KernelAdamUkvIdeal.τ).loc Cert.KernelAdamUkvIdeal.main_v0_1)) (v2 : (c : Dev Cert.KernelAdamUkvIdeal.nD) → Buf (Elt Ideal) ((c.tc : Thread Cert.KernelAdamUkvIdeal.nD Cert.KernelAdamUkvIdeal.τ).loc Cert.KernelAdamUkvIdeal.main_v0_2)) (v3 : (c : Dev Cert.KernelAdamUkvIdeal.nD) → Buf (Elt Ideal) ((c.tc : Thread Cert.KernelAdamUkvIdeal.nD Cert.KernelAdamUkvIdeal.τ).loc Cert.KernelAdamUkvIdeal.main_v0_3)),
      θ_run (Cert.KernelAdamUkvIdeal.defs (F := Ideal)) (onTc (τ := Cert.KernelAdamUkvIdeal.τ) (Cert.KernelAdamUkvIdeal.main (F := Ideal))) ⟨m, fun _ => 0, g⟩ (fun r => ∀ c : Dev Cert.KernelAdamUkvIdeal.nD,
          r.2.mem ((c.tc : Thread Cert.KernelAdamUkvIdeal.nD Cert.KernelAdamUkvIdeal.τ).loc Cert.KernelAdamUkvIdeal.main_v0_0) = v0 c
          ∧ r.2.mem ((c.tc : Thread Cert.KernelAdamUkvIdeal.nD Cert.KernelAdamUkvIdeal.τ).loc Cert.KernelAdamUkvIdeal.main_v0_1) = v1 c
          ∧ r.2.mem ((c.tc : Thread Cert.KernelAdamUkvIdeal.nD Cert.KernelAdamUkvIdeal.τ).loc Cert.KernelAdamUkvIdeal.main_v0_2) = v2 c
          ∧ r.2.mem ((c.tc : Thread Cert.KernelAdamUkvIdeal.nD Cert.KernelAdamUkvIdeal.τ).loc Cert.KernelAdamUkvIdeal.main_v0_3) = v3 c
          ∧ r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
          ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
          ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
          ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3))
      ∧ θ_run (Cert.ReferenceAdamUkvIdeal.defs (F := Ideal)) (onTc (τ := Cert.ReferenceAdamUkvIdeal.τ) (Cert.ReferenceAdamUkvIdeal.main (F := Ideal))) ⟨m', fun _ => 0, g'⟩ (fun r => ∀ c : Dev Cert.ReferenceAdamUkvIdeal.nD,
          r.2.mem ((c.tc : Thread Cert.ReferenceAdamUkvIdeal.nD Cert.ReferenceAdamUkvIdeal.τ).loc Cert.ReferenceAdamUkvIdeal.main_v2) = v0 c
          ∧ r.2.mem ((c.tc : Thread Cert.ReferenceAdamUkvIdeal.nD Cert.ReferenceAdamUkvIdeal.τ).loc Cert.ReferenceAdamUkvIdeal.main_v26) = v1 c
          ∧ r.2.mem ((c.tc : Thread Cert.ReferenceAdamUkvIdeal.nD Cert.ReferenceAdamUkvIdeal.τ).loc Cert.ReferenceAdamUkvIdeal.main_v7) = v2 c
          ∧ r.2.mem ((c.tc : Thread Cert.ReferenceAdamUkvIdeal.nD Cert.ReferenceAdamUkvIdeal.τ).loc Cert.ReferenceAdamUkvIdeal.main_v13) = v3 c
          ∧ r.2.mem ((c.tc : Thread Cert.ReferenceAdamUkvIdeal.nD Cert.ReferenceAdamUkvIdeal.τ).loc Cert.ReferenceAdamUkvIdeal.main_arg0) = m' ((c.tc : Thread Cert.ReferenceAdamUkvIdeal.nD Cert.ReferenceAdamUkvIdeal.τ).loc Cert.ReferenceAdamUkvIdeal.main_arg0)
          ∧ r.2.mem ((c.tc : Thread Cert.ReferenceAdamUkvIdeal.nD Cert.ReferenceAdamUkvIdeal.τ).loc Cert.ReferenceAdamUkvIdeal.main_arg1) = m' ((c.tc : Thread Cert.ReferenceAdamUkvIdeal.nD Cert.ReferenceAdamUkvIdeal.τ).loc Cert.ReferenceAdamUkvIdeal.main_arg1)
          ∧ r.2.mem ((c.tc : Thread Cert.ReferenceAdamUkvIdeal.nD Cert.ReferenceAdamUkvIdeal.τ).loc Cert.ReferenceAdamUkvIdeal.main_arg2) = m' ((c.tc : Thread Cert.ReferenceAdamUkvIdeal.nD Cert.ReferenceAdamUkvIdeal.τ).loc Cert.ReferenceAdamUkvIdeal.main_arg2)
          ∧ r.2.mem ((c.tc : Thread Cert.ReferenceAdamUkvIdeal.nD Cert.ReferenceAdamUkvIdeal.τ).loc Cert.ReferenceAdamUkvIdeal.main_arg3) = m' ((c.tc : Thread Cert.ReferenceAdamUkvIdeal.nD Cert.ReferenceAdamUkvIdeal.τ).loc Cert.ReferenceAdamUkvIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v6) = v0 c
          ∧ r.2.mem ((c.tc : Thread Cert.ReferenceAdamDownIdeal.nD Cert.ReferenceAdamDownIdeal.τ).loc Cert.ReferenceAdamDownIdeal.main_v30) = v1 c
          ∧ r.2.mem ((c.tc : Thread Cert.ReferenceAdamDownIdeal.nD Cert.ReferenceAdamDownIdeal.τ).loc Cert.ReferenceAdamDownIdeal.main_v11) = v2 c
          ∧ r.2.mem ((c.tc : Thread Cert.ReferenceAdamDownIdeal.nD Cert.ReferenceAdamDownIdeal.τ).loc Cert.ReferenceAdamDownIdeal.main_v17) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4))

def Claim : Prop :=
  ∃ (hKernel : Cert.Kernel.Facts) (hKernelIdeal : Cert.KernelIdeal.Facts) (hReferenceIdeal : Cert.ReferenceIdeal.Facts) (hKernelDwDown : Cert.KernelDwDown.Facts) (hKernelDwDownIdeal : Cert.KernelDwDownIdeal.Facts) (hReferenceDwDownIdeal : Cert.ReferenceDwDownIdeal.Facts) (hKernelDu : Cert.KernelDu.Facts) (hKernelDuIdeal : Cert.KernelDuIdeal.Facts) (hReferenceDuIdeal : Cert.ReferenceDuIdeal.Facts) (hKernelDwUp : Cert.KernelDwUp.Facts) (hKernelDwUpIdeal : Cert.KernelDwUpIdeal.Facts) (hReferenceDwUpIdeal : Cert.ReferenceDwUpIdeal.Facts) (hKernelDh : Cert.KernelDh.Facts) (hKernelDhIdeal : Cert.KernelDhIdeal.Facts) (hReferenceDhIdeal : Cert.ReferenceDhIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelDo : Cert.KernelDo.Facts) (hKernelDoIdeal : Cert.KernelDoIdeal.Facts) (hReferenceDoIdeal : Cert.ReferenceDoIdeal.Facts) (hKernelDwO : Cert.KernelDwO.Facts) (hKernelDwOIdeal : Cert.KernelDwOIdeal.Facts) (hReferenceDwOIdeal : Cert.ReferenceDwOIdeal.Facts) (hKernelDwA : Cert.KernelDwA.Facts) (hKernelDwAIdeal : Cert.KernelDwAIdeal.Facts) (hReferenceDwAIdeal : Cert.ReferenceDwAIdeal.Facts) (hKernelDhA : Cert.KernelDhA.Facts) (hKernelDhAIdeal : Cert.KernelDhAIdeal.Facts) (hReferenceDhAIdeal : Cert.ReferenceDhAIdeal.Facts) (hKernelInB : Cert.KernelInB.Facts) (hKernelInBIdeal : Cert.KernelInBIdeal.Facts) (hReferenceInBIdeal : Cert.ReferenceInBIdeal.Facts) (hKernelDwB : Cert.KernelDwB.Facts) (hKernelDwBIdeal : Cert.KernelDwBIdeal.Facts) (hReferenceDwBIdeal : Cert.ReferenceDwBIdeal.Facts) (hKernelDhB : Cert.KernelDhB.Facts) (hKernelDhBIdeal : Cert.KernelDhBIdeal.Facts) (hReferenceDhBIdeal : Cert.ReferenceDhBIdeal.Facts) (hKernelLat : Cert.KernelLat.Facts) (hKernelLatIdeal : Cert.KernelLatIdeal.Facts) (hReferenceLatIdeal : Cert.ReferenceLatIdeal.Facts) (hKernelDwLat : Cert.KernelDwLat.Facts) (hKernelDwLatIdeal : Cert.KernelDwLatIdeal.Facts) (hReferenceDwLatIdeal : Cert.ReferenceDwLatIdeal.Facts) (hKernelDhLat : Cert.KernelDhLat.Facts) (hKernelDhLatIdeal : Cert.KernelDhLatIdeal.Facts) (hReferenceDhLatIdeal : Cert.ReferenceDhLatIdeal.Facts) (hKernelHead : Cert.KernelHead.Facts) (hKernelHeadIdeal : Cert.KernelHeadIdeal.Facts) (hReferenceHeadIdeal : Cert.ReferenceHeadIdeal.Facts) (hKernelDwHead : Cert.KernelDwHead.Facts) (hKernelDwHeadIdeal : Cert.KernelDwHeadIdeal.Facts) (hReferenceDwHeadIdeal : Cert.ReferenceDwHeadIdeal.Facts) (hKernelDcHead : Cert.KernelDcHead.Facts) (hKernelDcHeadIdeal : Cert.KernelDcHeadIdeal.Facts) (hReferenceDcHeadIdeal : Cert.ReferenceDcHeadIdeal.Facts) (hKernelAdam : Cert.KernelAdam.Facts) (hKernelAdamIdeal : Cert.KernelAdamIdeal.Facts) (hReferenceAdamIdeal : Cert.ReferenceAdamIdeal.Facts) (hKernelAdamUp : Cert.KernelAdamUp.Facts) (hKernelAdamUpIdeal : Cert.KernelAdamUpIdeal.Facts) (hReferenceAdamUpIdeal : Cert.ReferenceAdamUpIdeal.Facts) (hKernelAdamIn : Cert.KernelAdamIn.Facts) (hKernelAdamInIdeal : Cert.KernelAdamInIdeal.Facts) (hReferenceAdamInIdeal : Cert.ReferenceAdamInIdeal.Facts) (hKernelAdamLat : Cert.KernelAdamLat.Facts) (hKernelAdamLatIdeal : Cert.KernelAdamLatIdeal.Facts) (hReferenceAdamLatIdeal : Cert.ReferenceAdamLatIdeal.Facts) (hKernelAdamUq : Cert.KernelAdamUq.Facts) (hKernelAdamUqIdeal : Cert.KernelAdamUqIdeal.Facts) (hReferenceAdamUqIdeal : Cert.ReferenceAdamUqIdeal.Facts) (hKernelAdamUkv : Cert.KernelAdamUkv.Facts) (hKernelAdamUkvIdeal : Cert.KernelAdamUkvIdeal.Facts) (hReferenceAdamUkvIdeal : Cert.ReferenceAdamUkvIdeal.Facts) (hKernelAdamDown : Cert.KernelAdamDown.Facts) (hKernelAdamDownIdeal : Cert.KernelAdamDownIdeal.Facts) (hReferenceAdamDownIdeal : Cert.ReferenceAdamDownIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelDwO (hKernelDwO := hKernelDwO)
    ∧ quiescent_KernelDwOIdeal (hKernelDwOIdeal := hKernelDwOIdeal)
    ∧ quiescent_ReferenceDwOIdeal (hReferenceDwOIdeal := hReferenceDwOIdeal)
    ∧ quiescent_KernelDwA (hKernelDwA := hKernelDwA)
    ∧ quiescent_KernelDwAIdeal (hKernelDwAIdeal := hKernelDwAIdeal)
    ∧ quiescent_ReferenceDwAIdeal (hReferenceDwAIdeal := hReferenceDwAIdeal)
    ∧ quiescent_KernelDhA (hKernelDhA := hKernelDhA)
    ∧ quiescent_KernelDhAIdeal (hKernelDhAIdeal := hKernelDhAIdeal)
    ∧ quiescent_ReferenceDhAIdeal (hReferenceDhAIdeal := hReferenceDhAIdeal)
    ∧ quiescent_KernelInB (hKernelInB := hKernelInB)
    ∧ quiescent_KernelInBIdeal (hKernelInBIdeal := hKernelInBIdeal)
    ∧ quiescent_ReferenceInBIdeal (hReferenceInBIdeal := hReferenceInBIdeal)
    ∧ quiescent_KernelDwB (hKernelDwB := hKernelDwB)
    ∧ quiescent_KernelDwBIdeal (hKernelDwBIdeal := hKernelDwBIdeal)
    ∧ quiescent_ReferenceDwBIdeal (hReferenceDwBIdeal := hReferenceDwBIdeal)
    ∧ quiescent_KernelDhB (hKernelDhB := hKernelDhB)
    ∧ quiescent_KernelDhBIdeal (hKernelDhBIdeal := hKernelDhBIdeal)
    ∧ quiescent_ReferenceDhBIdeal (hReferenceDhBIdeal := hReferenceDhBIdeal)
    ∧ quiescent_KernelLat (hKernelLat := hKernelLat)
    ∧ quiescent_KernelLatIdeal (hKernelLatIdeal := hKernelLatIdeal)
    ∧ quiescent_ReferenceLatIdeal (hReferenceLatIdeal := hReferenceLatIdeal)
    ∧ quiescent_KernelDwLat (hKernelDwLat := hKernelDwLat)
    ∧ quiescent_KernelDwLatIdeal (hKernelDwLatIdeal := hKernelDwLatIdeal)
    ∧ quiescent_ReferenceDwLatIdeal (hReferenceDwLatIdeal := hReferenceDwLatIdeal)
    ∧ quiescent_KernelDhLat (hKernelDhLat := hKernelDhLat)
    ∧ quiescent_KernelDhLatIdeal (hKernelDhLatIdeal := hKernelDhLatIdeal)
    ∧ quiescent_ReferenceDhLatIdeal (hReferenceDhLatIdeal := hReferenceDhLatIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ quiescent_KernelDwHead (hKernelDwHead := hKernelDwHead)
    ∧ quiescent_KernelDwHeadIdeal (hKernelDwHeadIdeal := hKernelDwHeadIdeal)
    ∧ quiescent_ReferenceDwHeadIdeal (hReferenceDwHeadIdeal := hReferenceDwHeadIdeal)
    ∧ quiescent_KernelDcHead (hKernelDcHead := hKernelDcHead)
    ∧ quiescent_KernelDcHeadIdeal (hKernelDcHeadIdeal := hKernelDcHeadIdeal)
    ∧ quiescent_ReferenceDcHeadIdeal (hReferenceDcHeadIdeal := hReferenceDcHeadIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamLat (hKernelAdamLat := hKernelAdamLat)
    ∧ quiescent_KernelAdamLatIdeal (hKernelAdamLatIdeal := hKernelAdamLatIdeal)
    ∧ quiescent_ReferenceAdamLatIdeal (hReferenceAdamLatIdeal := hReferenceAdamLatIdeal)
    ∧ quiescent_KernelAdamUq (hKernelAdamUq := hKernelAdamUq)
    ∧ quiescent_KernelAdamUqIdeal (hKernelAdamUqIdeal := hKernelAdamUqIdeal)
    ∧ quiescent_ReferenceAdamUqIdeal (hReferenceAdamUqIdeal := hReferenceAdamUqIdeal)
    ∧ quiescent_KernelAdamUkv (hKernelAdamUkv := hKernelAdamUkv)
    ∧ quiescent_KernelAdamUkvIdeal (hKernelAdamUkvIdeal := hKernelAdamUkvIdeal)
    ∧ quiescent_ReferenceAdamUkvIdeal (hReferenceAdamUkvIdeal := hReferenceAdamUkvIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDu_KernelDuIdeal
    ∧ algebraic_KernelDuIdeal_ReferenceDuIdeal (hKernelDuIdeal := hKernelDuIdeal) (hReferenceDuIdeal := hReferenceDuIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDh_KernelDhIdeal
    ∧ algebraic_KernelDhIdeal_ReferenceDhIdeal (hKernelDhIdeal := hKernelDhIdeal) (hReferenceDhIdeal := hReferenceDhIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelDo_KernelDoIdeal
    ∧ algebraic_KernelDoIdeal_ReferenceDoIdeal (hKernelDoIdeal := hKernelDoIdeal) (hReferenceDoIdeal := hReferenceDoIdeal)
    ∧ preserves_KernelDwO_KernelDwOIdeal
    ∧ algebraic_KernelDwOIdeal_ReferenceDwOIdeal (hKernelDwOIdeal := hKernelDwOIdeal) (hReferenceDwOIdeal := hReferenceDwOIdeal)
    ∧ preserves_KernelDwA_KernelDwAIdeal
    ∧ algebraic_KernelDwAIdeal_ReferenceDwAIdeal (hKernelDwAIdeal := hKernelDwAIdeal) (hReferenceDwAIdeal := hReferenceDwAIdeal)
    ∧ preserves_KernelDhA_KernelDhAIdeal
    ∧ algebraic_KernelDhAIdeal_ReferenceDhAIdeal (hKernelDhAIdeal := hKernelDhAIdeal) (hReferenceDhAIdeal := hReferenceDhAIdeal)
    ∧ preserves_KernelInB_KernelInBIdeal
    ∧ algebraic_KernelInBIdeal_ReferenceInBIdeal (hKernelInBIdeal := hKernelInBIdeal) (hReferenceInBIdeal := hReferenceInBIdeal)
    ∧ preserves_KernelDwB_KernelDwBIdeal
    ∧ algebraic_KernelDwBIdeal_ReferenceDwBIdeal (hKernelDwBIdeal := hKernelDwBIdeal) (hReferenceDwBIdeal := hReferenceDwBIdeal)
    ∧ preserves_KernelDhB_KernelDhBIdeal
    ∧ algebraic_KernelDhBIdeal_ReferenceDhBIdeal (hKernelDhBIdeal := hKernelDhBIdeal) (hReferenceDhBIdeal := hReferenceDhBIdeal)
    ∧ preserves_KernelLat_KernelLatIdeal
    ∧ algebraic_KernelLatIdeal_ReferenceLatIdeal (hKernelLatIdeal := hKernelLatIdeal) (hReferenceLatIdeal := hReferenceLatIdeal)
    ∧ preserves_KernelDwLat_KernelDwLatIdeal
    ∧ algebraic_KernelDwLatIdeal_ReferenceDwLatIdeal (hKernelDwLatIdeal := hKernelDwLatIdeal) (hReferenceDwLatIdeal := hReferenceDwLatIdeal)
    ∧ preserves_KernelDhLat_KernelDhLatIdeal
    ∧ algebraic_KernelDhLatIdeal_ReferenceDhLatIdeal (hKernelDhLatIdeal := hKernelDhLatIdeal) (hReferenceDhLatIdeal := hReferenceDhLatIdeal)
    ∧ preserves_KernelHead_KernelHeadIdeal
    ∧ algebraic_KernelHeadIdeal_ReferenceHeadIdeal (hKernelHeadIdeal := hKernelHeadIdeal) (hReferenceHeadIdeal := hReferenceHeadIdeal)
    ∧ preserves_KernelDwHead_KernelDwHeadIdeal
    ∧ algebraic_KernelDwHeadIdeal_ReferenceDwHeadIdeal (hKernelDwHeadIdeal := hKernelDwHeadIdeal) (hReferenceDwHeadIdeal := hReferenceDwHeadIdeal)
    ∧ preserves_KernelDcHead_KernelDcHeadIdeal
    ∧ algebraic_KernelDcHeadIdeal_ReferenceDcHeadIdeal (hKernelDcHeadIdeal := hKernelDcHeadIdeal) (hReferenceDcHeadIdeal := hReferenceDcHeadIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamLat_KernelAdamLatIdeal
    ∧ algebraic_KernelAdamLatIdeal_ReferenceAdamLatIdeal (hKernelAdamLatIdeal := hKernelAdamLatIdeal) (hReferenceAdamLatIdeal := hReferenceAdamLatIdeal)
    ∧ preserves_KernelAdamUq_KernelAdamUqIdeal
    ∧ algebraic_KernelAdamUqIdeal_ReferenceAdamUqIdeal (hKernelAdamUqIdeal := hKernelAdamUqIdeal) (hReferenceAdamUqIdeal := hReferenceAdamUqIdeal)
    ∧ preserves_KernelAdamUkv_KernelAdamUkvIdeal
    ∧ algebraic_KernelAdamUkvIdeal_ReferenceAdamUkvIdeal (hKernelAdamUkvIdeal := hKernelAdamUkvIdeal) (hReferenceAdamUkvIdeal := hReferenceAdamUkvIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
-- ==== Pre_finite.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S4096x2048 : S_.BroadcastsInDim S4096x2048 (![] : Fin 0 → Fin S4096x2048.rank)

variable [Facts]

def fn {F : FTy → Type} [FloatOps F] (main_arg0 : FVec F S4096x4096 .bf16) (main_arg1 : FVec F S4096x2048 .bf16) : IVec S4096x4096 1 × IVec S4096x2048 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  (main_v2, main_v5)
-- ==== Kernel.lean ====
abbrev S4096x4096 : Shape := ⟨2, ![4096, 4096]⟩
abbrev S4096x2048 : Shape := ⟨2, ![4096, 2048]⟩
abbrev S4096x3072 : Shape := ⟨2, ![4096, 3072]⟩
abbrev S3072x4096 : Shape := ⟨2, ![3072, 4096]⟩
abbrev S4096x1024 : Shape := ⟨2, ![4096, 1024]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S4096 : Shape := ⟨1, ![4096]⟩
abbrev S1x8x4096x4096 : Shape := ⟨4, ![1, 8, 4096, 4096]⟩
abbrev S_ : Shape := ⟨0, ![]⟩
abbrev S1x4096 : Shape := ⟨2, ![1, 4096]⟩
abbrev S4096x1 : Shape := ⟨2, ![4096, 1]⟩
abbrev S512x128 : Shape := ⟨2, ![512, 128]⟩
abbrev S4096x128 : Shape := ⟨2, ![4096, 128]⟩
abbrev S128x4096 : Shape := ⟨2, ![128, 4096]⟩
abbrev S512 : Shape := ⟨1, ![512]⟩
abbrev S512x1 : Shape := ⟨2, ![512, 1]⟩
abbrev S512x256 : Shape := ⟨2, ![512, 256]⟩
abbrev S128x256 : Shape := ⟨2, ![128, 256]⟩
abbrev S256x128 : Shape := ⟨2, ![256, 128]⟩
abbrev S512x512 : Shape := ⟨2, ![512, 512]⟩

abbrev nBuf : Space → Nat
  | .hbm => 85
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x3072, .bf16⟩
  | .hbm, ⟨3, _⟩ => ⟨S3072x4096, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1x4096x1024, .f32⟩
  | .hbm, ⟨11, _⟩ => ⟨S1x4096x8x128, .f32⟩
  | .hbm, ⟨12, _⟩ => ⟨S1x8x4096x128, .f32⟩
  | .hbm, ⟨13, _⟩ => ⟨S1x4096x1024, .f32⟩
  | .hbm, ⟨14, _⟩ => ⟨S1x4096x8x128, .f32⟩
  | .hbm, ⟨15, _⟩ => ⟨S1x8x4096x128, .f32⟩
  | .hbm, ⟨16, _⟩ => ⟨S1x4096x1024, .f32⟩
  | .hbm, ⟨17, _⟩ => ⟨S1x4096x8x128, .f32⟩
  | .hbm, ⟨18, _⟩ => ⟨S1x8x4096x128, .f32⟩
  | .hbm, ⟨19, _⟩ => ⟨S4096, .i32⟩
  | .hbm, ⟨20, _⟩ => ⟨S1x8x4096x4096, .f32⟩
  | .hbm, ⟨21, _⟩ => ⟨S_, .f32⟩
  | .hbm, ⟨22, _⟩ => ⟨S1x8x4096x4096, .f32⟩
  | .hbm, ⟨23, _⟩ => ⟨S1x8x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x8x4096x4096, .f32⟩
  | .hbm, ⟨30, _⟩ => ⟨S_, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .i1⟩
  | .hbm, ⟨36, _⟩ => ⟨S1x8x4096x4096, .f32⟩
  | .hbm, ⟨37, _⟩ => ⟨S1x8x4096x4096, .f32⟩
  | .hbm, ⟨38, _⟩ => ⟨S1x8x4096x4096, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S1x8x4096x4096, .f32⟩
  | .hbm, ⟨43, _⟩ => ⟨S1x8x4096x4096, .f32⟩
  | .hbm, ⟨44, _⟩ => ⟨S1x8x4096x4096, .f32⟩
  | .hbm, ⟨45, _⟩ => ⟨S1x8x4096x4096, .f32⟩
  | .hbm, ⟨46, _⟩ => ⟨S1x8x4096x4096, .f32⟩
  | .hbm, ⟨47, _⟩ => ⟨S_, .f32⟩
  | .hbm, ⟨48, _⟩ => ⟨S1x8x4096x4096, .f32⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S1x8x4096x4096, .i1⟩
  | .hbm, ⟨53, _⟩ => ⟨S1x8x4096x4096, .f32⟩
  | .hbm, ⟨54, _⟩ => ⟨S1x8x4096x4096, .f32⟩
  | .hbm, ⟨55, _⟩ => ⟨S1x8x4096x4096, .f32⟩
  | .hbm, ⟨56, _⟩ => ⟨S1x8x4096x4096, .f32⟩
  | .hbm, ⟨57, _⟩ => ⟨S1x8x4096x4096, .f32⟩
  | .hbm, ⟨58, _⟩ => ⟨S1x8x4096x4096, .f32⟩
  | .hbm, ⟨59, _⟩ => ⟨S1x8x4096x4096, .f32⟩
  | .hbm, ⟨60, _⟩ => ⟨S1x8x4096x4096, .f32⟩
  | .hbm, ⟨61, _⟩ => ⟨S1x8x4096x4096, .f32⟩
  | .hbm, ⟨62, _⟩ => ⟨S_, .f32⟩
  | .hbm, ⟨63, _⟩ => ⟨S_, .f32⟩
  | .hbm, ⟨64, _⟩ => ⟨S1x8x4096x4096, .i1⟩
  | .hbm, ⟨65, _⟩ => ⟨S1x8x4096x4096, .f32⟩
  | .hbm, ⟨66, _⟩ => ⟨S1x8x4096x4096, .f32⟩
  | .hbm, ⟨67, _⟩ => ⟨S_, .f32⟩
  | .hbm, ⟨68, _⟩ => ⟨S_, .f32⟩
  | .hbm, ⟨69, _⟩ => ⟨S1x8x4096x4096, .f32⟩
  | .hbm, ⟨70, _⟩ => ⟨S1x8x4096x4096, .f32⟩
  | .hbm, ⟨71, _⟩ => ⟨S1x8x4096x4096, .f32⟩
  | .hbm, ⟨72, _⟩ => ⟨S1x8x4096x4096, .f32⟩
  | .hbm, ⟨73, _⟩ => ⟨S_, .f32⟩
  | .hbm, ⟨74, _⟩ => ⟨S_, .f32⟩
  | .hbm, ⟨75, _⟩ => ⟨S1x8x4096x4096, .i1⟩
  | .hbm, ⟨76, _⟩ => ⟨S1x8x4096x4096, .f32⟩
  | .hbm, ⟨77, _⟩ => ⟨S1x8x4096x4096, .f32⟩
  | .hbm, ⟨78, _⟩ => ⟨S1x8x4096x128, .f32⟩
  | .hbm, ⟨79, _⟩ => ⟨S1x4096x8x128, .f32⟩
  | .hbm, ⟨80, _⟩ => ⟨S1x4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v26 : Ref sig .tc := ⟨.hbm, 44, rfl⟩
abbrev main_v27 : Ref sig .tc := ⟨.hbm, 45, rfl⟩
abbrev main_call1_v0 : Ref sig .tc := ⟨.hbm, 46, rfl⟩
abbrev main_call1_call0_cst : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_call0_v2 : Ref sig .tc := ⟨.hbm, 50, rfl⟩
abbrev main_call1_call0_v3 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_v1 : Ref sig .tc := ⟨.hbm, 60, rfl⟩
abbrev main_v28 : Ref sig .tc := ⟨.hbm, 61, rfl⟩
abbrev main_cst_0 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v29 : Ref sig .tc := ⟨.hbm, 66, rfl⟩
abbrev main_call3_cst : Ref sig .tc := ⟨.hbm, 67, rfl⟩
abbrev main_call3_v0 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_1 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39_0 : Ref sig .tc := ⟨.hbm, 82, rfl⟩
abbrev main_v39_1 : Ref sig .tc := ⟨.hbm, 83, rfl⟩
abbrev main_v39_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_35 : BitVec 32 := 1#32
  let v87 : BitVec 32 := Scalar.subi v36 c1_i32_35
  let c256_i32_36 : BitVec 32 := 256#32
  let v88 : BitVec 32 := Scalar.muli v87 c256_i32_36
  v88
def k0_off1 (i : grid0.Coords) : Fin 2 → Nat :=
  let c0_37 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_35 : BitVec 32 := 1#32
  let v87 : BitVec 32 := Scalar.subi v36 c1_i32_35
  let c256_i32_36 : BitVec 32 := 256#32
  let v88 : BitVec 32 := Scalar.muli v87 c256_i32_36
  let v89 : BitVec 32 := v88
  let v90 : Index := Scalar.indexCast v89
  ![0, v90.toNat]
def k0_mult2 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32 : BitVec 32 := 2#32
  let v94 : BitVec 32 := Scalar.subi v36 c2_i32
  let c0_i32_39 : BitVec 32 := 0#32
  let v95 : BitVec 32 := Scalar.subi v94 c0_i32_39
  let c0_i32_40 : BitVec 32 := 0#32
  let v96 : BitVec 32 := Scalar.maxsi v95 c0_i32_40
  let c256_i32_41 : BitVec 32 := 256#32
  let v97 : BitVec 32 := Scalar.muli v96 c256_i32_41
  v97
def k0_off2 (i : grid0.Coords) (c0_i32_39 : BitVec 32) : Fin 2 → Nat :=
  let c0_42 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32 : BitVec 32 := 2#32
  let v94 : BitVec 32 := Scalar.subi v36 c2_i32
  let v95 : BitVec 32 := Scalar.subi v94 c0_i32_39
  let c0_i32_40 : BitVec 32 := 0#32
  let v96 : BitVec 32 := Scalar.maxsi v95 c0_i32_40
  let c256_i32_41 : BitVec 32 := 256#32
  let v97 : BitVec 32 := Scalar.muli v96 c256_i32_41
  let v98 : BitVec 32 := v97
  let v99 : Index := Scalar.indexCast v98
  ![0, v99.toNat]
def k0_mult3 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_44 : BitVec 32 := 1#32
  let v103 : BitVec 32 := Scalar.subi v36 c1_i32_44
  let c0_i32_45 : BitVec 32 := 0#32
  let v104 : BitVec 32 := Scalar.subi v103 c0_i32_45
  let c256_i32_46 : BitVec 32 := 256#32
  let v105 : BitVec 32 := Scalar.muli v104 c256_i32_46
  v105
def k0_off3 (i : grid0.Coords) (c0_i32_45 : BitVec 32) : Fin 2 → Nat :=
  let c0_47 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_44 : BitVec 32 := 1#32
  let v103 : BitVec 32 := Scalar.subi v36 c1_i32_44
  let v104 : BitVec 32 := Scalar.subi v103 c0_i32_45
  let c256_i32_46 : BitVec 32 := 256#32
  let v105 : BitVec 32 := Scalar.muli v104 c256_i32_46
  let v106 : BitVec 32 := v105
  let v107 : Index := Scalar.indexCast v106
  ![0, v107.toNat]
def k0_mult4 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c0_i32_49 : BitVec 32 := 0#32
  let v111 : BitVec 32 := Scalar.subi v36 c0_i32_49
  let c1_i32_50 : BitVec 32 := 1#32
  let v112 : BitVec 32 := Scalar.subi v36 c1_i32_50
  let v113 : BitVec 32 := Scalar.minsi v111 v112
  let c256_i32_51 : BitVec 32 := 256#32
  let v114 : BitVec 32 := Scalar.muli v113 c256_i32_51
  v114
def k0_off4 (i : grid0.Coords) (c0_i32_49 : BitVec 32) : Fin 2 → Nat :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let v111 : BitVec 32 := Scalar.subi v36 c0_i32_49
  let c1_i32_50 : BitVec 32 := 1#32
  let v112 : BitVec 32 := Scalar.subi v36 c1_i32_50
  let v113 : BitVec 32 := Scalar.minsi v111 v112
  let c256_i32_51 : BitVec 32 := 256#32
  let v114 : BitVec 32 := Scalar.muli v113 c256_i32_51
  let v115 : BitVec 32 := v114
  let v116 : Index := Scalar.indexCast v115
  let c0_52 : Index := 0#32
  ![v116.toNat, 0]
def k0_mult5 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_76 : BitVec 32 := 2#32
  let v197 : BitVec 32 := Scalar.subi v36 c2_i32_76
  let c1_i32_77 : BitVec 32 := 1#32
  let v198 : BitVec 32 := Scalar.subi v197 c1_i32_77
  let c0_i32_78 : BitVec 32 := 0#32
  let v199 : BitVec 32 := Scalar.maxsi v198 c0_i32_78
  let c256_i32_79 : BitVec 32 := 256#32
  let v200 : BitVec 32 := Scalar.muli v199 c256_i32_79
  v200
def k0_mult6 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_82 : BitVec 32 := 1#32
  let v206 : BitVec 32 := Scalar.subi v36 c1_i32_82
  let c1_i32_83 : BitVec 32 := 1#32
  let v207 : BitVec 32 := Scalar.subi v206 c1_i32_83
  let c256_i32_84 : BitVec 32 := 256#32
  let v208 : BitVec 32 := Scalar.muli v207 c256_i32_84
  v208
def k0_mult7 (i : grid0.Coords) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_87 : BitVec 32 := 1#32
  let v214 : BitVec 32 := Scalar.subi v36 c1_i32_87
  let c1_i32_88 : BitVec 32 := 1#32
  let v215 : BitVec 32 := Scalar.subi v36 c1_i32_88
  let v216 : BitVec 32 := Scalar.minsi v214 v215
  let c256_i32_89 : BitVec 32 := 256#32
  let v217 : BitVec 32 := Scalar.muli v216 c256_i32_89
  v217
@[reducible] def k0_t1_loop (i : grid0.Coords) : Scf.Loop 32 :=
  let c2_i32_114 : BitVec 32 := 2#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_116 : BitVec 32 := 1#32
  ⟨c2_i32_114, v304, c1_i32_116⟩
def k0_mult8 (i : grid0.Coords) (k0_t1 : Fin (k0_t1_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_129 : BitVec 32 := 2#32
  let v327 : BitVec 32 := Scalar.subi v36 c2_i32_129
  let c2_i32_114 : BitVec 32 := 2#32
  let c1_i32_116 : BitVec 32 := 1#32
  let arg11 : BitVec 32 := Scf.iv c2_i32_114 c1_i32_116 k0_t1
  let v328 : BitVec 32 := Scalar.subi v327 arg11
  let c0_i32_130 : BitVec 32 := 0#32
  let v329 : BitVec 32 := Scalar.maxsi v328 c0_i32_130
  let c256_i32_131 : BitVec 32 := 256#32
  let v330 : BitVec 32 := Scalar.muli v329 c256_i32_131
  v330
def k0_off5 (i : grid0.Coords) (k0_t1 : Fin (k0_t1_loop i).trips) : Fin 2 → Nat :=
  let c0_132 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_129 : BitVec 32 := 2#32
  let v327 : BitVec 32 := Scalar.subi v36 c2_i32_129
  let c2_i32_114 : BitVec 32 := 2#32
  let c1_i32_116 : BitVec 32 := 1#32
  let arg11 : BitVec 32 := Scf.iv c2_i32_114 c1_i32_116 k0_t1
  let v328 : BitVec 32 := Scalar.subi v327 arg11
  let c0_i32_130 : BitVec 32 := 0#32
  let v329 : BitVec 32 := Scalar.maxsi v328 c0_i32_130
  let c256_i32_131 : BitVec 32 := 256#32
  let v330 : BitVec 32 := Scalar.muli v329 c256_i32_131
  let v331 : BitVec 32 := v330
  let v332 : Index := Scalar.indexCast v331
  ![0, v332.toNat]
def k0_mult9 (i : grid0.Coords) (k0_t1 : Fin (k0_t1_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_134 : BitVec 32 := 1#32
  let v336 : BitVec 32 := Scalar.subi v36 c1_i32_134
  let c2_i32_114 : BitVec 32 := 2#32
  let c1_i32_116 : BitVec 32 := 1#32
  let arg11 : BitVec 32 := Scf.iv c2_i32_114 c1_i32_116 k0_t1
  let v337 : BitVec 32 := Scalar.subi v336 arg11
  let c256_i32_135 : BitVec 32 := 256#32
  let v338 : BitVec 32 := Scalar.muli v337 c256_i32_135
  v338
def k0_off6 (i : grid0.Coords) (k0_t1 : Fin (k0_t1_loop i).trips) : Fin 2 → Nat :=
  let c0_136 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_134 : BitVec 32 := 1#32
  let v336 : BitVec 32 := Scalar.subi v36 c1_i32_134
  let c2_i32_114 : BitVec 32 := 2#32
  let c1_i32_116 : BitVec 32 := 1#32
  let arg11 : BitVec 32 := Scf.iv c2_i32_114 c1_i32_116 k0_t1
  let v337 : BitVec 32 := Scalar.subi v336 arg11
  let c256_i32_135 : BitVec 32 := 256#32
  let v338 : BitVec 32 := Scalar.muli v337 c256_i32_135
  let v339 : BitVec 32 := v338
  let v340 : Index := Scalar.indexCast v339
  ![0, v340.toNat]
def k0_mult10 (i : grid0.Coords) (k0_t1 : Fin (k0_t1_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_114 : BitVec 32 := 2#32
  let c1_i32_116 : BitVec 32 := 1#32
  let arg11 : BitVec 32 := Scf.iv c2_i32_114 c1_i32_116 k0_t1
  let v344 : BitVec 32 := Scalar.subi v36 arg11
  let c1_i32_138 : BitVec 32 := 1#32
  let v345 : BitVec 32 := Scalar.subi v36 c1_i32_138
  let v346 : BitVec 32 := Scalar.minsi v344 v345
  let c256_i32_139 : BitVec 32 := 256#32
  let v347 : BitVec 32 := Scalar.muli v346 c256_i32_139
  v347
def k0_off7 (i : grid0.Coords) (k0_t1 : Fin (k0_t1_loop i).trips) : Fin 2 → Nat :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_114 : BitVec 32 := 2#32
  let c1_i32_116 : BitVec 32 := 1#32
  let arg11 : BitVec 32 := Scf.iv c2_i32_114 c1_i32_116 k0_t1
  let v344 : BitVec 32 := Scalar.subi v36 arg11
  let c1_i32_138 : BitVec 32 := 1#32
  let v345 : BitVec 32 := Scalar.subi v36 c1_i32_138
  let v346 : BitVec 32 := Scalar.minsi v344 v345
  let c256_i32_139 : BitVec 32 := 256#32
  let v347 : BitVec 32 := Scalar.muli v346 c256_i32_139
  let v348 : BitVec 32 := v347
  let v349 : Index := Scalar.indexCast v348
  let c0_140 : Index := 0#32
  ![v349.toNat, 0]
@[reducible] def k0_t2_loop (i : grid0.Coords) : Scf.Loop 32 :=
  let c2_i32_114 : BitVec 32 := 2#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let v301 : BitVec 32 := Scalar.addi c2_i32_114 v300
  let c1_i32_117 : BitVec 32 := 1#32
  ⟨v304, v301, c1_i32_117⟩
def k0_mult11 (i : grid0.Coords) (k0_t2 : Fin (k0_t2_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_129 : BitVec 32 := 2#32
  let v327 : BitVec 32 := Scalar.subi v36 c2_i32_129
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v328 : BitVec 32 := Scalar.subi v327 arg11
  let c0_i32_130 : BitVec 32 := 0#32
  let v329 : BitVec 32 := Scalar.maxsi v328 c0_i32_130
  let c256_i32_131 : BitVec 32 := 256#32
  let v330 : BitVec 32 := Scalar.muli v329 c256_i32_131
  v330
def k0_off8 (i : grid0.Coords) (k0_t2 : Fin (k0_t2_loop i).trips) : Fin 2 → Nat :=
  let c0_132 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_129 : BitVec 32 := 2#32
  let v327 : BitVec 32 := Scalar.subi v36 c2_i32_129
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v328 : BitVec 32 := Scalar.subi v327 arg11
  let c0_i32_130 : BitVec 32 := 0#32
  let v329 : BitVec 32 := Scalar.maxsi v328 c0_i32_130
  let c256_i32_131 : BitVec 32 := 256#32
  let v330 : BitVec 32 := Scalar.muli v329 c256_i32_131
  let v331 : BitVec 32 := v330
  let v332 : Index := Scalar.indexCast v331
  ![0, v332.toNat]
def k0_mult12 (i : grid0.Coords) (k0_t2 : Fin (k0_t2_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_134 : BitVec 32 := 1#32
  let v336 : BitVec 32 := Scalar.subi v36 c1_i32_134
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v337 : BitVec 32 := Scalar.subi v336 arg11
  let c256_i32_135 : BitVec 32 := 256#32
  let v338 : BitVec 32 := Scalar.muli v337 c256_i32_135
  v338
def k0_off9 (i : grid0.Coords) (k0_t2 : Fin (k0_t2_loop i).trips) : Fin 2 → Nat :=
  let c0_136 : Index := 0#32
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c1_i32_134 : BitVec 32 := 1#32
  let v336 : BitVec 32 := Scalar.subi v36 c1_i32_134
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v337 : BitVec 32 := Scalar.subi v336 arg11
  let c256_i32_135 : BitVec 32 := 256#32
  let v338 : BitVec 32 := Scalar.muli v337 c256_i32_135
  let v339 : BitVec 32 := v338
  let v340 : Index := Scalar.indexCast v339
  ![0, v340.toNat]
def k0_mult13 (i : grid0.Coords) (k0_t2 : Fin (k0_t2_loop i).trips) : BitVec 32 :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v344 : BitVec 32 := Scalar.subi v36 arg11
  let c1_i32_138 : BitVec 32 := 1#32
  let v345 : BitVec 32 := Scalar.subi v36 c1_i32_138
  let v346 : BitVec 32 := Scalar.minsi v344 v345
  let c256_i32_139 : BitVec 32 := 256#32
  let v347 : BitVec 32 := Scalar.muli v346 c256_i32_139
  v347
def k0_off10 (i : grid0.Coords) (k0_t2 : Fin (k0_t2_loop i).trips) : Fin 2 → Nat :=
  let arg1 : BitVec 32 := BitVec.ofNat 32 (i 1).val
  let c1_i32 : BitVec 32 := 1#32
  let v16 : BitVec 32 := Scalar.addi arg1 c1_i32
  let c512_i32_6 : BitVec 32 := 512#32
  let v17 : BitVec 32 := Scalar.muli v16 c512_i32_6
  let c256_i32 : BitVec 32 := 256#32
  let v18 : BitVec 32 := Scalar.addi v17 c256_i32
  let c1_i32_7 : BitVec 32 := 1#32
  let v19 : BitVec 32 := Scalar.subi v18 c1_i32_7
  let c0_i32_9 : BitVec 32 := 0#32
  let v21 : BitVec 1 := Scalar.cmpi .sgt v19 c0_i32_9
  let v22 : BitVec 32 := Scalar.extui v21
  let c0_i32_10 : BitVec 32 := 0#32
  let v23 : BitVec 1 := Scalar.cmpi .slt v19 c0_i32_10
  let v24 : BitVec 32 := Scalar.extui v23
  let v25 : BitVec 32 := Scalar.subi v22 v24
  let c256_i32_8 : BitVec 32 := 256#32
  let c0_i32_11 : BitVec 32 := 0#32
  let v26 : BitVec 1 := Scalar.cmpi .sgt c256_i32_8 c0_i32_11
  let v27 : BitVec 32 := Scalar.extui v26
  let c0_i32_12 : BitVec 32 := 0#32
  let v28 : BitVec 1 := Scalar.cmpi .slt c256_i32_8 c0_i32_12
  let v29 : BitVec 32 := Scalar.extui v28
  let v30 : BitVec 32 := Scalar.subi v27 v29
  let v31 : BitVec 1 := Scalar.cmpi .ne v25 v30
  let v32 : BitVec 32 := Scalar.remsi v19 c256_i32_8
  let c0_i32_13 : BitVec 32 := 0#32
  let v33 : BitVec 1 := Scalar.cmpi .ne v32 c0_i32_13
  let v34 : BitVec 1 := Scalar.andi v31 v33
  let v20 : BitVec 32 := Scalar.divsi v19 c256_i32_8
  let c1_i32_14 : BitVec 32 := 1#32
  let v35 : BitVec 32 := Scalar.subi v20 c1_i32_14
  let v36 : BitVec 32 := Scalar.select v34 v35 v20
  let c2_i32_114 : BitVec 32 := 2#32
  let v300 : BitVec 32 := Scalar.subi v36 c2_i32_114
  let c1_i32_115 : BitVec 32 := 1#32
  let v302 : BitVec 32 := Scalar.divsi v300 c1_i32_115
  let v303 : BitVec 32 := Scalar.muli v302 c1_i32_115
  let v304 : BitVec 32 := Scalar.addi c2_i32_114 v303
  let c1_i32_117 : BitVec 32 := 1#32
  let arg11 : BitVec 32 := Scf.iv v304 c1_i32_117 k0_t2
  let v344 : BitVec 32 := Scalar.subi v36 arg11
  let c1_i32_138 : BitVec 32 := 1#32
  let v345 : BitVec 32 := Scalar.subi v36 c1_i32_138
  let v346 : BitVec 32 := Scalar.minsi v344 v345
  let c256_i32_139 : BitVec 32 := 256#32
  let v347 : BitVec 32 := Scalar.muli v346 c256_i32_139
  let v348 : BitVec 32 := v347
  let v349 : Index := Scalar.indexCast v348
  let c0_140 : Index := 0#32
  ![v349.toNat, 0]
def k0_mult14 : BitVec 32 :=
  let c0_i32_118 : BitVec 32 := 0#32
  c0_i32_118
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "inv_ln2" => some (((Real.log 2)⁻¹ : ℝ) : EReal)
  | "scale_log2e" => some (((11863283 / 134217728) * (Real.log 2)⁻¹ : ℝ) : EReal)
  | _ => none
-- ==== ReferenceIdeal.lean ====
abbrev S4096x4096 : Shape := ⟨2, ![4096, 4096]⟩
abbrev S4096x2048 : Shape := ⟨2, ![4096, 2048]⟩
abbrev S4096x1024 : Shape := ⟨2, ![4096, 1024]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S4096 : Shape := ⟨1, ![4096]⟩
abbrev S1x8x4096x4096 : Shape := ⟨4, ![1, 8, 4096, 4096]⟩
abbrev S_ : Shape := ⟨0, ![]⟩
abbrev S1x4096 : Shape := ⟨2, ![1, 4096]⟩
abbrev S4096x1 : Shape := ⟨2, ![4096, 1]⟩
abbrev S1x8x128x4096 : Shape := ⟨4, ![1, 8, 128, 4096]⟩

abbrev nBuf : Space → Nat
  | .hbm => 192
  | .vmem => 0
  | .smem => 0
  | _ => 0

abbrev hbmTy0_0 (i : Nat) : BufTy := match i % 128 with
  | 0 => ⟨S4096x4096, .bf16⟩
  | 1 => ⟨S4096x2048, .bf16⟩
  | 2 => ⟨S4096x4096, .f32⟩
  | 3 => ⟨S4096x1024, .f32⟩
  | 4 => ⟨S4096x1024, .f32⟩
  | 5 => ⟨S4096x1024, .f32⟩
  | 6 => ⟨S4096x1024, .f32⟩
  | 7 => ⟨S1x4096x1024, .f32⟩
  | 8 => ⟨S1x4096x8x128, .f32⟩
  | 9 => ⟨S1x8x4096x128, .f32⟩
  | 10 => ⟨S1x4096x1024, .f32⟩
  | 11 => ⟨S1x4096x8x128, .f32⟩
  | 12 => ⟨S1x8x4096x128, .f32⟩
  | 13 => ⟨S1x4096x1024, .f32⟩
  | 14 => ⟨S1x4096x8x128, .f32⟩
  | 15 => ⟨S1x8x4096x128, .f32⟩
  | 16 => ⟨S4096, .i32⟩
  | 17 => ⟨S1x8x4096x4096, .f32⟩
  | 18 => ⟨S_, .f32⟩
  | 19 => ⟨S1x8x4096x4096, .f32⟩
  | 20 => ⟨S1x8x4096x4096, .f32⟩
  | 21 => ⟨S1x4096, .i32⟩
  | 22 => ⟨S4096x1, .i32⟩
  | 23 => ⟨S4096x4096, .i32⟩
  | 24 => ⟨S4096x4096, .i32⟩
  | 25 => ⟨S4096x4096, .i1⟩
  | 26 => ⟨S1x8x4096x4096, .f32⟩
  | 27 => ⟨S_, .f32⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S1x8x4096x4096, .i1⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S_, .f32⟩
  | 42 => ⟨S1x8x4096x4096, .f32⟩
  | 43 => ⟨S1x8x4096x4096, .i1⟩
  | 44 => ⟨S_, .f32⟩
  | 45 => ⟨S1x8x4096x4096, .f32⟩
  | 46 => ⟨S1x8x4096x4096, .f32⟩
  | 47 => ⟨S_, .f32⟩
  | 48 => ⟨S1x8x4096x4096, .f32⟩
  | 49 => ⟨S1x8x4096x4096, .i1⟩
  | 50 => ⟨S_, .f32⟩
  | 51 => ⟨S1x8x4096x4096, .f32⟩
  | 52 => ⟨S1x8x4096x4096, .f32⟩
  | 53 => ⟨S1x8x4096x4096, .f32⟩
  | 54 => ⟨S1x8x4096x4096, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S1x8x4096x4096, .f32⟩
  | 63 => ⟨S1x8x4096x4096, .i1⟩
  | 64 => ⟨S_, .f32⟩
  | 65 => ⟨S1x8x4096x4096, .f32⟩
  | 66 => ⟨S1x8x4096x4096, .f32⟩
  | 67 => ⟨S1x8x4096x4096, .f32⟩
  | 68 => ⟨S1x8x4096x4096, .f32⟩
  | 69 => ⟨S1x8x4096x4096, .f32⟩
  | 70 => ⟨S_, .f32⟩
  | 71 => ⟨S1x8x4096x4096, .f32⟩
  | 72 => ⟨S1x8x4096x4096, .f32⟩
  | 73 => ⟨S1x8x4096x4096, .f32⟩
  | 74 => ⟨S1x8x4096x4096, .f32⟩
  | 75 => ⟨S1x8x4096x4096, .f32⟩
  | 76 => ⟨S_, .f32⟩
  | 77 => ⟨S1x8x4096x4096, .f32⟩
  | 78 => ⟨S1x8x4096x4096, .f32⟩
  | 79 => ⟨S1x8x4096x4096, .f32⟩
  | 80 => ⟨S1x8x4096x4096, .f32⟩
  | 81 => ⟨S1x8x4096x4096, .i1⟩
  | 82 => ⟨S1x8x4096x4096, .f32⟩
  | 83 => ⟨S1x8x4096x4096, .f32⟩
  | 84 => ⟨S1x8x4096x4096, .f32⟩
  | 85 => ⟨S1x8x4096x4096, .f32⟩
  | 86 => ⟨S1x8x4096x4096, .f32⟩
  | 87 => ⟨S1x8x4096x4096, .f32⟩
  | 88 => ⟨S1x8x4096x4096, .f32⟩
  | 89 => ⟨S1x8x4096x4096, .f32⟩
  | 90 => ⟨S_, .f32⟩
  | 91 => ⟨S1x8x4096x4096, .f32⟩
  | 92 => ⟨S1x8x4096x4096, .i1⟩
  | 93 => ⟨S_, .f32⟩
  | 94 => ⟨S1x8x4096x4096, .f32⟩
  | 95 => ⟨S1x8x4096x4096, .f32⟩
  | 96 => ⟨S_, .f32⟩
  | 97 => ⟨S1x8x4096x4096, .f32⟩
  | 98 => ⟨S1x8x4096x4096, .i1⟩
  | 99 => ⟨S_, .f32⟩
  | 100 => ⟨S1x8x4096x4096, .f32⟩
  | 101 => ⟨S1x8x4096x4096, .f32⟩
  | 102 => ⟨S1x8x4096x4096, .f32⟩
  | 103 => ⟨S1x8x4096x4096, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S1x8x4096x4096, .f32⟩
  | 112 => ⟨S1x8x4096x4096, .i1⟩
  | 113 => ⟨S_, .f32⟩
  | 114 => ⟨S1x8x4096x4096, .f32⟩
  | 115 => ⟨S1x8x4096x4096, .f32⟩
  | 116 => ⟨S1x8x4096x4096, .f32⟩
  | 117 => ⟨S1x8x4096x4096, .f32⟩
  | 118 => ⟨S1x8x4096x4096, .f32⟩
  | 119 => ⟨S_, .f32⟩
  | 120 => ⟨S1x8x4096x4096, .f32⟩
  | 121 => ⟨S1x8x4096x4096, .f32⟩
  | 122 => ⟨S1x8x4096x4096, .f32⟩
  | 123 => ⟨S_, .f32⟩
  | 124 => ⟨S_, .f32⟩
  | 125 => ⟨S1x8x4096x4096, .i1⟩
  | 126 => ⟨S1x8x4096x4096, .f32⟩
  | 127 => ⟨S1x8x4096x4096, .f32⟩
  | _ => ⟨S4096x4096, .bf16⟩

abbrev hbmTy0_1 (i : Nat) : BufTy := match i % 128 with
  | 0 => ⟨S_, .f32⟩
  | 1 => ⟨S1x8x4096x4096, .f32⟩
  | 2 => ⟨S_, .f32⟩
  | 3 => ⟨S_, .f32⟩
  | 4 => ⟨S1x8x4096x4096, .f32⟩
  | 5 => ⟨S1x8x4096x4096, .f32⟩
  | 6 => ⟨S1x8x4096x4096, .f32⟩
  | 7 => ⟨S1x8x4096x4096, .f32⟩
  | 8 => ⟨S_, .f32⟩
  | 9 => ⟨S_, .f32⟩
  | 10 => ⟨S1x8x4096x4096, .i1⟩
  | 11 => ⟨S1x8x4096x4096, .f32⟩
  | 12 => ⟨S1x8x4096x4096, .f32⟩
  | 13 => ⟨S_, .f32⟩
  | 14 => ⟨S1x8x4096x4096, .f32⟩
  | 15 => ⟨S1x8x4096x128, .f32⟩
  | 16 => ⟨S1x4096x8x128, .f32⟩
  | 17 => ⟨S1x4096x1024, .f32⟩
  | 18 => ⟨S4096x1024, .f32⟩
  | 19 => ⟨S4096x1024, .bf16⟩
  | 20 => ⟨S4096x1024, .f32⟩
  | 21 => ⟨S1x4096x1024, .f32⟩
  | 22 => ⟨S1x4096x8x128, .f32⟩
  | 23 => ⟨S1x8x4096x128, .f32⟩
  | 24 => ⟨S1x8x128x4096, .f32⟩
  | 25 => ⟨S1x8x4096x128, .f32⟩
  | 26 => ⟨S1x8x4096x4096, .f32⟩
  | 27 => ⟨S_, .f32⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S_, .f32⟩
  | 33 => ⟨S_, .f32⟩
  | 34 => ⟨S1x8x4096x4096, .f32⟩
  | 35 => ⟨S1x8x4096x4096, .f32⟩
  | 36 => ⟨S_, .f32⟩
  | 37 => ⟨S1x8x4096x4096, .f32⟩
  | 38 => ⟨S1x8x4096x4096, .f32⟩
  | 39 => ⟨S1x8x4096x4096, .f32⟩
  | 40 => ⟨S1x8x4096x4096, .f32⟩
  | 41 => ⟨S1x8x4096x4096, .f32⟩
  | 42 => ⟨S1x8x4096x4096, .f32⟩
  | 43 => ⟨S1x8x4096x4096, .f32⟩
  | 44 => ⟨S1x8x4096x4096, .f32⟩
  | 45 => ⟨S1x8x4096x4096, .f32⟩
  | 46 => ⟨S1x8x4096x4096, .f32⟩
  | 47 => ⟨S_, .f32⟩
  | 48 => ⟨S1x8x4096x4096, .f32⟩
  | 49 => ⟨S1x8x4096x4096, .f32⟩
  | 50 => ⟨S1x8x4096x128, .f32⟩
  | 51 => ⟨S1x8x4096x128, .f32⟩
  | 52 => ⟨S1x4096x8x128, .f32⟩
  | 53 => ⟨S1x4096x1024, .f32⟩
  | 54 => ⟨S_, .f32⟩
  | 55 => ⟨S4096x1024, .f32⟩
  | 56 => ⟨S1x4096x8x128, .f32⟩
  | 57 => ⟨S1x4096x1024, .f32⟩
  | 58 => ⟨S_, .f32⟩
  | 59 => ⟨S4096x1024, .f32⟩
  | 60 => ⟨S1x4096x8x128, .f32⟩
  | 61 => ⟨S1x4096x1024, .f32⟩
  | 62 => ⟨S_, .f32⟩
  | 63 => ⟨S4096x1024, .f32⟩
  | _ => ⟨S4096x4096, .bf16⟩

abbrev hbmTy (i : Nat) : BufTy := match i / 128 with
  | 0 => hbmTy0_0 i
  | 1 => hbmTy0_1 i
  | _ => ⟨S4096x4096, .bf16⟩

abbrev bufTy : (tb : Table) → Fin (tcTables nBuf tb) → BufTy
  | .hbm, ⟨i, _⟩ => hbmTy i
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v23_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v23_2 : Ref sig .tc := ⟨.hbm, 72, rfl⟩
abbrev main_v23_0 : Ref sig .tc := ⟨.hbm, 73, rfl⟩
abbrev main_v24 : Ref sig .tc := ⟨.hbm, 74, rfl⟩
abbrev main_call1_v0 : Ref sig .tc := ⟨.hbm, 75, rfl⟩
abbrev main_call1_call0_cst : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_call0_v2 : Ref sig .tc := ⟨.hbm, 79, rfl⟩
abbrev main_call1_call0_v3 : Ref sig .tc := ⟨.hbm, 80, rfl⟩
abbrev main_call1_call0_v4 : Ref sig .tc := ⟨.hbm, 81, rfl⟩
abbrev main_call1_call0_v5 : Ref sig .tc := ⟨.hbm, 82, rfl⟩
abbrev main_call1_call0_v6 : Ref sig .tc := ⟨.hbm, 83, rfl⟩
abbrev main_call1_call0_v7 : Ref sig .tc := ⟨.hbm, 84, rfl⟩
abbrev main_call1_call0_v8 : Ref sig .tc := ⟨.hbm, 85, rfl⟩
abbrev main_call1_call0_v9 : Ref sig .tc := ⟨.hbm, 86, rfl⟩
abbrev main_call1_call0_v10 : Ref sig .tc := ⟨.hbm, 87, rfl⟩
abbrev main_call1_call0_v11 : Ref sig .tc := ⟨.hbm, 88, rfl⟩
abbrev main_call1_v1_0 : Ref sig .tc := ⟨.hbm, 89, rfl⟩
abbrev main_call1_call0_cst_0 : Ref sig .tc := ⟨.hbm, 90, rfl⟩
abbrev main_call1_call0_v13 : Ref sig .tc := ⟨.hbm, 91, rfl⟩
abbrev main_call1_call0_v14 : Ref sig .tc := ⟨.hbm, 92, rfl⟩
abbrev main_call1_call0_cst_1 : Ref sig .tc := ⟨.hbm, 93, rfl⟩
abbrev main_call1_call0_v15 : Ref sig .tc := ⟨.hbm, 94, rfl⟩
abbrev main_call1_call0_v16 : Ref sig .tc := ⟨.hbm, 95, rfl⟩
abbrev main_call1_call0_cst_2 : Ref sig .tc := ⟨.hbm, 96, rfl⟩
abbrev main_call1_call0_v17 : Ref sig .tc := ⟨.hbm, 97, rfl⟩
abbrev main_call1_call0_v18 : Ref sig .tc := ⟨.hbm, 98, rfl⟩
abbrev main_call1_call0_cst_3 : Ref sig .tc := ⟨.hbm, 99, rfl⟩
abbrev main_call1_call0_v19 : Ref sig .tc := ⟨.hbm, 100, rfl⟩
abbrev main_call1_call0_v20 : Ref sig .tc := ⟨.hbm, 101, rfl⟩
abbrev main_call1_call0_v21 : Ref sig .tc := ⟨.hbm, 102, rfl⟩
abbrev main_v25_1 : Ref sig .tc := ⟨.hbm, 103, rfl⟩
abbrev main_call1_call0_cst_4 : Ref sig .tc := ⟨.hbm, 104, rfl⟩
abbrev main_call1_call0_cst_5 : Ref sig .tc := ⟨.hbm, 105, rfl⟩
abbrev main_call1_call0_v23 : Ref sig .tc := ⟨.hbm, 106, rfl⟩
abbrev main_call1_call0_cst_6 : Ref sig .tc := ⟨.hbm, 107, rfl⟩
abbrev main_call1_call0_cst_7 : Ref sig .tc := ⟨.hbm, 108, rfl⟩
abbrev main_call1_call0_v24 : Ref sig .tc := ⟨.hbm, 109, rfl⟩
abbrev main_call1_call0_cst_8 : Ref sig .tc := ⟨.hbm, 110, rfl⟩
abbrev main_call1_call0_v25 : Ref sig .tc := ⟨.hbm, 111, rfl⟩
abbrev main_call1_call0_v26 : Ref sig .tc := ⟨.hbm, 112, rfl⟩
abbrev main_call1_call0_cst_9 : Ref sig .tc := ⟨.hbm, 113, rfl⟩
abbrev main_call1_call0_v27 : Ref sig .tc := ⟨.hbm, 114, rfl⟩
abbrev main_call1_call0_v28 : Ref sig .tc := ⟨.hbm, 115, rfl⟩
abbrev main_call1_call0_v29 : Ref sig .tc := ⟨.hbm, 116, rfl⟩
abbrev main_call1_call0_v30 : Ref sig .tc := ⟨.hbm, 117, rfl⟩
abbrev main_call1_call0_v31 : Ref sig .tc := ⟨.hbm, 118, rfl⟩
abbrev main_call1_call0_cst_10 : Ref sig .tc := ⟨.hbm, 119, rfl⟩
abbrev main_call1_call0_v32 : Ref sig .tc := ⟨.hbm, 120, rfl⟩
abbrev main_v25_2 : Ref sig .tc := ⟨.hbm, 121, rfl⟩
abbrev main_v25_0 : Ref sig .tc := ⟨.hbm, 122, rfl⟩
abbrev main_cst_0 : Ref sig .tc := ⟨.hbm, 123, rfl⟩
abbrev main_call2_v0 : Ref sig .tc := ⟨.hbm, 124, rfl⟩
abbrev main_v26_1 : Ref sig .tc := ⟨.hbm, 125, rfl⟩
abbrev main_call2_v2 : Ref sig .tc := ⟨.hbm, 126, rfl⟩
abbrev main_v26_0 : Ref sig .tc := ⟨.hbm, 127, rfl⟩
abbrev main_call2_cst : Ref sig .tc := ⟨.hbm, 128, rfl⟩
abbrev main_v26_2 : Ref sig .tc := ⟨.hbm, 129, rfl⟩
abbrev main_call3_cst : Ref sig .tc := ⟨.hbm, 130, rfl⟩
abbrev main_call3_v0 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_1 : Ref sig .tc := ⟨.hbm, 136, rfl⟩
abbrev main_call4_v0 : Ref sig .tc := ⟨.hbm, 137, rfl⟩
abbrev main_v31_1 : Ref sig .tc := ⟨.hbm, 138, rfl⟩
abbrev main_call4_v2 : Ref sig .tc := ⟨.hbm, 139, rfl⟩
abbrev main_v31_0 : Ref sig .tc := ⟨.hbm, 140, rfl⟩
abbrev main_call4_cst : Ref sig .tc := ⟨.hbm, 141, rfl⟩
abbrev main_v31_2 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_call5_cst : Ref sig .tc := ⟨.hbm, 155, rfl⟩
abbrev main_call5_v0 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_call6_cst : Ref sig .tc := ⟨.hbm, 160, rfl⟩
abbrev main_call6_v0 : Ref sig .tc := ⟨.hbm, 161, rfl⟩
abbrev main_v47 : Ref sig .tc := ⟨.hbm, 162, rfl⟩
abbrev main_v48 : Ref sig .tc := ⟨.hbm, 163, rfl⟩
abbrev main_call7_cst : Ref sig .tc := ⟨.hbm, 164, rfl⟩
abbrev main_call7_v0 : Ref sig .tc := ⟨.hbm, 165, rfl⟩
abbrev main_v49 : Ref sig .tc := ⟨.hbm, 166, rfl⟩
abbrev main_call8_v0 : Ref sig .tc := ⟨.hbm, 167, rfl⟩
abbrev main_call8_v1 : Ref sig .tc := ⟨.hbm, 168, rfl⟩
abbrev main_v50 : Ref sig .tc := ⟨.hbm, 169, rfl⟩
abbrev main_v51 : Ref sig .tc := ⟨.hbm, 170, rfl⟩
abbrev main_call9_v0 : Ref sig .tc := ⟨.hbm, 171, rfl⟩
abbrev main_call9_v1 : Ref sig .tc := ⟨.hbm, 172, rfl⟩
abbrev main_v52 : Ref sig .tc := ⟨.hbm, 173, rfl⟩
abbrev main_v53 : Ref sig .tc := ⟨.hbm, 174, rfl⟩
abbrev main_cst_2 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_cst_3 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_cst_4 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_cst_5 : Ref sig .tc := ⟨.hbm, 190, rfl⟩
abbrev main_v66 : Ref sig .tc := ⟨.hbm, 191, rfl⟩

abbrev nD : Nat := 1
abbrev τ : Topo := Topo.v7x

variable {F : FTy → Type} [FloatOps F]
-- ==== KernelDwDown.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S4096x2048 : Shape := ⟨2, ![4096, 2048]⟩
abbrev S2048x8192 : Shape := ⟨2, ![2048, 8192]⟩
abbrev S_ : Shape := ⟨0, ![]⟩
abbrev S8192x2048 : Shape := ⟨2, ![8192, 2048]⟩
abbrev S4096x8192 : Shape := ⟨2, ![4096, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .bf16⟩
  | .hbm, ⟨3, _⟩ => ⟨S4096x2048, .f32⟩
  | .hbm, ⟨4, _⟩ => ⟨S2048x8192, .f32⟩
  | .hbm, ⟨5, _⟩ => ⟨S4096x2048, .f32⟩
  | .hbm, ⟨6, _⟩ => ⟨S_, .f32⟩
  | .hbm, ⟨7, _⟩ => ⟨S8192x2048, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x2048, .f32⟩
  | .hbm, ⟨14, _⟩ => ⟨S2048x8192, .f32⟩
  | .hbm, ⟨15, _⟩ => ⟨S8192x2048, .f32⟩
  | .hbm, ⟨16, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelDu.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x8192, .f32⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDuIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S4096x2048, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .i1⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== KernelDwUp.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDh.lean ====
abbrev S4096x8192 : Shape := ⟨2, ![4096, 8192]⟩
abbrev S2048x8192 : Shape := ⟨2, ![2048, 8192]⟩
abbrev S4096x2048 : Shape := ⟨2, ![4096, 2048]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x8192, .f32⟩
  | .hbm, ⟨3, _⟩ => ⟨S2048x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUp.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDown.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelIn.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDo.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwO.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwA.lean ====
abbrev S4096x2048 : Shape := ⟨2, ![4096, 2048]⟩
abbrev S4096x4096 : Shape := ⟨2, ![4096, 4096]⟩
abbrev S2048x4096 : Shape := ⟨2, ![2048, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwAIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhA.lean ====
abbrev S4096x4096 : Shape := ⟨2, ![4096, 4096]⟩
abbrev S2048x4096 : Shape := ⟨2, ![2048, 4096]⟩
abbrev S4096x2048 : Shape := ⟨2, ![4096, 2048]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhAIdeal.lean ====
abbrev S4096x4096 : Shape := ⟨2, ![4096, 4096]⟩
abbrev S2048x4096 : Shape := ⟨2, ![2048, 4096]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S4096x4096, .f32⟩
  | .hbm, ⟨4, _⟩ => ⟨S2048x4096, .f32⟩
  | .hbm, ⟨5, _⟩ => ⟨S_, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelInB.lean ====
abbrev S4096x2048 : Shape := ⟨2, ![4096, 2048]⟩
abbrev S2048x2176 : Shape := ⟨2, ![2048, 2176]⟩
abbrev S4096x2176 : Shape := ⟨2, ![4096, 2176]⟩
abbrev S512x2048 : Shape := ⟨2, ![512, 2048]⟩
abbrev S512x2176 : Shape := ⟨2, ![512, 2176]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2176, .bf16⟩
  | .hbm, ⟨2, _⟩ => ⟨S4096x2176, .f32⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x2176, .f32⟩
  | .local _ .vmem, ⟨4, _⟩ => ⟨S512x2176, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInBIdeal.lean ====
abbrev S4096x2048 : Shape := ⟨2, ![4096, 2048]⟩
abbrev S2048x2176 : Shape := ⟨2, ![2048, 2176]⟩
abbrev S4096x2176 : Shape := ⟨2, ![4096, 2176]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2176, .bf16⟩
  | .hbm, ⟨2, _⟩ => ⟨S4096x2048, .f32⟩
  | .hbm, ⟨3, _⟩ => ⟨S2048x2176, .f32⟩
  | .hbm, ⟨4, _⟩ => ⟨S4096x2176, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwB.lean ====
abbrev S4096x2048 : Shape := ⟨2, ![4096, 2048]⟩
abbrev S4096x2176 : Shape := ⟨2, ![4096, 2176]⟩
abbrev S2048x2176 : Shape := ⟨2, ![2048, 2176]⟩
abbrev S2048x512 : Shape := ⟨2, ![2048, 512]⟩
abbrev S512x2176 : Shape := ⟨2, ![512, 2176]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2176, .bf16⟩
  | .hbm, ⟨2, _⟩ => ⟨S2048x2176, .bf16⟩
  | .local _ .vmem, ⟨0, _⟩ => ⟨S2048x512, .bf16⟩
  | .local _ .vmem, ⟨1, _⟩ => ⟨S2048x512, .bf16⟩
  | .local _ .vmem, ⟨2, _⟩ => ⟨S2048x2176, .bf16⟩
  | .local _ .vmem, ⟨3, _⟩ => ⟨S2048x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBIdeal.lean ====
abbrev S4096x2048 : Shape := ⟨2, ![4096, 2048]⟩
abbrev S4096x2176 : Shape := ⟨2, ![4096, 2176]⟩
abbrev S_ : Shape := ⟨0, ![]⟩
abbrev S2048x2176 : Shape := ⟨2, ![2048, 2176]⟩
abbrev S2176x2048 : Shape := ⟨2, ![2176, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2176, .bf16⟩
  | .hbm, ⟨2, _⟩ => ⟨S4096x2048, .f32⟩
  | .hbm, ⟨3, _⟩ => ⟨S4096x2176, .f32⟩
  | .hbm, ⟨4, _⟩ => ⟨S_, .f32⟩
  | .hbm, ⟨5, _⟩ => ⟨S2048x2176, .f32⟩
  | .hbm, ⟨6, _⟩ => ⟨S4096x2176, .f32⟩
  | .hbm, ⟨7, _⟩ => ⟨S2176x2048, .f32⟩
  | .hbm, ⟨8, _⟩ => ⟨S2048x2176, .f32⟩
  | .hbm, ⟨9, _⟩ => ⟨S2048x2176, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhB.lean ====
abbrev S4096x2176 : Shape := ⟨2, ![4096, 2176]⟩
abbrev S2048x2176 : Shape := ⟨2, ![2048, 2176]⟩
abbrev S4096x2048 : Shape := ⟨2, ![4096, 2048]⟩
abbrev S1024x2176 : Shape := ⟨2, ![1024, 2176]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2176, .bf16⟩
  | .hbm, ⟨1, _⟩ => ⟨S2048x2176, .bf16⟩
  | .hbm, ⟨2, _⟩ => ⟨S4096x2048, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .f32⟩
  | .local _ .vmem, ⟨5, _⟩ => ⟨S1024x1024, .f32⟩
  | _, _ => ⟨S4096x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhBIdeal.lean ====
abbrev S4096x2176 : Shape := ⟨2, ![4096, 2176]⟩
abbrev S2048x2176 : Shape := ⟨2, ![2048, 2176]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2176, .bf16⟩
  | .hbm, ⟨1, _⟩ => ⟨S2048x2176, .bf16⟩
  | .hbm, ⟨2, _⟩ => ⟨S4096x2176, .f32⟩
  | .hbm, ⟨3, _⟩ => ⟨S2048x2176, .f32⟩
  | .hbm, ⟨4, _⟩ => ⟨S_, .f32⟩
  | .hbm, ⟨5, _⟩ => ⟨S4096x2048, .f32⟩
  | .hbm, ⟨6, _⟩ => ⟨S4096x2176, .f32⟩
  | .hbm, ⟨7, _⟩ => ⟨S4096x2048, .f32⟩
  | _, _ => ⟨S4096x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelLat.lean ====
abbrev S4096x2048 : Shape := ⟨2, ![4096, 2048]⟩
abbrev S2048x1152 : Shape := ⟨2, ![2048, 1152]⟩
abbrev S4096x1152 : Shape := ⟨2, ![4096, 1152]⟩
abbrev S1024x2048 : Shape := ⟨2, ![1024, 2048]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceLatIdeal.lean ====
abbrev S4096x2048 : Shape := ⟨2, ![4096, 2048]⟩
abbrev S2048x1152 : Shape := ⟨2, ![2048, 1152]⟩
abbrev S4096x1152 : Shape := ⟨2, ![4096, 1152]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1152, .bf16⟩
  | .hbm, ⟨2, _⟩ => ⟨S4096x2048, .f32⟩
  | .hbm, ⟨3, _⟩ => ⟨S2048x1152, .f32⟩
  | .hbm, ⟨4, _⟩ => ⟨S4096x1152, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwLat.lean ====
abbrev S4096x2048 : Shape := ⟨2, ![4096, 2048]⟩
abbrev S4096x1152 : Shape := ⟨2, ![4096, 1152]⟩
abbrev S2048x1152 : Shape := ⟨2, ![2048, 1152]⟩
abbrev S4096x512 : Shape := ⟨2, ![4096, 512]⟩
abbrev S512x1152 : Shape := ⟨2, ![512, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S2048x1152, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S512x1152, .bf16⟩
  | .local _ .vmem, ⟨4, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwLatIdeal.lean ====
abbrev S4096x2048 : Shape := ⟨2, ![4096, 2048]⟩
abbrev S4096x1152 : Shape := ⟨2, ![4096, 1152]⟩
abbrev S_ : Shape := ⟨0, ![]⟩
abbrev S2048x1152 : Shape := ⟨2, ![2048, 1152]⟩
abbrev S1152x2048 : Shape := ⟨2, ![1152, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1152, .bf16⟩
  | .hbm, ⟨2, _⟩ => ⟨S4096x2048, .f32⟩
  | .hbm, ⟨3, _⟩ => ⟨S4096x1152, .f32⟩
  | .hbm, ⟨4, _⟩ => ⟨S_, .f32⟩
  | .hbm, ⟨5, _⟩ => ⟨S2048x1152, .f32⟩
  | .hbm, ⟨6, _⟩ => ⟨S4096x1152, .f32⟩
  | .hbm, ⟨7, _⟩ => ⟨S1152x2048, .f32⟩
  | .hbm, ⟨8, _⟩ => ⟨S2048x1152, .f32⟩
  | .hbm, ⟨9, _⟩ => ⟨S2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhLat.lean ====
abbrev S4096x1152 : Shape := ⟨2, ![4096, 1152]⟩
abbrev S2048x1152 : Shape := ⟨2, ![2048, 1152]⟩
abbrev S4096x2048 : Shape := ⟨2, ![4096, 2048]⟩
abbrev S1024x1152 : Shape := ⟨2, ![1024, 1152]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | _, _ => ⟨S4096x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhLatIdeal.lean ====
abbrev S4096x1152 : Shape := ⟨2, ![4096, 1152]⟩
abbrev S2048x1152 : Shape := ⟨2, ![2048, 1152]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1152, .bf16⟩
  | .hbm, ⟨1, _⟩ => ⟨S2048x1152, .bf16⟩
  | .hbm, ⟨2, _⟩ => ⟨S4096x1152, .f32⟩
  | .hbm, ⟨3, _⟩ => ⟨S2048x1152, .f32⟩
  | .hbm, ⟨4, _⟩ => ⟨S_, .f32⟩
  | .hbm, ⟨5, _⟩ => ⟨S4096x2048, .f32⟩
  | .hbm, ⟨6, _⟩ => ⟨S4096x1152, .f32⟩
  | .hbm, ⟨7, _⟩ => ⟨S4096x2048, .f32⟩
  | _, _ => ⟨S4096x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelHead.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceHeadIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDwHead.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .bf16⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwHeadIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S4096x4096, .f32⟩
  | .hbm, ⟨4, _⟩ => ⟨S_, .f32⟩
  | .hbm, ⟨5, _⟩ => ⟨S512x4096, .f32⟩
  | .hbm, ⟨6, _⟩ => ⟨S4096x4096, .f32⟩
  | .hbm, ⟨7, _⟩ => ⟨S4096x512, .f32⟩
  | .hbm, ⟨8, _⟩ => ⟨S512x4096, .f32⟩
  | .hbm, ⟨9, _⟩ => ⟨S512x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDcHead.lean ====
abbrev S4096x4096 : Shape := ⟨2, ![4096, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDcHeadIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x4096, .f32⟩
  | .hbm, ⟨3, _⟩ => ⟨S512x4096, .f32⟩
  | .hbm, ⟨4, _⟩ => ⟨S_, .f32⟩
  | .hbm, ⟨5, _⟩ => ⟨S4096x512, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAdam.lean ====
abbrev S8x256x2048 : Shape := ⟨3, ![8, 256, 2048]⟩
abbrev S1x256x2048 : Shape := ⟨3, ![1, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamIdeal.lean ====
abbrev S8x256x2048 : Shape := ⟨3, ![8, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUp.lean ====
abbrev S8x2048x1024 : Shape := ⟨3, ![8, 2048, 1024]⟩
abbrev S2x2048x1024 : Shape := ⟨3, ![2, 2048, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamUpIdeal.lean ====
abbrev S8x2048x1024 : Shape := ⟨3, ![8, 2048, 1024]⟩
abbrev S2x2048x1024 : Shape := ⟨3, ![2, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S8x2048x1024, .f32⟩
  | .hbm, ⟨6, _⟩ => ⟨S_, .f32⟩
  | .hbm, ⟨7, _⟩ => ⟨S2048x1024, .f32⟩
  | .hbm, ⟨8, _⟩ => ⟨S8x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== KernelAdamIn.lean ====
abbrev S8x2048x769 : Shape := ⟨3, ![8, 2048, 769]⟩
abbrev S1x2048x769 : Shape := ⟨3, ![1, 2048, 769]⟩
abbrev S8x128x769 : Shape := ⟨3, ![8, 128, 769]⟩
abbrev S1x128x769 : Shape := ⟨3, ![1, 128, 769]⟩
abbrev S128x769 : Shape := ⟨2, ![128, 769]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x769, .bf16⟩
  | .hbm, ⟨1, _⟩ => ⟨S1x2048x769, .f32⟩
  | .hbm, ⟨2, _⟩ => ⟨S1x2048x769, .f32⟩
  | .hbm, ⟨3, _⟩ => ⟨S1x2048x769, .f32⟩
  | .hbm, ⟨4, _⟩ => ⟨S1x2048x769, .f32⟩
  | .hbm, ⟨5, _⟩ => ⟨S1x2048x769, .f32⟩
  | .hbm, ⟨6, _⟩ => ⟨S1x2048x769, .f32⟩
  | .hbm, ⟨7, _⟩ => ⟨S1x2048x769, .f32⟩
  | .local _ .vmem, ⟨0, _⟩ => ⟨S8x128x769, .bf16⟩
  | .local _ .vmem, ⟨1, _⟩ => ⟨S8x128x769, .bf16⟩
  | .local _ .vmem, ⟨2, _⟩ => ⟨S1x128x769, .f32⟩
  | .local _ .vmem, ⟨3, _⟩ => ⟨S1x128x769, .f32⟩
  | .local _ .vmem, ⟨4, _⟩ => ⟨S1x128x769, .f32⟩
  | .local _ .vmem, ⟨5, _⟩ => ⟨S1x128x769, .f32⟩
  | .local _ .vmem, ⟨6, _⟩ => ⟨S1x128x769, .f32⟩
  | .local _ .vmem, ⟨7, _⟩ => ⟨S1x128x769, .f32⟩
  | .local _ .vmem, ⟨8, _⟩ => ⟨S1x128x769, .f32⟩
  | .local _ .vmem, ⟨9, _⟩ => ⟨S1x128x769, .f32⟩
  | .local _ .vmem, ⟨10, _⟩ => ⟨S1x128x769, .f32⟩
  | .local _ .vmem, ⟨11, _⟩ => ⟨S1x128x769, .f32⟩
  | .local _ .vmem, ⟨12, _⟩ => ⟨S1x128x769, .f32⟩
  | .local _ .vmem, ⟨13, _⟩ => ⟨S1x128x769, .f32⟩
  | .local _ .vmem, ⟨14, _⟩ => ⟨S1x128x769, .f32⟩
  | .local _ .vmem, ⟨15, _⟩ => ⟨S1x128x769, .f32⟩
  | _, _ => ⟨S8x2048x769, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x769 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x769 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x769 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x769 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x769 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x769 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x769 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x769 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamInIdeal.lean ====
abbrev S8x2048x769 : Shape := ⟨3, ![8, 2048, 769]⟩
abbrev S1x2048x769 : Shape := ⟨3, ![1, 2048, 769]⟩
abbrev S_ : Shape := ⟨0, ![]⟩
abbrev S2048x769 : Shape := ⟨2, ![2048, 769]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x769, .bf16⟩
  | .hbm, ⟨1, _⟩ => ⟨S1x2048x769, .f32⟩
  | .hbm, ⟨2, _⟩ => ⟨S1x2048x769, .f32⟩
  | .hbm, ⟨3, _⟩ => ⟨S1x2048x769, .f32⟩
  | .hbm, ⟨4, _⟩ => ⟨S8x2048x769, .f32⟩
  | .hbm, ⟨5, _⟩ => ⟨S_, .f32⟩
  | .hbm, ⟨6, _⟩ => ⟨S2048x769, .f32⟩
  | .hbm, ⟨7, _⟩ => ⟨S1x2048x769, .f32⟩
  | .hbm, ⟨8, _⟩ => ⟨S_, .f32⟩
  | .hbm, ⟨9, _⟩ => ⟨S1x2048x769, .f32⟩
  | .hbm, ⟨10, _⟩ => ⟨S1x2048x769, .f32⟩
  | .hbm, ⟨11, _⟩ => ⟨S_, .f32⟩
  | .hbm, ⟨12, _⟩ => ⟨S1x2048x769, .f32⟩
  | .hbm, ⟨13, _⟩ => ⟨S1x2048x769, .f32⟩
  | .hbm, ⟨14, _⟩ => ⟨S1x2048x769, .f32⟩
  | .hbm, ⟨15, _⟩ => ⟨S_, .f32⟩
  | .hbm, ⟨16, _⟩ => ⟨S1x2048x769, .f32⟩
  | .hbm, ⟨17, _⟩ => ⟨S1x2048x769, .f32⟩
  | .hbm, ⟨18, _⟩ => ⟨S1x2048x769, .f32⟩
  | .hbm, ⟨19, _⟩ => ⟨S_, .f32⟩
  | .hbm, ⟨20, _⟩ => ⟨S1x2048x769, .f32⟩
  | .hbm, ⟨21, _⟩ => ⟨S1x2048x769, .f32⟩
  | .hbm, ⟨22, _⟩ => ⟨S1x2048x769, .f32⟩
  | .hbm, ⟨23, _⟩ => ⟨S_, .f32⟩
  | .hbm, ⟨24, _⟩ => ⟨S1x2048x769, .f32⟩
  | .hbm, ⟨25, _⟩ => ⟨S1x2048x769, .f32⟩
  | .hbm, ⟨26, _⟩ => ⟨S_, .f32⟩
  | .hbm, ⟨27, _⟩ => ⟨S1x2048x769, .f32⟩
  | .hbm, ⟨28, _⟩ => ⟨S1x2048x769, .f32⟩
  | .hbm, ⟨29, _⟩ => ⟨S1x2048x769, .f32⟩
  | .hbm, ⟨30, _⟩ => ⟨S_, .f32⟩
  | .hbm, ⟨31, _⟩ => ⟨S1x2048x769, .f32⟩
  | .hbm, ⟨32, _⟩ => ⟨S1x2048x769, .f32⟩
  | .hbm, ⟨33, _⟩ => ⟨S1x2048x769, .f32⟩
  | .hbm, ⟨34, _⟩ => ⟨S_, .f32⟩
  | .hbm, ⟨35, _⟩ => ⟨S1x2048x769, .f32⟩
  | .hbm, ⟨36, _⟩ => ⟨S1x2048x769, .f32⟩
  | .hbm, ⟨37, _⟩ => ⟨S1x2048x769, .f32⟩
  | .hbm, ⟨38, _⟩ => ⟨S_, .f32⟩
  | .hbm, ⟨39, _⟩ => ⟨S1x2048x769, .f32⟩
  | .hbm, ⟨40, _⟩ => ⟨S1x2048x769, .f32⟩
  | _, _ => ⟨S8x2048x769, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamLat.lean ====
abbrev S8x256x1088 : Shape := ⟨3, ![8, 256, 1088]⟩
abbrev S1x256x1088 : Shape := ⟨3, ![1, 256, 1088]⟩
abbrev S8x64x1088 : Shape := ⟨3, ![8, 64, 1088]⟩
abbrev S1x64x1088 : Shape := ⟨3, ![1, 64, 1088]⟩
abbrev S64x1088 : Shape := ⟨2, ![64, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1088, .bf16⟩
  | .hbm, ⟨1, _⟩ => ⟨S1x256x1088, .f32⟩
  | .hbm, ⟨2, _⟩ => ⟨S1x256x1088, .f32⟩
  | .hbm, ⟨3, _⟩ => ⟨S1x256x1088, .f32⟩
  | .hbm, ⟨4, _⟩ => ⟨S1x256x1088, .f32⟩
  | .hbm, ⟨5, _⟩ => ⟨S1x256x1088, .f32⟩
  | .hbm, ⟨6, _⟩ => ⟨S1x256x1088, .f32⟩
  | .hbm, ⟨7, _⟩ => ⟨S1x256x1088, .f32⟩
  | .local _ .vmem, ⟨0, _⟩ => ⟨S8x64x1088, .bf16⟩
  | .local _ .vmem, ⟨1, _⟩ => ⟨S8x64x1088, .bf16⟩
  | .local _ .vmem, ⟨2, _⟩ => ⟨S1x64x1088, .f32⟩
  | .local _ .vmem, ⟨3, _⟩ => ⟨S1x64x1088, .f32⟩
  | .local _ .vmem, ⟨4, _⟩ => ⟨S1x64x1088, .f32⟩
  | .local _ .vmem, ⟨5, _⟩ => ⟨S1x64x1088, .f32⟩
  | .local _ .vmem, ⟨6, _⟩ => ⟨S1x64x1088, .f32⟩
  | .local _ .vmem, ⟨7, _⟩ => ⟨S1x64x1088, .f32⟩
  | .local _ .vmem, ⟨8, _⟩ => ⟨S1x64x1088, .f32⟩
  | .local _ .vmem, ⟨9, _⟩ => ⟨S1x64x1088, .f32⟩
  | .local _ .vmem, ⟨10, _⟩ => ⟨S1x64x1088, .f32⟩
  | .local _ .vmem, ⟨11, _⟩ => ⟨S1x64x1088, .f32⟩
  | .local _ .vmem, ⟨12, _⟩ => ⟨S1x64x1088, .f32⟩
  | .local _ .vmem, ⟨13, _⟩ => ⟨S1x64x1088, .f32⟩
  | .local _ .vmem, ⟨14, _⟩ => ⟨S1x64x1088, .f32⟩
  | .local _ .vmem, ⟨15, _⟩ => ⟨S1x64x1088, .f32⟩
  | _, _ => ⟨S8x256x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamLatIdeal.lean ====
abbrev S8x256x1088 : Shape := ⟨3, ![8, 256, 1088]⟩
abbrev S1x256x1088 : Shape := ⟨3, ![1, 256, 1088]⟩
abbrev S_ : Shape := ⟨0, ![]⟩
abbrev S256x1088 : Shape := ⟨2, ![256, 1088]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1088, .bf16⟩
  | .hbm, ⟨1, _⟩ => ⟨S1x256x1088, .f32⟩
  | .hbm, ⟨2, _⟩ => ⟨S1x256x1088, .f32⟩
  | .hbm, ⟨3, _⟩ => ⟨S1x256x1088, .f32⟩
  | .hbm, ⟨4, _⟩ => ⟨S8x256x1088, .f32⟩
  | .hbm, ⟨5, _⟩ => ⟨S_, .f32⟩
  | .hbm, ⟨6, _⟩ => ⟨S256x1088, .f32⟩
  | .hbm, ⟨7, _⟩ => ⟨S1x256x1088, .f32⟩
  | .hbm, ⟨8, _⟩ => ⟨S_, .f32⟩
  | .hbm, ⟨9, _⟩ => ⟨S1x256x1088, .f32⟩
  | .hbm, ⟨10, _⟩ => ⟨S1x256x1088, .f32⟩
  | .hbm, ⟨11, _⟩ => ⟨S_, .f32⟩
  | .hbm, ⟨12, _⟩ => ⟨S1x256x1088, .f32⟩
  | .hbm, ⟨13, _⟩ => ⟨S1x256x1088, .f32⟩
  | .hbm, ⟨14, _⟩ => ⟨S1x256x1088, .f32⟩
  | .hbm, ⟨15, _⟩ => ⟨S_, .f32⟩
  | .hbm, ⟨16, _⟩ => ⟨S1x256x1088, .f32⟩
  | .hbm, ⟨17, _⟩ => ⟨S1x256x1088, .f32⟩
  | .hbm, ⟨18, _⟩ => ⟨S1x256x1088, .f32⟩
  | .hbm, ⟨19, _⟩ => ⟨S_, .f32⟩
  | .hbm, ⟨20, _⟩ => ⟨S1x256x1088, .f32⟩
  | .hbm, ⟨21, _⟩ => ⟨S1x256x1088, .f32⟩
  | .hbm, ⟨22, _⟩ => ⟨S1x256x1088, .f32⟩
  | .hbm, ⟨23, _⟩ => ⟨S_, .f32⟩
  | .hbm, ⟨24, _⟩ => ⟨S1x256x1088, .f32⟩
  | .hbm, ⟨25, _⟩ => ⟨S1x256x1088, .f32⟩
  | .hbm, ⟨26, _⟩ => ⟨S_, .f32⟩
  | .hbm, ⟨27, _⟩ => ⟨S1x256x1088, .f32⟩
  | .hbm, ⟨28, _⟩ => ⟨S1x256x1088, .f32⟩
  | .hbm, ⟨29, _⟩ => ⟨S1x256x1088, .f32⟩
  | .hbm, ⟨30, _⟩ => ⟨S_, .f32⟩
  | .hbm, ⟨31, _⟩ => ⟨S1x256x1088, .f32⟩
  | .hbm, ⟨32, _⟩ => ⟨S1x256x1088, .f32⟩
  | .hbm, ⟨33, _⟩ => ⟨S1x256x1088, .f32⟩
  | .hbm, ⟨34, _⟩ => ⟨S_, .f32⟩
  | .hbm, ⟨35, _⟩ => ⟨S1x256x1088, .f32⟩
  | .hbm, ⟨36, _⟩ => ⟨S1x256x1088, .f32⟩
  | .hbm, ⟨37, _⟩ => ⟨S1x256x1088, .f32⟩
  | .hbm, ⟨38, _⟩ => ⟨S_, .f32⟩
  | .hbm, ⟨39, _⟩ => ⟨S1x256x1088, .f32⟩
  | .hbm, ⟨40, _⟩ => ⟨S1x256x1088, .f32⟩
  | _, _ => ⟨S8x256x1088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUq.lean ====
abbrev S8x512x384 : Shape := ⟨3, ![8, 512, 384]⟩
abbrev S1x512x384 : Shape := ⟨3, ![1, 512, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x512x384, .bf16⟩
  | .hbm, ⟨1, _⟩ => ⟨S1x512x384, .f32⟩
  | .hbm, ⟨2, _⟩ => ⟨S1x512x384, .f32⟩
  | .hbm, ⟨3, _⟩ => ⟨S1x512x384, .f32⟩
  | .hbm, ⟨4, _⟩ => ⟨S1x512x384, .f32⟩
  | .hbm, ⟨5, _⟩ => ⟨S1x512x384, .f32⟩
  | .hbm, ⟨6, _⟩ => ⟨S1x512x384, .f32⟩
  | .hbm, ⟨7, _⟩ => ⟨S1x512x384, .f32⟩
  | .local _ .vmem, ⟨0, _⟩ => ⟨S8x256x384, .bf16⟩
  | .local _ .vmem, ⟨1, _⟩ => ⟨S8x256x384, .bf16⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | _, _ => ⟨S8x512x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamUqIdeal.lean ====
abbrev S8x512x384 : Shape := ⟨3, ![8, 512, 384]⟩
abbrev S1x512x384 : Shape := ⟨3, ![1, 512, 384]⟩
abbrev S_ : Shape := ⟨0, ![]⟩
abbrev S512x384 : Shape := ⟨2, ![512, 384]⟩

abbrev nBuf : Space → Nat
  | .hbm => 41
  | .vmem => 0
  | .smem => 0
  | _ => 0

abbrev bufTy : (tb : Table) → Fin (tcTables nBuf tb) → BufTy
  | .hbm, ⟨0, _⟩ => ⟨S8x512x384, .bf16⟩
  | .hbm, ⟨1, _⟩ => ⟨S1x512x384, .f32⟩
  | .hbm, ⟨2, _⟩ => ⟨S1x512x384, .f32⟩
  | .hbm, ⟨3, _⟩ => ⟨S1x512x384, .f32⟩
  | .hbm, ⟨4, _⟩ => ⟨S8x512x384, .f32⟩
  | .hbm, ⟨5, _⟩ => ⟨S_, .f32⟩
  | .hbm, ⟨6, _⟩ => ⟨S512x384, .f32⟩
  | .hbm, ⟨7, _⟩ => ⟨S1x512x384, .f32⟩
  | .hbm, ⟨8, _⟩ => ⟨S_, .f32⟩
  | .hbm, ⟨9, _⟩ => ⟨S1x512x384, .f32⟩
  | .hbm, ⟨10, _⟩ => ⟨S1x512x384, .f32⟩
  | .hbm, ⟨11, _⟩ => ⟨S_, .f32⟩
  | .hbm, ⟨12, _⟩ => ⟨S1x512x384, .f32⟩
  | .hbm, ⟨13, _⟩ => ⟨S1x512x384, .f32⟩
  | .hbm, ⟨14, _⟩ => ⟨S1x512x384, .f32⟩
  | .hbm, ⟨15, _⟩ => ⟨S_, .f32⟩
  | .hbm, ⟨16, _⟩ => ⟨S1x512x384, .f32⟩
  | .hbm, ⟨17, _⟩ => ⟨S1x512x384, .f32⟩
  | .hbm, ⟨18, _⟩ => ⟨S1x512x384, .f32⟩
  | .hbm, ⟨19, _⟩ => ⟨S_, .f32⟩
  | .hbm, ⟨20, _⟩ => ⟨S1x512x384, .f32⟩
  | .hbm, ⟨21, _⟩ => ⟨S1x512x384, .f32⟩
  | .hbm, ⟨22, _⟩ => ⟨S1x512x384, .f32⟩
  | .hbm, ⟨23, _⟩ => ⟨S_, .f32⟩
  | .hbm, ⟨24, _⟩ => ⟨S1x512x384, .f32⟩
  | .hbm, ⟨25, _⟩ => ⟨S1x512x384, .f32⟩
  | .hbm, ⟨26, _⟩ => ⟨S_, .f32⟩
  | .hbm, ⟨27, _⟩ => ⟨S1x512x384, .f32⟩
  | .hbm, ⟨28, _⟩ => ⟨S1x512x384, .f32⟩
  | .hbm, ⟨29, _⟩ => ⟨S1x512x384, .f32⟩
  | .hbm, ⟨30, _⟩ => ⟨S_, .f32⟩
  | .hbm, ⟨31, _⟩ => ⟨S1x512x384, .f32⟩
  | .hbm, ⟨32, _⟩ => ⟨S1x512x384, .f32⟩
  | .hbm, ⟨33, _⟩ => ⟨S1x512x384, .f32⟩
  | .hbm, ⟨34, _⟩ => ⟨S_, .f32⟩
  | .hbm, ⟨35, _⟩ => ⟨S1x512x384, .f32⟩
  | .hbm, ⟨36, _⟩ => ⟨S1x512x384, .f32⟩
  | .hbm, ⟨37, _⟩ => ⟨S1x512x384, .f32⟩
  | .hbm, ⟨38, _⟩ => ⟨S_, .f32⟩
  | .hbm, ⟨39, _⟩ => ⟨S1x512x384, .f32⟩
  | .hbm, ⟨40, _⟩ => ⟨S1x512x384, .f32⟩
  | _, _ => ⟨S8x512x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUkv.lean ====
abbrev S8x512x512 : Shape := ⟨3, ![8, 512, 512]⟩
abbrev S1x512x512 : Shape := ⟨3, ![1, 512, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x512x512, .bf16⟩
  | .hbm, ⟨1, _⟩ => ⟨S1x512x512, .f32⟩
  | .hbm, ⟨2, _⟩ => ⟨S1x512x512, .f32⟩
  | .hbm, ⟨3, _⟩ => ⟨S1x512x512, .f32⟩
  | .hbm, ⟨4, _⟩ => ⟨S1x512x512, .f32⟩
  | .hbm, ⟨5, _⟩ => ⟨S1x512x512, .f32⟩
  | .hbm, ⟨6, _⟩ => ⟨S1x512x512, .f32⟩
  | .hbm, ⟨7, _⟩ => ⟨S1x512x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamUkvIdeal.lean ====
abbrev S8x512x512 : Shape := ⟨3, ![8, 512, 512]⟩
abbrev S1x512x512 : Shape := ⟨3, ![1, 512, 512]⟩
abbrev S_ : Shape := ⟨0, ![]⟩
abbrev S512x512 : Shape := ⟨2, ![512, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S1x512x512, .f32⟩
  | .hbm, ⟨2, _⟩ => ⟨S1x512x512, .f32⟩
  | .hbm, ⟨3, _⟩ => ⟨S1x512x512, .f32⟩
  | .hbm, ⟨4, _⟩ => ⟨S8x512x512, .f32⟩
  | .hbm, ⟨5, _⟩ => ⟨S_, .f32⟩
  | .hbm, ⟨6, _⟩ => ⟨S512x512, .f32⟩
  | .hbm, ⟨7, _⟩ => ⟨S1x512x512, .f32⟩
  | .hbm, ⟨8, _⟩ => ⟨S_, .f32⟩
  | .hbm, ⟨9, _⟩ => ⟨S1x512x512, .f32⟩
  | .hbm, ⟨10, _⟩ => ⟨S1x512x512, .f32⟩
  | .hbm, ⟨11, _⟩ => ⟨S_, .f32⟩
  | .hbm, ⟨12, _⟩ => ⟨S1x512x512, .f32⟩
  | .hbm, ⟨13, _⟩ => ⟨S1x512x512, .f32⟩
  | .hbm, ⟨14, _⟩ => ⟨S1x512x512, .f32⟩
  | .hbm, ⟨15, _⟩ => ⟨S_, .f32⟩
  | .hbm, ⟨16, _⟩ => ⟨S1x512x512, .f32⟩
  | .hbm, ⟨17, _⟩ => ⟨S1x512x512, .f32⟩
  | .hbm, ⟨18, _⟩ => ⟨S1x512x512, .f32⟩
  | .hbm, ⟨19, _⟩ => ⟨S_, .f32⟩
  | .hbm, ⟨20, _⟩ => ⟨S1x512x512, .f32⟩
  | .hbm, ⟨21, _⟩ => ⟨S1x512x512, .f32⟩
  | .hbm, ⟨22, _⟩ => ⟨S1x512x512, .f32⟩
  | .hbm, ⟨23, _⟩ => ⟨S_, .f32⟩
  | .hbm, ⟨24, _⟩ => ⟨S1x512x512, .f32⟩
  | .hbm, ⟨25, _⟩ => ⟨S1x512x512, .f32⟩
  | .hbm, ⟨26, _⟩ => ⟨S_, .f32⟩
  | .hbm, ⟨27, _⟩ => ⟨S1x512x512, .f32⟩
  | .hbm, ⟨28, _⟩ => ⟨S1x512x512, .f32⟩
  | .hbm, ⟨29, _⟩ => ⟨S1x512x512, .f32⟩
  | .hbm, ⟨30, _⟩ => ⟨S_, .f32⟩
  | .hbm, ⟨31, _⟩ => ⟨S1x512x512, .f32⟩
  | .hbm, ⟨32, _⟩ => ⟨S1x512x512, .f32⟩
  | .hbm, ⟨33, _⟩ => ⟨S1x512x512, .f32⟩
  | .hbm, ⟨34, _⟩ => ⟨S_, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S_, .f32⟩
  | .hbm, ⟨39, _⟩ => ⟨S1x512x512, .f32⟩
  | .hbm, ⟨40, _⟩ => ⟨S1x512x512, .f32⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamDown.lean ====
abbrev S8x1024x2048 : Shape := ⟨3, ![8, 1024, 2048]⟩
abbrev S2x1024x2048 : Shape := ⟨3, ![2, 1024, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c15_i32 : BitVec 32 := 15#32
  let v2 : BitVec 32 := Scalar.select v1 c0_i32_1 c15_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamDownIdeal.lean ====
abbrev S8x1024x2048 : Shape := ⟨3, ![8, 1024, 2048]⟩
abbrev S2x1024x2048 : Shape := ⟨3, ![2, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8x1024x2048, .f32⟩
  | .hbm, ⟨6, _⟩ => ⟨S_, .f32⟩
  | .hbm, ⟨7, _⟩ => ⟨S1024x2048, .f32⟩
  | .hbm, ⟨8, _⟩ => ⟨S8x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S2x1024x2048, .f32⟩
  | .hbm, ⟨36, _⟩ => ⟨S_, .f32⟩
  | .hbm, ⟨37, _⟩ => ⟨S2x1024x2048, .f32⟩
  | .hbm, ⟨38, _⟩ => ⟨S2x1024x2048, .f32⟩
  | .hbm, ⟨39, _⟩ => ⟨S2x1024x2048, .f32⟩
  | .hbm, ⟨40, _⟩ => ⟨S_, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x1024x2048, .f32⟩
  | .hbm, ⟨46, _⟩ => ⟨S2x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Rows.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.WholeRead

@[expose] public section

set_option maxRecDepth 16384

noncomputable section

namespace Cert.Stick

open Idealize.ShloMosaic

/-! ## Reading and replacing a rectangle of an array -/

/-- The part of the array `x` under the rectangle `r`. -/
def getR {α : Type} {s : Shape} (r : Rect s) (x : s.Idx → α) : r.shape.Idx → α := fun z => x (r.emb z)

open Classical in
/-- The array `x` with the part under the rectangle `r` replaced by `w`. -/
def putR {α : Type} {s : Shape} (r : Rect s) (w : r.shape.Idx → α) (x : s.Idx → α) : s.Idx → α :=
  fun y => if h : ∃ z, r.emb z = y then w h.choose else x y

theorem putR_emb {α : Type} {s : Shape} (r : Rect s) (w : r.shape.Idx → α) (x : s.Idx → α) (z : r.shape.Idx) :
    putR r w x (r.emb z) = w z := by
  unfold putR
  have h : ∃ z', r.emb z' = r.emb z := ⟨z, rfl⟩
  rw [dif_pos h, r.emb.injective h.choose_spec]

theorem putR_miss {α : Type} {s : Shape} (r : Rect s) (w : r.shape.Idx → α) (x : s.Idx → α) (y : s.Idx)
    (h : ¬ ∃ z, r.emb z = y) : putR r w x y = x y := by
  unfold putR
  rw [dif_neg h]

section
variable {sig : RefSig} {κ : Kind} {sp : Space} {s : Shape} {e : EltTy} {Val : EltTy → Type}

/-- What a buffer reads after one more write of a list. -/
theorem read_writes_cons_put (v : View sig κ sp s e) (f : v.ty.Contents Val) (r : Rect s) (w : r.shape.Idx → Val e)
    (L : List (View.Piece Val s e)) :
    v.read Val (v.writes Val f (⟨r, w⟩ :: L)) = putR r w (v.read Val (v.writes Val f L)) := by
  funext y
  by_cases h : ∃ z, r.emb z = y
  · obtain ⟨z, rfl⟩ := h
    rw [putR_emb, View.read_writes_cons_emb]
  · rw [putR_miss _ _ _ _ h, View.read_writes_cons_miss]
    rintro hy
    obtain ⟨z, hz⟩ := r.exists_idx_of_mem hy
    exact h ⟨z, hz⟩

/-- The same for one write. -/
theorem read_write_put (v : View sig κ sp s e) (f : v.ty.Contents Val) (r : Rect s) (w : r.shape.Idx → Val e) :
    v.read Val ((v.slice r).write Val f w Finset.univ) = putR r w (v.read Val f) :=
  read_writes_cons_put v f r w []

/-- Reading contents chosen by a condition. -/
theorem read_dite (v : View sig κ sp s e) (p : Prop) [Decidable p] (f : p → v.ty.Contents Val) (g : ¬ p → v.ty.Contents Val) :
    v.read Val (if h : p then f h else g h) = if h : p then v.read Val (f h) else v.read Val (g h) := by
  split <;> rfl

/-- A load of a rectangle takes that part of what the buffer reads. -/
theorem readAt_get (v : View sig κ sp s e) (f : v.ty.Contents Val) (r : Rect s) :
    v.readAt Val r.toLoadRect f = getR r (v.read Val f) := rfl
end

end Cert.Stick

end
-- ==== Proof.Trip.lean ====
module

public import proofs.«01_k».proof.Proof.Rows
public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## One step of the loop over key blocks -/

/-- What the loop carries: the sum of the log terms right of the block, the sum of the weighted
    gradient terms right of it, the gradient of the queries so far, the scores of the block, and the
    two factors kept from the block before (of the gradients of keys and of values). -/
abbrev Carry (F : FTy → Type) : Type :=
  FVec F S512x1 .f32 × FVec F S512x1 .f32 × FVec F S512x128 .f32 × FVec F S512x256 .f32 × FVec F S512x256 .bf16 × FVec F S512x256 .bf16

/-- The whole state: what the loop carries, and the gradients of keys and of values. -/
abbrev St (F : FTy → Type) : Type := Carry F × Vec F S4096x128 .f32 × Vec F S4096x128 .f32

abbrev r5 (i : grid0.Coords) (k : Fin (k0_t1_loop i).trips) : Rect S128x4096 :=
  Rect.unit (s := S128x4096) (k0_off5 i k) S128x256.size (k0_off5_inb i k)
abbrev r6 (i : grid0.Coords) (k : Fin (k0_t1_loop i).trips) : Rect S128x4096 :=
  Rect.unit (s := S128x4096) (k0_off6 i k) S128x256.size (k0_off6_inb i k)
abbrev r7 (i : grid0.Coords) (k : Fin (k0_t1_loop i).trips) : Rect S4096x128 :=
  Rect.unit (s := S4096x128) (k0_off7 i k) S256x128.size (k0_off7_inb i k)

/-- One step, as a function of the state. -/
def tripSt (i : grid0.Coords) (v3 v4 : Vec F S512x128 .bf16) (v10 : FVec F S512x1 .f32) (v61 v84 : FVec F S512x256 .bf16)
    (x3 : Vec F S4096x128 .bf16) (x4 x5 : Vec F S128x4096 .bf16) (k : Fin (k0_t1_loop i).trips) (S : St F) : St F :=
  ((k0_pay12 S.1.1 S.1.2.2.2.1,
    k0_pay13 v61 S.1.1 S.1.2.1 S.1.2.2.2.1 (k0_pay2 v4 (getR (r6 i k) x5)),
    k0_pay5 S.1.2.2.1 S.1.2.2.2.2.1 (getR (r7 i k) x3) (constant S512x128 .f32 0x00000000#32),
    k0_pay1 v3 (getR (r5 i k) x4),
    k0_pay77 (k0_pay11 v10 v61 v84 S.1.1 S.1.2.1 S.1.2.2.2.1 (k0_pay2 v4 (getR (r6 i k) x5))) (k0_pay14 (F := F)),
    k0_pay78 (k0_pay9 v61 S.1.1 S.1.2.2.2.1)),
   putR (r7 i k) (k0_pay3 v3 S.1.2.2.2.2.1 (getR (r7 i k) S.2.1)) S.2.1,
   putR (r7 i k) (k0_pay4 v4 S.1.2.2.2.2.2 (getR (r7 i k) S.2.2)) S.2.2)

set_option maxHeartbeats 2000000 in
theorem trip_run (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (v3 : Vec F S512x128 .bf16) (v4 : Vec F S512x128 .bf16) (v10 : FVec F S512x1 .f32) (v36 : BitVec 32) (v61 v84 : FVec F S512x256 .bf16)
    (x3 : Vec F S4096x128 .bf16) (x4 x5 : Vec F S128x4096 .bf16) (k : Fin (k0_t1_loop i).trips) (E : Set ℕ) (S : St F) :
    (iprop((arg3.view.loc (c : Thread nD τ) ↦[arg3.view.set]{fullShare} harg3.unread x3)
      ∗ (arg4.view.loc (c : Thread nD τ) ↦[arg4.view.set]{fullShare} harg4.unread x4)
      ∗ (arg5.view.loc (c : Thread nD τ) ↦[arg5.view.set]{fullShare} harg5.unread x5)
      ∗ (arg9.view.loc (c : Thread nD τ) ↦[arg9.view.set]{fullShare} harg9.unread S.2.1)
      ∗ (arg10.view.loc (c : Thread nD τ) ↦[arg10.view.set]{fullShare} harg10.unread S.2.2)) : sProp 𝕄)
    ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 v3 v4 v10 v36 v61 v84 k S.1)
        (fun yld => iprop((arg3.view.loc (c : Thread nD τ) ↦[arg3.view.set]{fullShare} harg3.unread x3)
      ∗ (arg4.view.loc (c : Thread nD τ) ↦[arg4.view.set]{fullShare} harg4.unread x4)
      ∗ (arg5.view.loc (c : Thread nD τ) ↦[arg5.view.set]{fullShare} harg5.unread x5)
      ∗ (∃ f, (arg9.view.loc (c : Thread nD τ) ↦[arg9.view.set]{fullShare} f)
          ∗ ⌜f = harg9.unread (tripSt i v3 v4 v10 v61 v84 x3 x4 x5 k S).2.1⌝)
      ∗ (∃ f, (arg10.view.loc (c : Thread nD τ) ↦[arg10.view.set]{fullShare} f)
          ∗ ⌜f = harg10.unread (tripSt i v3 v4 v10 v61 v84 x3 x4 x5 k S).2.2⌝)
      ∗ ⌜yld = (tripSt i v3 v4 v10 v61 v84 x3 x4 x5 k S).1⌝)) := by
  obtain ⟨⟨c0, gs, dq, raw, dz, w⟩, D9, D10⟩ := S
  have e3 : getR (r7 i k) x3 = arg3.view.readAt (Elt F) (r7 i k).toLoadRect (harg3.unread x3) := by
    rw [readAt_get, harg3.read_unread]
  have e4 : getR (r5 i k) x4 = arg4.view.readAt (Elt F) (r5 i k).toLoadRect (harg4.unread x4) := by
    rw [readAt_get, harg4.read_unread]
  have e5 : getR (r6 i k) x5 = arg5.view.readAt (Elt F) (r6 i k).toLoadRect (harg5.unread x5) := by
    rw [readAt_get, harg5.read_unread]
  have e9 : getR (r7 i k) D9 = arg9.view.readAt (Elt F) (r7 i k).toLoadRect (harg9.unread D9) := by
    rw [readAt_get, harg9.read_unread]
  have e10 : getR (r7 i k) D10 = arg10.view.readAt (Elt F) (r7 i k).toLoadRect (harg10.unread D10) := by
    rw [readAt_get, harg10.read_unread]
  unfold k0_t1_body
  iintro ⟨H3, H4, H5, H9, H10⟩
  sl_exec
  sl_step
  isplitl [H3]; · iexact H3
  isplitl [H4]; · iexact H4
  isplitl [H5]; · iexact H5
  isplitl [H9]
  · iexists _; isplitl [H9]; · iexact H9
    ipureintro
    apply harg9.eq_unread
    rw [read_writes_cons_put]
    simp only [View.writes_nil, harg9.read_unread, tripSt]
    rw [e9]
    rfl
  isplitl [H10]
  · iexists _; isplitl [H10]; · iexact H10
    ipureintro
    apply harg10.eq_unread
    rw [read_writes_cons_put]
    simp only [View.writes_nil, harg10.read_unread, tripSt]
    rw [e10]
    rfl
  ipureintro
  simp only [tripSt]
  rw [e3, e4, e5]
  rfl

end Cert.Stick

end
-- ==== Proof.BodyState.lean ====
module

public import proofs.«01_k».proof.Proof.Trip
public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.LoopRemainder

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The loop over key blocks -/

/-- The state before step `k` of the loop, from the state `S` it is entered with. -/
def loopSt (i : grid0.Coords) (v3 v4 : Vec F S512x128 .bf16) (v10 : FVec F S512x1 .f32) (v61 v84 : FVec F S512x256 .bf16)
    (x3 : Vec F S4096x128 .bf16) (x4 x5 : Vec F S128x4096 .bf16) (S : St F) : ℕ → St F
  | 0 => S
  | k + 1 => if h : k < (k0_t1_loop i).trips then tripSt i v3 v4 v10 v61 v84 x3 x4 x5 ⟨k, h⟩ (loopSt i v3 v4 v10 v61 v84 x3 x4 x5 S k)
      else loopSt i v3 v4 v10 v61 v84 x3 x4 x5 S k

theorem loopSt_succ (i : grid0.Coords) (v3 v4 : Vec F S512x128 .bf16) (v10 : FVec F S512x1 .f32) (v61 v84 : FVec F S512x256 .bf16)
    (x3 : Vec F S4096x128 .bf16) (x4 x5 : Vec F S128x4096 .bf16) (S : St F) (k : Fin (k0_t1_loop i).trips) :
    loopSt i v3 v4 v10 v61 v84 x3 x4 x5 S (k.val + 1)
      = tripSt i v3 v4 v10 v61 v84 x3 x4 x5 k (loopSt i v3 v4 v10 v61 v84 x3 x4 x5 S k.val) := by
  rw [loopSt.eq_2]; exact dif_pos k.isLt

/-- The raw contents of a whole buffer before step `k`: those it is entered with, then those that read the state. -/
def rawAt {s : Shape} {e : EltTy} {a : Memref sig .tc .vmem s e} (ha : a.IsWhole)
    (G : BufTy.Contents (Elt F) a.view.ty) (x : ℕ → Vec F s e) : ℕ → BufTy.Contents (Elt F) a.view.ty
  | 0 => G
  | k + 1 => ha.unread (x (k + 1))

theorem rawAt_eq {s : Shape} {e : EltTy} {a : Memref sig .tc .vmem s e} (ha : a.IsWhole)
    (G : BufTy.Contents (Elt F) a.view.ty) (x : ℕ → Vec F s e) (h0 : x 0 = a.view.read (Elt F) G) (k : ℕ) :
    rawAt ha G x k = ha.unread (x k) := by
  cases k with
  | zero => rw [rawAt, h0, ha.unread_read]
  | succ k => rfl

set_option warn.classDefReducibility false in
/-- The loop by its invariant: the buffers hold the state. -/
@[sl_loop] def loopRun (c : Dev nD) (E : Set ℕ) (i : grid0.Coords) (arg2 : Memref sig .tc .vmem S512x128 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (v3 : Vec F S512x128 .bf16) (v4 : Vec F S512x128 .bf16) (v10 : FVec F S512x1 .f32) (v36 : BitVec 32) (v61 v84 : FVec F S512x256 .bf16)
    (X3 : BufTy.Contents (Elt F) arg3.view.ty) (X4 : BufTy.Contents (Elt F) arg4.view.ty) (X5 : BufTy.Contents (Elt F) arg5.view.ty)
    (G9 : BufTy.Contents (Elt F) arg9.view.ty) (G10 : BufTy.Contents (Elt F) arg10.view.ty) (init : Carry F) :
    Idealize.ShloMosaic.LoopInv (M := 𝕄) Idealize.ShloMosaic.frame (wpE defs₀ Variants.none (c : Thread nD τ) none) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 v3 v4 v10 v36 v61 v84) where
  inv k acc :=
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
      ∗ (∃ f, (arg9.view.loc (c : Thread nD τ) ↦[arg9.view.set]{fullShare} f) ∗ ⌜f = rawAt harg9 G9 (fun k => (loopSt i v3 v4 v10 v61 v84 (arg3.view.read (Elt F) X3) (arg4.view.read (Elt F) X4)
          (arg5.view.read (Elt F) X5) (init, arg9.view.read (Elt F) G9, arg10.view.read (Elt F) G10) k).2.1) k⌝)
      ∗ (∃ f, (arg10.view.loc (c : Thread nD τ) ↦[arg10.view.set]{fullShare} f) ∗ ⌜f = rawAt harg10 G10 (fun k => (loopSt i v3 v4 v10 v61 v84 (arg3.view.read (Elt F) X3) (arg4.view.read (Elt F) X4)
          (arg5.view.read (Elt F) X5) (init, arg9.view.read (Elt F) G9, arg10.view.read (Elt F) G10) k).2.2) k⌝)
      ∗ ⌜acc = (loopSt i v3 v4 v10 v61 v84 (arg3.view.read (Elt F) X3) (arg4.view.read (Elt F) X4)
          (arg5.view.read (Elt F) X5) (init, arg9.view.read (Elt F) G9, arg10.view.read (Elt F) G10) k).1⌝)
  step k acc := by
    iintro ⟨H3, H4, H5, ⟨%f9, H9, %h9⟩, ⟨%f10, H10, %h10⟩, %hacc⟩
    rw [rawAt_eq harg9 _ _ rfl] at h9
    rw [rawAt_eq harg10 _ _ rfl] at h10
    subst h9 h10 hacc
    obtain ⟨x3, rfl⟩ : ∃ x, X3 = harg3.unread x := ⟨_, (harg3.unread_read X3).symm⟩
    obtain ⟨x4, rfl⟩ : ∃ x, X4 = harg4.unread x := ⟨_, (harg4.unread_read X4).symm⟩
    obtain ⟨x5, rfl⟩ : ∃ x, X5 = harg5.unread x := ⟨_, (harg5.unread_read X5).symm⟩
    simp only [harg3.read_unread, harg4.read_unread, harg5.read_unread, rawAt]
    iapply (wp_wand_r Idealize.ShloMosaic.frame (wpE (defs₀ (F := F)) Variants.none (c : Thread nD τ) none) E)
    isplitl [H3 H4 H5 H9 H10]
    · iapply (trip_run c i arg2 harg2 arg3 harg3 arg4 harg4 arg5 harg5 arg6 harg6 arg7 harg7 arg8 harg8 arg9 harg9 arg10 harg10 v3 v4 v10 v36 v61 v84 x3 x4 x5 k E _)
      isplitl [H3]; · iexact H3
      isplitl [H4]; · iexact H4
      isplitl [H5]; · iexact H5
      isplitl [H9]; · iexact H9
      iexact H10
    · iintro %yld ⟨H3, H4, H5, ⟨%f9, H9, %h9⟩, ⟨%f10, H10, %h10⟩, %hy⟩
      isplitl [H3]; · iexact H3
      isplitl [H4]; · iexact H4
      isplitl [H5]; · iexact H5
      simp only [loopSt_succ]
      isplitl [H9]
      · iexists _; isplitl [H9]; · iexact H9
        ipureintro; exact h9
      isplitl [H10]
      · iexists _; isplitl [H10]; · iexact H10
        ipureintro; exact h10
      ipureintro; exact hy

/-! ## The whole body at one grid point -/

abbrev r1 (i : grid0.Coords) : Rect S128x4096 := Rect.unit (s := S128x4096) (k0_off1 i) S128x256.size (k0_off1_inb i)
abbrev r2 (i : grid0.Coords) (j : Fin 2) : Rect S128x4096 :=
  Rect.unit (s := S128x4096) (k0_off2 i (BitVec.ofNat 32 j.val)) S128x256.size (k0_off2_inb i j)
abbrev r3 (i : grid0.Coords) (j : Fin 2) : Rect S128x4096 :=
  Rect.unit (s := S128x4096) (k0_off3 i (BitVec.ofNat 32 j.val)) S128x256.size (k0_off3_inb i j)
abbrev r4 (i : grid0.Coords) (j : Fin 2) : Rect S4096x128 :=
  Rect.unit (s := S4096x128) (k0_off4 i (BitVec.ofNat 32 j.val)) S256x128.size (k0_off4_inb i j)
abbrev rW : Rect S4096x128 := Rect.unit (s := S4096x128) ![0, 0] S4096x128.size inb_S4096x128_S4096x128_0_0
abbrev rQ : Rect S512x128 := Rect.unit (s := S512x128) ![0, 0] S512x128.size inb_S512x128_S512x128_0_0
abbrev rT : Rect S4096x128 := Rect.unit (s := S4096x128) ![0, 0] S256x128.size inb_S4096x128_S256x128_0_0

/-- The word that holds the number of key blocks up to the diagonal. -/
def nkb (i : grid0.Coords) : BitVec 32 :=
  let v19 : BitVec 32 := Scalar.subi (Scalar.addi (Scalar.muli (Scalar.addi (BitVec.ofNat 32 (i 1).val) 1#32) 512#32) 256#32) 1#32
  let v20 : BitVec 32 := Scalar.divsi v19 256#32
  let v25 : BitVec 32 := Scalar.subi (Scalar.extui (Scalar.cmpi .sgt v19 0#32)) (Scalar.extui (Scalar.cmpi .slt v19 0#32))
  let v30 : BitVec 32 := Scalar.subi (Scalar.extui (Scalar.cmpi .sgt 256#32 0#32)) (Scalar.extui (Scalar.cmpi .slt 256#32 0#32))
  let v34 : BitVec 1 := Scalar.andi (Scalar.cmpi .ne v25 v30) (Scalar.cmpi .ne (Scalar.remsi v19 256#32) 0#32)
  Scalar.select v34 (Scalar.subi v20 1#32) v20

def colIota : IVec S512x256 32 := iota .tc S512x256 32 [1] iota_S512x256_d1_w32

/-- The matrix of the exclusive suffix sums. -/
def matEx : FVec F S512x256 .bf16 := k0_pay35
/-- The matrix of the inclusive suffix sums. -/
def matIn : FVec F S512x256 .bf16 := k0_pay37 k0_pay36 colIota

/-- The point is the first of its head (the word the body tests). -/
abbrev isFirst (i : grid0.Coords) : Prop :=
  Scalar.cmpi .ne (Scalar.extui (Scalar.cmpi .eq (BitVec.ofNat 32 (i 1).val) 0#32)) 0#32 = 1#1

/-- What the accumulated gradient starts from at a point: zero at the first of its head. -/
def fresh (i : grid0.Coords) (z D : Vec F S4096x128 .f32) : Vec F S4096x128 .f32 :=
  if isFirst i then putR rW z D else D

/-- The first masked step: the state after the block on the diagonal's right half. -/
def head1 (i : grid0.Coords) (x0 : Vec F S512x128 .bf16) (x1 : Vec F S4096x128 .bf16) (x2 x3 : Vec F S128x4096 .bf16) (x4 : Vec F S512x128 .f32) (x5 : Vec F S512x128 .bf16) (D9 D10 : Vec F S4096x128 .f32) : St F :=
  let z := k0_pay40 x0 (getR (r1 i) x2)
  let dw := k0_pay42 x5 (getR (r3 i 0) x3)
  let m := k0_pay49 (k0_pay32 i) colIota (nkb i)
  let a := k0_pay50 (k0_pay32 i) colIota (nkb i) z
  let b := k0_pay51 (k0_pay32 i) colIota (nkb i) z
  let d := k0_pay52 (k0_pay32 i) colIota (nkb i) z
  let s := k0_pay58 matEx k0_pay38 (k0_pay47 z) m a b d
  ((k0_pay55 k0_pay38 a,
    k0_pay56 matEx k0_pay38 dw (k0_pay47 z) m a b d,
    k0_pay45 k0_pay33 k0_pay39 (getR (r4 i 0) x1),
    k0_pay41 x0 (getR (r2 i 0) x2),
    k0_pay57 (k0_pay31 x5 x4) matEx matIn k0_pay38 dw (k0_pay47 z) (k0_pay48 z) m a b d,
    s),
   putR (r4 i 0) (k0_pay43 x0 k0_pay33 (getR (r4 i 0) D9)) D9,
   putR (r4 i 0) (k0_pay44 x5 k0_pay34 (getR (r4 i 0) D10)) D10)

/-- The second masked step. -/
def head2 (i : grid0.Coords) (x0 : Vec F S512x128 .bf16) (x1 : Vec F S4096x128 .bf16) (x2 x3 : Vec F S128x4096 .bf16) (x4 : Vec F S512x128 .f32) (x5 : Vec F S512x128 .bf16) (S : St F) : St F :=
  let z := k0_pay64 S.1.2.2.2.1
  let z' := k0_pay65 S.1.2.2.2.1
  let dw := k0_pay60 x5 (getR (r3 i 1) x3)
  let g := k0_pay71 (k0_pay32 i) colIota (nkb i) matEx S.1.1 dw z z'
  ((k0_pay73 (k0_pay32 i) colIota (nkb i) S.1.1 z z',
    k0_pay74 S.1.2.1 g,
    k0_pay63 S.1.2.2.1 S.1.2.2.2.2.1 (getR (r4 i 1) x1),
    k0_pay59 x0 (getR (r2 i 1) x2),
    k0_pay75 (k0_pay72 (k0_pay31 x5 x4) (k0_pay32 i) colIota (nkb i) matEx matIn S.1.1 S.1.2.1 dw z z'),
    k0_pay76 (k0_pay70 (k0_pay32 i) colIota (nkb i) matEx S.1.1 z z')),
   putR (r4 i 1) (k0_pay61 x0 S.1.2.2.2.2.1 (getR (r4 i 1) S.2.1)) S.2.1,
   putR (r4 i 1) (k0_pay62 x5 S.1.2.2.2.2.2 (getR (r4 i 1) S.2.2)) S.2.2)

/-- The state after the loop. -/
def midSt (i : grid0.Coords) (x0 : Vec F S512x128 .bf16) (x1 : Vec F S4096x128 .bf16) (x2 x3 : Vec F S128x4096 .bf16) (x4 : Vec F S512x128 .f32) (x5 : Vec F S512x128 .bf16) (D9 D10 : Vec F S4096x128 .f32) : St F :=
  loopSt i x0 x5 (k0_pay31 x5 x4) matEx matIn x1 x2 x3
    (head2 i x0 x1 x2 x3 x4 x5 (head1 i x0 x1 x2 x3 x4 x5 D9 D10)) (k0_t1_loop i).trips

/-- What the body leaves: the block of the gradient of the queries, and the gradients of keys and values. -/
def bodySt (i : grid0.Coords) (x0 : Vec F S512x128 .bf16) (x1 : Vec F S4096x128 .bf16) (x2 x3 : Vec F S128x4096 .bf16) (x4 : Vec F S512x128 .f32) (x5 : Vec F S512x128 .bf16) (D9 D10 : Vec F S4096x128 .f32) :
    Vec F S512x128 .f32 × Vec F S4096x128 .f32 × Vec F S4096x128 .f32 :=
  let S := midSt i x0 x1 x2 x3 x4 x5 D9 D10
  (k0_pay83 S.1.2.2.1 S.1.2.2.2.2.1 (getR rT x1),
   putR rT (k0_pay81 x0 S.1.2.2.2.2.1 (getR rT S.2.1)) S.2.1,
   putR rT (k0_pay82 x5 S.1.2.2.2.2.2 (getR rT S.2.2)) S.2.2)

/-! ## The same over the raw contents of the buffers -/

def head1R (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) : Carry F × BufTy.Contents (Elt F) arg9.view.ty × BufTy.Contents (Elt F) arg10.view.ty :=
  let z := k0_pay40 (arg2.view.readAt (Elt F) (Rect.toLoadRect rQ) c0) (arg4.view.readAt (Elt F) (Rect.toLoadRect (r1 i)) c2)
  let dw := k0_pay42 (arg7.view.readAt (Elt F) (Rect.toLoadRect rQ) c5) (arg5.view.readAt (Elt F) (Rect.toLoadRect (r3 i 0)) c3)
  let m := k0_pay49 (k0_pay32 i) colIota (nkb i)
  let a := k0_pay50 (k0_pay32 i) colIota (nkb i) z
  let b := k0_pay51 (k0_pay32 i) colIota (nkb i) z
  let d := k0_pay52 (k0_pay32 i) colIota (nkb i) z
  let s := k0_pay58 matEx k0_pay38 (k0_pay47 z) m a b d
  ((k0_pay55 k0_pay38 a,
    k0_pay56 matEx k0_pay38 dw (k0_pay47 z) m a b d,
    k0_pay45 k0_pay33 k0_pay39 (arg3.view.readAt (Elt F) (Rect.toLoadRect (r4 i 0)) c1),
    k0_pay41 (arg2.view.readAt (Elt F) (Rect.toLoadRect rQ) c0) (arg4.view.readAt (Elt F) (Rect.toLoadRect (r2 i 0)) c2),
    k0_pay57 (k0_pay31 (arg7.view.readAt (Elt F) (Rect.toLoadRect rQ) c5) (arg6.view.readAt (Elt F) (Rect.toLoadRect rQ) c4)) matEx matIn k0_pay38 dw (k0_pay47 z) (k0_pay48 z) m a b d,
    s),
   (arg9.view.slice (r4 i 0)).write (Elt F) G9 (k0_pay43 (arg2.view.readAt (Elt F) (Rect.toLoadRect rQ) c0) k0_pay33 (arg9.view.readAt (Elt F) (Rect.toLoadRect (r4 i 0)) G9)) Finset.univ,
   (arg10.view.slice (r4 i 0)).write (Elt F) G10 (k0_pay44 (arg7.view.readAt (Elt F) (Rect.toLoadRect rQ) c5) k0_pay34 (arg10.view.readAt (Elt F) (Rect.toLoadRect (r4 i 0)) G10)) Finset.univ)

def head2R (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (S : Carry F × BufTy.Contents (Elt F) arg9.view.ty × BufTy.Contents (Elt F) arg10.view.ty) : Carry F × BufTy.Contents (Elt F) arg9.view.ty × BufTy.Contents (Elt F) arg10.view.ty :=
  let z := k0_pay64 S.1.2.2.2.1
  let z' := k0_pay65 S.1.2.2.2.1
  let dw := k0_pay60 (arg7.view.readAt (Elt F) (Rect.toLoadRect rQ) c5) (arg5.view.readAt (Elt F) (Rect.toLoadRect (r3 i 1)) c3)
  let g := k0_pay71 (k0_pay32 i) colIota (nkb i) matEx S.1.1 dw z z'
  ((k0_pay73 (k0_pay32 i) colIota (nkb i) S.1.1 z z',
    k0_pay74 S.1.2.1 g,
    k0_pay63 S.1.2.2.1 S.1.2.2.2.2.1 (arg3.view.readAt (Elt F) (Rect.toLoadRect (r4 i 1)) c1),
    k0_pay59 (arg2.view.readAt (Elt F) (Rect.toLoadRect rQ) c0) (arg4.view.readAt (Elt F) (Rect.toLoadRect (r2 i 1)) c2),
    k0_pay75 (k0_pay72 (k0_pay31 (arg7.view.readAt (Elt F) (Rect.toLoadRect rQ) c5) (arg6.view.readAt (Elt F) (Rect.toLoadRect rQ) c4)) (k0_pay32 i) colIota (nkb i) matEx matIn S.1.1 S.1.2.1 dw z z'),
    k0_pay76 (k0_pay70 (k0_pay32 i) colIota (nkb i) matEx S.1.1 z z')),
   (arg9.view.slice (r4 i 1)).write (Elt F) S.2.1 (k0_pay61 (arg2.view.readAt (Elt F) (Rect.toLoadRect rQ) c0) S.1.2.2.2.2.1 (arg9.view.readAt (Elt F) (Rect.toLoadRect (r4 i 1)) S.2.1)) Finset.univ,
   (arg10.view.slice (r4 i 1)).write (Elt F) S.2.2 (k0_pay62 (arg7.view.readAt (Elt F) (Rect.toLoadRect rQ) c5) S.1.2.2.2.2.2 (arg10.view.readAt (Elt F) (Rect.toLoadRect (r4 i 1)) S.2.2)) Finset.univ)

def midR (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (harg9 : arg9.IsWhole) (harg10 : arg10.IsWhole) (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) : Carry F × BufTy.Contents (Elt F) arg9.view.ty × BufTy.Contents (Elt F) arg10.view.ty :=
  let S := head2R i c0 c1 c2 c3 c4 c5 (head1R i c0 c1 c2 c3 c4 c5 G9 G10)
  let L := fun k => loopSt i (arg2.view.readAt (Elt F) (Rect.toLoadRect rQ) c0) (arg7.view.readAt (Elt F) (Rect.toLoadRect rQ) c5) (k0_pay31 (arg7.view.readAt (Elt F) (Rect.toLoadRect rQ) c5) (arg6.view.readAt (Elt F) (Rect.toLoadRect rQ) c4)) matEx matIn (arg3.view.read (Elt F) c1) (arg4.view.read (Elt F) c2) (arg5.view.read (Elt F) c3)
    (S.1, arg9.view.read (Elt F) S.2.1, arg10.view.read (Elt F) S.2.2) k
  ((L (k0_t1_loop i).trips).1, rawAt harg9 S.2.1 (fun k => (L k).2.1) (k0_t1_loop i).trips, rawAt harg10 S.2.2 (fun k => (L k).2.2) (k0_t1_loop i).trips)

def bodyR (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (harg9 : arg9.IsWhole) (harg10 : arg10.IsWhole) (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) :
    Vec F S512x128 .f32 × BufTy.Contents (Elt F) arg9.view.ty × BufTy.Contents (Elt F) arg10.view.ty :=
  let S := midR i harg9 harg10 c0 c1 c2 c3 c4 c5 G9 G10
  (k0_pay83 S.1.2.2.1 S.1.2.2.2.2.1 (arg3.view.readAt (Elt F) (Rect.toLoadRect rT) c1),
   (arg9.view.slice rT).write (Elt F) S.2.1 (k0_pay81 (arg2.view.readAt (Elt F) (Rect.toLoadRect rQ) c0) S.1.2.2.2.2.1 (arg9.view.readAt (Elt F) (Rect.toLoadRect rT) S.2.1)) Finset.univ,
   (arg10.view.slice rT).write (Elt F) S.2.2 (k0_pay82 (arg7.view.readAt (Elt F) (Rect.toLoadRect rQ) c5) S.1.2.2.2.2.2 (arg10.view.readAt (Elt F) (Rect.toLoadRect rT) S.2.2)) Finset.univ)

theorem emb_whole (z : S512x128.Idx) (h) : (Rect.unit (s := S512x128) ![0, 0] S512x128.size h).emb z = z := by
  funext a
  apply Fin.ext
  have h0 : ∀ a : Fin 2, (![0, 0] : Fin 2 → ℕ) a = 0 := by decide
  show (![0, 0] : Fin 2 → ℕ) a + 1 * (z a).val = (z a).val
  rw [h0]; omega

/-- The whole of an array read through the rectangle of all of it. -/
theorem getR_whole {α : Type} (x : S512x128.Idx → α) (h) : getR (Rect.unit (s := S512x128) ![0, 0] S512x128.size h) x = x := by
  funext z
  exact congrArg x (emb_whole z h)

theorem readAt_whole {e : EltTy} {a : Memref sig .tc .vmem S512x128 e} (f : BufTy.Contents (Elt F) a.view.ty) :
    a.view.readAt (Elt F) (Rect.toLoadRect rQ) f = a.view.read (Elt F) f :=
  getR_whole _ _

/-- Replacing all of an array. -/
theorem putR_whole {α : Type} (w x : S512x128.Idx → α) (h) : putR (Rect.unit (s := S512x128) ![0, 0] S512x128.size h) w x = w := by
  funext z
  have e : (Rect.unit (s := S512x128) ![0, 0] S512x128.size h).emb z = z := by
    exact emb_whole z h
  conv_lhs => rw [← e]
  rw [putR_emb]

theorem head1R_eq (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) :
    (let S := head1R i c0 c1 c2 c3 c4 c5 G9 G10; (S.1, arg9.view.read (Elt F) S.2.1, arg10.view.read (Elt F) S.2.2))
      = head1 i (arg2.view.read (Elt F) c0) (arg3.view.read (Elt F) c1) (arg4.view.read (Elt F) c2) (arg5.view.read (Elt F) c3) (arg6.view.read (Elt F) c4) (arg7.view.read (Elt F) c5) (arg9.view.read (Elt F) G9) (arg10.view.read (Elt F) G10) := by
  simp only [head1R, head1, readAt_whole]
  simp only [readAt_get, read_write_put]

theorem head2R_eq (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (S : Carry F × BufTy.Contents (Elt F) arg9.view.ty × BufTy.Contents (Elt F) arg10.view.ty) :
    (let S' := head2R i c0 c1 c2 c3 c4 c5 S; (S'.1, arg9.view.read (Elt F) S'.2.1, arg10.view.read (Elt F) S'.2.2))
      = head2 i (arg2.view.read (Elt F) c0) (arg3.view.read (Elt F) c1) (arg4.view.read (Elt F) c2) (arg5.view.read (Elt F) c3) (arg6.view.read (Elt F) c4) (arg7.view.read (Elt F) c5) (S.1, arg9.view.read (Elt F) S.2.1, arg10.view.read (Elt F) S.2.2) := by
  simp only [head2R, head2, readAt_whole]
  simp only [readAt_get, read_write_put]

theorem midR_eq (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (harg9 : arg9.IsWhole) (harg10 : arg10.IsWhole) (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) :
    (let S := midR i harg9 harg10 c0 c1 c2 c3 c4 c5 G9 G10; (S.1, arg9.view.read (Elt F) S.2.1, arg10.view.read (Elt F) S.2.2))
      = midSt i (arg2.view.read (Elt F) c0) (arg3.view.read (Elt F) c1) (arg4.view.read (Elt F) c2) (arg5.view.read (Elt F) c3) (arg6.view.read (Elt F) c4) (arg7.view.read (Elt F) c5) (arg9.view.read (Elt F) G9) (arg10.view.read (Elt F) G10) := by
  have h1 := head1R_eq i c0 c1 c2 c3 c4 c5 G9 G10
  have h2 := head2R_eq i c0 c1 c2 c3 c4 c5 (head1R i c0 c1 c2 c3 c4 c5 G9 G10)
  dsimp only at h1 h2
  rw [h1] at h2
  simp only [midR, midSt, readAt_whole]
  rw [rawAt_eq harg9 _ _ rfl, rawAt_eq harg10 _ _ rfl, harg9.read_unread, harg10.read_unread, h2]

theorem bodyR_eq (i : grid0.Coords) {arg2 : Memref sig .tc .vmem S512x128 .bf16} {arg3 : Memref sig .tc .vmem S4096x128 .bf16} {arg4 : Memref sig .tc .vmem S128x4096 .bf16} {arg5 : Memref sig .tc .vmem S128x4096 .bf16} {arg6 : Memref sig .tc .vmem S512x128 .f32} {arg7 : Memref sig .tc .vmem S512x128 .bf16} {arg9 : Memref sig .tc .vmem S4096x128 .f32} {arg10 : Memref sig .tc .vmem S4096x128 .f32} (harg9 : arg9.IsWhole) (harg10 : arg10.IsWhole) (c0 : BufTy.Contents (Elt F) arg2.view.ty) (c1 : BufTy.Contents (Elt F) arg3.view.ty) (c2 : BufTy.Contents (Elt F) arg4.view.ty) (c3 : BufTy.Contents (Elt F) arg5.view.ty) (c4 : BufTy.Contents (Elt F) arg6.view.ty) (c5 : BufTy.Contents (Elt F) arg7.view.ty) (G9 : BufTy.Contents (Elt F) arg9.view.ty) (G10 : BufTy.Contents (Elt F) arg10.view.ty) :
    (let S := bodyR i harg9 harg10 c0 c1 c2 c3 c4 c5 G9 G10; (S.1, arg9.view.read (Elt F) S.2.1, arg10.view.read (Elt F) S.2.2))
      = bodySt i (arg2.view.read (Elt F) c0) (arg3.view.read (Elt F) c1) (arg4.view.read (Elt F) c2) (arg5.view.read (Elt F) c3) (arg6.view.read (Elt F) c4) (arg7.view.read (Elt F) c5) (arg9.view.read (Elt F) G9) (arg10.view.read (Elt F) G10) := by
  have h := midR_eq i harg9 harg10 c0 c1 c2 c3 c4 c5 G9 G10
  dsimp only at h
  simp only [bodyR, bodySt, readAt_whole]
  simp only [readAt_get, read_write_put]
  rw [← h]

theorem fresh_read (i : grid0.Coords) {a : Memref sig .tc .vmem S4096x128 .f32} (ha : a.IsWhole) (z D : Vec F S4096x128 .f32) :
    a.view.read (Elt F) (if h : isFirst i then a.view.writes (Elt F) (ha.unread D) [⟨rW, z⟩] else ha.unread D) = fresh i z D := by
  unfold fresh
  split
  · rw [read_writes_cons_put, View.writes_nil, ha.read_unread]
  · rw [ha.read_unread]

end Cert.Stick

end
-- ==== Proof.BodyRun.lean ====
module

public import proofs.«01_k».proof.Proof.BodyState
public import Idealize.ShloMosaic.Lib.LoopRemainder

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The body's run: what it leaves in the three result buffers is the run's own find. -/
def bodyRun (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (x0 : Vec F S512x128 .bf16) (x1 : Vec F S4096x128 .bf16) (x2 x3 : Vec F S128x4096 .bf16) (x4 : Vec F S512x128 .f32) (x5 : Vec F S512x128 .bf16) (f8 : BufTy.Contents (Elt F) arg8.view.ty) (D9 D10 : Vec F S4096x128 .f32) :
    Σ' (O8 : BufTy.Contents (Elt F) arg8.view.ty) (O9 : BufTy.Contents (Elt F) arg9.view.ty),
    { O10 : BufTy.Contents (Elt F) arg10.view.ty // ∀ (E : Set ℕ) (K : PUnit → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5)
        ∗ (arg8.view.loc (c : Thread nD τ) ↦[arg8.view.set]{fullShare} f8) ∗ (arg9.view.loc (c : Thread nD τ) ↦[arg9.view.set]{fullShare} harg9.unread D9) ∗ (arg10.view.loc (c : Thread nD τ) ↦[arg10.view.set]{fullShare} harg10.unread D10)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5)
            ∗ (arg8.view.loc (c : Thread nD τ) ↦[arg8.view.set]{fullShare} O8) ∗ (arg9.view.loc (c : Thread nD τ) ↦[arg9.view.set]{fullShare} O9) ∗ (arg10.view.loc (c : Thread nD τ) ↦[arg10.view.set]{fullShare} O10)) -∗ K ⟨⟩))
      ⊢ wp frame (wpE (defs₀ (F := F)) Variants.none c none) E (cc0_stick_bwd i arg2 harg2 arg3 harg3 arg4 harg4 arg5 harg5 arg6 harg6 arg7 harg7 arg8 harg8 arg9 harg9 arg10 harg10) K } := by
  refine ⟨?_, ?_, ?_, fun E K => ?_⟩
  case refine_4 =>
    simp only [cc0_stick_bwd_eq_skeleton]; unfold cc0_stick_bwd_skel
    simp only [k0_part12_eq_skeleton, k0_part5_eq_skeleton, k0_part6_eq_skeleton, k0_part7_eq_skeleton, k0_part8_eq_skeleton, k0_part9_eq_skeleton, k0_part10_eq_skeleton, k0_part11_eq_skeleton]
    iintro ⟨H0, H1, H2, H3, H4, H5, H6, H7, H8, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Stick

end
-- ==== Proof.Body.lean ====
module

public import proofs.«01_k».proof.Proof.BodyRun
public import Idealize.ShloMosaic.Lib.LoopRemainder

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

attribute [local irreducible] loopSt rawAt View.readAt View.read View.write truncf Scf.trips

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (x0 : Vec F S512x128 .bf16) (x1 : Vec F S4096x128 .bf16) (x2 x3 : Vec F S128x4096 .bf16) (x4 : Vec F S512x128 .f32) (x5 : Vec F S512x128 .bf16) (f8 : BufTy.Contents (Elt F) arg8.view.ty) (D9 D10 : Vec F S4096x128 .f32)

set_option maxHeartbeats 400000 in
theorem out9_eq : (bodyRun c i arg2 harg2 arg3 harg3 arg4 harg4 arg5 harg5 arg6 harg6 arg7 harg7 arg8 harg8 arg9 harg9 arg10 harg10 x0 x1 x2 x3 x4 x5 f8 D9 D10).2.1 = (bodyR i harg9 harg10 (harg2.unread x0) (harg3.unread x1) (harg4.unread x2) (harg5.unread x3) (harg6.unread x4) (harg7.unread x5)
    (if h : isFirst i then arg9.view.writes (Elt F) (harg9.unread D9) [⟨rW, k0_pay29⟩] else harg9.unread D9)
    (if h : isFirst i then arg10.view.writes (Elt F) (harg10.unread D10) [⟨rW, k0_pay30⟩] else harg10.unread D10)).2.1 := rfl

set_option maxHeartbeats 400000 in
theorem out10_eq : (bodyRun c i arg2 harg2 arg3 harg3 arg4 harg4 arg5 harg5 arg6 harg6 arg7 harg7 arg8 harg8 arg9 harg9 arg10 harg10 x0 x1 x2 x3 x4 x5 f8 D9 D10).2.2.1 = (bodyR i harg9 harg10 (harg2.unread x0) (harg3.unread x1) (harg4.unread x2) (harg5.unread x3) (harg6.unread x4) (harg7.unread x5)
    (if h : isFirst i then arg9.view.writes (Elt F) (harg9.unread D9) [⟨rW, k0_pay29⟩] else harg9.unread D9)
    (if h : isFirst i then arg10.view.writes (Elt F) (harg10.unread D10) [⟨rW, k0_pay30⟩] else harg10.unread D10)).2.2 := rfl

set_option maxHeartbeats 400000 in
theorem out8_eq : (bodyRun c i arg2 harg2 arg3 harg3 arg4 harg4 arg5 harg5 arg6 harg6 arg7 harg7 arg8 harg8 arg9 harg9 arg10 harg10 x0 x1 x2 x3 x4 x5 f8 D9 D10).1 = arg8.view.writes (Elt F) f8 [⟨rQ, (bodyR i harg9 harg10 (harg2.unread x0) (harg3.unread x1) (harg4.unread x2) (harg5.unread x3) (harg6.unread x4) (harg7.unread x5)
    (if h : isFirst i then arg9.view.writes (Elt F) (harg9.unread D9) [⟨rW, k0_pay29⟩] else harg9.unread D9)
    (if h : isFirst i then arg10.view.writes (Elt F) (harg10.unread D10) [⟨rW, k0_pay30⟩] else harg10.unread D10)).1⟩] := rfl

set_option maxHeartbeats 1600000 in
theorem body_run (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare D9 ∗ owns (c : Thread nD τ) arg10 fullShare D10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (bodySt i x0 x1 x2 x3 x4 x5 (fresh i k0_pay29 D9) (fresh i k0_pay30 D10)).1
            ∗ owns (c : Thread nD τ) arg9 fullShare (bodySt i x0 x1 x2 x3 x4 x5 (fresh i k0_pay29 D9) (fresh i k0_pay30 D10)).2.1
            ∗ owns (c : Thread nD τ) arg10 fullShare (bodySt i x0 x1 x2 x3 x4 x5 (fresh i k0_pay29 D9) (fresh i k0_pay30 D10)).2.2) -∗ K ⟨⟩))
      ⊢ wp frame (wpE (defs₀ (F := F)) Variants.none c none) E (cc0_stick_bwd i arg2 harg2 arg3 harg3 arg4 harg4 arg5 harg5 arg6 harg6 arg7 harg7 arg8 harg8 arg9 harg9 arg10 harg10) K := by
  have HB := bodyR_eq i harg9 harg10 (harg2.unread x0) (harg3.unread x1) (harg4.unread x2) (harg5.unread x3) (harg6.unread x4) (harg7.unread x5)
    (if h : isFirst i then arg9.view.writes (Elt F) (harg9.unread D9) [⟨rW, k0_pay29⟩] else harg9.unread D9)
    (if h : isFirst i then arg10.view.writes (Elt F) (harg10.unread D10) [⟨rW, k0_pay30⟩] else harg10.unread D10)
  rw [fresh_read, fresh_read, harg2.read_unread, harg3.read_unread, harg4.read_unread, harg5.read_unread, harg6.read_unread, harg7.read_unread] at HB
  dsimp only at HB
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hf7; obtain rfl := harg10.eq_unread hf8
  iapply ((bodyRun c i arg2 harg2 arg3 harg3 arg4 harg4 arg5 harg5 arg6 harg6 arg7 harg7 arg8 harg8 arg9 harg9 arg10 harg10 x0 x1 x2 x3 x4 x5 f6 D9 D10).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [out8_eq]
    refine (read_writes_cons_put ..).trans ((putR_whole ..).trans ?_)
    exact congrArg (fun S => S.1) HB
  isplitl [H7]
  · iexists _; isplitr; swap; · iexact H7
    ipureintro
    rw [out9_eq]
    exact congrArg (fun S => S.2.1) HB
  iexists _; isplitr; swap; · iexact H8
  ipureintro
  rw [out10_eq]
  exact congrArg (fun S => S.2.2) HB
end

end Cert.Stick

end
-- ==== Proof.Run.lean ====
module

public import proofs.«01_k».proof.Proof.Body
public import proofs.«01_k».proof.Proof.Gen.KernelIdeal.Frame
public import Idealize.ShloMosaic.Lib.Claim
public import Idealize.ShloMosaic.Lib.LoopRemainder

@[expose] public section

set_option maxRecDepth 16384

noncomputable section

namespace Cert.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat Cfg Window BodyObligation cellOf)

/-- The body zeroes the two resident buffers exactly at the first point of each head. -/
theorem isFirst_iff : ∀ t : Fin cfg0.N, isFirst (grid0.coords t) ↔ t.val % 8 = 0 :=
  (by decide +kernel : ∀ t : Fin grid0.N, isFirst (grid0.coords t) ↔ t.val % 8 = 0)

/-- The body's results at point `t`, the resident buffers holding `D9` and `D10` (before the zeroing). -/
def ptSt (c : Dev nD) (t : Fin cfg0.N) (D9 D10 : Vec F S4096x128 .f32) :
    Vec F S512x128 .f32 × Vec F S4096x128 .f32 × Vec F S4096x128 .f32 :=
  bodySt (grid0.coords t) (iblk m c 0 t) (iblk m c 1 t) (iblk m c 2 t) (iblk m c 3 t) (iblk m c 4 t) (iblk m c 5 t)
    (fresh (grid0.coords t) k0_pay29 D9) (fresh (grid0.coords t) k0_pay30 D10)

/-- What the three result buffers hold after point `n`. -/
def outs (c : Dev nD) : (n : ℕ) → n < cfg0.N → Vec F S512x128 .f32 × Vec F S4096x128 .f32 × Vec F S4096x128 .f32
  | 0, h => ptSt m c ⟨0, h⟩ k0_pay29 k0_pay30
  | n + 1, h => ptSt m c ⟨n + 1, h⟩ (outs c n (Nat.lt_of_succ_lt h)).2.1 (outs c n (Nat.lt_of_succ_lt h)).2.2

theorem fresh_first (t : Fin cfg0.N) (h : t.val % 8 = 0) (z D D' : Vec F S4096x128 .f32) :
    fresh (grid0.coords t) z D = fresh (grid0.coords t) z D' := by
  have e : ∀ D, fresh (grid0.coords t) z D = putR rW z D := fun D => by unfold fresh; exact if_pos ((isFirst_iff t).mpr h)
  rw [e, e]
  funext y
  have hy : rW.emb y = y := by
    funext a; apply Fin.ext
    have h0 : ∀ a : Fin 2, (![0, 0] : Fin 2 → ℕ) a = 0 := by decide
    show (![0, 0] : Fin 2 → ℕ) a + 1 * (y a).val = (y a).val
    rw [h0]; omega
  conv_lhs => rw [← hy]
  conv_rhs => rw [← hy]
  rw [putR_emb, putR_emb]

/-- At a head's first point the buffers' earlier contents do not matter. -/
theorem outs_first (c : Dev nD) (t : Fin cfg0.N) (h : t.val % 8 = 0) (D9 D10 : Vec F S4096x128 .f32) :
    outs m c t.val t.isLt = ptSt m c t D9 D10 := by
  obtain ⟨n, hn⟩ := t
  cases n with
  | zero => simp only [outs, ptSt]; rw [fresh_first ⟨0, hn⟩ h k0_pay29 _ D9, fresh_first ⟨0, hn⟩ h k0_pay30 _ D10]
  | succ n =>
    simp only [outs, ptSt]
    rw [fresh_first ⟨n + 1, hn⟩ h k0_pay29 _ D9, fresh_first ⟨n + 1, hn⟩ h k0_pay30 _ D10]

theorem outs_next (c : Dev nD) (t : Fin cfg0.N) (h : t.val ≠ 0) :
    outs m c t.val t.isLt = ptSt m c t (outs m c (t.val - 1) (Nat.lt_of_le_of_lt (Nat.sub_le _ _) t.isLt)).2.1
      (outs m c (t.val - 1) (Nat.lt_of_le_of_lt (Nat.sub_le _ _) t.isLt)).2.2 := by
  obtain ⟨n, hn⟩ := t
  cases n with
  | zero => exact absurd rfl h
  | succ n => rfl

/-- The proof data of the pipeline: each input's buffer at its block, the results at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outs m c t.val t.isLt).1 := by dsimp only [dats]
theorem after_7 (c : Dev nD) (t : Fin cfg0.N) : (dats m 0 c).after 7 t = (outs m c t.val t.isLt).2.1 := by dsimp only [dats]
theorem after_8 (c : Dev nD) (t : Fin cfg0.N) : (dats m 0 c).after 8 t = (outs m c t.val t.isLt).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_7 (c : Dev nD) (t : Fin cfg0.N) (h : ¬ t.val % 8 = 0) (d) : (dats m 0 c).before 7 t d
    = (outs m c (t.val - 1) (Nat.lt_of_le_of_lt (Nat.sub_le _ _) t.isLt)).2.1 := by
  have h0 : t.val ≠ 0 := fun h' => h (by rw [h'])
  rw [(dats m 0 c).before_out_kept 7 rfl t h0 (Bool.eq_false_iff.mpr fun hf => by
    have := (flush0_7 ⟨t.val - 1, Nat.lt_of_le_of_lt (Nat.sub_le _ _) t.isLt⟩).mp hf
    simp only at this; omega) (fun _ => rfl) (fun _ _ => rfl) d, after_7]
theorem before_8 (c : Dev nD) (t : Fin cfg0.N) (h : ¬ t.val % 8 = 0) (d) : (dats m 0 c).before 8 t d
    = (outs m c (t.val - 1) (Nat.lt_of_le_of_lt (Nat.sub_le _ _) t.isLt)).2.2 := by
  have h0 : t.val ≠ 0 := fun h' => h (by rw [h'])
  rw [(dats m 0 c).before_out_kept 8 rfl t h0 (Bool.eq_false_iff.mpr fun hf => by
    have := (flush0_8 ⟨t.val - 1, Nat.lt_of_le_of_lt (Nat.sub_le _ _) t.isLt⟩).mp hf
    simp only at this; omega) (fun _ => rfl) (fun _ _ => rfl) d, after_8]

/-- The body at point `t` computes `outs`, whatever the buffers it zeroes held. -/
theorem outs_eq (c : Dev nD) (t : Fin cfg0.N) (d7 d8) :
    ptSt m c t ((dats m 0 c).before 7 t d7) ((dats m 0 c).before 8 t d8) = outs m c t.val t.isLt := by
  by_cases h : t.val % 8 = 0
  · exact (outs_first m c t h _ _).symm
  · rw [before_7 m c t h, before_8 m c t h, ← outs_next m c t (fun h' => h (by rw [h']))]

abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

attribute [local irreducible] bodySt fresh

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have HE := outs_eq m c t d7 d8
  rw [← HE]
  unfold ptSt
  iapply (body_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t)
    ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every array ends at what the library computes from the proof data, every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments are unchanged and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Stick

end
-- ==== Proof.RefFrame.lean ====
module

public import proofs.«01_k».proof.Proof.Gen.ReferenceIdeal.Run
public import Idealize.ShloMosaic.Lib.Quiescent
public import Idealize.ShloMosaic.PureOps.Ideal

@[expose] public section

noncomputable section

namespace Cert.Stick

open Idealize.ShloMosaic Idealize.ShloMosaic.TcCoe Idealize.SL.Sem

/-- The reference runs, leaves its arguments alone and every semaphore at zero. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.2.2.1, (h c).2.2.2.2⟩, sem_eq_zero_of_no_sems rfl _⟩) (Cert.ReferenceIdeal.Value.run m g)

end Cert.Stick

end
-- ==== Proof.Printed.BodyRun.lean ====
module

public import proofs.«01_k».proof.Proof.Printed.BodyState
public import Idealize.ShloMosaic.Lib.LoopRemainder

@[expose] public section

set_option maxRecDepth 16384

noncomputable section

namespace Cert.Printed

open Cert.Stick Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run: what it leaves in the three result buffers is the run's own find. -/
def bodyRun (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (x0 : Vec F S512x128 .bf16) (x1 : Vec F S4096x128 .bf16) (x2 x3 : Vec F S128x4096 .bf16) (x4 : Vec F S512x128 .f32) (x5 : Vec F S512x128 .bf16) (f8 : BufTy.Contents (Elt F) arg8.view.ty) (D9 D10 : Vec F S4096x128 .f32) :
    Σ' (O8 : BufTy.Contents (Elt F) arg8.view.ty) (O9 : BufTy.Contents (Elt F) arg9.view.ty),
    { O10 : BufTy.Contents (Elt F) arg10.view.ty // ∀ (E : Set ℕ) (K : PUnit → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5)
        ∗ (arg8.view.loc (c : Thread nD τ) ↦[arg8.view.set]{fullShare} f8) ∗ (arg9.view.loc (c : Thread nD τ) ↦[arg9.view.set]{fullShare} harg9.unread D9) ∗ (arg10.view.loc (c : Thread nD τ) ↦[arg10.view.set]{fullShare} harg10.unread D10)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5)
            ∗ (arg8.view.loc (c : Thread nD τ) ↦[arg8.view.set]{fullShare} O8) ∗ (arg9.view.loc (c : Thread nD τ) ↦[arg9.view.set]{fullShare} O9) ∗ (arg10.view.loc (c : Thread nD τ) ↦[arg10.view.set]{fullShare} O10)) -∗ K ⟨⟩))
      ⊢ wp frame (wpE (defs₀ (F := F)) Variants.none c none) E (cc0_stick_bwd i arg2 harg2 arg3 harg3 arg4 harg4 arg5 harg5 arg6 harg6 arg7 harg7 arg8 harg8 arg9 harg9 arg10 harg10) K } := by
  refine ⟨?_, ?_, ?_, fun E K => ?_⟩
  case refine_4 =>
    simp only [cc0_stick_bwd_eq_skeleton]; unfold cc0_stick_bwd_skel
    simp only [k0_part12_eq_skeleton, k0_part5_eq_skeleton, k0_part6_eq_skeleton, k0_part7_eq_skeleton, k0_part8_eq_skeleton, k0_part9_eq_skeleton, k0_part10_eq_skeleton, k0_part11_eq_skeleton]
    iintro ⟨H0, H1, H2, H3, H4, H5, H6, H7, H8, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Printed

end
-- ==== Proof.Value.Words.lean ====
module

public import proofs.«01_k».proof.Proof.BodyState
public import Idealize.ShloMosaic.Lib.Pipeline.ValueKit
public import Idealize.ShloMosaic.Lib.WordCmp

@[expose] public section

set_option maxRecDepth 16384

noncomputable section

namespace Cert.Stick

open Idealize.ShloMosaic Idealize.ShloMosaic.TcCoe Idealize.ShloMosaic.WordCmp
open Cert.KernelIdeal Cert.KernelIdeal.Gen

/-! ## The words the body computes with, at each grid point -/

theorem coord1 : ∀ t : Fin grid0.N, (grid0.coords t 1).val = t.val % 8 := by decide +kernel
theorem trips_eq : ∀ t : Fin grid0.N, (k0_t1_loop (grid0.coords t)).trips = 2 * (t.val % 8) := by decide +kernel
theorem nkb_eq : ∀ t : Fin grid0.N, nkb (grid0.coords t) = BitVec.ofNat 32 (2 * (t.val % 8) + 2) := by decide +kernel
theorem off1_eq : ∀ t : Fin grid0.N, k0_off1 (grid0.coords t) = ![0, 256 * (2 * (t.val % 8) + 1)] := by decide +kernel
theorem off2_eq : ∀ t : Fin grid0.N, ∀ j : Fin 2, k0_off2 (grid0.coords t) (BitVec.ofNat 32 j.val) = ![0, 256 * (2 * (t.val % 8) - j.val)] := by decide +kernel
theorem off3_eq : ∀ t : Fin grid0.N, ∀ j : Fin 2, k0_off3 (grid0.coords t) (BitVec.ofNat 32 j.val) = ![0, 256 * (2 * (t.val % 8) + 1 - j.val)] := by decide +kernel
theorem off4_eq : ∀ t : Fin grid0.N, ∀ j : Fin 2, k0_off4 (grid0.coords t) (BitVec.ofNat 32 j.val) = ![256 * (2 * (t.val % 8) + 1), 0] := by decide +kernel
theorem off5_eq : ∀ t : Fin grid0.N, ∀ k : Fin (k0_t1_loop (grid0.coords t)).trips,
    k0_off5 (grid0.coords t) k = ![0, 256 * (2 * (t.val % 8) - 2 - k.val)] := by decide +kernel
theorem off6_eq : ∀ t : Fin grid0.N, ∀ k : Fin (k0_t1_loop (grid0.coords t)).trips,
    k0_off6 (grid0.coords t) k = ![0, 256 * (2 * (t.val % 8) - 1 - k.val)] := by decide +kernel
theorem off7_eq : ∀ t : Fin grid0.N, ∀ k : Fin (k0_t1_loop (grid0.coords t)).trips,
    k0_off7 (grid0.coords t) k = ![256 * (2 * (t.val % 8) - k.val), 0] := by decide +kernel

theorem start1 : ∀ t : Fin grid0.N, Scalar.muli (Scalar.subi (Scalar.subi (nkb (grid0.coords t)) 1#32) 0#32) 256#32
    = BitVec.ofNat 32 (256 * (2 * (t.val % 8) + 1)) := by decide +kernel
theorem start2 : ∀ t : Fin grid0.N, Scalar.muli (Scalar.subi (Scalar.subi (nkb (grid0.coords t)) 1#32) 1#32) 256#32
    = BitVec.ofNat 32 (256 * (2 * (t.val % 8))) := by decide +kernel
theorem startQ : ∀ t : Fin grid0.N, Scalar.muli (BitVec.ofNat 32 (grid0.coords t 1).val) 512#32
    = BitVec.ofNat 32 (512 * (t.val % 8)) := by decide +kernel

theorem addi_ofNat (a b : ℕ) : IntOp.addi (BitVec.ofNat 32 a) (BitVec.ofNat 32 b) = BitVec.ofNat 32 (a + b) :=
  (BitVec.ofNat_add a b).symm

/-- The masks of the two masked steps: key strictly left of query. -/
theorem mask1 (t : Fin grid0.N) (y : S512x256.Idx) : k0_pay49 (k0_pay32 (grid0.coords t)) colIota (nkb (grid0.coords t)) y
    = BitVec.ofBool (decide (256 * (2 * (t.val % 8) + 1) + (y 1).val < 512 * (t.val % 8) + (y 0).val)) := by
  have h0 : (y 0).val < 512 := (y 0).isLt
  have h1 : (y 1).val < 256 := (y 1).isLt
  pointwise [k0_pay49, k0_pay32, colIota]
  rw [start1, startQ, addi_ofNat, addi_ofNat, cmpi_slt_ofNat (by omega) (by omega)]
  congr 1; exact decide_eq_decide.mpr (by omega)
theorem mask2 (t : Fin grid0.N) (y : S512x256.Idx) : k0_pay68 (k0_pay32 (grid0.coords t)) colIota (nkb (grid0.coords t)) y
    = BitVec.ofBool (decide (256 * (2 * (t.val % 8)) + (y 1).val < 512 * (t.val % 8) + (y 0).val)) := by
  have h0 : (y 0).val < 512 := (y 0).isLt
  have h1 : (y 1).val < 256 := (y 1).isLt
  pointwise [k0_pay68, k0_pay32, colIota]
  rw [start2, startQ, addi_ofNat, addi_ofNat, cmpi_slt_ofNat (by omega) (by omega)]
  congr 1; exact decide_eq_decide.mpr (by omega)

theorem half_row : ∀ k : Fin 512, Scalar.select
          (IntOp.andi
            (IntOp.xori
              (IntOp.cmpi CmpIPredicate.slt
                (IntOp.remsi ArithUnit.vector (BitVec.ofNat 32 k.val)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 k.val)
                (Scalar.select (Scalar.cmpi CmpIPredicate.eq 256#32 0#32) 1#32 256#32))
              0#32))
          (IntOp.addi
            (IntOp.remsi ArithUnit.vector (BitVec.ofNat 32 k.val)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 k.val)
            (Scalar.select (Scalar.cmpi CmpIPredicate.eq 256#32 0#32) 1#32 256#32)) = BitVec.ofNat 32 (k.val % 256) := by
  decide +kernel

/-- The block of extended reals that holds the reals `φ r j`. -/
def T {a b : ℕ} (φ : ℕ → ℕ → ℝ) : (⟨2, ![a, b]⟩ : Shape).Idx → EReal := fun i => ((φ (i 0).val (i 1).val : ℝ) : EReal)

theorem coe_ite (p : Prop) [Decidable p] (x y : ℝ) : (if p then (x : EReal) else (y : EReal)) = ((if p then x else y : ℝ) : EReal) := by
  split <;> rfl

/-- The matrix of the exclusive suffix sums, stacked twice. -/
theorem matEx_eq : matEx (F := Ideal) = T fun k j => if j < k % 256 then 1 else 0 := by
  funext y
  have h0 : (y 0).val < 512 := (y 0).isLt
  have h1 : (y 1).val < 256 := (y 1).isLt
  pointwise [matEx, k0_pay35, T]
  erw [half_row (y 0)]
  rw [cmpi_sgt_ofNat (by omega) (by omega), select_ofBool]
  rw [← coe_ite]
  simp only [decide_eq_true_eq]
  rfl
theorem matIn_eq : matIn (F := Ideal) = T fun k j => if j ≤ k % 256 then 1 else 0 := by
  funext y
  have h0 : (y 0).val < 512 := (y 0).isLt
  have h1 : (y 1).val < 256 := (y 1).isLt
  pointwise [matIn, k0_pay37, k0_pay36, colIota, T]
  erw [half_row (y 0)]
  rw [cmpi_sge_ofNat (by omega) (by omega), select_ofBool]
  rw [← coe_ite]
  simp only [decide_eq_true_eq]
  rfl

end Cert.Stick
-- ==== Proof.Value.Pay.lean ====
module

public import proofs.«01_k».proof.Proof.Value.Words

@[expose] public section

set_option maxRecDepth 16384

noncomputable section

namespace Cert.Stick

open Idealize.ShloMosaic Idealize.ShloMosaic.TcCoe Idealize.ShloMosaic.WordCmp
open Cert.KernelIdeal Cert.KernelIdeal.Gen
open Finset

/-! ## Extended reals that are reals -/

/-- The scale of the scores. -/
def c0 : ℝ := 11863283 / 134217728

theorem exp2_coe (r : ℝ) : FloatOps.exp2 (F := Ideal) (φ := .f32) ((r : ℝ) : EReal) = (((2 : ℝ) ^ r : ℝ) : EReal) := rfl
theorem absf_coe (r : ℝ) : FloatOps.absf (F := Ideal) (φ := .f32) ((r : ℝ) : EReal) = ((|r| : ℝ) : EReal) := by
  show max (r : EReal) (-(r : EReal)) = _
  rw [← EReal.coe_neg, abs]
  exact (EReal.coe_strictMono.monotone.map_max (a := r) (b := -r)).symm
theorem min_coe (r s : ℝ) : min (r : EReal) (s : EReal) = ((min r s : ℝ) : EReal) :=
  (EReal.coe_strictMono.monotone.map_min (a := r) (b := s)).symm
theorem log_coe (r : ℝ) (h : 0 < r) : Ideal.log ((r : ℝ) : EReal) = ((Real.log r : ℝ) : EReal) := by
  show (if r ≤ 0 then (⊥ : EReal) else (Real.log r : EReal)) = _
  rw [if_neg (not_le.mpr h)]
theorem sum_coe {n : ℕ} (g : Fin n → ℝ) : ∑ k, ((g k : ℝ) : EReal) = ((∑ k, g k : ℝ) : EReal) :=
  (map_sum (⟨⟨fun r : ℝ => (r : EReal), rfl⟩, fun _ _ => rfl⟩ : ℝ →+ EReal) g Finset.univ).symm
theorem scale_named : Named.named (F := Ideal) κ "scale_log2e" (φ := .f32) 1040356334#32 = ((c0 * (Real.log 2)⁻¹ : ℝ) : EReal) := rfl
theorem inv_named : Named.named (F := Ideal) κ "inv_ln2" (φ := .f32) 1069066811#32 = (((Real.log 2)⁻¹ : ℝ) : EReal) := rfl
theorem scale_word : Ideal.ofBits FTy.f32 1035273459#32 = ((c0 : ℝ) : EReal) := by
  simp [Ideal.ofBits, Ideal.ieee, c0, -EReal.coe_mul]
  norm_num

/-! ## The body's functions on reals -/

def z2 (x : ℝ) : ℝ := x * (c0 * (Real.log 2)⁻¹)
def lb2 (x : ℝ) : ℝ := min (z2 x) 0 - Real.log (1 + (2 : ℝ) ^ (-|z2 x|)) * (Real.log 2)⁻¹
def om2 (x : ℝ) : ℝ := lb2 x - z2 x
theorem one_add_pos (r : ℝ) : 0 < 1 + (2 : ℝ) ^ r := by positivity

section
variable (m : ℕ → ℕ → Prop) [∀ r j, Decidable (m r j)] (φ : ℕ → ℕ → ℝ) (c gs δ : ℕ → ℝ) (dw : ℕ → ℕ → ℝ) (r j : ℕ)

def aM : ℝ := if m r j then om2 (φ r j) else 0
def wM : ℝ := if m r j then (2 : ℝ) ^ (lb2 (φ r j) + (∑ k ∈ range 256, aM m φ r k * (if j < k % 256 then 1 else 0) + c r)) else 0
def gM : ℝ := wM m φ c r j * dw r j
def dzM : ℝ := if m r j then gM m φ c dw r j * (2 : ℝ) ^ om2 (φ r j)
    - (δ r - (gs r + ∑ k ∈ range 256, gM m φ c dw r k * (if j ≤ k % 256 then 1 else 0))) * (2 : ℝ) ^ lb2 (φ r j) else 0
end

/-- The words of a mask. -/
def Mk (m : ℕ → ℕ → Prop) [∀ r j, Decidable (m r j)] : S512x256.Idx → BitVec 1 := fun y => BitVec.ofBool (decide (m (y 0).val (y 1).val))

/-! ## The payloads on blocks of reals -/

theorem pay1 (q kt : ℕ → ℕ → ℝ) : k0_pay1 (F := Ideal) (T q) (T kt) = T fun r j => ∑ k ∈ range 128, q r k * kt k j := by
  funext y
  pointwise [k0_pay1, T]
  simp only [← EReal.coe_mul, sum_coe, ← EReal.coe_add, Finset.sum_range, EReal.coe_eq_coe_iff]

theorem pay2 (q kt : ℕ → ℕ → ℝ) : k0_pay2 (F := Ideal) (T q) (T kt) = T fun r j => ∑ k ∈ range 128, q r k * kt k j := by
  funext y
  pointwise [k0_pay2, T]
  simp only [← EReal.coe_mul, sum_coe, ← EReal.coe_add, Finset.sum_range, EReal.coe_eq_coe_iff]

theorem pay40 (q kt : ℕ → ℕ → ℝ) : k0_pay40 (F := Ideal) (T q) (T kt) = T fun r j => ∑ k ∈ range 128, q r k * kt k j := by
  funext y
  pointwise [k0_pay40, T]
  simp only [← EReal.coe_mul, sum_coe, ← EReal.coe_add, Finset.sum_range, EReal.coe_eq_coe_iff]

theorem pay41 (q kt : ℕ → ℕ → ℝ) : k0_pay41 (F := Ideal) (T q) (T kt) = T fun r j => ∑ k ∈ range 128, q r k * kt k j := by
  funext y
  pointwise [k0_pay41, T]
  simp only [← EReal.coe_mul, sum_coe, ← EReal.coe_add, Finset.sum_range, EReal.coe_eq_coe_iff]

theorem pay42 (q kt : ℕ → ℕ → ℝ) : k0_pay42 (F := Ideal) (T q) (T kt) = T fun r j => ∑ k ∈ range 128, q r k * kt k j := by
  funext y
  pointwise [k0_pay42, T]
  simp only [← EReal.coe_mul, sum_coe, ← EReal.coe_add, Finset.sum_range, EReal.coe_eq_coe_iff]

theorem pay59 (q kt : ℕ → ℕ → ℝ) : k0_pay59 (F := Ideal) (T q) (T kt) = T fun r j => ∑ k ∈ range 128, q r k * kt k j := by
  funext y
  pointwise [k0_pay59, T]
  simp only [← EReal.coe_mul, sum_coe, ← EReal.coe_add, Finset.sum_range, EReal.coe_eq_coe_iff]

theorem pay60 (q kt : ℕ → ℕ → ℝ) : k0_pay60 (F := Ideal) (T q) (T kt) = T fun r j => ∑ k ∈ range 128, q r k * kt k j := by
  funext y
  pointwise [k0_pay60, T]
  simp only [← EReal.coe_mul, sum_coe, ← EReal.coe_add, Finset.sum_range, EReal.coe_eq_coe_iff]

theorem pay3 (q p a : ℕ → ℕ → ℝ) : k0_pay3 (F := Ideal) (T q) (T p) (T a) = T fun s d => a s d + ∑ r ∈ range 512, p r s * q r d := by
  funext y
  pointwise [k0_pay3, T]
  simp only [← EReal.coe_mul, sum_coe, ← EReal.coe_add, Finset.sum_range, EReal.coe_eq_coe_iff]

theorem pay4 (q p a : ℕ → ℕ → ℝ) : k0_pay4 (F := Ideal) (T q) (T p) (T a) = T fun s d => a s d + ∑ r ∈ range 512, p r s * q r d := by
  funext y
  pointwise [k0_pay4, T]
  simp only [← EReal.coe_mul, sum_coe, ← EReal.coe_add, Finset.sum_range, EReal.coe_eq_coe_iff]

theorem pay43 (q p a : ℕ → ℕ → ℝ) : k0_pay43 (F := Ideal) (T q) (T p) (T a) = T fun s d => a s d + ∑ r ∈ range 512, p r s * q r d := by
  funext y
  pointwise [k0_pay43, T]
  simp only [← EReal.coe_mul, sum_coe, ← EReal.coe_add, Finset.sum_range, EReal.coe_eq_coe_iff]

theorem pay44 (q p a : ℕ → ℕ → ℝ) : k0_pay44 (F := Ideal) (T q) (T p) (T a) = T fun s d => a s d + ∑ r ∈ range 512, p r s * q r d := by
  funext y
  pointwise [k0_pay44, T]
  simp only [← EReal.coe_mul, sum_coe, ← EReal.coe_add, Finset.sum_range, EReal.coe_eq_coe_iff]

theorem pay61 (q p a : ℕ → ℕ → ℝ) : k0_pay61 (F := Ideal) (T q) (T p) (T a) = T fun s d => a s d + ∑ r ∈ range 512, p r s * q r d := by
  funext y
  pointwise [k0_pay61, T]
  simp only [← EReal.coe_mul, sum_coe, ← EReal.coe_add, Finset.sum_range, EReal.coe_eq_coe_iff]

theorem pay62 (q p a : ℕ → ℕ → ℝ) : k0_pay62 (F := Ideal) (T q) (T p) (T a) = T fun s d => a s d + ∑ r ∈ range 512, p r s * q r d := by
  funext y
  pointwise [k0_pay62, T]
  simp only [← EReal.coe_mul, sum_coe, ← EReal.coe_add, Finset.sum_range, EReal.coe_eq_coe_iff]

theorem pay81 (q p a : ℕ → ℕ → ℝ) : k0_pay81 (F := Ideal) (T q) (T p) (T a) = T fun s d => a s d + ∑ r ∈ range 512, p r s * q r d := by
  funext y
  pointwise [k0_pay81, T]
  simp only [← EReal.coe_mul, sum_coe, ← EReal.coe_add, Finset.sum_range, EReal.coe_eq_coe_iff]

theorem pay82 (q p a : ℕ → ℕ → ℝ) : k0_pay82 (F := Ideal) (T q) (T p) (T a) = T fun s d => a s d + ∑ r ∈ range 512, p r s * q r d := by
  funext y
  pointwise [k0_pay82, T]
  simp only [← EReal.coe_mul, sum_coe, ← EReal.coe_add, Finset.sum_range, EReal.coe_eq_coe_iff]

theorem pay5 (p a k : ℕ → ℕ → ℝ) : k0_pay5 (F := Ideal) (T a) (T p) (T k) (constant S512x128 .f32 0x00000000#32) = T fun r d => a r d + ∑ j ∈ range 256, p r j * k j d := by
  funext y
  pointwise [k0_pay5, T]
  simp only [← EReal.coe_mul, sum_coe, ← EReal.coe_add, Finset.sum_range, EReal.coe_eq_coe_iff]

theorem pay45 (p a k : ℕ → ℕ → ℝ) : k0_pay45 (F := Ideal) (T p) (T a) (T k) = T fun r d => a r d + ∑ j ∈ range 256, p r j * k j d := by
  funext y
  pointwise [k0_pay45, T]
  simp only [← EReal.coe_mul, sum_coe, ← EReal.coe_add, Finset.sum_range, EReal.coe_eq_coe_iff]

theorem pay63 (p a k : ℕ → ℕ → ℝ) : k0_pay63 (F := Ideal) (T a) (T p) (T k) = T fun r d => a r d + ∑ j ∈ range 256, p r j * k j d := by
  funext y
  pointwise [k0_pay63, T]
  simp only [← EReal.coe_mul, sum_coe, ← EReal.coe_add, Finset.sum_range, EReal.coe_eq_coe_iff]

theorem pay83 (p a k : ℕ → ℕ → ℝ) : k0_pay83 (F := Ideal) (T a) (T p) (T k) = T fun r d => a r d + ∑ j ∈ range 256, p r j * k j d := by
  funext y
  pointwise [k0_pay83, T]
  simp only [← EReal.coe_mul, sum_coe, ← EReal.coe_add, Finset.sum_range, EReal.coe_eq_coe_iff]

theorem pay6 (φ : ℕ → ℕ → ℝ) : k0_pay6 (F := Ideal) (T φ) = T fun r j => z2 (φ r j) := by
  funext y
  pointwise [k0_pay6, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay7 (φ : ℕ → ℕ → ℝ) : k0_pay7 (F := Ideal) (T φ) = T fun r j => lb2 (φ r j) := by
  funext y
  pointwise [k0_pay7, k0_pay6, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay8 (φ : ℕ → ℕ → ℝ) : k0_pay8 (F := Ideal) (T φ) = T fun r j => om2 (φ r j) := by
  unfold k0_pay8; rw [pay7, pay6]
  funext y
  pointwise [om2, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay46 (φ : ℕ → ℕ → ℝ) : k0_pay46 (F := Ideal) (T φ) = T fun r j => z2 (φ r j) := by
  funext y
  pointwise [k0_pay46, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay47 (φ : ℕ → ℕ → ℝ) : k0_pay47 (F := Ideal) (T φ) = T fun r j => lb2 (φ r j) := by
  funext y
  pointwise [k0_pay47, k0_pay46, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay48 (φ : ℕ → ℕ → ℝ) : k0_pay48 (F := Ideal) (T φ) = T fun r j => om2 (φ r j) := by
  unfold k0_pay48; rw [pay47, pay46]
  funext y
  pointwise [om2, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay64 (φ : ℕ → ℕ → ℝ) : k0_pay64 (F := Ideal) (T φ) = T fun r j => z2 (φ r j) := by
  funext y
  pointwise [k0_pay64, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay65 (φ : ℕ → ℕ → ℝ) : k0_pay65 (F := Ideal) (T φ) = T fun r j => 1 + (2 : ℝ) ^ (-|z2 (φ r j)|) := by
  funext y
  pointwise [k0_pay65, k0_pay64, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay66 (φ : ℕ → ℕ → ℝ) : k0_pay66 (F := Ideal) (T fun r j => z2 (φ r j)) (T fun r j => 1 + (2 : ℝ) ^ (-|z2 (φ r j)|)) = T fun r j => lb2 (φ r j) := by
  funext y
  pointwise [k0_pay66, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay67 (φ : ℕ → ℕ → ℝ) : k0_pay67 (F := Ideal) (T fun r j => z2 (φ r j)) (T fun r j => 1 + (2 : ℝ) ^ (-|z2 (φ r j)|)) = T fun r j => om2 (φ r j) := by
  unfold k0_pay67; rw [pay66]
  funext y
  pointwise [om2, T]
  simp only [scale_named, inv_named, ← EReal.coe_zero, ← EReal.coe_one, ← EReal.coe_mul, ← EReal.coe_sub, ← EReal.coe_add, absf_coe, exp2_coe, log_coe _ (one_add_pos _), min_coe, EReal.coe_eq_coe_iff, lb2, z2, zero_sub, om2]

theorem pay9 (φ c : ℕ → ℕ → ℝ) : k0_pay9 (F := Ideal) (T fun k j => if j < k % 256 then 1 else 0) (T c) (T φ) = T (wM (fun _ _ => True) φ (fun r => c r 0)) := by
  funext y
  unfold k0_pay9; rw [pay8, pay7]
  pointwise [T]
  simp only [← EReal.coe_zero, ← EReal.coe_mul, ← EReal.coe_sub, sum_coe, ← EReal.coe_add, exp2_coe, coe_ite, scale_word, Finset.sum_range, sub_self, zero_mul, Finset.sum_const_zero, add_zero, zero_add, EReal.coe_eq_coe_iff, if_true, wM, gM, dzM, aM]
  try rfl

theorem pay10 (φ c dw : ℕ → ℕ → ℝ) : k0_pay10 (F := Ideal) (T fun k j => if j < k % 256 then 1 else 0) (T c) (T φ) (T dw) = T (gM (fun _ _ => True) φ (fun r => c r 0) dw) := by
  funext y
  unfold k0_pay10; rw [pay9]
  pointwise [T]
  simp only [← EReal.coe_mul, gM]

theorem pay11 (φ c gs δ dw : ℕ → ℕ → ℝ) : k0_pay11 (F := Ideal) (T δ) (T fun k j => if j < k % 256 then 1 else 0) (T fun k j => if j ≤ k % 256 then 1 else 0) (T c) (T gs) (T φ) (T dw) = T (dzM (fun _ _ => True) φ (fun r => c r 0) (fun r => gs r 0) (fun r => δ r 0) dw) := by
  funext y
  unfold k0_pay11; rw [pay10, pay8, pay7]
  pointwise [T]
  simp only [← EReal.coe_zero, ← EReal.coe_mul, ← EReal.coe_sub, sum_coe, ← EReal.coe_add, exp2_coe, coe_ite, scale_word, Finset.sum_range, sub_self, zero_mul, Finset.sum_const_zero, add_zero, zero_add, EReal.coe_eq_coe_iff, if_true, dzM]
  try rfl

theorem pay12 (φ c : ℕ → ℕ → ℝ) : k0_pay12 (F := Ideal) (T c) (T φ) = T (fun r _ => c r 0 + ∑ k ∈ range 256, aM (fun _ _ => True) φ r k) := by
  funext y
  unfold k0_pay12; rw [pay8]
  pointwise [T]
  simp only [← EReal.coe_zero, ← EReal.coe_mul, ← EReal.coe_sub, sum_coe, ← EReal.coe_add, exp2_coe, coe_ite, scale_word, Finset.sum_range, sub_self, zero_mul, Finset.sum_const_zero, add_zero, zero_add, EReal.coe_eq_coe_iff, if_true, wM, gM, dzM, aM]
  try rfl

theorem pay13 (φ c gs dw : ℕ → ℕ → ℝ) : k0_pay13 (F := Ideal) (T fun k j => if j < k % 256 then 1 else 0) (T c) (T gs) (T φ) (T dw) = T (fun r _ => gs r 0 + ∑ k ∈ range 256, gM (fun _ _ => True) φ (fun r => c r 0) dw r k) := by
  funext y
  unfold k0_pay13; rw [pay10]
  pointwise [T]
  simp only [← EReal.coe_zero, ← EReal.coe_mul, ← EReal.coe_sub, sum_coe, ← EReal.coe_add, exp2_coe, coe_ite, scale_word, Finset.sum_range, sub_self, zero_mul, Finset.sum_const_zero, add_zero, zero_add, EReal.coe_eq_coe_iff, if_true, ]
  try rfl

theorem pay77 (φ : ℕ → ℕ → ℝ) : k0_pay77 (F := Ideal) (T φ) k0_pay14 = T fun r j => φ r j * c0 := by
  funext y
  pointwise [k0_pay77, k0_pay14, T]
  simp only [scale_word, ← EReal.coe_mul]
theorem pay75 (φ : ℕ → ℕ → ℝ) : k0_pay75 (F := Ideal) (T φ) = T fun r j => φ r j * c0 := by
  funext y
  pointwise [k0_pay75, T]
  simp only [scale_word, ← EReal.coe_mul]
theorem pay78 (φ : ℕ → ℕ → ℝ) : k0_pay78 (F := Ideal) (T φ) = T φ := by
  funext y
  pointwise [k0_pay78, T]
theorem pay76 (φ : ℕ → ℕ → ℝ) : k0_pay76 (F := Ideal) (T φ) = T φ := by
  funext y
  pointwise [k0_pay76, T]
theorem pay29 : k0_pay29 (F := Ideal) = T fun _ _ => 0 := by
  funext y
  pointwise [k0_pay29, T]
  rfl
theorem pay30 : k0_pay30 (F := Ideal) = T fun _ _ => 0 := by
  funext y
  pointwise [k0_pay30, T]
  rfl
theorem pay33 : k0_pay33 (F := Ideal) = T fun _ _ => 0 := by
  funext y
  pointwise [k0_pay33, T]
  rfl
theorem pay34 : k0_pay34 (F := Ideal) = T fun _ _ => 0 := by
  funext y
  pointwise [k0_pay34, T]
  rfl
theorem pay38 : k0_pay38 (F := Ideal) = T fun _ _ => 0 := by
  funext y
  pointwise [k0_pay38, T]
  rfl
theorem pay39 : k0_pay39 (F := Ideal) = T fun _ _ => 0 := by
  funext y
  pointwise [k0_pay39, T]
  rfl
theorem pay31 (q p : ℕ → ℕ → ℝ) : k0_pay31 (F := Ideal) (T q) (T p) = T fun r _ => ∑ d ∈ range 128, q r d * p r d := by
  funext y
  pointwise [k0_pay31, T]
  simp only [← EReal.coe_mul, sum_coe, Finset.sum_range]

section
variable {m : ℕ → ℕ → Prop} [∀ r j, Decidable (m r j)]

theorem pay50 (w1 w2 : IVec S512x256 32) (w3 : BitVec 32) (h : k0_pay49 w1 w2 w3 = Mk m) (φ : ℕ → ℕ → ℝ) : k0_pay50 (F := Ideal) w1 w2 w3 (T φ) = T (aM m φ) := by
  funext y
  unfold k0_pay50; rw [pay48, h]
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, wM, gM, dzM, aM]
  try rfl

theorem pay51 (w1 w2 : IVec S512x256 32) (w3 : BitVec 32) (h : k0_pay49 w1 w2 w3 = Mk m) (φ : ℕ → ℕ → ℝ) : k0_pay51 (F := Ideal) w1 w2 w3 (T φ) = T (aM m φ) := by
  unfold k0_pay51; rw [pay50 _ _ _ h]; rfl
theorem pay52 (w1 w2 : IVec S512x256 32) (w3 : BitVec 32) (h : k0_pay49 w1 w2 w3 = Mk m) (φ : ℕ → ℕ → ℝ) : k0_pay52 (F := Ideal) w1 w2 w3 (T φ) = T (aM m φ) := by
  unfold k0_pay52; rw [pay51 _ _ _ h]; rfl
theorem pay53 (φ c : ℕ → ℕ → ℝ) : k0_pay53 (F := Ideal) (T fun k j => if j < k % 256 then 1 else 0) (T c) (T fun r j => lb2 (φ r j)) (Mk m) (T (aM m φ)) (T (aM m φ)) (T (aM m φ)) = T (wM m φ (fun r => c r 0)) := by
  funext y
  unfold k0_pay53
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, wM, gM, dzM]
  try rfl

theorem pay54 (φ c dw : ℕ → ℕ → ℝ) : k0_pay54 (F := Ideal) (T fun k j => if j < k % 256 then 1 else 0) (T c) (T dw) (T fun r j => lb2 (φ r j)) (Mk m) (T (aM m φ)) (T (aM m φ)) (T (aM m φ)) = T (gM m φ (fun r => c r 0) dw) := by
  funext y
  unfold k0_pay54; rw [pay53]
  pointwise [T]
  simp only [← EReal.coe_mul, gM]
theorem pay55 (φ c : ℕ → ℕ → ℝ) : k0_pay55 (F := Ideal) (T c) (T φ) = T (fun r _ => c r 0 + ∑ k ∈ range 256, φ r k) := by
  funext y
  pointwise [k0_pay55, T]
  simp only [sum_coe, Finset.sum_range, ← EReal.coe_add]
theorem pay74 (φ c : ℕ → ℕ → ℝ) : k0_pay74 (F := Ideal) (T c) (T φ) = T (fun r _ => c r 0 + ∑ k ∈ range 256, φ r k) := by
  funext y
  pointwise [k0_pay74, T]
  simp only [sum_coe, Finset.sum_range, ← EReal.coe_add]
theorem pay56 (φ c dw : ℕ → ℕ → ℝ) : k0_pay56 (F := Ideal) (T fun k j => if j < k % 256 then 1 else 0) (T c) (T dw) (T fun r j => lb2 (φ r j)) (Mk m) (T (aM m φ)) (T (aM m φ)) (T (aM m φ))
    = T (fun r _ => c r 0 + ∑ k ∈ range 256, gM m φ (fun r => c r 0) dw r k) := by
  funext y
  unfold k0_pay56; rw [pay54]
  pointwise [T]
  simp only [sum_coe, Finset.sum_range, ← EReal.coe_add]
theorem pay58 (φ c : ℕ → ℕ → ℝ) : k0_pay58 (F := Ideal) (T fun k j => if j < k % 256 then 1 else 0) (T c) (T fun r j => lb2 (φ r j)) (Mk m) (T (aM m φ)) (T (aM m φ)) (T (aM m φ)) = T (wM m φ (fun r => c r 0)) := by
  unfold k0_pay58; rw [pay53]; rfl
theorem pay57 (φ c δ dw : ℕ → ℕ → ℝ) : k0_pay57 (F := Ideal) (T δ) (T fun k j => if j < k % 256 then 1 else 0) (T fun k j => if j ≤ k % 256 then 1 else 0) (T c) (T dw) (T fun r j => lb2 (φ r j)) (T fun r j => om2 (φ r j)) (Mk m) (T (aM m φ)) (T (aM m φ)) (T (aM m φ))
    = T fun r j => dzM m φ (fun r => c r 0) (fun r => c r 0) (fun r => δ r 0) dw r j * c0 := by
  funext y
  unfold k0_pay57; rw [pay54]
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, dzM]
  try rfl

theorem pay69 (w1 w2 : IVec S512x256 32) (w3 : BitVec 32) (h : k0_pay68 w1 w2 w3 = Mk m) (φ : ℕ → ℕ → ℝ) : k0_pay69 (F := Ideal) w1 w2 w3 (T fun r j => z2 (φ r j)) (T fun r j => 1 + (2 : ℝ) ^ (-|z2 (φ r j)|)) = T (aM m φ) := by
  funext y
  unfold k0_pay69; rw [pay67, h]
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, wM, gM, dzM, aM]
  try rfl

theorem pay70 (w1 w2 : IVec S512x256 32) (w3 : BitVec 32) (h : k0_pay68 w1 w2 w3 = Mk m) (φ c : ℕ → ℕ → ℝ) : k0_pay70 (F := Ideal) w1 w2 w3 (T fun k j => if j < k % 256 then 1 else 0) (T c) (T fun r j => z2 (φ r j)) (T fun r j => 1 + (2 : ℝ) ^ (-|z2 (φ r j)|)) = T (wM m φ (fun r => c r 0)) := by
  funext y
  unfold k0_pay70; rw [pay69 _ _ _ h, pay66, h]
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, wM, gM, dzM]
  try rfl

theorem pay71 (w1 w2 : IVec S512x256 32) (w3 : BitVec 32) (h : k0_pay68 w1 w2 w3 = Mk m) (φ c dw : ℕ → ℕ → ℝ) : k0_pay71 (F := Ideal) w1 w2 w3 (T fun k j => if j < k % 256 then 1 else 0) (T c) (T dw) (T fun r j => z2 (φ r j)) (T fun r j => 1 + (2 : ℝ) ^ (-|z2 (φ r j)|)) = T (gM m φ (fun r => c r 0) dw) := by
  funext y
  unfold k0_pay71; rw [pay70 _ _ _ h]
  pointwise [T]
  simp only [← EReal.coe_mul, gM]
theorem pay72 (w1 w2 : IVec S512x256 32) (w3 : BitVec 32) (h : k0_pay68 w1 w2 w3 = Mk m) (φ c gs δ dw : ℕ → ℕ → ℝ) : k0_pay72 (F := Ideal) (T δ) w1 w2 w3 (T fun k j => if j < k % 256 then 1 else 0) (T fun k j => if j ≤ k % 256 then 1 else 0) (T c) (T gs) (T dw) (T fun r j => z2 (φ r j)) (T fun r j => 1 + (2 : ℝ) ^ (-|z2 (φ r j)|))
    = T (dzM m φ (fun r => c r 0) (fun r => gs r 0) (fun r => δ r 0) dw) := by
  funext y
  unfold k0_pay72; rw [pay71 _ _ _ h, pay66, pay67, h]
  pointwise [T, Mk]
  simp only [← EReal.coe_zero, ← EReal.coe_mul, ← EReal.coe_sub, sum_coe, ← EReal.coe_add, exp2_coe, select_ofBool, decide_eq_true_eq, coe_ite, scale_word, Finset.sum_range, sub_self, zero_mul, Finset.sum_const_zero, add_zero, zero_add, EReal.coe_eq_coe_iff, if_true, dzM]
  try rfl

theorem pay73 (w1 w2 : IVec S512x256 32) (w3 : BitVec 32) (h : k0_pay68 w1 w2 w3 = Mk m) (φ c : ℕ → ℕ → ℝ) : k0_pay73 (F := Ideal) w1 w2 w3 (T c) (T fun r j => z2 (φ r j)) (T fun r j => 1 + (2 : ℝ) ^ (-|z2 (φ r j)|)) = T (fun r _ => c r 0 + ∑ k ∈ range 256, aM m φ r k) := by
  funext y
  unfold k0_pay73; rw [pay69 _ _ _ h]
  pointwise [T]
  simp only [sum_coe, Finset.sum_range, ← EReal.coe_add]
end

end Cert.Stick
-- ==== Proof.Value.Spec.lean ====
module

public import proofs.«01_k».proof.Proof.Value.Pay

@[expose] public section

set_option maxRecDepth 16384

noncomputable section

namespace Cert.Stick

open Finset

/-- What one head is given: queries, keys, values, the attention's output, and the output's gradient. -/
structure Hd where
  Q : ℕ → ℕ → ℝ
  K : ℕ → ℕ → ℝ
  V : ℕ → ℕ → ℝ
  O : ℕ → ℕ → ℝ
  DO : ℕ → ℕ → ℝ

namespace Hd
variable (H : Hd) (t s e d : ℕ)

/-- The unscaled score of query `t` and key `s`. -/
def raw : ℝ := ∑ d ∈ range 128, H.Q t d * H.K s d
/-- The gradient of the weight of key `s` for query `t`. -/
def dw : ℝ := ∑ d ∈ range 128, H.DO t d * H.V s d
/-- The log, to base two, of what key `s` leaves of the stick. -/
def M : ℝ := if s < t then om2 (H.raw t s) else 0
/-- The sum of these logs over the keys from `e` on. -/
def cs : ℝ := ∑ s ∈ Ico e 4096, H.M t s
/-- The weight of key `s` for query `t`. -/
def w : ℝ := if s < t then (2 : ℝ) ^ (lb2 (H.raw t s) + H.cs t (s + 1)) else 0
def g : ℝ := H.w t s * H.dw t s
def gs : ℝ := ∑ s ∈ Ico e 4096, H.g t s
def delta : ℝ := ∑ d ∈ range 128, H.DO t d * H.O t d
/-- The gradient of the unscaled score. -/
def dz : ℝ := (if s < t then H.g t s * (2 : ℝ) ^ om2 (H.raw t s) - (H.delta t - H.gs t s) * (2 : ℝ) ^ lb2 (H.raw t s) else 0) * c0
def dq : ℝ := ∑ s ∈ range 4096, H.dz t s * H.K s d
def dk : ℝ := ∑ t ∈ range 4096, H.dz t s * H.Q t d
def dv : ℝ := ∑ t ∈ range 4096, H.w t s * H.DO t d

theorem M_zero (h : t ≤ s) : H.M t s = 0 := if_neg (not_lt.mpr h)
theorem w_zero (h : t ≤ s) : H.w t s = 0 := if_neg (not_lt.mpr h)
theorem dz_zero (h : t ≤ s) : H.dz t s = 0 := by rw [dz, if_neg (not_lt.mpr h), zero_mul]
theorem cs_zero (h : t ≤ e) : H.cs t e = 0 := sum_eq_zero fun s hs => H.M_zero t s (h.trans (mem_Ico.mp hs).1)
theorem gs_zero (h : t ≤ e) : H.gs t e = 0 :=
  sum_eq_zero fun s hs => by rw [g, H.w_zero t s (h.trans (mem_Ico.mp hs).1), zero_mul]
end Hd

/-! ## Sums over blocks of 256 -/

theorem sum_shift (f : ℕ → ℝ) (b j : ℕ) : ∑ k ∈ Ico j 256, f (256 * b + k) = ∑ s ∈ Ico (256 * b + j) (256 * (b + 1)), f s := by
  rw [sum_Ico_add, add_comm j]; congr 2; ring

theorem add_block (f : ℕ → ℝ) (b j : ℕ) (hb : b < 16) (hj : j ≤ 256) :
    (∑ s ∈ Ico (256 * (b + 1)) 4096, f s) + ∑ k ∈ Ico j 256, f (256 * b + k) = ∑ s ∈ Ico (256 * b + j) 4096, f s := by
  rw [sum_shift, add_comm]
  exact sum_Ico_consecutive f (by omega) (by omega)

theorem add_block0 (f : ℕ → ℝ) (b : ℕ) (hb : b < 16) :
    (∑ s ∈ Ico (256 * (b + 1)) 4096, f s) + ∑ k ∈ range 256, f (256 * b + k) = ∑ s ∈ Ico (256 * b) 4096, f s := by
  rw [range_eq_Ico, add_block f b 0 hb (by omega), add_zero]

theorem sfx_ex (f : ℕ → ℝ) (j : ℕ) : ∑ k ∈ range 256, f k * (if j < k % 256 then 1 else 0) = ∑ k ∈ Ico (j + 1) 256, f k := by
  simp only [mul_ite, mul_one, mul_zero]
  rw [← sum_filter]
  congr 1; ext k
  simp only [mem_filter, mem_range, mem_Ico]
  omega
theorem sfx_in (f : ℕ → ℝ) (j : ℕ) : ∑ k ∈ range 256, f k * (if j ≤ k % 256 then 1 else 0) = ∑ k ∈ Ico j 256, f k := by
  simp only [mul_ite, mul_one, mul_zero]
  rw [← sum_filter]
  congr 1; ext k
  simp only [mem_filter, mem_range, mem_Ico]
  omega

/-! ## One block of the body's functions -/

section
variable (H : Hd) {m : ℕ → ℕ → Prop} [∀ r j, Decidable (m r j)] {φ : ℕ → ℕ → ℝ} {c gs δ : ℕ → ℝ} {dw : ℕ → ℕ → ℝ} (r : ℕ)
  {b t : ℕ} (hb : b < 16)
  (hm : ∀ j < 256, m r j ↔ 256 * b + j < t) (hφ : ∀ j < 256, φ r j = H.raw t (256 * b + j))
  (hc : c r = H.cs t (256 * (b + 1))) (hg : gs r = H.gs t (256 * (b + 1))) (hδ : δ r = H.delta t)
  (hd : ∀ j < 256, dw r j = H.dw t (256 * b + j))

include hm hφ in
theorem aM_eq (j : ℕ) (hj : j < 256) : aM m φ r j = H.M t (256 * b + j) := by
  unfold aM Hd.M
  rw [hφ j hj]
  exact if_congr (hm j hj) rfl rfl

include hb hm hφ hc in
theorem wM_eq (j : ℕ) (hj : j < 256) : wM m φ c r j = H.w t (256 * b + j) := by
  unfold wM Hd.w
  rw [sfx_ex, hφ j hj, hc, Finset.sum_congr rfl (fun k hk => aM_eq H r hm hφ k (mem_Ico.mp hk).2), add_comm (∑ k ∈ _, _)]
  unfold Hd.cs
  rw [add_block (H.M t) b (j + 1) hb (by omega)]
  exact if_congr (hm j hj) rfl rfl

include hb hm hφ hc hd in
theorem gM_eq (j : ℕ) (hj : j < 256) : gM m φ c dw r j = H.g t (256 * b + j) := by
  unfold gM Hd.g
  rw [wM_eq H r hb hm hφ hc j hj, hd j hj]

include hb hm hφ hc hg hδ hd in
theorem dzM_eq (j : ℕ) (hj : j < 256) : dzM m φ c gs δ dw r j * c0 = H.dz t (256 * b + j) := by
  unfold dzM Hd.dz
  rw [sfx_in, Finset.sum_congr rfl (fun k hk => gM_eq H r hb hm hφ hc hd k (mem_Ico.mp hk).2), hg, gM_eq H r hb hm hφ hc hd j hj,
    hφ j hj, hδ]
  unfold Hd.gs
  rw [add_block (H.g t) b j hb (by omega)]
  exact congrArg (· * c0) (if_congr (hm j hj) rfl rfl)

include hb hm hφ hc in
theorem cs_next : c r + ∑ k ∈ range 256, aM m φ r k = H.cs t (256 * b) := by
  rw [Finset.sum_congr rfl (fun k hk => aM_eq H r hm hφ k (mem_range.mp hk)), hc]
  exact add_block0 (H.M t) b hb

include hb hm hφ hc hg hd in
theorem gs_next : gs r + ∑ k ∈ range 256, gM m φ c dw r k = H.gs t (256 * b) := by
  rw [Finset.sum_congr rfl (fun k hk => gM_eq H r hb hm hφ hc hd k (mem_range.mp hk)), hg]
  exact add_block0 (H.g t) b hb
end

section
variable (H : Hd) (m : ℕ → ℕ → Prop) [∀ r j, Decidable (m r j)] (q b : ℕ) (hb : b < 16) (hm : ∀ r < 512, ∀ j < 256, m r j ↔ 256 * b + j < 512 * q + r)
  (c gs : ℕ → ℕ → ℝ) (hc : ∀ r < 512, c r 0 = H.cs (512 * q + r) (256 * (b + 1))) (hg : ∀ r < 512, gs r 0 = H.gs (512 * q + r) (256 * (b + 1)))

theorem T_congr {a b : ℕ} {φ ψ : ℕ → ℕ → ℝ} (h : ∀ r < a, ∀ j < b, φ r j = ψ r j) : (T φ : (⟨2, ![a, b]⟩ : Idealize.ShloMosaic.Shape).Idx → EReal) = T ψ := by
  funext y
  exact congrArg _ (h _ (y 0).isLt _ (y 1).isLt)

include hb hm hc
theorem blk_c {a : ℕ} : (T (fun r _ => c r 0 + ∑ k ∈ range 256, aM m (fun r j => H.raw (512 * q + r) (256 * b + j)) r k) : (⟨2, ![512, a]⟩ : Idealize.ShloMosaic.Shape).Idx → EReal)
    = T fun r _ => H.cs (512 * q + r) (256 * b) :=
  T_congr fun r hr _ _ => cs_next H (c := fun r => c r 0) r hb (hm r hr) (fun _ _ => rfl) (hc r hr)
theorem blk_w {a : ℕ} (ha : a = 256) : (T (wM m (fun r j => H.raw (512 * q + r) (256 * b + j)) (fun r => c r 0)) : (⟨2, ![512, a]⟩ : Idealize.ShloMosaic.Shape).Idx → EReal)
    = T fun r j => H.w (512 * q + r) (256 * b + j) := by
  subst ha
  exact T_congr fun r hr j hj => wM_eq H (c := fun r => c r 0) r hb (hm r hr) (fun _ _ => rfl) (hc r hr) j hj
include hg
theorem blk_g {a : ℕ} : (T (fun r _ => gs r 0 + ∑ k ∈ range 256, gM m (fun r j => H.raw (512 * q + r) (256 * b + j)) (fun r => c r 0)
      (fun r j => ∑ k ∈ range 128, H.DO (512 * q + r) k * H.V (256 * b + j) (0 + k)) r k) : (⟨2, ![512, a]⟩ : Idealize.ShloMosaic.Shape).Idx → EReal)
    = T fun r _ => H.gs (512 * q + r) (256 * b) :=
  T_congr fun r hr _ _ => gs_next H (c := fun r => c r 0) (gs := fun r => gs r 0) r hb (hm r hr) (fun _ _ => rfl) (hc r hr) (hg r hr)
    (fun j _ => by simp only [Nat.zero_add, Hd.dw])
theorem blk_z {a : ℕ} (ha : a = 256) : (T (fun r j => dzM m (fun r j => H.raw (512 * q + r) (256 * b + j)) (fun r => c r 0) (fun r => gs r 0)
      (fun r => ∑ d ∈ range 128, H.DO (512 * q + r) d * H.O (512 * q + r) d)
      (fun r j => ∑ k ∈ range 128, H.DO (512 * q + r) k * H.V (256 * b + j) (0 + k)) r j * c0) : (⟨2, ![512, a]⟩ : Idealize.ShloMosaic.Shape).Idx → EReal)
    = T fun r j => H.dz (512 * q + r) (256 * b + j) := by
  subst ha
  exact T_congr fun r hr j hj => dzM_eq H (c := fun r => c r 0) (gs := fun r => gs r 0) r hb (hm r hr) (fun _ _ => rfl) (hc r hr) (hg r hr) rfl
    (fun j _ => by simp only [Nat.zero_add, Hd.dw]) j hj
end

section
variable (H : Hd) (q b : ℕ) (Dk Dv : ℕ → ℕ → ℝ)

theorem blk_q {a a' : ℕ} (hb : b < 15) : (T (fun r d => ∑ s ∈ Ico (256 * (b + 1 + 1)) 4096, H.dz (512 * q + r) s * H.K s d
      + ∑ j ∈ range 256, H.dz (512 * q + r) (256 * (b + 1) + j) * H.K (256 * (b + 1) + j) (0 + d)) : (⟨2, ![a, a']⟩ : Idealize.ShloMosaic.Shape).Idx → EReal)
    = T fun r d => ∑ s ∈ Ico (256 * (b + 1)) 4096, H.dz (512 * q + r) s * H.K s d := by
  refine T_congr fun r hr d hd => ?_
  simp only [Nat.zero_add]
  exact add_block0 (fun s => H.dz (512 * q + r) s * H.K s d) (b + 1) (by omega)
theorem blk_raw {a a' : ℕ} : (T (fun r j => ∑ k ∈ range 128, H.Q (512 * q + r) k * H.K (256 * b + j) (0 + k)) : (⟨2, ![a, a']⟩ : Idealize.ShloMosaic.Shape).Idx → EReal)
    = T fun r j => H.raw (512 * q + r) (256 * b + j) := by
  simp only [Nat.zero_add, Hd.raw]

/-- The gradient of the keys once the query block `q` has been added for the key blocks right of `b`. -/
def accK (s d : ℕ) : ℝ := Dk s d + if 256 * (b + 1) ≤ s then ∑ r ∈ range 512, H.dz (512 * q + r) s * H.Q (512 * q + r) d else 0
/-- The same for the gradient of the values. -/
def accV (s d : ℕ) : ℝ := Dv s d + if 256 * (b + 1) ≤ s then ∑ r ∈ range 512, H.w (512 * q + r) s * H.DO (512 * q + r) d else 0

/-- A pair of a block, added to an array that has the blocks right of it. -/
theorem add_pair (a : ℕ) (D f : ℕ → ℝ) (s : ℕ) :
    (D s + if 256 * (a + 1) ≤ s then f s else 0) + (if 256 * a ≤ s ∧ s < 256 * a + 256 then f (256 * a + (s - 256 * a)) else 0)
      = D s + if 256 * a ≤ s then f s else 0 := by
  rw [add_assoc]; congr 1
  by_cases h1 : 256 * (a + 1) ≤ s
  · rw [if_pos h1, if_neg (by omega), if_pos (by omega), add_zero]
  · by_cases h2 : 256 * a ≤ s
    · rw [if_neg h1, if_pos (by omega), if_pos h2, zero_add, Nat.add_sub_cancel' h2]
    · rw [if_neg h1, if_neg (by omega), if_neg h2, add_zero]

theorem blk_K {a a' : ℕ} : (T (fun s d => accK H q (b + 1) Dk s d + if 256 * (b + 1) ≤ s ∧ s < 256 * (b + 1) + 256 then
      ∑ r ∈ range 512, H.dz (512 * q + r) (256 * (b + 1) + (s - 256 * (b + 1))) * H.Q (512 * q + r) d else 0) : (⟨2, ![a, a']⟩ : Idealize.ShloMosaic.Shape).Idx → EReal)
    = T (accK H q b Dk) :=
  T_congr fun s _ d _ => add_pair (b + 1) (fun s => Dk s d) (fun s => ∑ r ∈ range 512, H.dz (512 * q + r) s * H.Q (512 * q + r) d) s
theorem blk_V {a a' : ℕ} : (T (fun s d => accV H q (b + 1) Dv s d + if 256 * (b + 1) ≤ s ∧ s < 256 * (b + 1) + 256 then
      ∑ r ∈ range 512, H.w (512 * q + r) (256 * (b + 1) + (s - 256 * (b + 1))) * H.DO (512 * q + r) d else 0) : (⟨2, ![a, a']⟩ : Idealize.ShloMosaic.Shape).Idx → EReal)
    = T (accV H q b Dv) :=
  T_congr fun s _ d _ => add_pair (b + 1) (fun s => Dv s d) (fun s => ∑ r ∈ range 512, H.w (512 * q + r) s * H.DO (512 * q + r) d) s
end

end Cert.Stick
-- ==== Proof.Value.Sums.lean ====
module

public import Idealize.ShloMosaic.Lib.Pointwise

@[expose] public section

set_option maxRecDepth 16384

noncomputable section

namespace Cert.Stick

open Idealize.ShloMosaic
open Finset

/-- The array of extended reals with real entries, given by one matrix for every index of the second axis. -/
def T4 {a b c e : ℕ} (φ : ℕ → ℕ → ℕ → ℝ) : (⟨4, ![a, b, c, e]⟩ : Shape).Idx → EReal :=
  fun i => ((φ (i 1).val (i 2).val (i 3).val : ℝ) : EReal)

/-- A left fold of additions of reals adds their sum. -/
theorem foldl_real {M : ℕ} (F : EReal → Fin M → EReal) (f : ℕ → ℝ) (hF : ∀ r n, F r n = r + ((f n.val : ℝ) : EReal)) (L : List (Fin M)) :
    ∀ a : ℝ, L.foldl F ((a : ℝ) : EReal) = ((a + (L.map fun n => f n.val).sum : ℝ) : EReal) := by
  induction L with
  | nil => intro a; simp
  | cons n L ih =>
    intro a
    rw [List.foldl_cons, hF, ← EReal.coe_add, ih, List.map_cons, List.sum_cons, add_assoc]

section
variable {A B C N l u : ℕ}

theorem row_coord (n : Fin (⟨4, ![1, 1, 1, N]⟩ : Shape).numel) (a : Fin 4) :
    ((⟨4, ![1, 1, 1, N]⟩ : Shape).rowMajor.symm n a).val = if a = 3 then n.val else 0 := by
  have h := congrArg Fin.val ((⟨4, ![1, 1, 1, N]⟩ : Shape).rowMajor.apply_symm_apply n)
  rw [Shape.rowMajor_val_four] at h
  generalize (⟨4, ![1, 1, 1, N]⟩ : Shape).rowMajor.symm n = i at h ⊢
  have h0 : (i 0).val < 1 := (i 0).isLt
  have h1 : (i 1).val < 1 := (i 1).isLt
  have h2 : (i 2).val < 1 := (i 2).isLt
  have e0 : (i 0).val = 0 := by omega
  have e1 : (i 1).val = 0 := by omega
  have e2 : (i 2).val = 0 := by omega
  match a with
  | ⟨0, _⟩ => exact e0
  | ⟨1, _⟩ => exact e1
  | ⟨2, _⟩ => exact e2
  | ⟨3, _⟩ =>
    refine Eq.trans ?_ (if_pos rfl).symm
    rw [← h]
    change _ = (((i 0).val * 1 + (i 1).val) * 1 + (i 2).val) * N + (i 3).val
    rw [e0, e1, e2]
    show (i 3).val = _
    omega

theorem row_numel : (⟨4, ![1, 1, 1, N]⟩ : Shape).numel = N := by
  simp [Shape.numel, Fin.prod_univ_four]

/-- A window of ones over the last axis adds the entries it meets. -/
theorem window_sum (φ : ℕ → ℕ → ℕ → ℝ) (init : (⟨0, ![]⟩ : Shape).Idx → EReal) (hi0 : ∀ i, init i = ((0 : ℝ) : EReal))
    (h : (⟨4, ![A, B, C, N]⟩ : Shape).ReduceWindows (![1, 1, 1, N] : Fin 4 → ℕ) ![1, 1, 1, 1] ![0, 0, 0, l] ![0, 0, 0, u] ⟨4, ![A, B, C, N]⟩)
    (hu : 0 < (⟨0, ![]⟩ : Shape).numel) (j : (⟨4, ![A, B, C, N]⟩ : Shape).Idx) :
    Host.reduceWindow (fun x y : EReal => x + y) (![1, 1, 1, N] : Fin 4 → ℕ) ![1, 1, 1, 1] ![0, 0, 0, l] ![0, 0, 0, u] (T4 φ) init h hu j
      = ((∑ n ∈ range N, if l ≤ (j 3).val + n ∧ (j 3).val + n - l < N then φ (j 1).val (j 2).val ((j 3).val + n - l) else 0 : ℝ) : EReal) := by
  unfold Host.reduceWindow
  dsimp only
  rw [hi0]
  refine (foldl_real _ (fun n => if l ≤ (j 3).val + n ∧ (j 3).val + n - l < N then φ (j 1).val (j 2).val ((j 3).val + n - l) else 0)
    (fun r n => ?_) _ 0).trans ?_
  · have hc := row_coord (N := N) n
    have h0 : (j 0).val < A := (j 0).isLt
    have h1 : (j 1).val < B := (j 1).isLt
    have h2 : (j 2).val < C := (j 2).isLt
    refine congrArg (r + ·) ?_
    have c0 : ((⟨4, ![1, 1, 1, N]⟩ : Shape).rowMajor.symm n 0).val = 0 := hc 0
    have c1 : ((⟨4, ![1, 1, 1, N]⟩ : Shape).rowMajor.symm n 1).val = 0 := hc 1
    have c2 : ((⟨4, ![1, 1, 1, N]⟩ : Shape).rowMajor.symm n 2).val = 0 := hc 2
    have c3 : ((⟨4, ![1, 1, 1, N]⟩ : Shape).rowMajor.symm n 3).val = n.val := hc 3
    split
    · next hin =>
      have h3 := hin 3
      change l ≤ (j 3).val * 1 + ((⟨4, ![1, 1, 1, N]⟩ : Shape).rowMajor.symm n 3).val ∧ (j 3).val * 1 + ((⟨4, ![1, 1, 1, N]⟩ : Shape).rowMajor.symm n 3).val - l < N at h3
      rw [c3, Nat.mul_one] at h3
      rw [if_pos h3]
      unfold T4
      refine congrArg (fun x : ℝ => (x : EReal)) ?_
      have e1 : (j 1).val * 1 + ((⟨4, ![1, 1, 1, N]⟩ : Shape).rowMajor.symm n 1).val - 0 = (j 1).val := by omega
      have e2 : (j 2).val * 1 + ((⟨4, ![1, 1, 1, N]⟩ : Shape).rowMajor.symm n 2).val - 0 = (j 2).val := by omega
      have e3 : (j 3).val * 1 + ((⟨4, ![1, 1, 1, N]⟩ : Shape).rowMajor.symm n 3).val - l = (j 3).val + n.val - l := by omega
      show φ ((j 1).val * 1 + ((⟨4, ![1, 1, 1, N]⟩ : Shape).rowMajor.symm n 1).val - 0) ((j 2).val * 1 + ((⟨4, ![1, 1, 1, N]⟩ : Shape).rowMajor.symm n 2).val - 0) ((j 3).val * 1 + ((⟨4, ![1, 1, 1, N]⟩ : Shape).rowMajor.symm n 3).val - l) = _
      rw [e1, e2, e3]
    · next hin =>
      rw [if_neg fun h3 => hin fun a => by
          match a with
        | ⟨0, _⟩ =>
          show 0 ≤ (j 0).val * 1 + ((⟨4, ![1, 1, 1, N]⟩ : Shape).rowMajor.symm n 0).val ∧ (j 0).val * 1 + ((⟨4, ![1, 1, 1, N]⟩ : Shape).rowMajor.symm n 0).val - 0 < A
          omega
        | ⟨1, _⟩ =>
          show 0 ≤ (j 1).val * 1 + ((⟨4, ![1, 1, 1, N]⟩ : Shape).rowMajor.symm n 1).val ∧ (j 1).val * 1 + ((⟨4, ![1, 1, 1, N]⟩ : Shape).rowMajor.symm n 1).val - 0 < B
          omega
        | ⟨2, _⟩ =>
          show 0 ≤ (j 2).val * 1 + ((⟨4, ![1, 1, 1, N]⟩ : Shape).rowMajor.symm n 2).val ∧ (j 2).val * 1 + ((⟨4, ![1, 1, 1, N]⟩ : Shape).rowMajor.symm n 2).val - 0 < C
          omega
        | ⟨3, _⟩ =>
          show l ≤ (j 3).val * 1 + ((⟨4, ![1, 1, 1, N]⟩ : Shape).rowMajor.symm n 3).val ∧ (j 3).val * 1 + ((⟨4, ![1, 1, 1, N]⟩ : Shape).rowMajor.symm n 3).val - l < N
          rw [c3, Nat.mul_one]
          exact h3]
  · rw [zero_add, ← Fin.sum_univ_def]
    refine congrArg (fun x : ℝ => (x : EReal)) ?_
    refine (Finset.sum_range (fun n => if l ≤ (j 3).val + n ∧ (j 3).val + n - l < N then φ (j 1).val (j 2).val ((j 3).val + n - l) else 0)).symm.trans ?_
    exact congrArg (fun M => ∑ n ∈ range M, if l ≤ (j 3).val + n ∧ (j 3).val + n - l < N then φ (j 1).val (j 2).val ((j 3).val + n - l) else 0) row_numel

theorem windowAdd_sum (φ : ℕ → ℕ → ℕ → ℝ) (init : (⟨0, ![]⟩ : Shape).Idx → EReal) (hi0 : ∀ i, init i = ((0 : ℝ) : EReal))
    (h : (⟨4, ![A, B, C, N]⟩ : Shape).ReduceWindows (![1, 1, 1, N] : Fin 4 → ℕ) ![1, 1, 1, 1] ![0, 0, 0, l] ![0, 0, 0, u] ⟨4, ![A, B, C, N]⟩)
    (hu : 0 < (⟨0, ![]⟩ : Shape).numel) (j : (⟨4, ![A, B, C, N]⟩ : Shape).Idx) :
    Host.reduceWindowAdd (F := Ideal) (φ := .f32) (![1, 1, 1, N] : Fin 4 → ℕ) ![1, 1, 1, 1] ![0, 0, 0, l] ![0, 0, 0, u] (T4 φ) init h hu j
      = ((∑ n ∈ range N, if l ≤ (j 3).val + n ∧ (j 3).val + n - l < N then φ (j 1).val (j 2).val ((j 3).val + n - l) else 0 : ℝ) : EReal) := by
  refine Eq.trans ?_ (window_sum (u := u) φ init hi0 h hu j)
  rfl

/-- The sum of a row from an entry on. -/
theorem window_from (f : ℕ → ℝ) (k : ℕ) : (∑ n ∈ range N, if 0 ≤ k + n ∧ k + n - 0 < N then f (k + n - 0) else 0) = ∑ s ∈ Ico k N, f s := by
  rw [← sum_filter, sum_Ico_eq_sum_range]
  refine sum_congr (Finset.ext fun n => ?_) fun n _ => rfl
  simp only [mem_filter, mem_range]
  omega

/-- The sum of a row up to an entry. -/
theorem window_upto (f : ℕ → ℝ) (k : ℕ) (hk : k < N) (hl : l + 1 = N) :
    (∑ n ∈ range N, if l ≤ k + n ∧ k + n - l < N then f (k + n - l) else 0) = ∑ s ∈ range (k + 1), f s := by
  rw [← sum_filter]
  refine sum_bij' (fun n _ => k + n - l) (fun s _ => s + l - k) ?_ ?_ ?_ ?_ ?_ <;>
    simp only [mem_filter, mem_range] <;> intros <;> first | omega | trivial

end

end Cert.Stick
-- ==== Proof.Value.Ref.lean ====
module

public import proofs.«01_k».proof.Proof.Value.Spec
public import proofs.«01_k».proof.Proof.Value.Sums
public import proofs.«01_k».proof.Proof.Gen.ReferenceIdeal.Read
public import Idealize.ShloMosaic.Lib.Pointwise

@[expose] public section

set_option maxRecDepth 16384

noncomputable section

namespace Cert.Stick.Ref

open Idealize.ShloMosaic Idealize.ShloMosaic.TcCoe Idealize.ShloMosaic.WordCmp
open Cert.ReferenceIdeal Cert.ReferenceIdeal.Gen Cert.ReferenceIdeal.Read
open Finset

/-! ## Real functions -/

/-- The logarithm of one plus an exponential. -/
def sp (x : ℝ) : ℝ := max x 0 + Real.log (1 + Real.exp (-|x|))

theorem L_pos : 0 < Real.log 2 := Real.log_pos (by norm_num)
theorem two_pow (y : ℝ) : (2 : ℝ) ^ y = Real.exp (Real.log 2 * y) := Real.rpow_def_of_pos (by norm_num) y

theorem L_lb2 (x : ℝ) : Real.log 2 * lb2 x = - sp (-(x * c0)) := by
  have hL := L_pos
  have hz : Real.log 2 * z2 x = x * c0 := by unfold z2; field_simp
  have ha : Real.log 2 * -|z2 x| = -|-(x * c0)| := by
    rw [abs_neg, ← hz, abs_mul, abs_of_pos hL, mul_neg]
  unfold lb2 sp
  rw [mul_sub, two_pow, ha, mul_comm _ (Real.log 2)⁻¹, ← mul_assoc, mul_inv_cancel₀ hL.ne', one_mul, mul_min_of_nonneg _ _ hL.le, hz, mul_zero]
  have : max (-(x * c0)) 0 = - min (x * c0) 0 := by rw [← neg_zero, max_neg_neg, neg_zero]
  rw [this]
  ring

theorem sp_neg (z : ℝ) : sp (-z) = sp z - z := by
  unfold sp
  rw [abs_neg]
  have : max (-z) 0 = max z 0 - z := by
    rcases le_total z 0 with h | h
    · rw [max_eq_left (by linarith), max_eq_right h]; ring
    · rw [max_eq_right (by linarith), max_eq_left h]; ring
  rw [this]; ring

theorem L_om2 (x : ℝ) : Real.log 2 * om2 x = - sp (x * c0) := by
  have hz : Real.log 2 * z2 x = x * c0 := by have := L_pos; unfold z2; field_simp
  unfold om2
  rw [mul_sub, L_lb2, hz, sp_neg]; ring

theorem coe_max (r s : ℝ) : max (r : EReal) (s : EReal) = ((max r s : ℝ) : EReal) :=
  (EReal.coe_strictMono.monotone.map_max (a := r) (b := s)).symm

theorem inf_word (r : ℝ) : ¬ ((r : EReal) = Ideal.ofBits FTy.f32 2139095040#32) := by
  have : Ideal.ofBits FTy.f32 2139095040#32 = (⊤ : EReal) := by simp [Ideal.ofBits, Ideal.ieee]
  rw [this]; exact EReal.coe_ne_top r

theorem sp_coe (r : ℝ) : max (r : EReal) 0 + Ideal.log1p (Ideal.exp (-FloatOps.absf (F := Ideal) (φ := .f32) (r : EReal))) = ((sp r : ℝ) : EReal) := by
  rw [absf_coe, ← EReal.coe_neg, Ideal.exp_coe, ← EReal.coe_zero, coe_max]
  show _ + Ideal.log (1 + _) = _
  rw [← EReal.coe_one, ← EReal.coe_add, log_coe _ (by positivity), ← EReal.coe_add]
  rfl

/-! ## The heads -/

variable (P D : ℕ → ℕ → ℝ)

/-- Head `a` of the packed projections and of the packed gradient, without the attention's output. -/
def hd0 (a : ℕ) : Hd where
  Q := fun t d => P t (a * 128 + d)
  K := fun s d => P s (1024 + (a * 128 + d))
  V := fun s d => P s (2048 + (a * 128 + d))
  O := fun _ _ => 0
  DO := fun t d => D t (a * 128 + d)

/-- Head `a`, with its attention's output. -/
def hd (a : ℕ) : Hd := { hd0 P D a with O := fun t d => ∑ s ∈ range 4096, (hd0 P D a).w t s * (hd0 P D a).V s d }

theorem v7 : val_main_v7 (F := Ideal) (T P) = T4 fun a => (hd P D a).Q := by
  funext i
  pointwise [val_main_v7, val_main_v6, val_main_v5, val_main_v1, val_main_v0, T, T4]
  rfl
theorem v10 : val_main_v10 (F := Ideal) (T P) = T4 fun a => (hd P D a).K := by
  funext i
  pointwise [val_main_v10, val_main_v9, val_main_v8, val_main_v2, val_main_v0, T, T4]
  rfl
theorem v13 : val_main_v13 (F := Ideal) (T P) = T4 fun a => (hd P D a).V := by
  funext i
  pointwise [val_main_v13, val_main_v12, val_main_v11, val_main_v3, val_main_v0, T, T4]
  rfl
theorem v40 : val_main_v40 (F := Ideal) (T D) = T4 fun a => (hd P D a).DO := by
  funext i
  pointwise [val_main_v40, val_main_v39, val_main_v38, val_main_v37, val_main_v36, T, T4]
  rfl

theorem v15 : val_main_v15 (F := Ideal) (T P) = T4 fun a => (hd P D a).raw := by
  unfold val_main_v15
  rw [v7 P D, v10 P D]
  funext i
  pointwise [T4]
  simp only [← EReal.coe_mul, sum_coe, Hd.raw, Finset.sum_range]
theorem v43 : val_main_v43 (F := Ideal) (T P) (T D) = T4 fun a => (hd P D a).dw := by
  unfold val_main_v43
  rw [v40 P D, v13 P D]
  funext i
  pointwise [T4]
  simp only [← EReal.coe_mul, sum_coe, Hd.dw, Finset.sum_range]
theorem v17 : val_main_v17 (F := Ideal) (T P) = T4 fun a t s => (hd P D a).raw t s * c0 := by
  unfold val_main_v17
  rw [v15 P D]
  funext i
  pointwise [val_main_v16, val_main_cst, T4]
  rw [scale_word, ← EReal.coe_mul]

/-! ## The two logarithms and their slopes -/

theorem c0v : val_main_call0_v1_0 (F := Ideal) (T P) = T4 fun a t s => sp (-((hd P D a).raw t s * c0)) := by
  unfold val_main_call0_v1_0 val_main_call0_call0_v4 val_main_call0_call0_v6 val_main_call0_call0_v11 val_main_call0_call0_v1
    val_main_call0_call0_v10 val_main_call0_call0_v9 val_main_call0_call0_v8 val_main_call0_call0_v7 val_main_call0_call0_v3 val_main_call0_v0
  rw [v17 P D]
  funext i
  pointwise [val_main_call0_call0_v0, val_main_call0_call0_v2, val_main_call0_call0_v5, val_main_call0_call0_cst, T4]
  rw [if_neg (fun h => h rfl), ← EReal.coe_neg, sp_coe]
theorem c1v : val_main_call1_v1_0 (F := Ideal) (T P) = T4 fun a t s => sp ((hd P D a).raw t s * c0) := by
  unfold val_main_call1_v1_0 val_main_call1_call0_v4 val_main_call1_call0_v6 val_main_call1_call0_v11 val_main_call1_call0_v1
    val_main_call1_call0_v10 val_main_call1_call0_v9 val_main_call1_call0_v8 val_main_call1_call0_v7 val_main_call1_call0_v3 val_main_call1_v0 val_main_v24
  rw [v17 P D]
  funext i
  pointwise [val_main_call1_call0_v0, val_main_call1_call0_v2, val_main_call1_call0_v5, val_main_call1_call0_cst, T4]
  rw [if_neg (fun h => h rfl), neg_neg, sp_coe]
theorem v23 : val_main_v23_0 (F := Ideal) (T P) = T4 fun a t s => Real.log 2 * lb2 ((hd P D a).raw t s) := by
  unfold val_main_v23_0
  rw [c0v P D]
  funext i
  pointwise [T4]
  rw [L_lb2, EReal.coe_neg]
theorem v25 : val_main_v25_0 (F := Ideal) (T P) = T4 fun a t s => Real.log 2 * om2 ((hd P D a).raw t s) := by
  unfold val_main_v25_0
  rw [c1v P D]
  funext i
  pointwise [T4]
  rw [L_om2, EReal.coe_neg]
theorem v23s : val_main_v23_1 (F := Ideal) (T P) = T4 fun a t s => (2 : ℝ) ^ om2 ((hd P D a).raw t s) := by
  unfold val_main_v23_1 val_main_call0_call0_v21 val_main_call0_call0_v20 val_main_call0_call0_v16 val_main_call0_call0_v14 val_main_call0_call0_v18 val_main_call0_v0
  rw [v17 P D, c0v P D]
  funext i
  pointwise [val_main_call0_call0_v13, val_main_call0_call0_v15, val_main_call0_call0_v17, val_main_call0_call0_v19, val_main_call0_call0_cst_0, val_main_call0_call0_cst_1, val_main_call0_call0_cst_2, val_main_call0_call0_cst_3, T4]
  rw [← EReal.coe_neg, if_neg (inf_word _), if_neg (inf_word _), ← EReal.coe_sub, Ideal.exp_coe, two_pow, L_om2, sp_neg]
  congr 2; ring
theorem v25s : val_main_v25_1 (F := Ideal) (T P) = T4 fun a t s => (2 : ℝ) ^ lb2 ((hd P D a).raw t s) := by
  unfold val_main_v25_1 val_main_call1_call0_v21 val_main_call1_call0_v20 val_main_call1_call0_v16 val_main_call1_call0_v14 val_main_call1_call0_v18 val_main_call1_v0 val_main_v24
  rw [v17 P D, c1v P D]
  funext i
  pointwise [val_main_call1_call0_v13, val_main_call1_call0_v15, val_main_call1_call0_v17, val_main_call1_call0_v19, val_main_call1_call0_cst_0, val_main_call1_call0_cst_1, val_main_call1_call0_cst_2, val_main_call1_call0_cst_3, T4]
  rw [neg_neg, if_neg (inf_word _), if_neg (inf_word _), ← EReal.coe_sub, Ideal.exp_coe, two_pow, L_lb2, sp_neg]
  congr 2; ring

/-! ## The weights -/

theorem mask {x y : ℕ} (hx : x < 4096) (hy : y < 4096) (r : ℝ) :
    Scalar.select (IntOp.cmpi CmpIPredicate.slt (BitVec.ofNat 32 x) (BitVec.ofNat 32 y)) ((r : ℝ) : EReal) (0 : EReal)
      = ((if x < y then r else 0 : ℝ) : EReal) := by
  rw [cmpi_slt_ofNat (by omega) (by omega), select_ofBool, ← EReal.coe_zero]
  simp only [decide_eq_true_eq, coe_ite]

theorem zero_id : id (constant (F := Ideal) S_ FTy.f32 0#32) ix0 = (0 : EReal) := Ideal.ofBits_zero .f32

theorem T4_congr {a b c e : ℕ} {φ ψ : ℕ → ℕ → ℕ → ℝ} (h : ∀ x y z, z < e → φ x y z = ψ x y z) : (T4 φ : (⟨4, ![a, b, c, e]⟩ : Shape).Idx → EReal) = T4 ψ :=
  funext fun i => congrArg (fun x : ℝ => (x : EReal)) (h _ _ _ (i 3).isLt)

theorem v26 : val_main_v26_0 (F := Ideal) (T P) = T4 fun a t s => Real.log 2 * (hd P D a).M t s := by
  unfold val_main_v26_0
  rw [v25 P D]
  funext i
  pointwise [val_main_v26_1, val_main_v22, val_main_v21, val_main_v20, val_main_v19, val_main_v18, val_main_v14, val_main_call2_v2, val_main_call2_v0, val_main_cst_0, T4]
  rw [zero_id, mask (i 3).isLt (i 2).isLt]
  simp only [Hd.M, mul_ite, mul_zero]
theorem v27 : val_main_v27 (F := Ideal) (T P) = T4 fun a t s => Real.log 2 * (hd P D a).cs t s := by
  unfold val_main_v27
  rw [v26 P D]
  funext i
  refine (windowAdd_sum (A := 1) (B := 8) (C := 4096) (N := 4096) (l := 0) (u := 4095) _ _ (fun _ => Ideal.ofBits_zero .f32) _ _ i).trans ?_
  refine (congrArg (fun x : ℝ => (x : EReal)) (window_from (N := 4096) (fun s => Real.log 2 * (hd P D (i 1).val).M (i 2).val s) (i 3).val)).trans ?_
  simp only [T4, Hd.cs, mul_sum]
theorem v28 : val_main_v28 (F := Ideal) (T P) = T4 fun a t s => Real.log 2 * (hd P D a).cs t (s + 1) := by
  unfold val_main_v28
  rw [v26 P D, v27 P D]
  refine Eq.trans (b := T4 fun a t s => Real.log 2 * (hd P D a).cs t s - Real.log 2 * (hd P D a).M t s) ?_ (T4_congr fun a t s hs => ?_)
  · funext i
    pointwise [T4]
    rw [EReal.coe_sub]
  · unfold Hd.cs
    rw [sum_eq_sum_Ico_succ_bot hs]
    ring
theorem v30 : val_main_v30 (F := Ideal) (T P) = T4 fun a t s => (2 : ℝ) ^ (lb2 ((hd P D a).raw t s) + (hd P D a).cs t (s + 1)) := by
  unfold val_main_v30 val_main_v29
  rw [v23 P D, v28 P D]
  funext i
  pointwise [T4]
  rw [← EReal.coe_add, Ideal.exp_coe, two_pow, mul_add]
theorem v31 : val_main_v31_0 (F := Ideal) (T P) = T4 fun a => (hd P D a).w := by
  unfold val_main_v31_0
  rw [v30 P D]
  funext i
  pointwise [val_main_v31_1, val_main_v22, val_main_v21, val_main_v20, val_main_v19, val_main_v18, val_main_v14, val_main_call4_v2, val_main_call4_v0, val_main_cst_1, T4]
  rw [zero_id, mask (i 3).isLt (i 2).isLt]
  simp only [Hd.w]

/-! ## The gradients of the scores -/

theorem v45 : val_main_v45 (F := Ideal) (T P) (T D) = T4 fun a => (hd P D a).g := by
  unfold val_main_v45 val_main_v44
  rw [v30 P D, v43 P D]
  funext i
  pointwise [val_main_v31_1, val_main_v22, val_main_v21, val_main_v20, val_main_v19, val_main_v18, val_main_v14, val_main_call5_v0, val_main_call5_cst, T4]
  rw [← EReal.coe_mul, mask (i 3).isLt (i 2).isLt]
  refine congrArg (fun x : ℝ => (x : EReal)) ?_
  unfold Hd.g Hd.w
  rw [ite_mul, zero_mul, mul_comm ((hd P D _).dw _ _)]
theorem v47 : val_main_v47 (F := Ideal) (T P) (T D) = T4 fun a t s => ∑ s' ∈ range (s + 1), (hd P D a).g t s' := by
  unfold val_main_v47
  rw [v45 P D]
  funext i
  refine (windowAdd_sum (A := 1) (B := 8) (C := 4096) (N := 4096) (l := 4095) (u := 0) _ _ (fun _ => Ideal.ofBits_zero .f32) _ _ i).trans ?_
  refine (congrArg (fun x : ℝ => (x : EReal)) (window_upto _ _ (i 3).isLt rfl)).trans ?_
  rfl
theorem v48 : val_main_v48 (F := Ideal) (T P) (T D) = T4 fun a t s => ∑ s' ∈ range s, (hd P D a).g t s' := by
  unfold val_main_v48 val_main_v46
  rw [v47 P D, v45 P D]
  funext i
  pointwise [T4]
  rw [← EReal.coe_neg, ← EReal.coe_add, sum_range_succ, neg_add_cancel_comm_assoc]
theorem v49 : val_main_v49 (F := Ideal) (T P) (T D) = T4 fun a t s => if s < t then ∑ s' ∈ range s, (hd P D a).g t s' else 0 := by
  unfold val_main_v49
  rw [v48 P D]
  funext i
  pointwise [val_main_v26_1, val_main_v22, val_main_v21, val_main_v20, val_main_v19, val_main_v18, val_main_v14, val_main_call7_v0, val_main_call7_cst, T4]
  rw [mask (i 3).isLt (i 2).isLt]

theorem delta_eq (a t : ℕ) : (hd P D a).delta t = ∑ s ∈ range 4096, (hd P D a).g t s := by
  show ∑ d ∈ range 128, (hd P D a).DO t d * ∑ s ∈ range 4096, (hd P D a).w t s * (hd P D a).V s d = _
  simp only [mul_sum]
  rw [sum_comm]
  refine sum_congr rfl fun s _ => ?_
  rw [Hd.g, Hd.dw, mul_sum]
  refine sum_congr rfl fun d _ => ?_
  ring

theorem v55 : val_main_v55 (F := Ideal) (T P) (T D) = T4 fun a => (hd P D a).dz := by
  unfold val_main_v55 val_main_v53 val_main_v52 val_main_v51 val_main_v50 val_main_call8_v1 val_main_call8_v0 val_main_call9_v1 val_main_call9_v0
  rw [v49 P D, v45 P D, v23s P D, v25s P D]
  refine Eq.trans (b := T4 fun a t s => ((-(-(-(if s < t then ∑ s' ∈ range s, (hd P D a).g t s' else 0) * (2 : ℝ) ^ lb2 ((hd P D a).raw t s))))
      + -(-(hd P D a).g t s * (2 : ℝ) ^ om2 ((hd P D a).raw t s))) * c0) ?_ (T4_congr fun a t s hs => ?_)
  · funext i
    pointwise [val_main_v54, val_main_cst_2, T4]
    rw [scale_word]
    simp only [← EReal.coe_neg, ← EReal.coe_mul, ← EReal.coe_add]
  · unfold Hd.dz
    have hd : (hd P D a).delta t - (hd P D a).gs t s = ∑ s' ∈ range s, (hd P D a).g t s' := by
      rw [delta_eq, Hd.gs, sub_eq_iff_eq_add, sum_range_add_sum_Ico _ hs.le]
    rw [hd]
    split
    · ring
    · next h =>
      rw [Hd.g, Hd.w_zero _ t s (not_lt.mp h)]
      ring

/-! ## The results -/

theorem v32 : val_main_v32 (F := Ideal) (T P) = T4 fun a => (hd P D a).O := by
  unfold val_main_v32
  rw [v31 P D, v13 P D]
  funext i
  pointwise [T4]
  simp only [← EReal.coe_mul, sum_coe, hd, Finset.sum_range]
  rfl
theorem v41 : val_main_v42 (F := Ideal) (T P) (T D) = T4 fun a => (hd P D a).dv := by
  unfold val_main_v42 val_main_v41
  rw [v31 P D, v40 P D]
  funext i
  pointwise [T4]
  simp only [← EReal.coe_mul, sum_coe, Hd.dv, Finset.sum_range, mul_comm]
theorem v56 : val_main_v56 (F := Ideal) (T P) (T D) = T4 fun a => (hd P D a).dk := by
  unfold val_main_v56
  rw [v55 P D, v7 P D]
  funext i
  pointwise [T4]
  simp only [← EReal.coe_mul, sum_coe, Hd.dk, Finset.sum_range]
theorem v57 : val_main_v57 (F := Ideal) (T P) (T D) = T4 fun a => (hd P D a).dq := by
  unfold val_main_v57
  rw [v55 P D, v10 P D]
  funext i
  pointwise [T4]
  simp only [← EReal.coe_mul, sum_coe, Hd.dq, Finset.sum_range]

/-- The attention's output, the heads side by side. -/
theorem out_o : val_main_v35 (F := Ideal) (T P) = T fun t j => (hd P D (j / 128)).O t (j % 128) := by
  unfold val_main_v35 val_main_v34 val_main_v33
  rw [v32 P D]
  funext i
  pointwise [T4, T]
/-- The gradient of the queries. -/
theorem out_dq : val_main_v66 (F := Ideal) (T P) (T D) = T fun t j => (hd P D (j / 128)).dq t (j % 128) := by
  unfold val_main_v66 val_main_v65 val_main_v64
  rw [v57 P D]
  funext i
  pointwise [T4, T, val_main_cst_5]
  exact Fin.sum_univ_one _
theorem out_dk : val_main_v63 (F := Ideal) (T P) (T D) = T fun t j => (hd P D (j / 128)).dk t (j % 128) := by
  unfold val_main_v63 val_main_v62 val_main_v61
  rw [v56 P D]
  funext i
  pointwise [T4, T, val_main_cst_4]
  exact Fin.sum_univ_one _
theorem out_dv : val_main_v60 (F := Ideal) (T P) (T D) = T fun t j => (hd P D (j / 128)).dv t (j % 128) := by
  unfold val_main_v60 val_main_v59 val_main_v58
  rw [v41 P D]
  funext i
  pointwise [T4, T, val_main_cst_3]
  exact Fin.sum_univ_one _
end Cert.Stick.Ref
-- ==== Proof.Value.Host.lean ====
module

public import proofs.«01_k».proof.Proof.Value.Ref
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Stick

open Idealize.ShloMosaic Idealize.ShloMosaic.TcCoe Idealize.SL.Sem
open Cert.KernelIdeal Cert.KernelIdeal.Gen

variable (m : (ℓ : Loc nD τ sig) → Buf (Elt Ideal) ℓ)

/-- The keys and values as the region finds them: transposed, side by side. -/
theorem V_v1 (c : Dev nD) : V m c main_v1 = transpose S3072x4096 [1, 0]
    (extractStridedSlice S4096x3072 ![0, 1024] (show FVec Ideal S4096x4096 .bf16 from m ((c : Thread nD τ).loc main_arg0)) slices_S4096x4096_S4096x3072_0_1024)
    transposes_S4096x3072_S3072x4096_1_0 := by
  after_reads_simp

end Cert.Stick
-- ==== Proof.Value.HostO.lean ====
module

public import proofs.«01_k».proof.Proof.Value.Ref
public import proofs.«01_k».proof.Proof.Gen.KernelIdeal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Stick

open Idealize.ShloMosaic Idealize.ShloMosaic.TcCoe Idealize.SL.Sem
open Cert.KernelIdeal Cert.KernelIdeal.Gen

variable (m : (ℓ : Loc nD τ sig) → Buf (Elt Ideal) ℓ)

/-- The keys and values as the region finds them: transposed, side by side. -/
theorem V_v38 (c : Dev nD) : V m c main_v38 = Cert.ReferenceIdeal.Read.val_main_v35 (F := Ideal) (m ((c : Thread nD τ).loc main_arg0)) := by
  after_reads_simp
  rfl

theorem V_o (c : Dev nD) (P D : ℕ → ℕ → ℝ) (hP : m ((c : Thread nD τ).loc main_arg0) = (T P : S4096x4096.Idx → EReal)) :
    V m c main_v38 = (T (fun t j => (Ref.hd P D (j / 128)).O t (j % 128)) : S4096x1024.Idx → EReal) :=
  (V_v38 m c).trans ((congrArg (Cert.ReferenceIdeal.Read.val_main_v35 (F := Ideal)) hP).trans (Ref.out_o P D))

end Cert.Stick
-- ==== Proof.Value.Steps.lean ====
module

public import proofs.«01_k».proof.Proof.Value.Spec

@[expose] public section

set_option maxRecDepth 16384

noncomputable section

namespace Cert.Stick

open Idealize.ShloMosaic Idealize.ShloMosaic.TcCoe
open Cert.KernelIdeal Cert.KernelIdeal.Gen
open Finset

/-! ## Rectangles of arrays of reals -/

theorem getR_T {A B a b : ℕ} (off : Fin 2 → ℕ) (h : ∀ d, off d + (![a, b] : Fin 2 → ℕ) d ≤ (⟨2, ![A, B]⟩ : Shape).size d)
    (o0 o1 : ℕ) (e : off = ![o0, o1]) (φ : ℕ → ℕ → ℝ) :
    getR (Rect.unit (s := (⟨2, ![A, B]⟩ : Shape)) off ![a, b] h) (T φ : _ → EReal)
      = (T fun i j => φ (o0 + i) (o1 + j) : (⟨2, ![a, b]⟩ : Shape).Idx → EReal) := by
  subst e
  funext z
  show ((φ (o0 + 1 * (z 0).val) (o1 + 1 * (z 1).val) : ℝ) : EReal) = _
  rw [one_mul, one_mul]; rfl

theorem putR_T {A B a : ℕ} (off : Fin 2 → ℕ) (h : ∀ d, off d + (![a, B] : Fin 2 → ℕ) d ≤ (⟨2, ![A, B]⟩ : Shape).size d)
    (o0 : ℕ) (e : off = ![o0, 0]) (φ f : ℕ → ℕ → ℝ) :
    putR (Rect.unit (s := (⟨2, ![A, B]⟩ : Shape)) off ![a, B] h) (T fun i j => φ (o0 + i) (0 + j) + f i j : (⟨2, ![a, B]⟩ : Shape).Idx → EReal) (T φ : _ → EReal)
      = (T fun i j => φ i j + if o0 ≤ i ∧ i < o0 + a then f (i - o0) j else 0 : (⟨2, ![A, B]⟩ : Shape).Idx → EReal) := by
  subst e
  funext y
  by_cases hy : o0 ≤ (y 0).val ∧ (y 0).val < o0 + a
  · have hz : ∃ z, (Rect.unit (s := (⟨2, ![A, B]⟩ : Shape)) ![o0, 0] ![a, B] h).emb z = y := by
      refine ⟨fun d => ⟨(y d).val - (![o0, 0] : Fin 2 → ℕ) d, ?_⟩, ?_⟩
      · revert d
        refine Fin.forall_fin_two.mpr ⟨?_, ?_⟩
        · show (y 0).val - o0 < a
          omega
        · show (y 1).val - 0 < B
          exact (y 1).isLt
      · funext d; apply Fin.ext
        revert d
        refine Fin.forall_fin_two.mpr ⟨?_, ?_⟩
        · show o0 + 1 * ((y 0).val - o0) = (y 0).val
          omega
        · show 0 + 1 * ((y 1).val - 0) = (y 1).val
          omega
    obtain ⟨z, rfl⟩ := hz
    rw [putR_emb]
    have e0 : ((Rect.unit (s := (⟨2, ![A, B]⟩ : Shape)) ![o0, 0] ![a, B] h).emb z 0).val = o0 + (z 0).val := by
      show o0 + 1 * (z 0).val = _; omega
    have e1 : ((Rect.unit (s := (⟨2, ![A, B]⟩ : Shape)) ![o0, 0] ![a, B] h).emb z 1).val = (z 1).val := by
      show 0 + 1 * (z 1).val = _; omega
    simp only [T]
    rw [if_pos hy, e0, e1, Nat.add_sub_cancel_left, Nat.zero_add]
  · rw [putR_miss _ _ _ _ (by
      rintro ⟨z, rfl⟩
      apply hy
      have : (z 0).val < a := (z 0).isLt
      show o0 ≤ o0 + 1 * (z 0).val ∧ o0 + 1 * (z 0).val < o0 + a
      omega)]
    simp only [T]
    rw [if_neg hy, add_zero]

section
variable (t : Fin grid0.N) (k : Fin (k0_t1_loop (grid0.coords t)).trips) (φ f : ℕ → ℕ → ℝ)

theorem get1 : getR (r1 (grid0.coords t)) (T φ : _ → EReal) = (T fun i j => φ (0 + i) (256 * (2 * (t.val % 8) + 1) + j) : S128x256.Idx → EReal) :=
  getR_T _ _ _ _ (off1_eq t) φ
theorem get2 (j : Fin 2) : getR (r2 (grid0.coords t) j) (T φ : _ → EReal) = (T fun i l => φ (0 + i) (256 * (2 * (t.val % 8) - j.val) + l) : S128x256.Idx → EReal) :=
  getR_T _ _ _ _ (off2_eq t j) φ
theorem get3 (j : Fin 2) : getR (r3 (grid0.coords t) j) (T φ : _ → EReal) = (T fun i l => φ (0 + i) (256 * (2 * (t.val % 8) + 1 - j.val) + l) : S128x256.Idx → EReal) :=
  getR_T _ _ _ _ (off3_eq t j) φ
theorem get4 (j : Fin 2) : getR (r4 (grid0.coords t) j) (T φ : _ → EReal) = (T fun i l => φ (256 * (2 * (t.val % 8) + 1) + i) (0 + l) : S256x128.Idx → EReal) :=
  getR_T _ _ _ _ (off4_eq t j) φ
theorem get5 : getR (r5 (grid0.coords t) k) (T φ : _ → EReal) = (T fun i l => φ (0 + i) (256 * (2 * (t.val % 8) - 2 - k.val) + l) : S128x256.Idx → EReal) :=
  getR_T _ _ _ _ (off5_eq t k) φ
theorem get6 : getR (r6 (grid0.coords t) k) (T φ : _ → EReal) = (T fun i l => φ (0 + i) (256 * (2 * (t.val % 8) - 1 - k.val) + l) : S128x256.Idx → EReal) :=
  getR_T _ _ _ _ (off6_eq t k) φ
theorem get7 : getR (r7 (grid0.coords t) k) (T φ : _ → EReal) = (T fun i l => φ (256 * (2 * (t.val % 8) - k.val) + i) (0 + l) : S256x128.Idx → EReal) :=
  getR_T _ _ _ _ (off7_eq t k) φ
theorem getT : getR rT (T φ : _ → EReal) = (T fun i l => φ (0 + i) (0 + l) : S256x128.Idx → EReal) :=
  getR_T _ _ _ _ rfl φ
theorem put4 (j : Fin 2) : putR (r4 (grid0.coords t) j) (T fun i j => φ (256 * (2 * (t.val % 8) + 1) + i) (0 + j) + f i j : S256x128.Idx → EReal) (T φ : _ → EReal)
    = (T fun i j => φ i j + if 256 * (2 * (t.val % 8) + 1) ≤ i ∧ i < 256 * (2 * (t.val % 8) + 1) + 256 then f (i - 256 * (2 * (t.val % 8) + 1)) j else 0 : S4096x128.Idx → EReal) :=
  putR_T _ _ _ (off4_eq t j) φ f
theorem put7 : putR (r7 (grid0.coords t) k) (T fun i j => φ (256 * (2 * (t.val % 8) - k.val) + i) (0 + j) + f i j : S256x128.Idx → EReal) (T φ : _ → EReal)
    = (T fun i j => φ i j + if 256 * (2 * (t.val % 8) - k.val) ≤ i ∧ i < 256 * (2 * (t.val % 8) - k.val) + 256 then f (i - 256 * (2 * (t.val % 8) - k.val)) j else 0 : S4096x128.Idx → EReal) :=
  putR_T _ _ _ (off7_eq t k) φ f
theorem putT : putR rT (T fun i j => φ (0 + i) (0 + j) + f i j : S256x128.Idx → EReal) (T φ : _ → EReal)
    = (T fun i j => φ i j + if 0 ≤ i ∧ i < 0 + 256 then f (i - 0) j else 0 : S4096x128.Idx → EReal) :=
  putR_T _ _ _ rfl φ f
end

/-! ## The state after each block -/

section
variable (H : Hd) (q b : ℕ) (Dk Dv : ℕ → ℕ → ℝ)

/-- The state once the query block `q` has met the key blocks from the diagonal down to `b`. -/
def stR : St Ideal :=
  ((T fun r _ => H.cs (512 * q + r) (256 * b),
    T fun r _ => H.gs (512 * q + r) (256 * b),
    T fun r d => ∑ s ∈ Ico (256 * (b + 1)) 4096, H.dz (512 * q + r) s * H.K s d,
    T fun r j => H.raw (512 * q + r) (256 * (b - 1) + j),
    T fun r j => H.dz (512 * q + r) (256 * b + j),
    T fun r j => H.w (512 * q + r) (256 * b + j)),
   T (accK H q b Dk), T (accV H q b Dv))

end

section
variable (H : Hd) (t : Fin grid0.N) (Dk Dv : ℕ → ℕ → ℝ)

abbrev xQ : S512x128.Idx → EReal := T fun r d => H.Q (512 * (t.val % 8) + r) d
abbrev xK : S4096x128.Idx → EReal := T fun s d => H.K s d
abbrev xKt : S128x4096.Idx → EReal := T fun d s => H.K s d
abbrev xVt : S128x4096.Idx → EReal := T fun d s => H.V s d
abbrev xO : S512x128.Idx → EReal := T fun r d => H.O (512 * (t.val % 8) + r) d
abbrev xDO : S512x128.Idx → EReal := T fun r d => H.DO (512 * (t.val % 8) + r) d

set_option maxHeartbeats 1000000 in
theorem trip_eq (k : Fin (k0_t1_loop (grid0.coords t)).trips) :
    tripSt (F := Ideal) (grid0.coords t) (xQ H t) (xDO H t) (k0_pay31 (xDO H t) (xO H t)) matEx matIn (xK H) (xKt H) (xVt H) k
        (stR H (t.val % 8) (2 * (t.val % 8) - k.val) Dk Dv)
      = stR H (t.val % 8) (2 * (t.val % 8) - 1 - k.val) Dk Dv := by
  have hk : k.val < 2 * (t.val % 8) := by rw [← trips_eq t]; exact k.isLt
  have hq : t.val % 8 < 8 := Nat.mod_lt _ (by norm_num)
  obtain ⟨b, hb⟩ : ∃ b, 2 * (t.val % 8) - k.val = b + 1 := ⟨2 * (t.val % 8) - 1 - k.val, by omega⟩
  have hb1 : 2 * (t.val % 8) - 1 - k.val = b := by omega
  have hb2 : 2 * (t.val % 8) - 2 - k.val = b - 1 := by omega
  unfold tripSt stR
  dsimp only
  rw [matEx_eq, matIn_eq, pay31, get5, get6, get7, get7, get7, pay2, pay1, pay12, pay13, pay5, pay11, pay77, pay9, pay78, pay3, pay4,
    put7 t k (accK H _ _ Dk) (fun s d => ∑ r ∈ range 512, _ * _), put7 t k (accV H _ _ Dv) (fun s d => ∑ r ∈ range 512, _ * _)]
  rw [hb, hb1, hb2]
  simp only [Nat.add_sub_cancel]
  generalize t.val % 8 = q at *
  have hm : ∀ r < 512, ∀ j < 256, (fun _ _ => True : ℕ → ℕ → Prop) r j ↔ 256 * b + j < 512 * q + r := fun r hr j hj => by
    simp only [true_iff]; omega
  have hb16 : b < 16 := by omega
  rw [blk_c H _ q b hb16 hm (fun r _ => H.cs (512 * q + r) (256 * (b + 1))) (fun _ _ => rfl),
    blk_w H _ q b hb16 hm (fun r _ => H.cs (512 * q + r) (256 * (b + 1))) (fun _ _ => rfl) rfl,
    blk_g H _ q b hb16 hm (fun r _ => H.cs (512 * q + r) (256 * (b + 1))) (fun r _ => H.gs (512 * q + r) (256 * (b + 1))) (fun _ _ => rfl) (fun _ _ => rfl),
    blk_z H _ q b hb16 hm (fun r _ => H.cs (512 * q + r) (256 * (b + 1))) (fun r _ => H.gs (512 * q + r) (256 * (b + 1))) (fun _ _ => rfl) (fun _ _ => rfl) rfl,
    blk_q H q b (by omega), blk_raw H q (b - 1), blk_K, blk_V]

theorem word2 : k0_pay68 (k0_pay32 (grid0.coords t)) colIota (nkb (grid0.coords t))
    = Mk fun r j => 256 * (2 * (t.val % 8)) + j < 512 * (t.val % 8) + r := funext (mask2 t)
theorem word1 : k0_pay49 (k0_pay32 (grid0.coords t)) colIota (nkb (grid0.coords t))
    = Mk fun r j => 256 * (2 * (t.val % 8) + 1) + j < 512 * (t.val % 8) + r := funext (mask1 t)

set_option maxHeartbeats 1000000 in
theorem head2_eq :
    head2 (F := Ideal) (grid0.coords t) (xQ H t) (xK H) (xKt H) (xVt H) (xO H t) (xDO H t) (stR H (t.val % 8) (2 * (t.val % 8) + 1) Dk Dv)
      = stR H (t.val % 8) (2 * (t.val % 8)) Dk Dv := by
  have hq : t.val % 8 < 8 := Nat.mod_lt _ (by norm_num)
  have hw := word2 t
  unfold head2 stR
  dsimp only
  simp only [Nat.add_sub_cancel]
  rw [matEx_eq, matIn_eq, pay31, pay64, pay65, get2, get3, get4, get4, get4, pay60, pay59, pay73 _ _ _ hw, pay71 _ _ _ hw, pay74, pay63,
    pay72 _ _ _ hw, pay75, pay70 _ _ _ hw, pay76, pay61, pay62,
    put4 t (accK H _ _ Dk) (fun s d => ∑ r ∈ range 512, _ * _) 1, put4 t (accV H _ _ Dv) (fun s d => ∑ r ∈ range 512, _ * _) 1]
  simp only [show ((1 : Fin 2) : ℕ) = 1 from rfl, Nat.add_sub_cancel]
  generalize t.val % 8 = q at *
  have hm : ∀ r < 512, ∀ j < 256, (fun r j => 256 * (2 * q) + j < 512 * q + r : ℕ → ℕ → Prop) r j ↔ 256 * (2 * q) + j < 512 * q + r :=
    fun _ _ _ _ => Iff.rfl
  have hb16 : 2 * q < 16 := by omega
  rw [blk_c H _ q (2 * q) hb16 hm (fun r _ => H.cs (512 * q + r) (256 * (2 * q + 1))) (fun _ _ => rfl),
    blk_w H _ q (2 * q) hb16 hm (fun r _ => H.cs (512 * q + r) (256 * (2 * q + 1))) (fun _ _ => rfl) rfl,
    blk_g H _ q (2 * q) hb16 hm (fun r _ => H.cs (512 * q + r) (256 * (2 * q + 1))) (fun r _ => H.gs (512 * q + r) (256 * (2 * q + 1))) (fun _ _ => rfl) (fun _ _ => rfl),
    blk_z H _ q (2 * q) hb16 hm (fun r _ => H.cs (512 * q + r) (256 * (2 * q + 1))) (fun r _ => H.gs (512 * q + r) (256 * (2 * q + 1))) (fun _ _ => rfl) (fun _ _ => rfl) rfl,
    blk_q H q (2 * q) (by omega), blk_raw H q (2 * q - 1), blk_K, blk_V]

theorem start_q {a a' : ℕ} (q : ℕ) (ψ : ℕ → ℕ → ℝ) (ha : a = 512) : (T (fun r d => 0 + ∑ j ∈ range 256, 0 * ψ j d) : (⟨2, ![a, a']⟩ : Shape).Idx → EReal)
    = T fun r d => ∑ s ∈ Ico (256 * (2 * q + 1 + 1)) 4096, H.dz (512 * q + r) s * H.K s d := by
  subst ha
  refine T_congr fun r hr d hd => ?_
  rw [sum_eq_zero fun j _ => zero_mul _, sum_eq_zero fun s hs => by rw [H.dz_zero _ s (by have := (mem_Ico.mp hs).1; omega), zero_mul], add_zero]
theorem start_K {a a' : ℕ} (q : ℕ) : (T (fun s d => Dk s d + if 256 * (2 * q + 1) ≤ s ∧ s < 256 * (2 * q + 1) + 256 then ∑ r ∈ range 512, 0 * H.Q (512 * q + r) d else 0) : (⟨2, ![a, a']⟩ : Shape).Idx → EReal)
    = T (accK H q (2 * q + 1) Dk) := by
  refine T_congr fun s hs d hd => ?_
  rw [sum_eq_zero fun j _ => zero_mul _, ite_self, accK]
  congr 1
  split
  · rw [sum_eq_zero fun r hr => by rw [H.dz_zero _ s (by have := mem_range.mp hr; omega), zero_mul]]
  · rfl
theorem start_V {a a' : ℕ} (q : ℕ) : (T (fun s d => Dv s d + if 256 * (2 * q + 1) ≤ s ∧ s < 256 * (2 * q + 1) + 256 then ∑ r ∈ range 512, 0 * H.DO (512 * q + r) d else 0) : (⟨2, ![a, a']⟩ : Shape).Idx → EReal)
    = T (accV H q (2 * q + 1) Dv) := by
  refine T_congr fun s hs d hd => ?_
  rw [sum_eq_zero fun j _ => zero_mul _, ite_self, accV]
  congr 1
  split
  · rw [sum_eq_zero fun r hr => by rw [H.w_zero _ s (by have := mem_range.mp hr; omega), zero_mul]]
  · rfl

set_option maxHeartbeats 1000000 in
theorem head1_eq :
    head1 (F := Ideal) (grid0.coords t) (xQ H t) (xK H) (xKt H) (xVt H) (xO H t) (xDO H t) (T Dk) (T Dv)
      = stR H (t.val % 8) (2 * (t.val % 8) + 1) Dk Dv := by
  have hq : t.val % 8 < 8 := Nat.mod_lt _ (by norm_num)
  have hw := word1 t
  unfold head1 stR
  dsimp only
  rw [get1, pay40, blk_raw H _ (2 * (t.val % 8) + 1)]
  rw [matEx_eq, matIn_eq, pay31, pay38, pay33, pay34, pay39, pay47, pay48, pay50 _ _ _ hw, pay51 _ _ _ hw, pay52 _ _ _ hw, hw,
    get2, get3, get4, get4, get4, pay42, pay41, pay55, pay56, pay45, pay57, pay58, pay43, pay44,
    put4 t Dk (fun s d => ∑ r ∈ range 512, _ * _) 0, put4 t Dv (fun s d => ∑ r ∈ range 512, _ * _) 0]
  simp only [show ((0 : Fin 2) : ℕ) = 0 from rfl, Nat.sub_zero, Nat.add_sub_cancel]
  generalize t.val % 8 = q at *
  have hm : ∀ r < 512, ∀ j < 256, (fun r j => 256 * (2 * q + 1) + j < 512 * q + r : ℕ → ℕ → Prop) r j ↔ 256 * (2 * q + 1) + j < 512 * q + r :=
    fun _ _ _ _ => Iff.rfl
  have hb16 : 2 * q + 1 < 16 := by omega
  have hc : ∀ r < 512, (fun _ _ => 0 : ℕ → ℕ → ℝ) r 0 = H.cs (512 * q + r) (256 * (2 * q + 1 + 1)) := fun r hr => (H.cs_zero _ _ (by omega)).symm
  have hg : ∀ r < 512, (fun _ _ => 0 : ℕ → ℕ → ℝ) r 0 = H.gs (512 * q + r) (256 * (2 * q + 1 + 1)) := fun r hr => (H.gs_zero _ _ (by omega)).symm
  rw [blk_c H _ q (2 * q + 1) hb16 hm (fun _ _ => 0) hc,
    blk_w H _ q (2 * q + 1) hb16 hm (fun _ _ => 0) hc rfl,
    blk_g H _ q (2 * q + 1) hb16 hm (fun _ _ => 0) (fun _ _ => 0) hc hg,
    blk_z H _ q (2 * q + 1) hb16 hm (fun _ _ => 0) (fun _ _ => 0) hc hg rfl,
    blk_raw H q (2 * q), start_q H q _ rfl, start_K, start_V]

theorem loop_eq (k : ℕ) (hk : k ≤ 2 * (t.val % 8)) :
    loopSt (F := Ideal) (grid0.coords t) (xQ H t) (xDO H t) (k0_pay31 (xDO H t) (xO H t)) matEx matIn (xK H) (xKt H) (xVt H)
        (stR H (t.val % 8) (2 * (t.val % 8)) Dk Dv) k
      = stR H (t.val % 8) (2 * (t.val % 8) - k) Dk Dv := by
  induction k with
  | zero => rfl
  | succ k ih =>
    have h := loopSt_succ (F := Ideal) (grid0.coords t) (xQ H t) (xDO H t) (k0_pay31 (xDO H t) (xO H t)) matEx matIn (xK H) (xKt H) (xVt H)
      (stR H (t.val % 8) (2 * (t.val % 8)) Dk Dv) ⟨k, by rw [trips_eq t]; omega⟩
    rw [h, ih (by omega), trip_eq]
    congr 1
    simp only
    omega

/-- The body at one point: the gradient of its block of queries, and what it adds to the gradients of keys and of values. -/
theorem body_eq :
    bodySt (F := Ideal) (grid0.coords t) (xQ H t) (xK H) (xKt H) (xVt H) (xO H t) (xDO H t) (T Dk) (T Dv)
      = (T fun r d => H.dq (512 * (t.val % 8) + r) d,
        T fun s d => Dk s d + ∑ r ∈ range 512, H.dz (512 * (t.val % 8) + r) s * H.Q (512 * (t.val % 8) + r) d,
        T fun s d => Dv s d + ∑ r ∈ range 512, H.w (512 * (t.val % 8) + r) s * H.DO (512 * (t.val % 8) + r) d) := by
  unfold bodySt midSt
  rw [head1_eq, head2_eq, trips_eq t, loop_eq H t Dk Dv _ le_rfl, Nat.sub_self]
  unfold stR
  dsimp only
  rw [getT, getT, getT, pay83, pay81, pay82,
    putT (accK H _ 0 Dk) (fun s d => ∑ r ∈ range 512, _ * _), putT (accV H _ 0 Dv) (fun s d => ∑ r ∈ range 512, _ * _)]
  have hif : ∀ (D f : ℕ → ℝ) (s : ℕ), (D s + if 256 * (0 + 1) ≤ s then f s else 0) + (if 0 ≤ s ∧ s < 0 + 256 then f (256 * 0 + (s - 0)) else 0) = D s + f s := fun D f s => by
    have := add_pair 0 D f s
    simpa using this
  refine congrArg₂ Prod.mk (T_congr fun r hr d hd => ?_) (congrArg₂ Prod.mk (T_congr fun s hs d hd => ?_) (T_congr fun s hs d hd => ?_))
  · have h := add_block0 (fun s => H.dz (512 * (t.val % 8) + r) s * H.K s d) 0 (by omega)
    simp only [Nat.mul_zero, Nat.zero_add] at h ⊢
    rw [h, Hd.dq, range_eq_Ico]
  · exact hif (fun s => Dk s d) (fun s => ∑ r ∈ range 512, H.dz (512 * (t.val % 8) + r) s * H.Q (512 * (t.val % 8) + r) d) s
  · exact hif (fun s => Dv s d) (fun s => ∑ r ∈ range 512, H.w (512 * (t.val % 8) + r) s * H.DO (512 * (t.val % 8) + r) d) s
end

end Cert.Stick
-- ==== Proof.Value.Blocks.lean ====
module

public import proofs.«01_k».proof.Proof.Value.Host
public import proofs.«01_k».proof.Proof.Value.HostO
public import proofs.«01_k».proof.Proof.Value.Steps
public import proofs.«01_k».proof.Proof.Run

@[expose] public section

set_option maxRecDepth 16384

noncomputable section

namespace Cert.Stick

open Idealize.ShloMosaic Idealize.ShloMosaic.TcCoe Idealize.SL.Sem
open Cert.KernelIdeal Cert.KernelIdeal.Gen
open Cert.Stick.Ref (hd)

/-- Which block of its array each window reads or writes at a point: the head is `t / 8`, the block of queries `t % 8`. -/
theorem idx : ∀ t : Fin cfg0.N, win0_0.index t = ![t.val % 8, t.val / 8] ∧ win0_1.index t = ![0, 8 + t.val / 8]
    ∧ win0_2.index t = ![t.val / 8, 0] ∧ win0_3.index t = ![8 + t.val / 8, 0] ∧ win0_4.index t = ![t.val % 8, t.val / 8]
    ∧ win0_5.index t = ![t.val % 8, t.val / 8] ∧ win0_6.index t = ![t.val % 8, t.val / 8] ∧ win0_7.index t = ![0, t.val / 8]
    ∧ win0_8.index t = ![0, t.val / 8] ∧ t.val / 8 < 8 :=
  (by decide +kernel : ∀ t : Fin grid0.N, _)

variable (m : (ℓ : Loc nD τ sig) → Buf (Elt Ideal) ℓ) (c : Dev nD) (P D : ℕ → ℕ → ℝ)
  (hP : m ((c : Thread nD τ).loc main_arg0) = (T P : S4096x4096.Idx → EReal)) (hD : m ((c : Thread nD τ).loc main_arg1) = (T D : S4096x2048.Idx → EReal))

theorem T_at {a b : ℕ} (φ : ℕ → ℕ → ℝ) (i : (⟨2, ![a, b]⟩ : Shape).Idx) {x y : ℕ} (hx : (i 0).val = x) (hy : (i 1).val = y) : T φ i = ((φ x y : ℝ) : EReal) := by
  rw [← hx, ← hy]; rfl

include hP in
theorem blk0 (t : Fin cfg0.N) : iblk m c 0 t = xQ (hd P D (t.val / 8)) t := by
  funext y
  blk_simp [iblk]
  rw [V_main_arg0, hP]
  exact T_at P _ (by blk_simp [idx t]; try omega) (by blk_simp [idx t]; try omega)
include hP in
theorem blk1 (t : Fin cfg0.N) : iblk m c 1 t = xK (hd P D (t.val / 8)) := by
  funext y
  blk_simp [iblk]
  rw [V_main_arg0, hP]
  exact T_at P _ (by blk_simp [idx t]; try omega) (by blk_simp [idx t]; try omega)
include hP in
theorem blk2 (t : Fin cfg0.N) : iblk m c 2 t = xKt (hd P D (t.val / 8)) := by
  funext y
  blk_simp [iblk]
  rw [V_v1, hP]
  pointwise []
  refine T_at P _ ?_ ?_
  · show (((View.whole main_v1).slice (win0_2.rect t)).emb y 1).val = _
    blk_simp [idx t]; try omega
  · show 1024 + (((View.whole main_v1).slice (win0_2.rect t)).emb y 0).val = _
    blk_simp [idx t]; try omega
include hP in
theorem blk3 (t : Fin cfg0.N) : iblk m c 3 t = xVt (hd P D (t.val / 8)) := by
  funext y
  blk_simp [iblk]
  rw [V_v1, hP]
  pointwise []
  refine T_at P _ ?_ ?_
  · show (((View.whole main_v1).slice (win0_3.rect t)).emb y 1).val = _
    blk_simp [idx t]; try omega
  · show 1024 + (((View.whole main_v1).slice (win0_3.rect t)).emb y 0).val = _
    blk_simp [idx t]; try omega

theorem col_eq {a : Type} (f : ℕ → ℕ → a) {h d : ℕ} (hd : d < 128) : f ((h * 128 + d) / 128) ((h * 128 + d) % 128) = f h d := by
  rw [show (h * 128 + d) / 128 = h by omega, show (h * 128 + d) % 128 = d by omega]

/-- A block of the fifth window read off any array. -/
theorem read4 (t : Fin cfg0.N) (X : S4096x1024.Idx → EReal) (y : S512x128.Idx) : ((cfg0.win 4).blk t).view.read (Elt Ideal) X y
    = X (ix2 ⟨512 * (t.val % 8) + (y 0).val, by have h : (y 0).val < 512 := (y 0).isLt; omega⟩ ⟨t.val / 8 * 128 + (y 1).val, by have h : (y 1).val < 128 := (y 1).isLt; have := (idx t).2.2.2.2.2.2.2.2.2; omega⟩) := by
  blk_ext [idx t]

include hP in
theorem blk4 (t : Fin cfg0.N) : iblk m c 4 t = xO (hd P D (t.val / 8)) t := by
  unfold iblk
  funext y
  have hy : (y 1).val < 128 := (y 1).isLt
  refine (congrArg (fun X : S4096x1024.Idx → EReal => ((cfg0.win 4).blk t).view.read (Elt Ideal) X y) (V_o m c P D hP)).trans ?_
  refine (read4 t _ y).trans ?_
  exact congrArg (fun x : ℝ => (x : EReal)) (col_eq (fun h d => (hd P D h).O (512 * (t.val % 8) + (y 0).val) d) hy)
include hD in
theorem blk5 (t : Fin cfg0.N) : iblk m c 5 t = xDO (hd P D (t.val / 8)) t := by
  funext y
  blk_simp [iblk]
  rw [V_main_arg1, hD]
  exact T_at D _ (by blk_simp [idx t]; try omega) (by blk_simp [idx t]; try omega)
end Cert.Stick
-- ==== Proof.Value.Arrays.lean ====
module

public import proofs.«01_k».proof.Proof.Value.Blocks

@[expose] public section

set_option maxRecDepth 16384

noncomputable section

namespace Cert.Stick

open Idealize.ShloMosaic Idealize.ShloMosaic.TcCoe Idealize.SL.Sem
open Cert.KernelIdeal Cert.KernelIdeal.Gen
open Cert.Stick.Ref (hd)
open Finset

/-- The gradients of keys and values that the queries before `n` leave. -/
def dkTo (H : Hd) (n s d : ℕ) : ℝ := ∑ r ∈ range n, H.dz r s * H.Q r d
def dvTo (H : Hd) (n s d : ℕ) : ℝ := ∑ r ∈ range n, H.w r s * H.DO r d

theorem dkTo_add (H : Hd) (n k s d : ℕ) : dkTo H n s d + ∑ r ∈ range k, H.dz (n + r) s * H.Q (n + r) d = dkTo H (n + k) s d :=
  (sum_range_add _ n k).symm
theorem dvTo_add (H : Hd) (n k s d : ℕ) : dvTo H n s d + ∑ r ∈ range k, H.w (n + r) s * H.DO (n + r) d = dvTo H (n + k) s d :=
  (sum_range_add _ n k).symm

theorem fresh_eq (t : Fin cfg0.N) (h : t.val % 8 = 0) (z D : Vec Ideal S4096x128 .f32) : fresh (grid0.coords t) z D = z := by
  unfold fresh
  rw [if_pos ((isFirst_iff t).mpr h)]
  funext y
  have hy : rW.emb y = y := by
    funext a; apply Fin.ext
    have h0 : ∀ a : Fin 2, (![0, 0] : Fin 2 → ℕ) a = 0 := by decide
    show (![0, 0] : Fin 2 → ℕ) a + 1 * (y a).val = (y a).val
    rw [h0]; omega
  conv_lhs => rw [← hy]
  rw [putR_emb]
theorem fresh_kept (t : Fin cfg0.N) (h : ¬ t.val % 8 = 0) (z D : Vec Ideal S4096x128 .f32) : fresh (grid0.coords t) z D = D := by
  unfold fresh
  rw [if_neg fun h' => h ((isFirst_iff t).mp h')]

theorem zero29 : k0_pay29 (F := Ideal) = T fun _ _ => 0 := by
  funext y; pointwise [k0_pay29, T]
  exact EReal.coe_zero.symm
theorem zero30 : k0_pay30 (F := Ideal) = T fun _ _ => 0 := by
  funext y; pointwise [k0_pay30, T]
  exact EReal.coe_zero.symm

variable (m : (ℓ : Loc nD τ sig) → Buf (Elt Ideal) ℓ) (c : Dev nD) (P D : ℕ → ℕ → ℝ)
  (hP : m ((c : Thread nD τ).loc main_arg0) = (T P : S4096x4096.Idx → EReal)) (hD : m ((c : Thread nD τ).loc main_arg1) = (T D : S4096x2048.Idx → EReal))

include hP hD in
theorem point_eq (t : Fin cfg0.N) (Dk Dv : ℕ → ℕ → ℝ) (D9 D10 : Vec Ideal S4096x128 .f32)
    (h9 : fresh (grid0.coords t) k0_pay29 D9 = T Dk) (h10 : fresh (grid0.coords t) k0_pay30 D10 = T Dv) :
    ptSt m c t D9 D10
      = (T fun r d => (hd P D (t.val / 8)).dq (512 * (t.val % 8) + r) d,
         T fun s d => Dk s d + ∑ r ∈ range 512, (hd P D (t.val / 8)).dz (512 * (t.val % 8) + r) s * (hd P D (t.val / 8)).Q (512 * (t.val % 8) + r) d,
         T fun s d => Dv s d + ∑ r ∈ range 512, (hd P D (t.val / 8)).w (512 * (t.val % 8) + r) s * (hd P D (t.val / 8)).DO (512 * (t.val % 8) + r) d) := by
  unfold ptSt
  rw [h9, h10, blk0 m c P D hP t, blk1 m c P D hP t, blk2 m c P D hP t, blk3 m c P D hP t, blk4 m c P D hP t, blk5 m c P D hD t]
  exact body_eq (hd P D (t.val / 8)) t Dk Dv

/-- What the result buffers hold after point `t`. -/
def outT (H : Hd) (q : ℕ) : Vec Ideal S512x128 .f32 × Vec Ideal S4096x128 .f32 × Vec Ideal S4096x128 .f32 :=
  (T fun r d => H.dq (512 * q + r) d, T fun s d => dkTo H (512 * q + 512) s d, T fun s d => dvTo H (512 * q + 512) s d)

include hP hD in
theorem outs_value (n : ℕ) : ∀ hn : n < cfg0.N, outs m c n hn = outT (hd P D (n / 8)) (n % 8) := by
  induction n with
  | zero =>
    intro hn
    refine (outs_first m c ⟨0, hn⟩ rfl (k0_pay29 (F := Ideal)) (k0_pay30 (F := Ideal))).trans ?_
    refine (point_eq m c P D hP hD ⟨0, hn⟩ (fun _ _ => 0) (fun _ _ => 0) _ _ ((fresh_eq _ rfl _ _).trans zero29) ((fresh_eq _ rfl _ _).trans zero30)).trans ?_
    unfold outT
    simp only [← dkTo_add, ← dvTo_add]
    rfl
  | succ n ih =>
    intro hn
    by_cases h : (n + 1) % 8 = 0
    · refine (outs_first m c ⟨n + 1, hn⟩ h (k0_pay29 (F := Ideal)) (k0_pay30 (F := Ideal))).trans ?_
      refine (point_eq m c P D hP hD ⟨n + 1, hn⟩ (fun _ _ => 0) (fun _ _ => 0) _ _ ((fresh_eq _ h _ _).trans zero29) ((fresh_eq _ h _ _).trans zero30)).trans ?_
      unfold outT
      simp only [← dkTo_add, ← dvTo_add, h]
      simp only [dkTo, dvTo, mul_zero, range_zero, sum_empty]
    · refine (outs_next m c ⟨n + 1, hn⟩ (Nat.succ_ne_zero n)).trans ?_
      have hq : n / 8 = (n + 1) / 8 := by omega
      have hr : (n + 1) % 8 = n % 8 + 1 := by omega
      have ihn := ih (Nat.lt_of_succ_lt hn)
      rw [hq] at ihn
      refine (point_eq m c P D hP hD ⟨n + 1, hn⟩ (fun s d => dkTo (hd P D ((n + 1) / 8)) (512 * (n % 8) + 512) s d)
        (fun s d => dvTo (hd P D ((n + 1) / 8)) (512 * (n % 8) + 512) s d) _ _
        ((fresh_kept ⟨n + 1, hn⟩ h _ _).trans (congrArg (fun x => x.2.1) ihn)) ((fresh_kept ⟨n + 1, hn⟩ h _ _).trans (congrArg (fun x => x.2.2) ihn))).trans ?_
      have e : 512 * (n % 8) + 512 = 512 * ((n + 1) % 8) := by omega
      unfold outT
      simp only [e, dkTo_add, dvTo_add]

include hP hD in
theorem final6 : (dats m 0 c).arrAt 6 (cfgs 0).N = (T (fun t j => (hd P D (j / 128)).dq t (j % 128)) : S4096x1024.Idx → EReal) := by
  refine (dats m 0 c).arrAt_eq_of_covers 6 _ (by decide +kernel) fun t hf y => ?_
  have hy : (y 1).val < 128 := (y 1).isLt
  blk_simp
  rw [after_6, outs_value m c P D hP hD]
  refine Eq.trans ?_ (T_at (x := 512 * (t.val % 8) + (y 0).val) (y := (t.val / 8) * 128 + (y 1).val) _ _ (by blk_simp [idx t]; try omega) (by blk_simp [idx t]; try omega)).symm
  exact (congrArg (fun x : ℝ => (x : EReal)) (col_eq (fun h d => (hd P D h).dq (512 * (t.val % 8) + (y 0).val) d) hy)).symm
include hP hD in
theorem final7 : (dats m 0 c).arrAt 7 (cfgs 0).N = (T (fun t j => (hd P D (j / 128)).dk t (j % 128)) : S4096x1024.Idx → EReal) := by
  refine (dats m 0 c).arrAt_eq_of_covers 7 _ (by decide +kernel) fun t hf y => ?_
  have hy : (y 1).val < 128 := (y 1).isLt
  have h7 : t.val % 8 = 7 := (flush0_7 t).mp hf
  blk_simp
  rw [after_7, outs_value m c P D hP hD, h7]
  refine Eq.trans ?_ (T_at (x := (y 0).val) (y := (t.val / 8) * 128 + (y 1).val) _ _ (by blk_simp [idx t]; try omega) (by blk_simp [idx t]; try omega)).symm
  exact (congrArg (fun x : ℝ => (x : EReal)) (col_eq (fun h d => (hd P D h).dk (y 0).val d) hy)).symm
include hP hD in
theorem final8 : (dats m 0 c).arrAt 8 (cfgs 0).N = (T (fun t j => (hd P D (j / 128)).dv t (j % 128)) : S4096x1024.Idx → EReal) := by
  refine (dats m 0 c).arrAt_eq_of_covers 8 _ (by decide +kernel) fun t hf y => ?_
  have hy : (y 1).val < 128 := (y 1).isLt
  have h7 : t.val % 8 = 7 := (flush0_8 t).mp hf
  blk_simp
  rw [after_8, outs_value m c P D hP hD, h7]
  refine Eq.trans ?_ (T_at (x := (y 0).val) (y := (t.val / 8) * 128 + (y 1).val) _ _ (by blk_simp [idx t]; try omega) (by blk_simp [idx t]; try omega)).symm
  exact (congrArg (fun x : ℝ => (x : EReal)) (col_eq (fun h d => (hd P D h).dv (y 0).val d) hy)).symm
end Cert.Stick
-- ==== Proof.Value.Finite.lean ====
module

public import proofs.«01_k».proof.Pre_finite
public import proofs.«01_k».proof.Proof.Value.Words
public import Idealize.ShloMosaic.Lib.Pointwise

@[expose] public section

set_option maxRecDepth 16384

noncomputable section

namespace Cert.Stick

open Idealize.ShloMosaic

/-- An extended real whose absolute value is below infinity is a real. -/
theorem real_of_lt (x : EReal) (h : max x (-x) < ⊤) : ((x.toReal : ℝ) : EReal) = x := by
  refine EReal.coe_toReal (fun e => ?_) (fun e => ?_)
  · rw [e] at h; simp at h
  · rw [e] at h; simp at h

/-- An array of reals is the array of its entries. -/
theorem T_of_real {a b : ℕ} (x : (⟨2, ![a, b]⟩ : Shape).Idx → EReal) (h : ∀ i, (((x i).toReal : ℝ) : EReal) = x i) : ∃ φ : ℕ → ℕ → ℝ, x = T φ := by
  refine ⟨fun r j => if hrj : r < a ∧ j < b then (x (ix2 ⟨r, hrj.1⟩ ⟨j, hrj.2⟩)).toReal else 0, funext fun i => ?_⟩
  have h0 : (i 0).val < a := (i 0).isLt
  have h1 : (i 1).val < b := (i 1).isLt
  show x i = ((dite _ _ _ : ℝ) : EReal)
  rw [dif_pos ⟨h0, h1⟩]
  have e : ix2 ⟨(i 0).val, h0⟩ ⟨(i 1).val, h1⟩ = i := by
    funext k
    match k with
    | ⟨0, _⟩ => rfl
    | ⟨1, _⟩ => rfl
  rw [e, h i]

theorem inf_word : Ideal.ofBits .bf16 32640#16 = ⊤ := by
  simp [Ideal.ofBits, Ideal.ieee]

theorem real_of_word (x : Ideal .bf16) (h : BitVec.ofBool (decide (FloatOps.absf (F := Ideal) x < Ideal.ofBits .bf16 32640#16)) = 1#1) :
    ((EReal.toReal x : ℝ) : EReal) = x := by
  rw [inf_word] at h
  refine real_of_lt x ?_
  by_contra hn
  rw [show decide (FloatOps.absf (F := Ideal) x < (⊤ : EReal)) = false from decide_eq_false hn] at h
  exact absurd h (by decide)

/-- Every entry of the first argument is a real where the precondition holds. -/
theorem finite_fst [Cert.Pre_finite.Facts] (x : FVec Ideal Cert.Pre_finite.S4096x4096 .bf16) (y : FVec Ideal Cert.Pre_finite.S4096x2048 .bf16)
    (h : (Cert.Pre_finite.fn (F := Ideal) x y).1 = fun _ => 1#1) : ∃ φ : ℕ → ℕ → ℝ, x = T φ := by
  refine T_of_real x fun i => ?_
  have hi := congrFun h i
  unfold Cert.Pre_finite.fn at hi
  revert hi
  pointwise []
  exact real_of_word (x i)
/-- Every entry of the second argument is a real where the precondition holds. -/
theorem finite_snd [Cert.Pre_finite.Facts] (x : FVec Ideal Cert.Pre_finite.S4096x4096 .bf16) (y : FVec Ideal Cert.Pre_finite.S4096x2048 .bf16)
    (h : (Cert.Pre_finite.fn (F := Ideal) x y).2 = fun _ => 1#1) : ∃ φ : ℕ → ℕ → ℝ, y = T φ := by
  refine T_of_real y fun i => ?_
  have hi := congrFun h i
  unfold Cert.Pre_finite.fn at hi
  revert hi
  pointwise []
  exact real_of_word (y i)

end Cert.Stick

end
-- ==== Proof.Value.Alg.lean ====
module

public import proofs.«01_k».proof.Defs
public import proofs.«01_k».proof.Proof.Value.Arrays
public import proofs.«01_k».proof.Proof.Value.Finite
public import proofs.«01_k».proof.Proof.Run
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Stick

open Cert.Stick.Ref (hd)
open Idealize.ShloMosaic Idealize.ShloMosaic.TcCoe Idealize.SL.Sem

/-- The kernel leaves what its three result arrays hold after the last point, and its arguments alone. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v39_0) = (dats m 0 c).arrAt 6 (Cert.KernelIdeal.cfgs 0).N
      ∧ r.2.mem ((c.tc : Thread Cert.KernelIdeal.nD Cert.KernelIdeal.τ).loc Cert.KernelIdeal.main_v39_1) = (dats m 0 c).arrAt 7 (Cert.KernelIdeal.cfgs 0).N
      ∧ r.2.mem ((c.tc : Thread Cert.KernelIdeal.nD Cert.KernelIdeal.τ).loc Cert.KernelIdeal.main_v39_2) = (dats m 0 c).arrAt 8 (Cert.KernelIdeal.cfgs 0).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun r h c => ⟨(h.1 c).1 6, (h.1 c).1 7, (h.1 c).1 8, h.2 c⟩)
    (θ_run_and (run_main m g) (Cert.KernelIdeal.Gen.frame_of m g (dats m) (A_eq m) (run_main m g)))

/-- The reference's three results over its arguments. -/
theorem ref_value (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v66) = Cert.ReferenceIdeal.Read.val_main_v66 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v63) = Cert.ReferenceIdeal.Read.val_main_v63 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v60) = Cert.ReferenceIdeal.Read.val_main_v60 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun r h c => ⟨(h c).1.trans (Cert.ReferenceIdeal.Read.val_main_v66_eq (F := Ideal) (StableHlo.launchContents m c)),
      (h c).2.1.trans (Cert.ReferenceIdeal.Read.val_main_v63_eq (F := Ideal) (StableHlo.launchContents m c)),
      (h c).2.2.1.trans (Cert.ReferenceIdeal.Read.val_main_v60_eq (F := Ideal) (StableHlo.launchContents m c)), (h c).2.2.2⟩)
    (Cert.ReferenceIdeal.Value.run m g)

/-- The kernel's three gradients are the reference's, where the arguments are finite. -/
theorem algebraic (pre : Cert.Pre_finite.Facts) : Cert.algebraic_KernelIdeal_ReferenceIdeal_pre_finite
    (hKernelIdeal := Cert.KernelIdeal.Gen.facts) (hReferenceIdeal := Cert.ReferenceIdeal.Gen.facts) (hPre_finite := pre) := by
  intro m g m' g' hpre hm
  have hP : ∀ c : Dev Cert.KernelIdeal.nD, ∃ φ : ℕ → ℕ → ℝ, m ((c.tc : Thread Cert.KernelIdeal.nD Cert.KernelIdeal.τ).loc Cert.KernelIdeal.main_arg0) = (T φ : Cert.KernelIdeal.S4096x4096.Idx → EReal) :=
    fun c => finite_fst _ _ (hpre c).1
  have hD : ∀ c : Dev Cert.KernelIdeal.nD, ∃ φ : ℕ → ℕ → ℝ, m ((c.tc : Thread Cert.KernelIdeal.nD Cert.KernelIdeal.τ).loc Cert.KernelIdeal.main_arg1) = (T φ : Cert.KernelIdeal.S4096x2048.Idx → EReal) :=
    fun c => finite_snd _ _ (hpre c).2
  choose P hP using hP
  choose D hD using hD
  refine ⟨_, _, _, kernel_value m g, (θ_run _ _ _).mono (fun r h c => ?_) (ref_value m' g')⟩
  have h66 := (h c).1
  have h63 := (h c).2.1
  have h60 := (h c).2.2.1
  rw [(hm c).1.trans (hP c), (hm c).2.trans (hD c)] at h66 h63 h60
  exact ⟨h66.trans ((Ref.out_dq (P c) (D c)).trans (final6 m c (P c) (D c) (hP c) (hD c)).symm),
    h63.trans ((Ref.out_dk (P c) (D c)).trans (final7 m c (P c) (D c) (hP c) (hD c)).symm),
    h60.trans ((Ref.out_dv (P c) (D c)).trans (final8 m c (P c) (D c) (hP c) (hD c)).symm), (h c).2.2.2⟩

end Cert.Stick

end
-- ==== Proof.Mlp.Sums.lean ====
module

public import Idealize.ShloMosaic.Lib.Pointwise
public import Idealize.ShloMosaic.PureOps.Ideal

@[expose] public section

noncomputable section

namespace Cert.Mlp

/-- Two sums of products over the same range are equal when their factors are. -/
theorem sum_mul_congr {n : ℕ} {a b a' b' : Fin n → EReal} (ha : ∀ k, a k = a' k) (hb : ∀ k, b k = b' k) :
    ∑ k, a k * b k = ∑ k, a' k * b' k :=
  Finset.sum_congr rfl fun k _ => by rw [ha k, hb k]

/-- The factors of a sum's products change places. -/
theorem sum_mul_comm {n : ℕ} (a b : Fin n → EReal) : ∑ k, a k * b k = ∑ k, b k * a k :=
  Finset.sum_congr rfl fun k _ => mul_comm _ _

/-- A sum over `n + n` places is the sum over the first `n` and the sum over the others. -/
theorem sum_halves (n : ℕ) {N : ℕ} (hN : n + n = N) (f : Fin N → EReal) :
    ∑ k, f k = ∑ k : Fin n, f ⟨k.val, by omega⟩ + ∑ k : Fin n, f ⟨n + k.val, by omega⟩ := by
  subst hN
  exact Fin.sum_univ_add f

end Cert.Mlp

end
-- ==== Proof.Mlp.DwDown.lean ====
module

public import proofs.«01_k».proof.Defs
public import proofs.«01_k».proof.Proof.Mlp.Sums
public import proofs.«01_k».proof.Proof.Gen.KernelDwDownIdeal.Value
public import proofs.«01_k».proof.Proof.Gen.ReferenceDwDownIdeal
public import proofs.«01_k».proof.Proof.Gen.ReferenceDwDownIdeal.Run
public import Idealize.ShloMosaic.Lib.Pointwise
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

namespace Cert.Mlp.DwDown

open Idealize.ShloMosaic Idealize.ShloMosaic.TcCoe Idealize.SL.Sem
open Cert.KernelDwDownIdeal Cert.KernelDwDownIdeal.Gen

theorem idx : ∀ t : Fin cfg0.N, win0_0.index t = ![0, t.val / 2] ∧ win0_1.index t = ![0, t.val % 2]
    ∧ win0_2.index t = ![t.val / 2, t.val % 2] ∧ t.val / 2 < 8 :=
  (by decide +kernel : ∀ t : Fin grid0.N, _)

variable (m : (ℓ : Loc nD τ sig) → Buf (Elt Ideal) ℓ) (c : Dev nD)

/-- The squared ReLU of the hidden product, at an index. -/
def act (h : S4096x2048.Idx → EReal) (w : S2048x8192.Idx → EReal) : S4096x8192.Idx → EReal := fun i =>
  max (∑ k : Fin 2048, h (ix2 (i 0) k) * w (ix2 k (i 1))) 0 * max (∑ k : Fin 2048, h (ix2 (i 0) k) * w (ix2 k (i 1))) 0

theorem V_a : V m c main_v3 = act (m ((c : Thread nD τ).loc main_arg0)) (m ((c : Thread nD τ).loc main_arg1)) := by
  show StableHlo.after _ _ _ = _
  after_reads_simp
  simp only [StableHlo.TRef.toBuf, StableHlo.TRef.ofBuf, cast_eq]
  funext i
  pointwise [act]

/-- The product over the rows of the two arrays. -/
def prod (a : S4096x8192.Idx → EReal) (d : S4096x2048.Idx → EReal) : S8192x2048.Idx → EReal := fun i =>
  ∑ k : Fin 4096, a (ix2 k (i 0)) * d (ix2 k (i 1))

/-- What the body stores, of the two blocks that it loads. -/
theorem out_eq (x : Vec Ideal S4096x1024 .bf16) (d : Vec Ideal S4096x1024 .bf16) :
    out0_2 x d = (fun i => ∑ k : Fin 4096, x (ix2 k (i 0)) * d (ix2 k (i 1)) : S1024x1024.Idx → EReal) := by
  unfold out0_2
  rw [View.canon_unit_zero (by decide), View.ld_unit_zero (by decide), View.ld_unit_zero (by decide)]
  funext i
  pointwise [k0_pay1]

theorem final : (dats m 0 c).arrAt 2 cfg0.N = prod (act (m ((c : Thread nD τ).loc main_arg0)) (m ((c : Thread nD τ).loc main_arg1))) (m ((c : Thread nD τ).loc main_arg2)) := by
  refine (dats m 0 c).arrAt_eq_of_covers 2 _ (by decide +kernel) fun t hf y => ?_
  rw [← V_a m c, ← V_main_arg2 m c]
  blk_simp
  rw [after0_2, out_eq]
  pointwise [prod]
  refine sum_mul_congr (fun k => ?_) (fun k => ?_)
  · blk_ext [iblk, idx t]
  · blk_ext [iblk, idx t]

theorem algebraic : Cert.algebraic_KernelDwDownIdeal_ReferenceDwDownIdeal
    (hKernelDwDownIdeal := Cert.KernelDwDownIdeal.Gen.facts) (hReferenceDwDownIdeal := Cert.ReferenceDwDownIdeal.Gen.facts) := by
  intro m g m' g' _ hm
  refine ⟨fun c => (dats m 0 c).arrAt 2 cfg0.N, Value.run_blocks m g, (θ_run _ _ _).mono (fun r h c => ?_) (Cert.ReferenceDwDownIdeal.Value.run m' g')⟩
  refine ⟨(h c).1.trans ?_, (h c).2⟩
  rw [(hm c).1, (hm c).2.1, (hm c).2.2]
  refine Eq.trans ?_ (final m c).symm
  funext i
  pointwise [prod, act]
  exact sum_mul_comm _ _

/-- The reference runs and leaves its arguments and every semaphore as they were. -/
theorem ref_frame : Cert.quiescent_ReferenceDwDownIdeal (hReferenceDwDownIdeal := Cert.ReferenceDwDownIdeal.Gen.facts) := fun m g _ =>
  (θ_run _ _ _).mono (fun _ h => ⟨fun c => (h c).2, sem_eq_zero_of_no_sems rfl _⟩) (Cert.ReferenceDwDownIdeal.Value.run m g)

end Cert.Mlp.DwDown
-- ==== Proof.Mlp.Du.lean ====
module

public import proofs.«01_k».proof.Defs
public import proofs.«01_k».proof.Proof.Mlp.Sums
public import proofs.«01_k».proof.Proof.Gen.KernelDuIdeal.Value
public import proofs.«01_k».proof.Proof.Gen.ReferenceDuIdeal
public import proofs.«01_k».proof.Proof.Gen.ReferenceDuIdeal.Run
public import Idealize.ShloMosaic.Lib.Pointwise
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

namespace Cert.Mlp.Du

open Idealize.ShloMosaic Idealize.ShloMosaic.TcCoe Idealize.SL.Sem
open Cert.KernelDuIdeal Cert.KernelDuIdeal.Gen

theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val / 8 < 4 :=
  (by decide +kernel : ∀ t : Fin grid0.N, _)

variable (m : (ℓ : Loc nD τ sig) → Buf (Elt Ideal) ℓ) (c : Dev nD)

/-- The hidden product, at an index. -/
def hidden (h : S4096x2048.Idx → EReal) (w : S2048x8192.Idx → EReal) : S4096x8192.Idx → EReal := fun i =>
  ∑ k : Fin 2048, h (ix2 (i 0) k) * w (ix2 k (i 1))

theorem V_u : V m c main_v0 = hidden (m ((c : Thread nD τ).loc main_arg0)) (m ((c : Thread nD τ).loc main_arg1)) := by
  show StableHlo.after _ _ _ = _
  after_reads_simp
  funext i
  pointwise [hidden]

/-- The constant two, as the programs hold it. -/
def two : EReal := Ideal.ofBits FTy.f32 1073741824#32

/-- A ReLU's gradient is zero wherever the ReLU is. -/
theorem relu_grad (x u : EReal) : (if 0 < u then x * (two * max u 0) else 0) = x * (two * max u 0) := by
  split
  · rfl
  · rename_i h
    rw [max_eq_right (not_lt.mp h), mul_zero, mul_zero]

/-- The gradient of the hidden product: the gradient of its squared ReLU, times twice the ReLU. -/
def grad (u : S4096x8192.Idx → EReal) (w : S8192x2048.Idx → EReal) (d : S4096x2048.Idx → EReal) : S4096x8192.Idx → EReal := fun i =>
  (∑ k : Fin 2048, d (ix2 (i 0) k) * w (ix2 (i 1) k)) * (two * max (u i) 0)

/-- What the body stores, of the three blocks that it loads. -/
theorem out_eq (x : Vec Ideal S1024x2048 .bf16) (w : Vec Ideal S1024x2048 .bf16) (u : Vec Ideal S1024x1024 .f32) :
    out0_3 x w u = (fun i => (∑ k : Fin 2048, x (ix2 (i 0) k) * w (ix2 (i 1) k)) * (two * max (u i) 0) : S1024x1024.Idx → EReal) := by
  unfold out0_3
  rw [View.canon_unit_zero (by decide), View.ld_unit_zero (by decide), View.ld_unit_zero (by decide), View.ld_unit_zero (by decide)]
  funext i
  pointwise [k0_pay1, two]

theorem final : (dats m 0 c).arrAt 3 cfg0.N = grad (hidden (m ((c : Thread nD τ).loc main_arg0)) (m ((c : Thread nD τ).loc main_arg1)))
    (m ((c : Thread nD τ).loc main_arg2)) (m ((c : Thread nD τ).loc main_arg3)) := by
  refine (dats m 0 c).arrAt_eq_of_covers 3 _ (by decide +kernel) fun t hf y => ?_
  rw [← V_u m c, ← V_main_arg2 m c, ← V_main_arg3 m c]
  blk_simp
  rw [after0_3, out_eq]
  pointwise [grad]
  refine congrArg₂ (· * ·) (sum_mul_congr (fun k => ?_) (fun k => ?_)) ?_
  · blk_ext [iblk, idx t]
  · blk_ext [iblk, idx t]
  · refine congrArg (fun x => two * max x 0) ?_
    blk_ext [iblk, idx t]

theorem algebraic : Cert.algebraic_KernelDuIdeal_ReferenceDuIdeal
    (hKernelDuIdeal := Cert.KernelDuIdeal.Gen.facts) (hReferenceDuIdeal := Cert.ReferenceDuIdeal.Gen.facts) := by
  intro m g m' g' _ hm
  refine ⟨fun c => (dats m 0 c).arrAt 3 cfg0.N, Value.run_blocks m g, (θ_run _ _ _).mono (fun r h c => ?_) (Cert.ReferenceDuIdeal.Value.run m' g')⟩
  refine ⟨(h c).1.trans ?_, (h c).2⟩
  rw [(hm c).1, (hm c).2.1, (hm c).2.2.1, (hm c).2.2.2]
  refine Eq.trans ?_ (final m c).symm
  funext i
  pointwise [grad, hidden]
  exact relu_grad _ _

/-- The reference runs and leaves its arguments and every semaphore as they were. -/
theorem ref_frame : Cert.quiescent_ReferenceDuIdeal (hReferenceDuIdeal := Cert.ReferenceDuIdeal.Gen.facts) := fun m g _ =>
  (θ_run _ _ _).mono (fun _ h => ⟨fun c => (h c).2, sem_eq_zero_of_no_sems rfl _⟩) (Cert.ReferenceDuIdeal.Value.run m g)

end Cert.Mlp.Du

end
-- ==== Proof.Mlp.DwUp.lean ====
module

public import proofs.«01_k».proof.Defs
public import proofs.«01_k».proof.Proof.Mlp.Sums
public import proofs.«01_k».proof.Proof.Gen.KernelDwUpIdeal.Value
public import proofs.«01_k».proof.Proof.Gen.ReferenceDwUpIdeal
public import proofs.«01_k».proof.Proof.Gen.ReferenceDwUpIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Mlp.DwUp

open Idealize.ShloMosaic Idealize.ShloMosaic.TcCoe Idealize.SL.Sem
open Cert.KernelDwUpIdeal Cert.KernelDwUpIdeal.Gen

theorem idx : ∀ t : Fin cfg0.N, win0_0.index t = ![0, t.val / 8] ∧ win0_1.index t = ![0, t.val % 8]
    ∧ win0_2.index t = ![t.val % 8, t.val / 8, 0] ∧ t.val / 8 < 2 :=
  (by decide +kernel : ∀ t : Fin grid0.N, _)

variable (m : (ℓ : Loc nD τ sig) → Buf (Elt Ideal) ℓ) (c : Dev nD)

/-- Column `j` of slot `s`. -/
def col (s : Fin 8) (j : Fin 1024) : Fin 8192 := ⟨s.val * 1024 + j.val, by omega⟩

/-- The product over the rows of the two arrays, its columns in eight slots. -/
def prod (h : S4096x2048.Idx → EReal) (d : S4096x8192.Idx → EReal) : S8x2048x1024.Idx → EReal := fun i =>
  ∑ k : Fin 4096, h (ix2 k (i 1)) * d (ix2 k (col (i 0) (i 2)))

/-- What the body stores, of the two blocks that it loads. -/
theorem out_eq (x : Vec Ideal S4096x1024 .bf16) (d : Vec Ideal S4096x1024 .bf16) :
    out0_2 x d = (fun i => ∑ k : Fin 4096, x (ix2 k (i 1)) * d (ix2 k (i 2)) : S1x1024x1024.Idx → EReal) := by
  unfold out0_2
  rw [View.canon_unit_zero (by decide), View.ld_unit_zero (by decide), View.ld_unit_zero (by decide)]
  funext i
  pointwise [k0_pay1]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  pointwise [prod]
  refine sum_mul_congr (fun k => ?_) (fun k => ?_)
  · blk_ext [iblk, idx t]
  · blk_ext [iblk, idx t, col]

theorem algebraic : Cert.algebraic_KernelDwUpIdeal_ReferenceDwUpIdeal
    (hKernelDwUpIdeal := Cert.KernelDwUpIdeal.Gen.facts) (hReferenceDwUpIdeal := Cert.ReferenceDwUpIdeal.Gen.facts) := by
  intro m g m' g' _ hm
  refine ⟨fun c => (dats m 0 c).arrAt 2 cfg0.N, Value.run_blocks m g, (θ_run _ _ _).mono (fun r h c => ?_) (Cert.ReferenceDwUpIdeal.Value.run m' g')⟩
  refine ⟨(h c).1.trans ?_, (h c).2⟩
  rw [(hm c).1, (hm c).2]
  refine Eq.trans ?_ (final m c).symm
  funext i
  pointwise [prod]
  exact sum_mul_comm _ _

/-- The reference runs and leaves its arguments and every semaphore as they were. -/
theorem ref_frame : Cert.quiescent_ReferenceDwUpIdeal (hReferenceDwUpIdeal := Cert.ReferenceDwUpIdeal.Gen.facts) := fun m g _ =>
  (θ_run _ _ _).mono (fun _ h => ⟨fun c => (h c).2, sem_eq_zero_of_no_sems rfl _⟩) (Cert.ReferenceDwUpIdeal.Value.run m g)

end Cert.Mlp.DwUp

end
-- ==== Proof.Mlp.Dh.lean ====
module

public import proofs.«01_k».proof.Defs
public import proofs.«01_k».proof.Proof.Mlp.Sums
public import proofs.«01_k».proof.Proof.Gen.KernelDhIdeal.Value
public import proofs.«01_k».proof.Proof.Gen.ReferenceDhIdeal
public import proofs.«01_k».proof.Proof.Gen.ReferenceDhIdeal.Run
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic

@[expose] public section

set_option maxRecDepth 16384

noncomputable section

namespace Cert.Mlp.Dh

open Idealize.ShloMosaic Idealize.ShloMosaic.TcCoe Idealize.SL.Sem
open Cert.KernelDhIdeal Cert.KernelDhIdeal.Gen

theorem idx : ∀ t : Fin cfg0.N, win0_0.index t = ![t.val / 4, t.val % 2] ∧ win0_1.index t = ![t.val / 2 % 2, t.val % 2]
    ∧ win0_2.index t = ![t.val / 4, t.val / 2 % 2] ∧ t.val / 4 < 8 :=
  (by decide +kernel : ∀ t : Fin grid0.N, _)

variable (m : (ℓ : Loc nD τ sig) → Buf (Elt Ideal) ℓ) (c : Dev nD)

/-- The product over the columns of the two arrays. -/
def prod (d : S4096x8192.Idx → EReal) (w : S2048x8192.Idx → EReal) : S4096x2048.Idx → EReal := fun i =>
  ∑ k : Fin 8192, d (ix2 (i 0) k) * w (ix2 (i 1) k)

/-- The same product of two blocks. -/
def part (x : Vec Ideal S512x4096 .bf16) (w : Vec Ideal S1024x4096 .bf16) : S512x1024.Idx → EReal := fun i =>
  ∑ k : Fin 4096, x (ix2 (i 0) k) * w (ix2 (i 1) k)

theorem pay_eq (x : Vec Ideal S512x4096 .bf16) (w : Vec Ideal S1024x4096 .bf16) : k0_pay2 x w = part x w := by
  funext i
  pointwise [k0_pay2, k0_pay1, part]

theorem pay_add (x : Vec Ideal S512x4096 .bf16) (w : Vec Ideal S1024x4096 .bf16) (a : Vec Ideal S512x1024 .f32) :
    k0_pay3 x w a = (fun i => a i + part x w i : S512x1024.Idx → EReal) := by
  funext i
  pointwise [k0_pay3, k0_pay1, part]

theorem hz : (![0, 0] : Fin 2 → ℕ) = fun _ => 0 := by decide

/-- What the first point of a block leaves in the scratch. -/
theorem sout_A (i : grid0.Coords) (a3 : Memref sig .tc .vmem S512x4096 .bf16) (h3 : a3.IsWhole) (a4 : Memref sig .tc .vmem S1024x4096 .bf16) (h4 : a4.IsWhole)
    (a5 : Memref sig .tc .vmem S512x1024 .f32) (h5 : a5.IsWhole) (a6 : Memref sig .tc .vmem S512x1024 .f32) (h6 : a6.IsWhole)
    (c0 : cond0_0 i) (c1 : ¬cond0_1 i) (c2 : ¬cond0_2 i) (x : Vec Ideal S512x4096 .bf16) (w : Vec Ideal S1024x4096 .bf16) :
    sout0_A_0 c i a3 h3 a4 h4 a5 h5 a6 h6 c0 c1 c2 x w = part x w := by
  rw [← pay_eq]
  unfold sout0_A_0
  rw [View.read_writes_eq_canon _ _ _ (scover0_A_0 c i a3 h3 a4 h4 a5 h5 a6 h6 c0 c1 c2 x w)]
  unfold kernelRun0_A
  dsimp only
  sl_unfold_words
  rw [View.canon_unit_zero hz]
  simp only [View.readAt_eq_ld, h3.read_unread, h4.read_unread, View.ld_unit_zero (S := S512x4096) hz, View.ld_unit_zero (S := S1024x4096) hz]

/-- What the last point of a block stores, of the scratch and its two blocks. -/
theorem out_B (i : grid0.Coords) (a3 : Memref sig .tc .vmem S512x4096 .bf16) (h3 : a3.IsWhole) (a4 : Memref sig .tc .vmem S1024x4096 .bf16) (h4 : a4.IsWhole)
    (a5 : Memref sig .tc .vmem S512x1024 .f32) (h5 : a5.IsWhole) (a6 : Memref sig .tc .vmem S512x1024 .f32) (h6 : a6.IsWhole)
    (c0 : ¬cond0_0 i) (c1 : cond0_1 i) (c2 : cond0_2 i) (x : Vec Ideal S512x4096 .bf16) (w : Vec Ideal S1024x4096 .bf16) (a : Vec Ideal S512x1024 .f32) :
    out0_B_2 c i a3 h3 a4 h4 a5 h5 a6 h6 c0 c1 c2 x w a = (fun i => a i + part x w i : S512x1024.Idx → EReal) := by
  rw [← pay_add]
  unfold out0_B_2
  rw [View.read_writes_eq_canon _ _ _ (cover0_B_2 c i a3 h3 a4 h4 a5 h5 a6 h6 c0 c1 c2 x w a)]
  unfold kernelRun0_B
  dsimp only
  sl_unfold_words
  rw [View.canon_unit_zero hz]
  rw [View.readCov_unit_zero (S := S512x1024) _ hz]
  simp only [View.readAt_eq_ld, h3.read_unread, h4.read_unread, h6.read_unread, View.ld_unit_zero (S := S512x4096) hz, View.ld_unit_zero (S := S1024x4096) hz, View.ld_unit_zero (S := S512x1024) hz]

theorem outs_congr {a b : ℕ} (e : a = b) (ha : a < cfg0.N) (hb : b < cfg0.N) : outsAt0 m c a ha = outsAt0 m c b hb := by
  subst e
  rfl

/-- What the scratch holds after the first point of a block. -/
theorem scratch_eq (u : Fin cfg0.N) (h : u.val % 2 = 0) : (outsAt0 m c u.val u.isLt).2 = part (iblk m c 0 u) (iblk m c 1 u) := by
  rw [outsAt0_A m c u h (by omega) (by omega)]
  dsimp only
  rw [sout_A]

/-- What the output block holds after the last point of a block: the two halves of the product. -/
theorem outs_eq (t u : Fin cfg0.N) (e : t.val = u.val + 1) (h : t.val % 2 = 1) (i : S512x1024.Idx) :
    (outsAt0 m c t.val t.isLt).1 i = part (iblk m c 0 u) (iblk m c 1 u) i + part (iblk m c 0 t) (iblk m c 1 t) i := by
  rw [outsAt0_B m c t (by omega) h h]
  dsimp only
  rw [out_B]
  refine congrArg (· + part (iblk m c 0 t) (iblk m c 1 t) i) (congrFun ?_ i)
  rw [outs_congr m c (show t.val - 1 = u.val by omega) _ u.isLt, scratch_eq m c u (by omega)]

theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  obtain ⟨u, hu⟩ : ∃ u : Fin cfg0.N, t.val = u.val + 1 := ⟨⟨t.val - 1, lt_of_le_of_lt (Nat.sub_le _ _) t.isLt⟩, by dsimp only; omega⟩
  rw [← V_main_arg0 m c, ← V_main_arg1 m c]
  blk_simp
  rw [after0_2, outs_eq m c t u hu ht]
  pointwise [prod, part]
  rw [sum_halves 4096 rfl]
  refine congrArg₂ (· + ·) (sum_mul_congr (fun k => ?_) (fun k => ?_)) (sum_mul_congr (fun k => ?_) (fun k => ?_))
  · blk_ext [iblk, idx t, idx u]
  · blk_ext [iblk, idx t, idx u]
  · blk_ext [iblk, idx t]
  · blk_ext [iblk, idx t]

theorem algebraic : Cert.algebraic_KernelDhIdeal_ReferenceDhIdeal
    (hKernelDhIdeal := Cert.KernelDhIdeal.Gen.facts) (hReferenceDhIdeal := Cert.ReferenceDhIdeal.Gen.facts) := by
  intro m g m' g' _ hm
  refine ⟨fun c => (dats m 0 c).arrAt 2 cfg0.N, Value.run_blocks m g, (θ_run _ _ _).mono (fun r h c => ?_) (Cert.ReferenceDhIdeal.Value.run m' g')⟩
  refine ⟨(h c).1.trans ?_, (h c).2⟩
  rw [(hm c).1, (hm c).2]
  refine Eq.trans ?_ (final m c).symm
  funext i
  pointwise [prod]

/-- The reference runs and leaves its arguments and every semaphore as they were. -/
theorem ref_frame : Cert.quiescent_ReferenceDhIdeal (hReferenceDhIdeal := Cert.ReferenceDhIdeal.Gen.facts) := fun m g _ =>
  (θ_run _ _ _).mono (fun _ h => ⟨fun c => (h c).2, sem_eq_zero_of_no_sems rfl _⟩) (Cert.ReferenceDhIdeal.Value.run m g)

end Cert.Mlp.Dh

end
-- ==== Proof.Mlp.Up.lean ====
module

public import proofs.«01_k».proof.Defs
public import proofs.«01_k».proof.Proof.Mlp.Sums
public import proofs.«01_k».proof.Proof.Gen.KernelUpIdeal.Value
public import proofs.«01_k».proof.Proof.Gen.ReferenceUpIdeal
public import proofs.«01_k».proof.Proof.Gen.ReferenceUpIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Mlp.Up

open Idealize.ShloMosaic Idealize.ShloMosaic.TcCoe Idealize.SL.Sem
open Cert.KernelUpIdeal Cert.KernelUpIdeal.Gen

theorem idx : ∀ t : Fin cfg0.N, win0_0.index t = ![t.val / 8, 0] ∧ win0_1.index t = ![0, t.val % 8]
    ∧ win0_2.index t = ![t.val / 8, t.val % 8] ∧ win0_3.index t = ![t.val / 8, t.val % 8] ∧ t.val / 8 < 4 :=
  (by decide +kernel : ∀ t : Fin grid0.N, _)

variable (m : (ℓ : Loc nD τ sig) → Buf (Elt Ideal) ℓ) (c : Dev nD)

/-- The hidden product, at an index. -/
def hidden (h : S4096x2048.Idx → EReal) (w : S2048x8192.Idx → EReal) : S4096x8192.Idx → EReal := fun i =>
  ∑ k : Fin 2048, h (ix2 (i 0) k) * w (ix2 k (i 1))

/-- Its squared ReLU. -/
def act (h : S4096x2048.Idx → EReal) (w : S2048x8192.Idx → EReal) : S4096x8192.Idx → EReal := fun i =>
  max (hidden h w i) 0 * max (hidden h w i) 0

/-- The product of two blocks. -/
def part (x : Vec Ideal S1024x2048 .bf16) (w : Vec Ideal S2048x1024 .bf16) : S1024x1024.Idx → EReal := fun i =>
  ∑ k : Fin 2048, x (ix2 (i 0) k) * w (ix2 k (i 1))

/-- What the body stores into the first output, of the two blocks that it loads. -/
theorem out_u (x : Vec Ideal S1024x2048 .bf16) (w : Vec Ideal S2048x1024 .bf16) : out0_2 x w = part x w := by
  unfold out0_2
  rw [View.canon_unit_zero (by decide), View.ld_unit_zero (by decide), View.ld_unit_zero (by decide)]
  funext i
  pointwise [k0_pay1, part]

/-- What the body stores into the second output. -/
theorem out_a (x : Vec Ideal S1024x2048 .bf16) (w : Vec Ideal S2048x1024 .bf16) :
    out0_3 x w = (fun i => max (part x w i) 0 * max (part x w i) 0 : S1024x1024.Idx → EReal) := by
  unfold out0_3
  rw [View.canon_unit_zero (by decide), View.ld_unit_zero (by decide), View.ld_unit_zero (by decide)]
  funext i
  pointwise [k0_pay2, k0_pay1, part]

theorem final_u : (dats m 0 c).arrAt 2 cfg0.N = hidden (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_u]
  pointwise [hidden, part]
  refine sum_mul_congr (fun k => ?_) (fun k => ?_)
  · blk_ext [iblk, idx t]
  · blk_ext [iblk, idx t]

theorem final_a : (dats m 0 c).arrAt 3 cfg0.N = act (m ((c : Thread nD τ).loc main_arg0)) (m ((c : Thread nD τ).loc main_arg1)) := by
  refine (dats m 0 c).arrAt_eq_of_covers 3 _ (by decide +kernel) fun t hf y => ?_
  rw [← V_main_arg0 m c, ← V_main_arg1 m c]
  blk_simp
  rw [after0_3, out_a]
  pointwise [act, hidden, part]
  refine congrArg (fun u => max u 0 * max u 0) (sum_mul_congr (fun k => ?_) (fun k => ?_))
  · blk_ext [iblk, idx t]
  · blk_ext [iblk, idx t]

theorem algebraic : Cert.algebraic_KernelUpIdeal_ReferenceUpIdeal
    (hKernelUpIdeal := Cert.KernelUpIdeal.Gen.facts) (hReferenceUpIdeal := Cert.ReferenceUpIdeal.Gen.facts) := by
  intro m g m' g' _ hm
  refine ⟨fun c => (dats m 0 c).arrAt 2 cfg0.N, fun c => (dats m 0 c).arrAt 3 cfg0.N, Value.run_blocks m g,
    (θ_run _ _ _).mono (fun r h c => ?_) (Cert.ReferenceUpIdeal.Value.run m' g')⟩
  refine ⟨(h c).1.trans ?_, (h c).2.1.trans ?_, (h c).2.2⟩
  · rw [(hm c).1, (hm c).2]
    refine Eq.trans ?_ (final_u m c).symm
    funext i
    pointwise [hidden]
  · rw [(hm c).1, (hm c).2]
    refine Eq.trans ?_ (final_a m c).symm
    funext i
    pointwise [act, hidden]

/-- The reference runs and leaves its arguments and every semaphore as they were. -/
theorem ref_frame : Cert.quiescent_ReferenceUpIdeal (hReferenceUpIdeal := Cert.ReferenceUpIdeal.Gen.facts) := fun m g _ =>
  (θ_run _ _ _).mono (fun _ h => ⟨fun c => (h c).2.2, sem_eq_zero_of_no_sems rfl _⟩) (Cert.ReferenceUpIdeal.Value.run m g)

end Cert.Mlp.Up

end
-- ==== Proof.Mlp.Down.lean ====
module

public import proofs.«01_k».proof.Defs
public import proofs.«01_k».proof.Proof.Mlp.Sums
public import proofs.«01_k».proof.Proof.Gen.KernelDownIdeal.Value
public import proofs.«01_k».proof.Proof.Gen.ReferenceDownIdeal
public import proofs.«01_k».proof.Proof.Gen.ReferenceDownIdeal.Run
public import Idealize.ShloMosaic.Lib.Pointwise
public import Idealize.ShloMosaic.Lib.Pipeline.ValueKit
public import Idealize.ShloMosaic.Lib.Claim
public import Idealize.ShloMosaic.Lib.Quiescent
public import Idealize.ShloMosaic.Lib.StableHlo.RunRead
public import Idealize.ShloMosaic.Lib.Tactic

@[expose] public section

set_option maxRecDepth 16384

noncomputable section

namespace Cert.Mlp.Down

open Idealize.ShloMosaic Idealize.ShloMosaic.TcCoe Idealize.SL.Sem
open Cert.KernelDownIdeal Cert.KernelDownIdeal.Gen

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] ∧ t.val / 4 < 8 :=
  (by decide +kernel : ∀ t : Fin grid0.N, _)

variable (m : (ℓ : Loc nD τ sig) → Buf (Elt Ideal) ℓ) (c : Dev nD)

/-- The squared ReLU of the hidden product, at an index. -/
def act (h : S4096x2048.Idx → EReal) (w : S2048x8192.Idx → EReal) : S4096x8192.Idx → EReal := fun i =>
  max (∑ k : Fin 2048, h (ix2 (i 0) k) * w (ix2 k (i 1))) 0 * max (∑ k : Fin 2048, h (ix2 (i 0) k) * w (ix2 k (i 1))) 0

theorem V_a : V m c main_v3 = act (m ((c : Thread nD τ).loc main_arg0)) (m ((c : Thread nD τ).loc main_arg1)) := by
  show StableHlo.after _ _ _ = _
  after_reads_simp
  simp only [StableHlo.TRef.toBuf, StableHlo.TRef.ofBuf, cast_eq]
  funext i
  pointwise [act]

/-- The product of the two arrays, and the third added. -/
def result (a : S4096x8192.Idx → EReal) (w : S8192x2048.Idx → EReal) (x : S4096x2048.Idx → EReal) : S4096x2048.Idx → EReal := fun i =>
  (∑ k : Fin 8192, a (ix2 (i 0) k) * w (ix2 k (i 1))) + x i

/-- The product of two blocks. -/
def part (x : Vec Ideal S512x4096 .bf16) (w : Vec Ideal S4096x1024 .bf16) : S512x1024.Idx → EReal := fun i =>
  ∑ k : Fin 4096, x (ix2 (i 0) k) * w (ix2 k (i 1))

theorem pay_eq (x : Vec Ideal S512x4096 .bf16) (w : Vec Ideal S4096x1024 .bf16) : k0_pay2 x w = part x w := by
  funext i
  pointwise [k0_pay2, k0_pay1, part]

theorem pay_add (x : Vec Ideal S512x4096 .bf16) (w : Vec Ideal S4096x1024 .bf16) (a r : Vec Ideal S512x1024 .f32) :
    k0_pay4 (k0_pay3 x w a) r = (fun i => a i + part x w i + r i : S512x1024.Idx → EReal) := by
  funext i
  pointwise [k0_pay4, k0_pay3, k0_pay1, part]

theorem hz : (![0, 0] : Fin 2 → ℕ) = fun _ => 0 := by decide

/-- What the first point of a block leaves in the scratch. -/
theorem sout_A (i : grid0.Coords) (a3 : Memref sig .tc .vmem S512x4096 .bf16) (h3 : a3.IsWhole) (a4 : Memref sig .tc .vmem S4096x1024 .bf16) (h4 : a4.IsWhole)
    (a5 : Memref sig .tc .vmem S512x1024 .f32) (h5 : a5.IsWhole) (a6 : Memref sig .tc .vmem S512x1024 .f32) (h6 : a6.IsWhole)
    (a7 : Memref sig .tc .vmem S512x1024 .f32) (h7 : a7.IsWhole)
    (c0 : cond0_0 i) (c1 : ¬cond0_1 i) (c2 : ¬cond0_2 i) (x : Vec Ideal S512x4096 .bf16) (w : Vec Ideal S4096x1024 .bf16) (r : Vec Ideal S512x1024 .f32) :
    sout0_A_0 c i a3 h3 a4 h4 a5 h5 a6 h6 a7 h7 c0 c1 c2 x w r = part x w := by
  rw [← pay_eq]
  unfold sout0_A_0
  rw [View.read_writes_eq_canon _ _ _ (scover0_A_0 c i a3 h3 a4 h4 a5 h5 a6 h6 a7 h7 c0 c1 c2 x w r)]
  unfold kernelRun0_A
  dsimp only
  sl_unfold_words
  rw [View.canon_unit_zero hz]
  simp only [View.readAt_eq_ld, h3.read_unread, h4.read_unread, View.ld_unit_zero (S := S512x4096) hz, View.ld_unit_zero (S := S4096x1024) hz]

/-- What the last point of a block stores, of the scratch and its three blocks. -/
theorem out_B (i : grid0.Coords) (a3 : Memref sig .tc .vmem S512x4096 .bf16) (h3 : a3.IsWhole) (a4 : Memref sig .tc .vmem S4096x1024 .bf16) (h4 : a4.IsWhole)
    (a5 : Memref sig .tc .vmem S512x1024 .f32) (h5 : a5.IsWhole) (a6 : Memref sig .tc .vmem S512x1024 .f32) (h6 : a6.IsWhole)
    (a7 : Memref sig .tc .vmem S512x1024 .f32) (h7 : a7.IsWhole)
    (c0 : ¬cond0_0 i) (c1 : cond0_1 i) (c2 : cond0_2 i) (x : Vec Ideal S512x4096 .bf16) (w : Vec Ideal S4096x1024 .bf16) (r a : Vec Ideal S512x1024 .f32) :
    out0_B_3 c i a3 h3 a4 h4 a5 h5 a6 h6 a7 h7 c0 c1 c2 x w r a = (fun i => a i + part x w i + r i : S512x1024.Idx → EReal) := by
  rw [← pay_add]
  unfold out0_B_3
  rw [View.read_writes_eq_canon _ _ _ (cover0_B_3 c i a3 h3 a4 h4 a5 h5 a6 h6 a7 h7 c0 c1 c2 x w r a)]
  unfold kernelRun0_B
  dsimp only
  sl_unfold_words
  rw [View.canon_unit_zero hz, View.readCov_unit_zero (S := S512x1024) _ hz]
  simp only [View.readAt_eq_ld, h3.read_unread, h4.read_unread, h5.read_unread, h7.read_unread, View.ld_unit_zero (S := S512x4096) hz,
    View.ld_unit_zero (S := S4096x1024) hz, View.ld_unit_zero (S := S512x1024) hz]

theorem outs_congr {a b : ℕ} (e : a = b) (ha : a < cfg0.N) (hb : b < cfg0.N) : outsAt0 m c a ha = outsAt0 m c b hb := by
  subst e
  rfl

/-- What the scratch holds after the first point of a block. -/
theorem scratch_eq (u : Fin cfg0.N) (h : u.val % 2 = 0) : (outsAt0 m c u.val u.isLt).2 = part (iblk m c 0 u) (iblk m c 1 u) := by
  rw [outsAt0_A m c u h (by omega) (by omega)]
  dsimp only
  rw [sout_A]

/-- What the output block holds after the last point of a block: the two halves of the product, and the residual. -/
theorem outs_eq (t u : Fin cfg0.N) (e : t.val = u.val + 1) (h : t.val % 2 = 1) (i : S512x1024.Idx) :
    (outsAt0 m c t.val t.isLt).1 i = part (iblk m c 0 u) (iblk m c 1 u) i + part (iblk m c 0 t) (iblk m c 1 t) i
      + (show Vec Ideal S512x1024 .f32 from iblk m c 2 t) i := by
  rw [outsAt0_B m c t (by omega) h h]
  dsimp only
  rw [out_B]
  refine congrArg (fun a => a + part (iblk m c 0 t) (iblk m c 1 t) i + (show Vec Ideal S512x1024 .f32 from iblk m c 2 t) i) (congrFun ?_ i)
  rw [outs_congr m c (show t.val - 1 = u.val by omega) _ u.isLt, scratch_eq m c u (by omega)]

theorem final : (dats m 0 c).arrAt 3 cfg0.N = result (act (m ((c : Thread nD τ).loc main_arg0)) (m ((c : Thread nD τ).loc main_arg1)))
    (m ((c : Thread nD τ).loc main_arg2)) (m ((c : Thread nD τ).loc main_arg3)) := by
  refine (dats m 0 c).arrAt_eq_of_covers 3 _ (by decide +kernel) fun t hf y => ?_
  have ht : t.val % 2 = 1 := (flush0_3 t).mp hf
  obtain ⟨u, hu⟩ : ∃ u : Fin cfg0.N, t.val = u.val + 1 := ⟨⟨t.val - 1, lt_of_le_of_lt (Nat.sub_le _ _) t.isLt⟩, by dsimp only; omega⟩
  rw [← V_a m c, ← V_main_arg2 m c, ← V_main_arg3 m c]
  blk_simp
  rw [after0_3, outs_eq m c t u hu ht]
  pointwise [result, part]
  rw [sum_halves 4096 rfl]
  refine congrArg₂ (· + ·) (congrArg₂ (· + ·) (sum_mul_congr (fun k => ?_) (fun k => ?_)) (sum_mul_congr (fun k => ?_) (fun k => ?_))) ?_
  · blk_ext [iblk, idx t, idx u]
  · blk_ext [iblk, idx t, idx u]
  · blk_ext [iblk, idx t]
  · blk_ext [iblk, idx t]
  · blk_ext [iblk, idx t]

theorem algebraic : Cert.algebraic_KernelDownIdeal_ReferenceDownIdeal
    (hKernelDownIdeal := Cert.KernelDownIdeal.Gen.facts) (hReferenceDownIdeal := Cert.ReferenceDownIdeal.Gen.facts) := by
  intro m g m' g' _ hm
  refine ⟨fun c => (dats m 0 c).arrAt 3 cfg0.N, Value.run_blocks m g, (θ_run _ _ _).mono (fun r h c => ?_) (Cert.ReferenceDownIdeal.Value.run m' g')⟩
  refine ⟨(h c).1.trans ?_, (h c).2⟩
  rw [(hm c).1, (hm c).2.1, (hm c).2.2.1, (hm c).2.2.2]
  refine Eq.trans ?_ (final m c).symm
  funext i
  pointwise [result, act]
  exact add_comm _ _

/-- The reference runs and leaves its arguments and every semaphore as they were. -/
theorem ref_frame : Cert.quiescent_ReferenceDownIdeal (hReferenceDownIdeal := Cert.ReferenceDownIdeal.Gen.facts) := fun m g _ =>
  (θ_run _ _ _).mono (fun _ h => ⟨fun c => (h c).2, sem_eq_zero_of_no_sems rfl _⟩) (Cert.ReferenceDownIdeal.Value.run m g)

end Cert.Mlp.Down

end
-- ==== Proof.Proj.Products.lean ====
module

public import proofs.«01_k».proof.Proof.Mlp.Sums
public import Idealize.ShloMosaic.Lib.Pipeline.ValueKit

@[expose] public section

noncomputable section

namespace Cert.Proj

open Idealize.ShloMosaic

/-- The indices of a matrix. -/
abbrev At (m n : ℕ) : Type := (⟨2, ![m, n]⟩ : Shape).Idx

/-- The product of two matrices. -/
def nn {m k n : ℕ} (a : At m k → EReal) (b : At k n → EReal) : At m n → EReal := fun i => ∑ l : Fin k, a (ix2 (i 0) l) * b (ix2 l (i 1))

/-- The product of a matrix and a transpose. -/
def nt {m k n : ℕ} (a : At m k → EReal) (b : At n k → EReal) : At m n → EReal := fun i => ∑ l : Fin k, a (ix2 (i 0) l) * b (ix2 (i 1) l)

/-- The product of a transpose and a matrix. -/
def tn {m k n : ℕ} (a : At k m → EReal) (b : At k n → EReal) : At m n → EReal := fun i => ∑ l : Fin k, a (ix2 l (i 0)) * b (ix2 l (i 1))

/-! An entry of the product of two blocks is an entry of the product of the arrays that they are blocks of. -/

section Blocks

variable {M K N m n : ℕ} {y : At m n} {i : At M N}

theorem nn_block {x : At m K → EReal} {w : At K n → EReal} {a : At M K → EReal} {b : At K N → EReal}
    (hx : ∀ l, x (ix2 (y 0) l) = a (ix2 (i 0) l)) (hw : ∀ l, w (ix2 l (y 1)) = b (ix2 l (i 1))) : nn x w y = nn a b i :=
  Cert.Mlp.sum_mul_congr hx hw

theorem nt_block {x : At m K → EReal} {w : At n K → EReal} {a : At M K → EReal} {b : At N K → EReal}
    (hx : ∀ l, x (ix2 (y 0) l) = a (ix2 (i 0) l)) (hw : ∀ l, w (ix2 (y 1) l) = b (ix2 (i 1) l)) : nt x w y = nt a b i :=
  Cert.Mlp.sum_mul_congr hx hw

theorem tn_block {x : At K m → EReal} {w : At K n → EReal} {a : At K M → EReal} {b : At K N → EReal}
    (hx : ∀ l, x (ix2 l (y 0)) = a (ix2 l (i 0))) (hw : ∀ l, w (ix2 l (y 1)) = b (ix2 l (i 1))) : tn x w y = tn a b i :=
  Cert.Mlp.sum_mul_congr hx hw

end Blocks

/-- The whole of a buffer of two axes, as the bodies address it. -/
abbrev whole {a b : ℕ} (h : ∀ q, (![0, 0] : Fin 2 → ℕ) q + (![a, b] : Fin 2 → ℕ) q ≤ (![a, b] : Fin 2 → ℕ) q) : Rect ⟨2, ![a, b]⟩ :=
  Rect.unit (s := ⟨2, ![a, b]⟩) ![0, 0] ![a, b] h

section Stores

variable {a b c d e f g h : ℕ} {s t u v : EltTy} {p p' p'' q}

theorem zeros : (![0, 0] : Fin 2 → ℕ) = fun _ => 0 := by decide

/-- One store of a whole buffer leaves what it stores, of the whole blocks that it reads. -/
theorem stored (pay : (At a b → Elt Ideal s) → (At c d → Elt Ideal t) → At e f → Elt Ideal u) (x : At a b → Elt Ideal s) (w : At c d → Elt Ideal t) :
    View.canon [(⟨whole q, pay (View.ld x (whole p)) (View.ld w (whole p'))⟩ : View.Piece (Elt Ideal) ⟨2, ![e, f]⟩ u)] = pay x w := by
  rw [View.canon_unit_zero zeros, View.ld_unit_zero zeros, View.ld_unit_zero zeros]

/-- The same of three blocks. -/
theorem stored₃ (pay : (At a b → Elt Ideal s) → (At c d → Elt Ideal t) → (At g h → Elt Ideal v) → At e f → Elt Ideal u)
    (x : At a b → Elt Ideal s) (w : At c d → Elt Ideal t) (r : At g h → Elt Ideal v) :
    View.canon [(⟨whole q, pay (View.ld x (whole p)) (View.ld w (whole p')) (View.ld r (whole p''))⟩
      : View.Piece (Elt Ideal) ⟨2, ![e, f]⟩ u)] = pay x w r := by
  rw [View.canon_unit_zero zeros, View.ld_unit_zero zeros, View.ld_unit_zero zeros, View.ld_unit_zero zeros]

end Stores

end Cert.Proj

end
-- ==== Proof.Proj.In.lean ====
module

public import proofs.«01_k».proof.Defs
public import proofs.«01_k».proof.Proof.Proj.Products
public import proofs.«01_k».proof.Proof.Gen.KernelInIdeal.Value
public import proofs.«01_k».proof.Proof.Gen.ReferenceInIdeal
public import proofs.«01_k».proof.Proof.Gen.ReferenceInIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.In

open Idealize.ShloMosaic Idealize.ShloMosaic.TcCoe Idealize.SL.Sem
open Cert.KernelInIdeal Cert.KernelInIdeal.Gen Cert.Mlp

theorem idx : ∀ t : Fin cfg0.N, win0_0.index t = ![t.val / 4, 0] ∧ win0_1.index t = ![0, t.val % 4]
    ∧ win0_2.index t = ![t.val / 4, t.val % 4] ∧ t.val / 4 < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x2048 .bf16) (w : Vec Ideal S2048x1024 .bf16) : out0_2 x w = nn x w := by
  refine (stored (e := 1024) (f := 1024) (u := .bf16) (k0_pay1 (F := Ideal)) x w).trans ?_
  funext i
  pointwise [k0_pay1, nn]

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nn_block (fun k => ?_) fun k => ?_ <;> blk_ext [iblk, idx t]

theorem algebraic : Cert.algebraic_KernelInIdeal_ReferenceInIdeal
    (hKernelInIdeal := Cert.KernelInIdeal.Gen.facts) (hReferenceInIdeal := Cert.ReferenceInIdeal.Gen.facts) := by
  intro m g m' g' _ hm
  refine ⟨fun c => (dats m 0 c).arrAt 2 cfg0.N, Value.run_blocks m g, (θ_run _ _ _).mono (fun r h c => ?_) (Cert.ReferenceInIdeal.Value.run m' g')⟩
  refine ⟨(h c).1.trans ?_, (h c).2⟩
  rw [(hm c).1, (hm c).2]
  refine Eq.trans ?_ (final m c).symm
  funext i
  pointwise [nn]

/-- The reference runs and leaves its arguments and every semaphore as they were. -/
theorem ref_frame : Cert.quiescent_ReferenceInIdeal (hReferenceInIdeal := Cert.ReferenceInIdeal.Gen.facts) := fun m g _ =>
  (θ_run _ _ _).mono (fun _ h => ⟨fun c => (h c).2, sem_eq_zero_of_no_sems rfl _⟩) (Cert.ReferenceInIdeal.Value.run m g)

end Cert.Proj.In

end
-- ==== Proof.Proj.Out.lean ====
module

public import proofs.«01_k».proof.Defs
public import proofs.«01_k».proof.Proof.Proj.Products
public import proofs.«01_k».proof.Proof.Gen.KernelOutIdeal.Value
public import proofs.«01_k».proof.Proof.Gen.ReferenceOutIdeal
public import proofs.«01_k».proof.Proof.Gen.ReferenceOutIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.Out

open Idealize.ShloMosaic Idealize.ShloMosaic.TcCoe Idealize.SL.Sem
open Cert.KernelOutIdeal Cert.KernelOutIdeal.Gen Cert.Mlp

theorem idx : ∀ t : Fin cfg0.N, win0_0.index t = ![t.val / 2, 0] ∧ win0_1.index t = ![0, t.val % 2] ∧ win0_2.index t = ![t.val / 2, t.val % 2]
    ∧ win0_3.index t = ![t.val / 2, t.val % 2] ∧ t.val / 2 < 4 :=
  (by decide +kernel : ∀ t : Fin grid0.N, _)

variable (m : (ℓ : Loc nD τ sig) → Buf (Elt Ideal) ℓ) (c : Dev nD)

/-- What the body stores, of the three blocks that it loads. -/
theorem out_eq (x : Vec Ideal S1024x2048 .bf16) (w : Vec Ideal S2048x1024 .bf16) (r : Vec Ideal S1024x1024 .f32) :
    out0_3 x w r = (fun i => nn x w i + r i : S1024x1024.Idx → EReal) := by
  refine (stored₃ (e := 1024) (f := 1024) (u := .f32) (k0_pay1 (F := Ideal)) x w r).trans ?_
  funext i
  pointwise [k0_pay1, nn]

theorem final : (dats m 0 c).arrAt 3 cfg0.N = (fun i => nn (m ((c : Thread nD τ).loc main_arg0)) (m ((c : Thread nD τ).loc main_arg1)) i + m ((c : Thread nD τ).loc main_arg2) i : S4096x2048.Idx → EReal) := by
  refine (dats m 0 c).arrAt_eq_of_covers 3 _ (by decide +kernel) fun t hf y => ?_
  rw [← V_main_arg0 m c, ← V_main_arg1 m c, ← V_main_arg2 m c]
  blk_simp
  rw [after0_3, out_eq]
  refine congrArg₂ (· + ·) (nn_block (fun k => ?_) fun k => ?_) ?_ <;> blk_ext [iblk, idx t]

theorem algebraic : Cert.algebraic_KernelOutIdeal_ReferenceOutIdeal
    (hKernelOutIdeal := Cert.KernelOutIdeal.Gen.facts) (hReferenceOutIdeal := Cert.ReferenceOutIdeal.Gen.facts) := by
  intro m g m' g' _ hm
  refine ⟨fun c => (dats m 0 c).arrAt 3 cfg0.N, Value.run_blocks m g, (θ_run _ _ _).mono (fun r h c => ?_) (Cert.ReferenceOutIdeal.Value.run m' g')⟩
  refine ⟨(h c).1.trans ?_, (h c).2⟩
  rw [(hm c).1, (hm c).2.1, (hm c).2.2]
  refine Eq.trans ?_ (final m c).symm
  funext i
  pointwise [nn]
  exact add_comm _ _

/-- The reference runs and leaves its arguments and every semaphore as they were. -/
theorem ref_frame : Cert.quiescent_ReferenceOutIdeal (hReferenceOutIdeal := Cert.ReferenceOutIdeal.Gen.facts) := fun m g _ =>
  (θ_run _ _ _).mono (fun _ h => ⟨fun c => (h c).2, sem_eq_zero_of_no_sems rfl _⟩) (Cert.ReferenceOutIdeal.Value.run m g)

end Cert.Proj.Out

end
-- ==== Proof.Proj.Do.lean ====
module

public import proofs.«01_k».proof.Defs
public import proofs.«01_k».proof.Proof.Proj.Products
public import proofs.«01_k».proof.Proof.Gen.KernelDoIdeal.Value
public import proofs.«01_k».proof.Proof.Gen.ReferenceDoIdeal
public import proofs.«01_k».proof.Proof.Gen.ReferenceDoIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.Do

open Idealize.ShloMosaic Idealize.ShloMosaic.TcCoe Idealize.SL.Sem
open Cert.KernelDoIdeal Cert.KernelDoIdeal.Gen Cert.Mlp

theorem idx : ∀ t : Fin cfg0.N, win0_0.index t = ![t.val / 2, 0] ∧ win0_1.index t = ![t.val % 2, 0]
    ∧ win0_2.index t = ![t.val / 2, t.val % 2] ∧ t.val / 2 < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x2048 .bf16) (w : Vec Ideal S1024x2048 .bf16) : out0_2 x w = nt x w := by
  refine (stored (e := 1024) (f := 1024) (u := .bf16) (k0_pay1 (F := Ideal)) x w).trans ?_
  funext i
  pointwise [k0_pay1, nt]

theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nt_block (fun k => ?_) fun k => ?_ <;> blk_ext [iblk, idx t]

theorem algebraic : Cert.algebraic_KernelDoIdeal_ReferenceDoIdeal
    (hKernelDoIdeal := Cert.KernelDoIdeal.Gen.facts) (hReferenceDoIdeal := Cert.ReferenceDoIdeal.Gen.facts) := by
  intro m g m' g' _ hm
  refine ⟨fun c => (dats m 0 c).arrAt 2 cfg0.N, Value.run_blocks m g, (θ_run _ _ _).mono (fun r h c => ?_) (Cert.ReferenceDoIdeal.Value.run m' g')⟩
  refine ⟨(h c).1.trans ?_, (h c).2⟩
  rw [(hm c).1, (hm c).2]
  refine Eq.trans ?_ (final m c).symm
  funext i
  pointwise [nt]

/-- The reference runs and leaves its arguments and every semaphore as they were. -/
theorem ref_frame : Cert.quiescent_ReferenceDoIdeal (hReferenceDoIdeal := Cert.ReferenceDoIdeal.Gen.facts) := fun m g _ =>
  (θ_run _ _ _).mono (fun _ h => ⟨fun c => (h c).2, sem_eq_zero_of_no_sems rfl _⟩) (Cert.ReferenceDoIdeal.Value.run m g)

end Cert.Proj.Do

end
-- ==== Proof.Proj.DwO.lean ====
module

public import proofs.«01_k».proof.Defs
public import proofs.«01_k».proof.Proof.Proj.Products
public import proofs.«01_k».proof.Proof.Gen.KernelDwOIdeal.Value
public import proofs.«01_k».proof.Proof.Gen.ReferenceDwOIdeal
public import proofs.«01_k».proof.Proof.Gen.ReferenceDwOIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DwO

open Idealize.ShloMosaic Idealize.ShloMosaic.TcCoe Idealize.SL.Sem
open Cert.KernelDwOIdeal Cert.KernelDwOIdeal.Gen Cert.Mlp

theorem idx : ∀ t : Fin cfg0.N, win0_0.index t = ![0, t.val / 2] ∧ win0_1.index t = ![0, t.val % 2]
    ∧ win0_2.index t = ![t.val / 2, t.val % 2] ∧ t.val / 2 < 2 :=
  (by decide +kernel : ∀ t : Fin grid0.N, _)

variable (m : (ℓ : Loc nD τ sig) → Buf (Elt Ideal) ℓ) (c : Dev nD)

/-- What the body stores, of the two blocks that it loads. -/
theorem out_eq (x : Vec Ideal S4096x1024 .bf16) (w : Vec Ideal S4096x1024 .bf16) : out0_2 x w = tn x w := by
  refine (stored (e := 1024) (f := 1024) (u := .bf16) (k0_pay1 (F := Ideal)) x w).trans ?_
  funext i
  pointwise [k0_pay1, tn]

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine tn_block (fun k => ?_) fun k => ?_ <;> blk_ext [iblk, idx t]

theorem algebraic : Cert.algebraic_KernelDwOIdeal_ReferenceDwOIdeal
    (hKernelDwOIdeal := Cert.KernelDwOIdeal.Gen.facts) (hReferenceDwOIdeal := Cert.ReferenceDwOIdeal.Gen.facts) := by
  intro m g m' g' _ hm
  refine ⟨fun c => (dats m 0 c).arrAt 2 cfg0.N, Value.run_blocks m g, (θ_run _ _ _).mono (fun r h c => ?_) (Cert.ReferenceDwOIdeal.Value.run m' g')⟩
  refine ⟨(h c).1.trans ?_, (h c).2⟩
  rw [(hm c).1, (hm c).2]
  refine Eq.trans ?_ (final m c).symm
  funext i
  pointwise [tn]
  exact sum_mul_comm _ _

/-- The reference runs and leaves its arguments and every semaphore as they were. -/
theorem ref_frame : Cert.quiescent_ReferenceDwOIdeal (hReferenceDwOIdeal := Cert.ReferenceDwOIdeal.Gen.facts) := fun m g _ =>
  (θ_run _ _ _).mono (fun _ h => ⟨fun c => (h c).2, sem_eq_zero_of_no_sems rfl _⟩) (Cert.ReferenceDwOIdeal.Value.run m g)

end Cert.Proj.DwO

end
-- ==== Proof.Proj.DwA.lean ====
module

public import proofs.«01_k».proof.Defs
public import proofs.«01_k».proof.Proof.Proj.Products
public import proofs.«01_k».proof.Proof.Gen.KernelDwAIdeal.Value
public import proofs.«01_k».proof.Proof.Gen.ReferenceDwAIdeal
public import proofs.«01_k».proof.Proof.Gen.ReferenceDwAIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DwA

open Idealize.ShloMosaic Idealize.ShloMosaic.TcCoe Idealize.SL.Sem
open Cert.KernelDwAIdeal Cert.KernelDwAIdeal.Gen Cert.Mlp

theorem idx : ∀ t : Fin cfg0.N, win0_0.index t = ![0, t.val / 4] ∧ win0_1.index t = ![0, t.val % 4]
    ∧ win0_2.index t = ![t.val / 4, t.val % 4] ∧ t.val / 4 < 2 :=
  (by decide +kernel : ∀ t : Fin grid0.N, _)

variable (m : (ℓ : Loc nD τ sig) → Buf (Elt Ideal) ℓ) (c : Dev nD)

/-- What the body stores, of the two blocks that it loads. -/
theorem out_eq (x : Vec Ideal S4096x1024 .bf16) (w : Vec Ideal S4096x1024 .bf16) : out0_2 x w = tn x w := by
  refine (stored (e := 1024) (f := 1024) (u := .bf16) (k0_pay1 (F := Ideal)) x w).trans ?_
  funext i
  pointwise [k0_pay1, tn]

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine tn_block (fun k => ?_) fun k => ?_ <;> blk_ext [iblk, idx t]

theorem algebraic : Cert.algebraic_KernelDwAIdeal_ReferenceDwAIdeal
    (hKernelDwAIdeal := Cert.KernelDwAIdeal.Gen.facts) (hReferenceDwAIdeal := Cert.ReferenceDwAIdeal.Gen.facts) := by
  intro m g m' g' _ hm
  refine ⟨fun c => (dats m 0 c).arrAt 2 cfg0.N, Value.run_blocks m g, (θ_run _ _ _).mono (fun r h c => ?_) (Cert.ReferenceDwAIdeal.Value.run m' g')⟩
  refine ⟨(h c).1.trans ?_, (h c).2⟩
  rw [(hm c).1, (hm c).2]
  refine Eq.trans ?_ (final m c).symm
  funext i
  pointwise [tn]
  exact sum_mul_comm _ _

/-- The reference runs and leaves its arguments and every semaphore as they were. -/
theorem ref_frame : Cert.quiescent_ReferenceDwAIdeal (hReferenceDwAIdeal := Cert.ReferenceDwAIdeal.Gen.facts) := fun m g _ =>
  (θ_run _ _ _).mono (fun _ h => ⟨fun c => (h c).2, sem_eq_zero_of_no_sems rfl _⟩) (Cert.ReferenceDwAIdeal.Value.run m g)

end Cert.Proj.DwA

end
-- ==== Proof.Proj.DhA.lean ====
module

public import proofs.«01_k».proof.Defs
public import proofs.«01_k».proof.Proof.Proj.Products
public import proofs.«01_k».proof.Proof.Gen.KernelDhAIdeal.Value
public import proofs.«01_k».proof.Proof.Gen.ReferenceDhAIdeal
public import proofs.«01_k».proof.Proof.Gen.ReferenceDhAIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DhA

open Idealize.ShloMosaic Idealize.ShloMosaic.TcCoe Idealize.SL.Sem
open Cert.KernelDhAIdeal Cert.KernelDhAIdeal.Gen Cert.Mlp

theorem idx : ∀ t : Fin cfg0.N, win0_0.index t = ![t.val / 2, 0] ∧ win0_1.index t = ![t.val % 2, 0] ∧ win0_2.index t = ![t.val / 2, t.val % 2]
    ∧ win0_3.index t = ![t.val / 2, t.val % 2] ∧ t.val / 2 < 8 :=
  (by decide +kernel : ∀ t : Fin grid0.N, _)

variable (m : (ℓ : Loc nD τ sig) → Buf (Elt Ideal) ℓ) (c : Dev nD)

/-- What the body stores, of the three blocks that it loads. -/
theorem out_eq (x : Vec Ideal S512x4096 .bf16) (w : Vec Ideal S1024x4096 .bf16) (r : Vec Ideal S512x1024 .f32) :
    out0_3 x w r = (fun i => nt x w i + r i : S512x1024.Idx → EReal) := by
  refine (stored₃ (e := 512) (f := 1024) (u := .f32) (k0_pay1 (F := Ideal)) x w r).trans ?_
  funext i
  pointwise [k0_pay1, nt]

theorem final : (dats m 0 c).arrAt 3 cfg0.N = (fun i => nt (m ((c : Thread nD τ).loc main_arg0)) (m ((c : Thread nD τ).loc main_arg1)) i + m ((c : Thread nD τ).loc main_arg2) i : S4096x2048.Idx → EReal) := by
  refine (dats m 0 c).arrAt_eq_of_covers 3 _ (by decide +kernel) fun t hf y => ?_
  rw [← V_main_arg0 m c, ← V_main_arg1 m c, ← V_main_arg2 m c]
  blk_simp
  rw [after0_3, out_eq]
  refine congrArg₂ (· + ·) (nt_block (fun k => ?_) fun k => ?_) ?_ <;> blk_ext [iblk, idx t]

theorem algebraic : Cert.algebraic_KernelDhAIdeal_ReferenceDhAIdeal
    (hKernelDhAIdeal := Cert.KernelDhAIdeal.Gen.facts) (hReferenceDhAIdeal := Cert.ReferenceDhAIdeal.Gen.facts) := by
  intro m g m' g' _ hm
  refine ⟨fun c => (dats m 0 c).arrAt 3 cfg0.N, Value.run_blocks m g, (θ_run _ _ _).mono (fun r h c => ?_) (Cert.ReferenceDhAIdeal.Value.run m' g')⟩
  refine ⟨(h c).1.trans ?_, (h c).2⟩
  rw [(hm c).1, (hm c).2.1, (hm c).2.2]
  refine Eq.trans ?_ (final m c).symm
  funext i
  pointwise [nt]
  exact add_comm _ _

/-- The reference runs and leaves its arguments and every semaphore as they were. -/
theorem ref_frame : Cert.quiescent_ReferenceDhAIdeal (hReferenceDhAIdeal := Cert.ReferenceDhAIdeal.Gen.facts) := fun m g _ =>
  (θ_run _ _ _).mono (fun _ h => ⟨fun c => (h c).2, sem_eq_zero_of_no_sems rfl _⟩) (Cert.ReferenceDhAIdeal.Value.run m g)

end Cert.Proj.DhA

end
-- ==== Proof.Proj.InB.lean ====
module

public import proofs.«01_k».proof.Defs
public import proofs.«01_k».proof.Proof.Proj.Products
public import proofs.«01_k».proof.Proof.Gen.KernelInBIdeal.Value
public import proofs.«01_k».proof.Proof.Gen.ReferenceInBIdeal
public import proofs.«01_k».proof.Proof.Gen.ReferenceInBIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.InB

open Idealize.ShloMosaic Idealize.ShloMosaic.TcCoe Idealize.SL.Sem
open Cert.KernelInBIdeal Cert.KernelInBIdeal.Gen Cert.Mlp

theorem idx : ∀ t : Fin cfg0.N, win0_0.index t = ![t.val, 0] ∧ win0_1.index t = ![0, 0]
    ∧ win0_2.index t = ![t.val, 0] ∧ t.val < 8 :=
  (by decide +kernel : ∀ t : Fin grid0.N, _)

variable (m : (ℓ : Loc nD τ sig) → Buf (Elt Ideal) ℓ) (c : Dev nD)

/-- What the body stores, of the two blocks that it loads. -/
theorem out_eq (x : Vec Ideal S512x2048 .bf16) (w : Vec Ideal S2048x2176 .bf16) : out0_2 x w = nn x w := by
  refine (stored (e := 512) (f := 2176) (u := .f32) (k0_pay1 (F := Ideal)) x w).trans ?_
  funext i
  pointwise [k0_pay1, nn]

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nn_block (fun k => ?_) fun k => ?_ <;> blk_ext [iblk, idx t]

theorem algebraic : Cert.algebraic_KernelInBIdeal_ReferenceInBIdeal
    (hKernelInBIdeal := Cert.KernelInBIdeal.Gen.facts) (hReferenceInBIdeal := Cert.ReferenceInBIdeal.Gen.facts) := by
  intro m g m' g' _ hm
  refine ⟨fun c => (dats m 0 c).arrAt 2 cfg0.N, Value.run_blocks m g, (θ_run _ _ _).mono (fun r h c => ?_) (Cert.ReferenceInBIdeal.Value.run m' g')⟩
  refine ⟨(h c).1.trans ?_, (h c).2⟩
  rw [(hm c).1, (hm c).2]
  refine Eq.trans ?_ (final m c).symm
  funext i
  pointwise [nn]

/-- The reference runs and leaves its arguments and every semaphore as they were. -/
theorem ref_frame : Cert.quiescent_ReferenceInBIdeal (hReferenceInBIdeal := Cert.ReferenceInBIdeal.Gen.facts) := fun m g _ =>
  (θ_run _ _ _).mono (fun _ h => ⟨fun c => (h c).2, sem_eq_zero_of_no_sems rfl _⟩) (Cert.ReferenceInBIdeal.Value.run m g)

end Cert.Proj.InB

end
-- ==== Proof.Proj.DwB.lean ====
module

public import proofs.«01_k».proof.Defs
public import proofs.«01_k».proof.Proof.Proj.Products
public import proofs.«01_k».proof.Proof.Gen.KernelDwBIdeal.Value
public import proofs.«01_k».proof.Proof.Gen.ReferenceDwBIdeal
public import proofs.«01_k».proof.Proof.Gen.ReferenceDwBIdeal.Run
public import Idealize.ShloMosaic.Lib.Pointwise
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384

noncomputable section

namespace Cert.Proj.DwB

open Idealize.ShloMosaic Idealize.ShloMosaic.TcCoe Idealize.SL.Sem
open Cert.KernelDwBIdeal Cert.KernelDwBIdeal.Gen Cert.Mlp

theorem idx : ∀ t : Fin cfg0.N, win0_0.index t = ![t.val % 2, t.val / 2] ∧ win0_1.index t = ![t.val % 2, 0]
    ∧ win0_2.index t = ![t.val / 2, 0] ∧ t.val / 2 < 4 :=
  (by decide +kernel : ∀ t : Fin grid0.N, _)

variable (m : (ℓ : Loc nD τ sig) → Buf (Elt Ideal) ℓ) (c : Dev nD)

theorem pay_eq (x : Vec Ideal S2048x512 .bf16) (w : Vec Ideal S2048x2176 .bf16) : k0_pay2 x w = tn x w := by
  funext i
  pointwise [k0_pay2, k0_pay1, tn]

theorem pay_add (x : Vec Ideal S2048x512 .bf16) (w : Vec Ideal S2048x2176 .bf16) (a : Vec Ideal S512x2176 .f32) :
    k0_pay4 (k0_pay3 x w a) = (fun i => a i + tn x w i : S512x2176.Idx → EReal) := by
  funext i
  pointwise [k0_pay4, k0_pay3, k0_pay1, tn]

/-- What the first point of a block leaves in the scratch. -/
theorem sout_A (i : grid0.Coords) (a3 : Memref sig .tc .vmem S2048x512 .bf16) (h3 : a3.IsWhole) (a4 : Memref sig .tc .vmem S2048x2176 .bf16) (h4 : a4.IsWhole)
    (a5 : Memref sig .tc .vmem S512x2176 .bf16) (h5 : a5.IsWhole) (a6 : Memref sig .tc .vmem S512x2176 .f32) (h6 : a6.IsWhole)
    (c0 : cond0_0 i) (c1 : ¬cond0_1 i) (c2 : ¬cond0_2 i) (x : Vec Ideal S2048x512 .bf16) (w : Vec Ideal S2048x2176 .bf16) :
    sout0_A_0 c i a3 h3 a4 h4 a5 h5 a6 h6 c0 c1 c2 x w = tn x w := by
  rw [← pay_eq]
  unfold sout0_A_0
  rw [View.read_writes_eq_canon _ _ _ (scover0_A_0 c i a3 h3 a4 h4 a5 h5 a6 h6 c0 c1 c2 x w)]
  unfold kernelRun0_A
  dsimp only
  sl_unfold_words
  rw [View.canon_unit_zero zeros]
  simp only [View.readAt_eq_ld, h3.read_unread, h4.read_unread, View.ld_unit_zero (S := S2048x512) zeros, View.ld_unit_zero (S := S2048x2176) zeros]

/-- What the last point of a block stores, of the scratch and its two blocks. -/
theorem out_B (i : grid0.Coords) (a3 : Memref sig .tc .vmem S2048x512 .bf16) (h3 : a3.IsWhole) (a4 : Memref sig .tc .vmem S2048x2176 .bf16) (h4 : a4.IsWhole)
    (a5 : Memref sig .tc .vmem S512x2176 .bf16) (h5 : a5.IsWhole) (a6 : Memref sig .tc .vmem S512x2176 .f32) (h6 : a6.IsWhole)
    (c0 : ¬cond0_0 i) (c1 : cond0_1 i) (c2 : cond0_2 i) (x : Vec Ideal S2048x512 .bf16) (w : Vec Ideal S2048x2176 .bf16) (a : Vec Ideal S512x2176 .f32) :
    out0_B_2 c i a3 h3 a4 h4 a5 h5 a6 h6 c0 c1 c2 x w a = (fun i => a i + tn x w i : S512x2176.Idx → EReal) := by
  rw [← pay_add]
  unfold out0_B_2
  rw [View.read_writes_eq_canon _ _ _ (cover0_B_2 c i a3 h3 a4 h4 a5 h5 a6 h6 c0 c1 c2 x w a)]
  unfold kernelRun0_B
  dsimp only
  sl_unfold_words
  rw [View.canon_unit_zero zeros]
  rw [View.readCov_unit_zero (S := S512x2176) _ zeros]
  simp only [View.readAt_eq_ld, h3.read_unread, h4.read_unread, h6.read_unread, View.ld_unit_zero (S := S2048x512) zeros, View.ld_unit_zero (S := S2048x2176) zeros, View.ld_unit_zero (S := S512x2176) zeros]

theorem outs_congr {a b : ℕ} (e : a = b) (ha : a < cfg0.N) (hb : b < cfg0.N) : outsAt0 m c a ha = outsAt0 m c b hb := by
  subst e
  rfl

/-- The product of the two blocks of a point. -/
abbrev blocks (t : Fin cfg0.N) : S512x2176.Idx → EReal :=
  tn (show S2048x512.Idx → EReal from iblk m c 0 t) (show S2048x2176.Idx → EReal from iblk m c 1 t)

/-- What the scratch holds after the first point of a block. -/
theorem scratch_eq (u : Fin cfg0.N) (h : u.val % 2 = 0) : (outsAt0 m c u.val u.isLt).2 = blocks m c u := by
  rw [outsAt0_A m c u h (by omega) (by omega)]
  dsimp only
  rw [sout_A]

/-- What the output block holds after the last point of a block: the two halves of the product. -/
theorem outs_eq (t u : Fin cfg0.N) (e : t.val = u.val + 1) (h : t.val % 2 = 1) (i : S512x2176.Idx) :
    (outsAt0 m c t.val t.isLt).1 i = blocks m c u i + blocks m c t i := by
  rw [outsAt0_B m c t (by omega) h h]
  dsimp only
  rw [out_B]
  refine congrArg (· + blocks m c t i) (congrFun ?_ i)
  rw [outs_congr m c (show t.val - 1 = u.val by omega) _ u.isLt, scratch_eq m c u (by omega)]

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  obtain ⟨u, hu⟩ : ∃ u : Fin cfg0.N, t.val = u.val + 1 := ⟨⟨t.val - 1, lt_of_le_of_lt (Nat.sub_le _ _) t.isLt⟩, by dsimp only; omega⟩
  rw [← V_main_arg0 m c, ← V_main_arg1 m c]
  blk_simp
  rw [after0_2, outs_eq m c t u hu ht]
  refine Eq.trans ?_ (sum_halves 2048 rfl _).symm
  refine congrArg₂ (· + ·) (sum_mul_congr (fun k => ?_) (fun k => ?_)) (sum_mul_congr (fun k => ?_) (fun k => ?_))
  · blk_ext [iblk, idx t, idx u]
  · blk_ext [iblk, idx t, idx u]
  · blk_ext [iblk, idx t]
  · blk_ext [iblk, idx t]

theorem algebraic : Cert.algebraic_KernelDwBIdeal_ReferenceDwBIdeal
    (hKernelDwBIdeal := Cert.KernelDwBIdeal.Gen.facts) (hReferenceDwBIdeal := Cert.ReferenceDwBIdeal.Gen.facts) := by
  intro m g m' g' _ hm
  refine ⟨fun c => (dats m 0 c).arrAt 2 cfg0.N, Value.run_blocks m g, (θ_run _ _ _).mono (fun r h c => ?_) (Cert.ReferenceDwBIdeal.Value.run m' g')⟩
  refine ⟨(h c).1.trans ?_, (h c).2⟩
  rw [(hm c).1, (hm c).2]
  refine Eq.trans ?_ (final m c).symm
  funext i
  pointwise [tn]
  exact sum_mul_comm _ _

/-- The reference runs and leaves its arguments and every semaphore as they were. -/
theorem ref_frame : Cert.quiescent_ReferenceDwBIdeal (hReferenceDwBIdeal := Cert.ReferenceDwBIdeal.Gen.facts) := fun m g _ =>
  (θ_run _ _ _).mono (fun _ h => ⟨fun c => (h c).2, sem_eq_zero_of_no_sems rfl _⟩) (Cert.ReferenceDwBIdeal.Value.run m g)

end Cert.Proj.DwB

end
-- ==== Proof.Proj.DhB.lean ====
module

public import proofs.«01_k».proof.Defs
public import proofs.«01_k».proof.Proof.Proj.Products
public import proofs.«01_k».proof.Proof.Gen.KernelDhBIdeal.Value
public import proofs.«01_k».proof.Proof.Gen.ReferenceDhBIdeal
public import proofs.«01_k».proof.Proof.Gen.ReferenceDhBIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DhB

open Idealize.ShloMosaic Idealize.ShloMosaic.TcCoe Idealize.SL.Sem
open Cert.KernelDhBIdeal Cert.KernelDhBIdeal.Gen Cert.Mlp

theorem idx : ∀ t : Fin cfg0.N, win0_0.index t = ![t.val / 2, 0] ∧ win0_1.index t = ![t.val % 2, 0]
    ∧ win0_2.index t = ![t.val / 2, t.val % 2] ∧ t.val / 2 < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x2176 .bf16) (w : Vec Ideal S1024x2176 .bf16) : out0_2 x w = nt x w := by
  refine (stored (e := 1024) (f := 1024) (u := .f32) (k0_pay1 (F := Ideal)) x w).trans ?_
  funext i
  pointwise [k0_pay1, nt]

theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nt_block (fun k => ?_) fun k => ?_ <;> blk_ext [iblk, idx t]

theorem algebraic : Cert.algebraic_KernelDhBIdeal_ReferenceDhBIdeal
    (hKernelDhBIdeal := Cert.KernelDhBIdeal.Gen.facts) (hReferenceDhBIdeal := Cert.ReferenceDhBIdeal.Gen.facts) := by
  intro m g m' g' _ hm
  refine ⟨fun c => (dats m 0 c).arrAt 2 cfg0.N, Value.run_blocks m g, (θ_run _ _ _).mono (fun r h c => ?_) (Cert.ReferenceDhBIdeal.Value.run m' g')⟩
  refine ⟨(h c).1.trans ?_, (h c).2⟩
  rw [(hm c).1, (hm c).2]
  refine Eq.trans ?_ (final m c).symm
  funext i
  pointwise [nt]

/-- The reference runs and leaves its arguments and every semaphore as they were. -/
theorem ref_frame : Cert.quiescent_ReferenceDhBIdeal (hReferenceDhBIdeal := Cert.ReferenceDhBIdeal.Gen.facts) := fun m g _ =>
  (θ_run _ _ _).mono (fun _ h => ⟨fun c => (h c).2, sem_eq_zero_of_no_sems rfl _⟩) (Cert.ReferenceDhBIdeal.Value.run m g)

end Cert.Proj.DhB

end
-- ==== Proof.Proj.Lat.lean ====
module

public import proofs.«01_k».proof.Defs
public import proofs.«01_k».proof.Proof.Proj.Products
public import proofs.«01_k».proof.Proof.Gen.KernelLatIdeal.Value
public import proofs.«01_k».proof.Proof.Gen.ReferenceLatIdeal
public import proofs.«01_k».proof.Proof.Gen.ReferenceLatIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.Lat

open Idealize.ShloMosaic Idealize.ShloMosaic.TcCoe Idealize.SL.Sem
open Cert.KernelLatIdeal Cert.KernelLatIdeal.Gen Cert.Mlp

theorem idx : ∀ t : Fin cfg0.N, win0_0.index t = ![t.val, 0] ∧ win0_1.index t = ![0, 0]
    ∧ win0_2.index t = ![t.val, 0] ∧ t.val < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x2048 .bf16) (w : Vec Ideal S2048x1152 .bf16) : out0_2 x w = nn x w := by
  refine (stored (e := 1024) (f := 1152) (u := .f32) (k0_pay1 (F := Ideal)) x w).trans ?_
  funext i
  pointwise [k0_pay1, nn]

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nn_block (fun k => ?_) fun k => ?_ <;> blk_ext [iblk, idx t]

theorem algebraic : Cert.algebraic_KernelLatIdeal_ReferenceLatIdeal
    (hKernelLatIdeal := Cert.KernelLatIdeal.Gen.facts) (hReferenceLatIdeal := Cert.ReferenceLatIdeal.Gen.facts) := by
  intro m g m' g' _ hm
  refine ⟨fun c => (dats m 0 c).arrAt 2 cfg0.N, Value.run_blocks m g, (θ_run _ _ _).mono (fun r h c => ?_) (Cert.ReferenceLatIdeal.Value.run m' g')⟩
  refine ⟨(h c).1.trans ?_, (h c).2⟩
  rw [(hm c).1, (hm c).2]
  refine Eq.trans ?_ (final m c).symm
  funext i
  pointwise [nn]

/-- The reference runs and leaves its arguments and every semaphore as they were. -/
theorem ref_frame : Cert.quiescent_ReferenceLatIdeal (hReferenceLatIdeal := Cert.ReferenceLatIdeal.Gen.facts) := fun m g _ =>
  (θ_run _ _ _).mono (fun _ h => ⟨fun c => (h c).2, sem_eq_zero_of_no_sems rfl _⟩) (Cert.ReferenceLatIdeal.Value.run m g)

end Cert.Proj.Lat

end
-- ==== Proof.Proj.DwLat.lean ====
module

public import proofs.«01_k».proof.Defs
public import proofs.«01_k».proof.Proof.Proj.Products
public import proofs.«01_k».proof.Proof.Gen.KernelDwLatIdeal.Value
public import proofs.«01_k».proof.Proof.Gen.ReferenceDwLatIdeal
public import proofs.«01_k».proof.Proof.Gen.ReferenceDwLatIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DwLat

open Idealize.ShloMosaic Idealize.ShloMosaic.TcCoe Idealize.SL.Sem
open Cert.KernelDwLatIdeal Cert.KernelDwLatIdeal.Gen Cert.Mlp

theorem idx : ∀ t : Fin cfg0.N, win0_0.index t = ![0, t.val] ∧ win0_1.index t = ![0, 0]
    ∧ win0_2.index t = ![t.val, 0] ∧ t.val < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S4096x512 .bf16) (w : Vec Ideal S4096x1152 .bf16) : out0_2 x w = tn x w := by
  refine (stored (e := 512) (f := 1152) (u := .bf16) (k0_pay1 (F := Ideal)) x w).trans ?_
  funext i
  pointwise [k0_pay1, tn]

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine tn_block (fun k => ?_) fun k => ?_ <;> blk_ext [iblk, idx t]

theorem algebraic : Cert.algebraic_KernelDwLatIdeal_ReferenceDwLatIdeal
    (hKernelDwLatIdeal := Cert.KernelDwLatIdeal.Gen.facts) (hReferenceDwLatIdeal := Cert.ReferenceDwLatIdeal.Gen.facts) := by
  intro m g m' g' _ hm
  refine ⟨fun c => (dats m 0 c).arrAt 2 cfg0.N, Value.run_blocks m g, (θ_run _ _ _).mono (fun r h c => ?_) (Cert.ReferenceDwLatIdeal.Value.run m' g')⟩
  refine ⟨(h c).1.trans ?_, (h c).2⟩
  rw [(hm c).1, (hm c).2]
  refine Eq.trans ?_ (final m c).symm
  funext i
  pointwise [tn]
  exact sum_mul_comm _ _

/-- The reference runs and leaves its arguments and every semaphore as they were. -/
theorem ref_frame : Cert.quiescent_ReferenceDwLatIdeal (hReferenceDwLatIdeal := Cert.ReferenceDwLatIdeal.Gen.facts) := fun m g _ =>
  (θ_run _ _ _).mono (fun _ h => ⟨fun c => (h c).2, sem_eq_zero_of_no_sems rfl _⟩) (Cert.ReferenceDwLatIdeal.Value.run m g)

end Cert.Proj.DwLat

end
-- ==== Proof.Proj.DhLat.lean ====
module

public import proofs.«01_k».proof.Defs
public import proofs.«01_k».proof.Proof.Proj.Products
public import proofs.«01_k».proof.Proof.Gen.KernelDhLatIdeal.Value
public import proofs.«01_k».proof.Proof.Gen.ReferenceDhLatIdeal
public import proofs.«01_k».proof.Proof.Gen.ReferenceDhLatIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DhLat

open Idealize.ShloMosaic Idealize.ShloMosaic.TcCoe Idealize.SL.Sem
open Cert.KernelDhLatIdeal Cert.KernelDhLatIdeal.Gen Cert.Mlp

theorem idx : ∀ t : Fin cfg0.N, win0_0.index t = ![t.val / 2, 0] ∧ win0_1.index t = ![t.val % 2, 0]
    ∧ win0_2.index t = ![t.val / 2, t.val % 2] ∧ t.val / 2 < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x1152 .bf16) (w : Vec Ideal S1024x1152 .bf16) : out0_2 x w = nt x w := by
  refine (stored (e := 1024) (f := 1024) (u := .f32) (k0_pay1 (F := Ideal)) x w).trans ?_
  funext i
  pointwise [k0_pay1, nt]

theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nt_block (fun k => ?_) fun k => ?_ <;> blk_ext [iblk, idx t]

theorem algebraic : Cert.algebraic_KernelDhLatIdeal_ReferenceDhLatIdeal
    (hKernelDhLatIdeal := Cert.KernelDhLatIdeal.Gen.facts) (hReferenceDhLatIdeal := Cert.ReferenceDhLatIdeal.Gen.facts) := by
  intro m g m' g' _ hm
  refine ⟨fun c => (dats m 0 c).arrAt 2 cfg0.N, Value.run_blocks m g, (θ_run _ _ _).mono (fun r h c => ?_) (Cert.ReferenceDhLatIdeal.Value.run m' g')⟩
  refine ⟨(h c).1.trans ?_, (h c).2⟩
  rw [(hm c).1, (hm c).2]
  refine Eq.trans ?_ (final m c).symm
  funext i
  pointwise [nt]

/-- The reference runs and leaves its arguments and every semaphore as they were. -/
theorem ref_frame : Cert.quiescent_ReferenceDhLatIdeal (hReferenceDhLatIdeal := Cert.ReferenceDhLatIdeal.Gen.facts) := fun m g _ =>
  (θ_run _ _ _).mono (fun _ h => ⟨fun c => (h c).2, sem_eq_zero_of_no_sems rfl _⟩) (Cert.ReferenceDhLatIdeal.Value.run m g)

end Cert.Proj.DhLat

end
-- ==== Proof.Proj.Head.lean ====
module

public import proofs.«01_k».proof.Defs
public import proofs.«01_k».proof.Proof.Proj.Products
public import proofs.«01_k».proof.Proof.Gen.KernelHeadIdeal.Value
public import proofs.«01_k».proof.Proof.Gen.ReferenceHeadIdeal
public import proofs.«01_k».proof.Proof.Gen.ReferenceHeadIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.Head

open Idealize.ShloMosaic Idealize.ShloMosaic.TcCoe Idealize.SL.Sem
open Cert.KernelHeadIdeal Cert.KernelHeadIdeal.Gen Cert.Mlp

theorem idx : ∀ t : Fin cfg0.N, win0_0.index t = ![t.val / 4, 0] ∧ win0_1.index t = ![0, t.val % 4]
    ∧ win0_2.index t = ![t.val / 4, t.val % 4] ∧ t.val / 4 < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x512 .bf16) (w : Vec Ideal S512x1024 .bf16) : out0_2 x w = nn x w := by
  refine (stored (e := 1024) (f := 1024) (u := .f32) (k0_pay1 (F := Ideal)) x w).trans ?_
  funext i
  pointwise [k0_pay1, nn]

theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nn_block (fun k => ?_) fun k => ?_ <;> blk_ext [iblk, idx t]

theorem algebraic : Cert.algebraic_KernelHeadIdeal_ReferenceHeadIdeal
    (hKernelHeadIdeal := Cert.KernelHeadIdeal.Gen.facts) (hReferenceHeadIdeal := Cert.ReferenceHeadIdeal.Gen.facts) := by
  intro m g m' g' _ hm
  refine ⟨fun c => (dats m 0 c).arrAt 2 cfg0.N, Value.run_blocks m g, (θ_run _ _ _).mono (fun r h c => ?_) (Cert.ReferenceHeadIdeal.Value.run m' g')⟩
  refine ⟨(h c).1.trans ?_, (h c).2⟩
  rw [(hm c).1, (hm c).2]
  refine Eq.trans ?_ (final m c).symm
  funext i
  pointwise [nn]

/-- The reference runs and leaves its arguments and every semaphore as they were. -/
theorem ref_frame : Cert.quiescent_ReferenceHeadIdeal (hReferenceHeadIdeal := Cert.ReferenceHeadIdeal.Gen.facts) := fun m g _ =>
  (θ_run _ _ _).mono (fun _ h => ⟨fun c => (h c).2, sem_eq_zero_of_no_sems rfl _⟩) (Cert.ReferenceHeadIdeal.Value.run m g)

end Cert.Proj.Head

end
-- ==== Proof.Proj.DwHead.lean ====
module

public import proofs.«01_k».proof.Defs
public import proofs.«01_k».proof.Proof.Proj.Products
public import proofs.«01_k».proof.Proof.Gen.KernelDwHeadIdeal.Value
public import proofs.«01_k».proof.Proof.Gen.ReferenceDwHeadIdeal
public import proofs.«01_k».proof.Proof.Gen.ReferenceDwHeadIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DwHead

open Idealize.ShloMosaic Idealize.ShloMosaic.TcCoe Idealize.SL.Sem
open Cert.KernelDwHeadIdeal Cert.KernelDwHeadIdeal.Gen Cert.Mlp

theorem idx : ∀ t : Fin cfg0.N, win0_0.index t = ![0, 0] ∧ win0_1.index t = ![0, t.val]
    ∧ win0_2.index t = ![0, t.val] ∧ t.val < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S4096x512 .bf16) (w : Vec Ideal S4096x1024 .bf16) : out0_2 x w = tn x w := by
  refine (stored (e := 512) (f := 1024) (u := .bf16) (k0_pay1 (F := Ideal)) x w).trans ?_
  funext i
  pointwise [k0_pay1, tn]

theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine tn_block (fun k => ?_) fun k => ?_ <;> blk_ext [iblk, idx t]

theorem algebraic : Cert.algebraic_KernelDwHeadIdeal_ReferenceDwHeadIdeal
    (hKernelDwHeadIdeal := Cert.KernelDwHeadIdeal.Gen.facts) (hReferenceDwHeadIdeal := Cert.ReferenceDwHeadIdeal.Gen.facts) := by
  intro m g m' g' _ hm
  refine ⟨fun c => (dats m 0 c).arrAt 2 cfg0.N, Value.run_blocks m g, (θ_run _ _ _).mono (fun r h c => ?_) (Cert.ReferenceDwHeadIdeal.Value.run m' g')⟩
  refine ⟨(h c).1.trans ?_, (h c).2⟩
  rw [(hm c).1, (hm c).2]
  refine Eq.trans ?_ (final m c).symm
  funext i
  pointwise [tn]
  exact sum_mul_comm _ _

/-- The reference runs and leaves its arguments and every semaphore as they were. -/
theorem ref_frame : Cert.quiescent_ReferenceDwHeadIdeal (hReferenceDwHeadIdeal := Cert.ReferenceDwHeadIdeal.Gen.facts) := fun m g _ =>
  (θ_run _ _ _).mono (fun _ h => ⟨fun c => (h c).2, sem_eq_zero_of_no_sems rfl _⟩) (Cert.ReferenceDwHeadIdeal.Value.run m g)

end Cert.Proj.DwHead

end
-- ==== Proof.Proj.DcHead.lean ====
module

public import proofs.«01_k».proof.Defs
public import proofs.«01_k».proof.Proof.Proj.Products
public import proofs.«01_k».proof.Proof.Gen.KernelDcHeadIdeal.Value
public import proofs.«01_k».proof.Proof.Gen.ReferenceDcHeadIdeal
public import proofs.«01_k».proof.Proof.Gen.ReferenceDcHeadIdeal.Run
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384

noncomputable section

namespace Cert.Proj.DcHead

open Idealize.ShloMosaic Idealize.ShloMosaic.TcCoe Idealize.SL.Sem
open Cert.KernelDcHeadIdeal Cert.KernelDcHeadIdeal.Gen Cert.Mlp

theorem idx : ∀ t : Fin cfg0.N, win0_0.index t = ![t.val, 0] ∧ win0_1.index t = ![0, 0]
    ∧ win0_2.index t = ![t.val, 0] ∧ t.val < 4 :=
  (by decide +kernel : ∀ t : Fin grid0.N, _)

variable (m : (ℓ : Loc nD τ sig) → Buf (Elt Ideal) ℓ) (c : Dev nD)

/-- What the body stores, of the two blocks that it loads. -/
theorem out_eq (x : Vec Ideal S1024x4096 .bf16) (w : Vec Ideal S512x4096 .bf16) : out0_2 x w = nt x w := by
  refine (stored (e := 1024) (f := 512) (u := .f32) (k0_pay1 (F := Ideal)) x w).trans ?_
  funext i
  pointwise [k0_pay1, nt]

theorem final : (dats m 0 c).arrAt 2 cfg0.N = nt (m ((c : Thread nD τ).loc main_arg0)) (m ((c : Thread nD τ).loc main_arg1)) := by
  refine (dats m 0 c).arrAt_eq_of_covers 2 _ (by decide +kernel) fun t hf y => ?_
  rw [← V_main_arg0 m c, ← V_main_arg1 m c]
  blk_simp
  rw [after0_2, out_eq]
  refine nt_block (fun k => ?_) fun k => ?_ <;> blk_ext [iblk, idx t]

theorem algebraic : Cert.algebraic_KernelDcHeadIdeal_ReferenceDcHeadIdeal
    (hKernelDcHeadIdeal := Cert.KernelDcHeadIdeal.Gen.facts) (hReferenceDcHeadIdeal := Cert.ReferenceDcHeadIdeal.Gen.facts) := by
  intro m g m' g' _ hm
  refine ⟨fun c => (dats m 0 c).arrAt 2 cfg0.N, Value.run_blocks m g, (θ_run _ _ _).mono (fun r h c => ?_) (Cert.ReferenceDcHeadIdeal.Value.run m' g')⟩
  refine ⟨(h c).1.trans ?_, (h c).2⟩
  rw [(hm c).1, (hm c).2]
  refine Eq.trans ?_ (final m c).symm
  funext i
  pointwise [nt]

/-- The reference runs and leaves its arguments and every semaphore as they were. -/
theorem ref_frame : Cert.quiescent_ReferenceDcHeadIdeal (hReferenceDcHeadIdeal := Cert.ReferenceDcHeadIdeal.Gen.facts) := fun m g _ =>
  (θ_run _ _ _).mono (fun _ h => ⟨fun c => (h c).2, sem_eq_zero_of_no_sems rfl _⟩) (Cert.ReferenceDcHeadIdeal.Value.run m g)

end Cert.Proj.DcHead

end
-- ==== Proof.Opt.AdamW.lean ====
module

public import Idealize.ShloMosaic.Lib.Pointwise
public import Idealize.ShloMosaic.PureOps.Ideal

@[expose] public section

noncomputable section

namespace Cert.Opt

open Idealize.ShloMosaic

/-- The indices of an array of three axes. -/
abbrev At (a b c : ℕ) : Type := (⟨3, ![a, b, c]⟩ : Shape).Idx

theorem zeros : (![0, 0, 0] : Fin 3 → ℕ) = fun _ => 0 := by decide

/-- Eight terms added one after the other are their sum. -/
theorem eight (f : Fin 8 → EReal) : f 0 + f 1 + f 2 + f 3 + f 4 + f 5 + f 6 + f 7 = ∑ s, f s := (Fin.sum_univ_eight f).symm

/-- The sum of the parts that the eight devices send, as an array of one layer. -/
def grad {b c : ℕ} (r : At 8 b c → EReal) : At 1 b c → EReal := fun i => ∑ s, r (ix3 s (i 1) (i 2))

/-- The sum at a row and a column, of the second layer's parts or of the first's. -/
def pick {b c : ℕ} (l : ℕ) (r₀ r₁ : At 8 b c → EReal) (x : Fin b) (y : Fin c) : EReal :=
  if l = 1 then ∑ s, r₁ (ix3 s x y) else ∑ s, r₀ (ix3 s x y)

/-- One of two, chosen by being the first or by being the second. -/
theorem choose {l : ℕ} (h : l < 2) (x y : EReal) : (if _ : l < 1 then x else y) = if l = 1 then y else x := by
  have h : l = 0 ∨ l = 1 := by omega
  rcases h with rfl | rfl <;> simp

/-- One layer's sums. -/
def one {b c : ℕ} (l : ℕ) (r₀ r₁ : At 8 b c → EReal) : At 1 b c → EReal := fun i => pick l r₀ r₁ (i 1) (i 2)

/-- The sums of both layers, as one array. -/
def both {b c : ℕ} (r₀ r₁ : At 8 b c → EReal) : At 2 b c → EReal := fun i => pick (i 0).val r₀ r₁ (i 1) (i 2)

/-- The first moment after a step of AdamW. -/
def mean {ι : Type} (g m : ι → EReal) : ι → EReal := fun i =>
  Ideal.ofBits .f32 0x3F666666#32 * m i + Ideal.ofBits .f32 0x3DCCCCCD#32 * g i

/-- The second moment after it. -/
def square {ι : Type} (g v : ι → EReal) : ι → EReal := fun i =>
  Ideal.ofBits .f32 0x3F7FBE77#32 * v i + Ideal.ofBits .f32 0x3A83126F#32 * (g i * g i)

/-- What the step adds to the weight: the corrected first moment over the root of the corrected second, and the decay. -/
def delta {ι : Type} (g w m v : ι → EReal) : ι → EReal := fun i =>
  Ideal.ofBits .f32 0xBA83126F#32
    * (Ideal.div (Ideal.div (mean g m i) (Ideal.ofBits .f32 0x3F26BD02#32))
          (Ideal.sqrt (Ideal.div (square g v i) (Ideal.ofBits .f32 0x3C231ACC#32)) + Ideal.ofBits .f32 0x322BCC77#32)
        + Ideal.ofBits .f32 0x3C23D70A#32 * w i)

/-! The step of a block is a block of the step. -/

section Blocks

variable {b c B C : ℕ} {y : At 1 b c} {i : At 1 B C}

theorem grad_block {r : At 8 b c → EReal} {r' : At 8 B C → EReal} (hr : ∀ s, r (ix3 s (y 1) (y 2)) = r' (ix3 s (i 1) (i 2))) :
    grad r y = grad r' i :=
  Finset.sum_congr rfl fun s _ => hr s

theorem one_block {r₀ r₁ : At 8 b c → EReal} {r₀' r₁' : At 8 B C → EReal} {l : ℕ} {j : At 2 B C} (hl : l = (j 0).val)
    (h₁ : l = 1 → ∀ s, r₁ (ix3 s (y 1) (y 2)) = r₁' (ix3 s (j 1) (j 2)))
    (h₀ : l ≠ 1 → ∀ s, r₀ (ix3 s (y 1) (y 2)) = r₀' (ix3 s (j 1) (j 2))) : one l r₀ r₁ y = both r₀' r₁' j := by
  unfold one both pick
  rw [← hl]
  split
  · exact Finset.sum_congr rfl fun s _ => h₁ ‹_› s
  · exact Finset.sum_congr rfl fun s _ => h₀ ‹_› s

variable {ι κ : Type} {x : ι} {z : κ} {g w m v : ι → EReal} {g' w' m' v' : κ → EReal}

theorem mean_block (hg : g x = g' z) (hm : m x = m' z) : mean g m x = mean g' m' z := by
  unfold mean
  rw [hg, hm]

theorem square_block (hg : g x = g' z) (hv : v x = v' z) : square g v x = square g' v' z := by
  unfold square
  rw [hg, hv]

theorem delta_block (hg : g x = g' z) (hw : w x = w' z) (hm : m x = m' z) (hv : v x = v' z) :
    delta g w m v x = delta g' w' m' v' z := by
  unfold delta
  rw [mean_block hg hm, square_block hg hv, hw]

end Blocks

end Cert.Opt

end
-- ==== Proof.Opt.Adam.lean ====
module

public import proofs.«01_k».proof.Defs
public import proofs.«01_k».proof.Proof.Opt.AdamW
public import proofs.«01_k».proof.Proof.Gen.KernelAdamIdeal.Value
public import proofs.«01_k».proof.Proof.Gen.ReferenceAdamIdeal
public import proofs.«01_k».proof.Proof.Gen.ReferenceAdamIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.Adam

open Idealize.ShloMosaic Idealize.ShloMosaic.TcCoe Idealize.SL.Sem
open Cert.KernelAdamIdeal Cert.KernelAdamIdeal.Gen

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-! ## What the body stores, of the blocks that it loads -/

section Body

variable (r : Vec Ideal S8x64x2048 .bf16) (w p v : Vec Ideal S1x64x2048 .f32)

theorem sum_eq (a : Fin 64) (b : Fin 2048) : k0_pay8 r w p v (ix2 a b) = ∑ s : Fin 8, r (ix3 s a b) := by
  unfold k0_pay8
  pointwise [k0_pay3]
  exact eight fun s => r (ix3 s a b)

theorem out_g : out0_4 r w p v = grad (b := 64) (c := 2048) r := by
  unfold out0_4
  rw [View.canon_unit_zero zeros]
  funext i
  pointwise [k0_pay6, sum_eq, grad]

theorem out_d : out0_5 r w p v = delta (grad (b := 64) (c := 2048) r) w p v := by
  unfold out0_5
  rw [View.canon_unit_zero zeros, View.ld_unit_zero zeros, View.ld_unit_zero zeros, View.ld_unit_zero zeros]
  funext i
  pointwise [k0_pay7, k0_pay5, k0_pay4, sum_eq, grad, delta, mean, square]

theorem out_m : out0_6 r w p v = mean (grad (b := 64) (c := 2048) r) p := by
  unfold out0_6
  rw [View.canon_unit_zero zeros, View.ld_unit_zero zeros]
  funext i
  pointwise [k0_pay1, k0_pay4, sum_eq, grad, mean]

theorem out_v : out0_7 r w p v = square (grad (b := 64) (c := 2048) r) v := by
  unfold out0_7
  rw [View.canon_unit_zero zeros, View.ld_unit_zero zeros]
  funext i
  pointwise [k0_pay2, k0_pay5, sum_eq, grad, square]

end Body

/-! ## The arrays that the call leaves -/

variable (m : (ℓ : Loc nD τ sig) → Buf (Elt Ideal) ℓ) (c : Dev nD)

/-- The gradient, of the arguments. -/
abbrev g₀ : At 1 256 2048 → EReal := grad (b := 256) (c := 2048) (m ((c : Thread nD τ).loc main_arg0))

theorem final_g : (dats m 0 c).arrAt 4 cfg0.N = g₀ m c := by
  refine (dats m 0 c).arrAt_eq_of_covers 4 _ (by decide +kernel) fun t hf y => ?_
  rw [g₀, ← V_main_arg0 m c]
  blk_simp
  rw [after0_4, out_g]
  refine grad_block fun s => ?_
  blk_ext [iblk, idx t]

theorem final_d : (dats m 0 c).arrAt 5 cfg0.N = delta (g₀ m c) (m ((c : Thread nD τ).loc main_arg1)) (m ((c : Thread nD τ).loc main_arg2))
    (m ((c : Thread nD τ).loc main_arg3)) := by
  refine (dats m 0 c).arrAt_eq_of_covers 5 _ (by decide +kernel) fun t hf y => ?_
  rw [g₀, ← V_main_arg0 m c, ← V_main_arg1 m c, ← V_main_arg2 m c, ← V_main_arg3 m c]
  blk_simp
  rw [after0_5, out_d]
  refine delta_block (grad_block fun s => ?_) ?_ ?_ ?_ <;> blk_ext [iblk, idx t]

theorem final_m : (dats m 0 c).arrAt 6 cfg0.N = mean (g₀ m c) (m ((c : Thread nD τ).loc main_arg2)) := by
  refine (dats m 0 c).arrAt_eq_of_covers 6 _ (by decide +kernel) fun t hf y => ?_
  rw [g₀, ← V_main_arg0 m c, ← V_main_arg2 m c]
  blk_simp
  rw [after0_6, out_m]
  refine mean_block (grad_block fun s => ?_) ?_ <;> blk_ext [iblk, idx t]

theorem final_v : (dats m 0 c).arrAt 7 cfg0.N = square (g₀ m c) (m ((c : Thread nD τ).loc main_arg3)) := by
  refine (dats m 0 c).arrAt_eq_of_covers 7 _ (by decide +kernel) fun t hf y => ?_
  rw [g₀, ← V_main_arg0 m c, ← V_main_arg3 m c]
  blk_simp
  rw [after0_7, out_v]
  refine square_block (grad_block fun s => ?_) ?_ <;> blk_ext [iblk, idx t]

theorem algebraic : Cert.algebraic_KernelAdamIdeal_ReferenceAdamIdeal
    (hKernelAdamIdeal := Cert.KernelAdamIdeal.Gen.facts) (hReferenceAdamIdeal := Cert.ReferenceAdamIdeal.Gen.facts) := by
  intro m g m' g' _ hm
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run _ _ _).mono (fun r h c => ?_) (Cert.ReferenceAdamIdeal.Value.run m' g')⟩
  obtain ⟨h0, h1, h2, h3⟩ := hm c
  refine ⟨(h c).1.trans ?_, (h c).2.1.trans ?_, (h c).2.2.1.trans ?_, (h c).2.2.2.1.trans ?_, (h c).2.2.2.2⟩
  · rw [h0]
    refine Eq.trans ?_ (final_g m c).symm
    funext i
    pointwise [grad]
  · rw [h0, h1, h2, h3]
    refine Eq.trans ?_ (final_d m c).symm
    funext i
    pointwise [delta, mean, square, grad]
  · rw [h0, h2]
    refine Eq.trans ?_ (final_m m c).symm
    funext i
    pointwise [mean, grad]
  · rw [h0, h3]
    refine Eq.trans ?_ (final_v m c).symm
    funext i
    pointwise [square, grad]

/-- The reference runs and leaves its arguments and every semaphore as they were. -/
theorem ref_frame : Cert.quiescent_ReferenceAdamIdeal (hReferenceAdamIdeal := Cert.ReferenceAdamIdeal.Gen.facts) := fun m g _ =>
  (θ_run _ _ _).mono (fun _ h => ⟨fun c => (h c).2.2.2.2, sem_eq_zero_of_no_sems rfl _⟩) (Cert.ReferenceAdamIdeal.Value.run m g)

end Cert.Opt.Adam

end
-- ==== Proof.Opt.AdamUp.lean ====
module

public import proofs.«01_k».proof.Defs
public import proofs.«01_k».proof.Proof.Opt.AdamW
public import proofs.«01_k».proof.Proof.Gen.KernelAdamUpIdeal.Value
public import proofs.«01_k».proof.Proof.Gen.ReferenceAdamUpIdeal
public import proofs.«01_k».proof.Proof.Gen.ReferenceAdamUpIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamUp

open Idealize.ShloMosaic Idealize.ShloMosaic.TcCoe Idealize.SL.Sem
open Cert.KernelAdamUpIdeal Cert.KernelAdamUpIdeal.Gen

theorem layer : ∀ t : Fin cfg0.N, (grid0.coords t 0).val = t.val / 16 ∧ t.val / 16 < 2 :=
  (by decide +kernel : ∀ t : Fin grid0.N, _)

/-- The parts of a layer move only while that layer is computed. -/
theorem recv₀ : ∀ t : Fin cfg0.N, (grid0.coords t 0).val ≠ 1 → win0_0.index t = ![0, t.val % 16, 0] :=
  (by decide +kernel : ∀ t : Fin grid0.N, _)

theorem recv₁ : ∀ t : Fin cfg0.N, (grid0.coords t 0).val = 1 → win0_1.index t = ![0, t.val % 16, 0] :=
  (by decide +kernel : ∀ t : Fin grid0.N, _)

theorem idx : ∀ t : Fin cfg0.N, win0_2.index t = ![t.val / 16, t.val % 16, 0] ∧ win0_3.index t = ![t.val / 16, t.val % 16, 0]
    ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0]
    ∧ win0_8.index t = ![t.val / 16, t.val % 16, 0] :=
  (by decide +kernel : ∀ t : Fin grid0.N, _)

/-! ## What the body stores, of the blocks that it loads -/

section Body

variable (j : grid0.Coords) (r₀ r₁ : Vec Ideal S8x128x1024 .bf16) (w p v : Vec Ideal S1x128x1024 .f32)

theorem sum_eq (a : Fin 128) (b : Fin 1024) :
    k0_pay10 j r₀ r₁ w p v (ix2 a b) = pick (b := 128) (c := 1024) (j 0).val r₀ r₁ a b := by
  unfold k0_pay10
  have h : (Scalar.cmpi .eq (BitVec.ofNat 32 (j 0).val) 1#32) = if (j 0).val = 1 then 1#1 else 0#1 := by
    generalize j 0 = l
    revert l
    decide
  rw [h]
  unfold pick
  by_cases hj : (j 0).val = 1
  · rw [if_pos hj, if_pos hj]
    pointwise [k0_pay4, k0_pay3]
    exact eight fun s => r₁ (ix3 s a b)
  · rw [if_neg hj, if_neg hj]
    pointwise [k0_pay4, k0_pay3]
    exact eight fun s => r₀ (ix3 s a b)

theorem out_g : out0_5 j r₀ r₁ w p v = one (b := 128) (c := 1024) (j 0).val r₀ r₁ := by
  unfold out0_5
  rw [View.canon_unit_zero zeros]
  funext i
  pointwise [k0_pay8, sum_eq, one]

theorem out_d : out0_6 j r₀ r₁ w p v = delta (one (b := 128) (c := 1024) (j 0).val r₀ r₁) w p v := by
  unfold out0_6
  rw [View.canon_unit_zero zeros, View.ld_unit_zero zeros, View.ld_unit_zero zeros, View.ld_unit_zero zeros]
  funext i
  pointwise [k0_pay9, k0_pay7, k0_pay6, k0_pay5, sum_eq, one, delta, mean, square]

theorem out_m : out0_7 j r₀ r₁ w p v = mean (one (b := 128) (c := 1024) (j 0).val r₀ r₁) p := by
  unfold out0_7
  rw [View.canon_unit_zero zeros, View.ld_unit_zero zeros]
  funext i
  pointwise [k0_pay1, k0_pay6, sum_eq, one, mean]

theorem out_v : out0_8 j r₀ r₁ w p v = square (one (b := 128) (c := 1024) (j 0).val r₀ r₁) v := by
  unfold out0_8
  rw [View.canon_unit_zero zeros, View.ld_unit_zero zeros]
  funext i
  pointwise [k0_pay2, k0_pay7, sum_eq, one, square]

end Body

/-! ## The arrays that the call leaves -/

variable (m : (ℓ : Loc nD τ sig) → Buf (Elt Ideal) ℓ) (c : Dev nD)

/-- The gradient, of the arguments. -/
abbrev g₀ : At 2 2048 1024 → EReal :=
  both (b := 2048) (c := 1024) (m ((c : Thread nD τ).loc main_arg0)) (m ((c : Thread nD τ).loc main_arg1))

theorem final_g : (dats m 0 c).arrAt 5 cfg0.N = g₀ m c := by
  refine (dats m 0 c).arrAt_eq_of_covers 5 _ (by decide +kernel) fun t hf y => ?_
  rw [g₀, ← V_main_arg0 m c, ← V_main_arg1 m c]
  blk_simp
  rw [after0_5, out_g]
  refine one_block ?_ (fun h s => ?_) fun h s => ?_
  · simp [layer t, idx t]
  · blk_ext [iblk, idx t, recv₁ t h]
  · blk_ext [iblk, idx t, recv₀ t h]

theorem final_d : (dats m 0 c).arrAt 6 cfg0.N = delta (g₀ m c) (m ((c : Thread nD τ).loc main_arg2)) (m ((c : Thread nD τ).loc main_arg3))
    (m ((c : Thread nD τ).loc main_arg4)) := by
  refine (dats m 0 c).arrAt_eq_of_covers 6 _ (by decide +kernel) fun t hf y => ?_
  rw [g₀, ← V_main_arg0 m c, ← V_main_arg1 m c, ← V_main_arg2 m c, ← V_main_arg3 m c, ← V_main_arg4 m c]
  blk_simp
  rw [after0_6, out_d]
  refine delta_block (one_block ?_ (fun h s => ?_) fun h s => ?_) ?_ ?_ ?_
  · simp [layer t, idx t]
  · blk_ext [iblk, idx t, recv₁ t h]
  · blk_ext [iblk, idx t, recv₀ t h]
  all_goals blk_ext [iblk, idx t]

theorem final_m : (dats m 0 c).arrAt 7 cfg0.N = mean (g₀ m c) (m ((c : Thread nD τ).loc main_arg3)) := by
  refine (dats m 0 c).arrAt_eq_of_covers 7 _ (by decide +kernel) fun t hf y => ?_
  rw [g₀, ← V_main_arg0 m c, ← V_main_arg1 m c, ← V_main_arg3 m c]
  blk_simp
  rw [after0_7, out_m]
  refine mean_block (one_block ?_ (fun h s => ?_) fun h s => ?_) ?_
  · simp [layer t, idx t]
  · blk_ext [iblk, idx t, recv₁ t h]
  · blk_ext [iblk, idx t, recv₀ t h]
  · blk_ext [iblk, idx t]

theorem final_v : (dats m 0 c).arrAt 8 cfg0.N = square (g₀ m c) (m ((c : Thread nD τ).loc main_arg4)) := by
  refine (dats m 0 c).arrAt_eq_of_covers 8 _ (by decide +kernel) fun t hf y => ?_
  rw [g₀, ← V_main_arg0 m c, ← V_main_arg1 m c, ← V_main_arg4 m c]
  blk_simp
  rw [after0_8, out_v]
  refine square_block (one_block ?_ (fun h s => ?_) fun h s => ?_) ?_
  · simp [layer t, idx t]
  · blk_ext [iblk, idx t, recv₁ t h]
  · blk_ext [iblk, idx t, recv₀ t h]
  · blk_ext [iblk, idx t]

theorem algebraic : Cert.algebraic_KernelAdamUpIdeal_ReferenceAdamUpIdeal
    (hKernelAdamUpIdeal := Cert.KernelAdamUpIdeal.Gen.facts) (hReferenceAdamUpIdeal := Cert.ReferenceAdamUpIdeal.Gen.facts) := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g,
    (θ_run _ _ _).mono (fun r h c => ?_) (Cert.ReferenceAdamUpIdeal.Value.run m' g')⟩
  obtain ⟨h0, h1, h2, h3, h4⟩ := hm c
  refine ⟨(h c).1.trans ?_, (h c).2.1.trans ?_, (h c).2.2.1.trans ?_, (h c).2.2.2.1.trans ?_, (h c).2.2.2.2⟩
  · rw [h0, h1]
    refine Eq.trans ?_ (final_g m c).symm
    funext i
    pointwise [both, pick]
    exact choose (i 0).isLt _ _
  · rw [h0, h1, h2, h3, h4]
    refine Eq.trans ?_ (final_d m c).symm
    funext i
    pointwise [delta, mean, square, both, pick]
    rw [choose (i 0).isLt]
  · rw [h0, h1, h3]
    refine Eq.trans ?_ (final_m m c).symm
    funext i
    pointwise [mean, both, pick]
    rw [choose (i 0).isLt]
  · rw [h0, h1, h4]
    refine Eq.trans ?_ (final_v m c).symm
    funext i
    pointwise [square, both, pick]
    rw [choose (i 0).isLt]

/-- The reference runs and leaves its arguments and every semaphore as they were. -/
theorem ref_frame : Cert.quiescent_ReferenceAdamUpIdeal (hReferenceAdamUpIdeal := Cert.ReferenceAdamUpIdeal.Gen.facts) := fun m g _ =>
  (θ_run _ _ _).mono (fun _ h => ⟨fun c => (h c).2.2.2.2, sem_eq_zero_of_no_sems rfl _⟩) (Cert.ReferenceAdamUpIdeal.Value.run m g)

end Cert.Opt.AdamUp

end
-- ==== Proof.Opt.AdamIn.lean ====
module

public import proofs.«01_k».proof.Defs
public import proofs.«01_k».proof.Proof.Opt.AdamW
public import proofs.«01_k».proof.Proof.Gen.KernelAdamInIdeal.Value
public import proofs.«01_k».proof.Proof.Gen.ReferenceAdamInIdeal
public import proofs.«01_k».proof.Proof.Gen.ReferenceAdamInIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamIn

open Idealize.ShloMosaic Idealize.ShloMosaic.TcCoe Idealize.SL.Sem
open Cert.KernelAdamInIdeal Cert.KernelAdamInIdeal.Gen

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-! ## What the body stores, of the blocks that it loads -/

section Body

variable (r : Vec Ideal S8x128x769 .bf16) (w p v : Vec Ideal S1x128x769 .f32)

theorem sum_eq (a : Fin 128) (b : Fin 769) : k0_pay8 r w p v (ix2 a b) = ∑ s : Fin 8, r (ix3 s a b) := by
  unfold k0_pay8
  pointwise [k0_pay3]
  exact eight fun s => r (ix3 s a b)

theorem out_g : out0_4 r w p v = grad (b := 128) (c := 769) r := by
  unfold out0_4
  rw [View.canon_unit_zero zeros]
  funext i
  pointwise [k0_pay6, sum_eq, grad]

theorem out_d : out0_5 r w p v = delta (grad (b := 128) (c := 769) r) w p v := by
  unfold out0_5
  rw [View.canon_unit_zero zeros, View.ld_unit_zero zeros, View.ld_unit_zero zeros, View.ld_unit_zero zeros]
  funext i
  pointwise [k0_pay7, k0_pay5, k0_pay4, sum_eq, grad, delta, mean, square]

theorem out_m : out0_6 r w p v = mean (grad (b := 128) (c := 769) r) p := by
  unfold out0_6
  rw [View.canon_unit_zero zeros, View.ld_unit_zero zeros]
  funext i
  pointwise [k0_pay1, k0_pay4, sum_eq, grad, mean]

theorem out_v : out0_7 r w p v = square (grad (b := 128) (c := 769) r) v := by
  unfold out0_7
  rw [View.canon_unit_zero zeros, View.ld_unit_zero zeros]
  funext i
  pointwise [k0_pay2, k0_pay5, sum_eq, grad, square]

end Body

/-! ## The arrays that the call leaves -/

variable (m : (ℓ : Loc nD τ sig) → Buf (Elt Ideal) ℓ) (c : Dev nD)

/-- The gradient, of the arguments. -/
abbrev g₀ : At 1 2048 769 → EReal := grad (b := 2048) (c := 769) (m ((c : Thread nD τ).loc main_arg0))

theorem final_g : (dats m 0 c).arrAt 4 cfg0.N = g₀ m c := by
  refine (dats m 0 c).arrAt_eq_of_covers 4 _ (by decide +kernel) fun t hf y => ?_
  rw [g₀, ← V_main_arg0 m c]
  blk_simp
  rw [after0_4, out_g]
  refine grad_block fun s => ?_
  blk_ext [iblk, idx t]

theorem final_d : (dats m 0 c).arrAt 5 cfg0.N = delta (g₀ m c) (m ((c : Thread nD τ).loc main_arg1)) (m ((c : Thread nD τ).loc main_arg2))
    (m ((c : Thread nD τ).loc main_arg3)) := by
  refine (dats m 0 c).arrAt_eq_of_covers 5 _ (by decide +kernel) fun t hf y => ?_
  rw [g₀, ← V_main_arg0 m c, ← V_main_arg1 m c, ← V_main_arg2 m c, ← V_main_arg3 m c]
  blk_simp
  rw [after0_5, out_d]
  refine delta_block (grad_block fun s => ?_) ?_ ?_ ?_ <;> blk_ext [iblk, idx t]

theorem final_m : (dats m 0 c).arrAt 6 cfg0.N = mean (g₀ m c) (m ((c : Thread nD τ).loc main_arg2)) := by
  refine (dats m 0 c).arrAt_eq_of_covers 6 _ (by decide +kernel) fun t hf y => ?_
  rw [g₀, ← V_main_arg0 m c, ← V_main_arg2 m c]
  blk_simp
  rw [after0_6, out_m]
  refine mean_block (grad_block fun s => ?_) ?_ <;> blk_ext [iblk, idx t]

theorem final_v : (dats m 0 c).arrAt 7 cfg0.N = square (g₀ m c) (m ((c : Thread nD τ).loc main_arg3)) := by
  refine (dats m 0 c).arrAt_eq_of_covers 7 _ (by decide +kernel) fun t hf y => ?_
  rw [g₀, ← V_main_arg0 m c, ← V_main_arg3 m c]
  blk_simp
  rw [after0_7, out_v]
  refine square_block (grad_block fun s => ?_) ?_ <;> blk_ext [iblk, idx t]

theorem algebraic : Cert.algebraic_KernelAdamInIdeal_ReferenceAdamInIdeal
    (hKernelAdamInIdeal := Cert.KernelAdamInIdeal.Gen.facts) (hReferenceAdamInIdeal := Cert.ReferenceAdamInIdeal.Gen.facts) := by
  intro m g m' g' _ hm
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run _ _ _).mono (fun r h c => ?_) (Cert.ReferenceAdamInIdeal.Value.run m' g')⟩
  obtain ⟨h0, h1, h2, h3⟩ := hm c
  refine ⟨(h c).1.trans ?_, (h c).2.1.trans ?_, (h c).2.2.1.trans ?_, (h c).2.2.2.1.trans ?_, (h c).2.2.2.2⟩
  · rw [h0]
    refine Eq.trans ?_ (final_g m c).symm
    funext i
    pointwise [grad]
  · rw [h0, h1, h2, h3]
    refine Eq.trans ?_ (final_d m c).symm
    funext i
    pointwise [delta, mean, square, grad]
  · rw [h0, h2]
    refine Eq.trans ?_ (final_m m c).symm
    funext i
    pointwise [mean, grad]
  · rw [h0, h3]
    refine Eq.trans ?_ (final_v m c).symm
    funext i
    pointwise [square, grad]

/-- The reference runs and leaves its arguments and every semaphore as they were. -/
theorem ref_frame : Cert.quiescent_ReferenceAdamInIdeal (hReferenceAdamInIdeal := Cert.ReferenceAdamInIdeal.Gen.facts) := fun m g _ =>
  (θ_run _ _ _).mono (fun _ h => ⟨fun c => (h c).2.2.2.2, sem_eq_zero_of_no_sems rfl _⟩) (Cert.ReferenceAdamInIdeal.Value.run m g)

end Cert.Opt.AdamIn

end
-- ==== Proof.Opt.AdamLat.lean ====
module

public import proofs.«01_k».proof.Defs
public import proofs.«01_k».proof.Proof.Opt.AdamW
public import proofs.«01_k».proof.Proof.Gen.KernelAdamLatIdeal.Value
public import proofs.«01_k».proof.Proof.Gen.ReferenceAdamLatIdeal
public import proofs.«01_k».proof.Proof.Gen.ReferenceAdamLatIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamLat

open Idealize.ShloMosaic Idealize.ShloMosaic.TcCoe Idealize.SL.Sem
open Cert.KernelAdamLatIdeal Cert.KernelAdamLatIdeal.Gen

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-! ## What the body stores, of the blocks that it loads -/

section Body

variable (r : Vec Ideal S8x64x1088 .bf16) (w p v : Vec Ideal S1x64x1088 .f32)

theorem sum_eq (a : Fin 64) (b : Fin 1088) : k0_pay8 r w p v (ix2 a b) = ∑ s : Fin 8, r (ix3 s a b) := by
  unfold k0_pay8
  pointwise [k0_pay3]
  exact eight fun s => r (ix3 s a b)

theorem out_g : out0_4 r w p v = grad (b := 64) (c := 1088) r := by
  unfold out0_4
  rw [View.canon_unit_zero zeros]
  funext i
  pointwise [k0_pay6, sum_eq, grad]

theorem out_d : out0_5 r w p v = delta (grad (b := 64) (c := 1088) r) w p v := by
  unfold out0_5
  rw [View.canon_unit_zero zeros, View.ld_unit_zero zeros, View.ld_unit_zero zeros, View.ld_unit_zero zeros]
  funext i
  pointwise [k0_pay7, k0_pay5, k0_pay4, sum_eq, grad, delta, mean, square]

theorem out_m : out0_6 r w p v = mean (grad (b := 64) (c := 1088) r) p := by
  unfold out0_6
  rw [View.canon_unit_zero zeros, View.ld_unit_zero zeros]
  funext i
  pointwise [k0_pay1, k0_pay4, sum_eq, grad, mean]

theorem out_v : out0_7 r w p v = square (grad (b := 64) (c := 1088) r) v := by
  unfold out0_7
  rw [View.canon_unit_zero zeros, View.ld_unit_zero zeros]
  funext i
  pointwise [k0_pay2, k0_pay5, sum_eq, grad, square]

end Body

/-! ## The arrays that the call leaves -/

variable (m : (ℓ : Loc nD τ sig) → Buf (Elt Ideal) ℓ) (c : Dev nD)

/-- The gradient, of the arguments. -/
abbrev g₀ : At 1 256 1088 → EReal := grad (b := 256) (c := 1088) (m ((c : Thread nD τ).loc main_arg0))

theorem final_g : (dats m 0 c).arrAt 4 cfg0.N = g₀ m c := by
  refine (dats m 0 c).arrAt_eq_of_covers 4 _ (by decide +kernel) fun t hf y => ?_
  rw [g₀, ← V_main_arg0 m c]
  blk_simp
  rw [after0_4, out_g]
  refine grad_block fun s => ?_
  blk_ext [iblk, idx t]

theorem final_d : (dats m 0 c).arrAt 5 cfg0.N = delta (g₀ m c) (m ((c : Thread nD τ).loc main_arg1)) (m ((c : Thread nD τ).loc main_arg2))
    (m ((c : Thread nD τ).loc main_arg3)) := by
  refine (dats m 0 c).arrAt_eq_of_covers 5 _ (by decide +kernel) fun t hf y => ?_
  rw [g₀, ← V_main_arg0 m c, ← V_main_arg1 m c, ← V_main_arg2 m c, ← V_main_arg3 m c]
  blk_simp
  rw [after0_5, out_d]
  refine delta_block (grad_block fun s => ?_) ?_ ?_ ?_ <;> blk_ext [iblk, idx t]

theorem final_m : (dats m 0 c).arrAt 6 cfg0.N = mean (g₀ m c) (m ((c : Thread nD τ).loc main_arg2)) := by
  refine (dats m 0 c).arrAt_eq_of_covers 6 _ (by decide +kernel) fun t hf y => ?_
  rw [g₀, ← V_main_arg0 m c, ← V_main_arg2 m c]
  blk_simp
  rw [after0_6, out_m]
  refine mean_block (grad_block fun s => ?_) ?_ <;> blk_ext [iblk, idx t]

theorem final_v : (dats m 0 c).arrAt 7 cfg0.N = square (g₀ m c) (m ((c : Thread nD τ).loc main_arg3)) := by
  refine (dats m 0 c).arrAt_eq_of_covers 7 _ (by decide +kernel) fun t hf y => ?_
  rw [g₀, ← V_main_arg0 m c, ← V_main_arg3 m c]
  blk_simp
  rw [after0_7, out_v]
  refine square_block (grad_block fun s => ?_) ?_ <;> blk_ext [iblk, idx t]

theorem algebraic : Cert.algebraic_KernelAdamLatIdeal_ReferenceAdamLatIdeal
    (hKernelAdamLatIdeal := Cert.KernelAdamLatIdeal.Gen.facts) (hReferenceAdamLatIdeal := Cert.ReferenceAdamLatIdeal.Gen.facts) := by
  intro m g m' g' _ hm
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run _ _ _).mono (fun r h c => ?_) (Cert.ReferenceAdamLatIdeal.Value.run m' g')⟩
  obtain ⟨h0, h1, h2, h3⟩ := hm c
  refine ⟨(h c).1.trans ?_, (h c).2.1.trans ?_, (h c).2.2.1.trans ?_, (h c).2.2.2.1.trans ?_, (h c).2.2.2.2⟩
  · rw [h0]
    refine Eq.trans ?_ (final_g m c).symm
    funext i
    pointwise [grad]
  · rw [h0, h1, h2, h3]
    refine Eq.trans ?_ (final_d m c).symm
    funext i
    pointwise [delta, mean, square, grad]
  · rw [h0, h2]
    refine Eq.trans ?_ (final_m m c).symm
    funext i
    pointwise [mean, grad]
  · rw [h0, h3]
    refine Eq.trans ?_ (final_v m c).symm
    funext i
    pointwise [square, grad]

/-- The reference runs and leaves its arguments and every semaphore as they were. -/
theorem ref_frame : Cert.quiescent_ReferenceAdamLatIdeal (hReferenceAdamLatIdeal := Cert.ReferenceAdamLatIdeal.Gen.facts) := fun m g _ =>
  (θ_run _ _ _).mono (fun _ h => ⟨fun c => (h c).2.2.2.2, sem_eq_zero_of_no_sems rfl _⟩) (Cert.ReferenceAdamLatIdeal.Value.run m g)

end Cert.Opt.AdamLat

end
-- ==== Proof.Opt.AdamUq.lean ====
module

public import proofs.«01_k».proof.Defs
public import proofs.«01_k».proof.Proof.Opt.AdamW
public import proofs.«01_k».proof.Proof.Gen.KernelAdamUqIdeal.Value
public import proofs.«01_k».proof.Proof.Gen.ReferenceAdamUqIdeal
public import proofs.«01_k».proof.Proof.Gen.ReferenceAdamUqIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamUq

open Idealize.ShloMosaic Idealize.ShloMosaic.TcCoe Idealize.SL.Sem
open Cert.KernelAdamUqIdeal Cert.KernelAdamUqIdeal.Gen

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-! ## What the body stores, of the blocks that it loads -/

section Body

variable (r : Vec Ideal S8x256x384 .bf16) (w p v : Vec Ideal S1x256x384 .f32)

theorem sum_eq (a : Fin 256) (b : Fin 384) : k0_pay8 r w p v (ix2 a b) = ∑ s : Fin 8, r (ix3 s a b) := by
  unfold k0_pay8
  pointwise [k0_pay3]
  exact eight fun s => r (ix3 s a b)

theorem out_g : out0_4 r w p v = grad (b := 256) (c := 384) r := by
  unfold out0_4
  rw [View.canon_unit_zero zeros]
  funext i
  pointwise [k0_pay6, sum_eq, grad]

theorem out_d : out0_5 r w p v = delta (grad (b := 256) (c := 384) r) w p v := by
  unfold out0_5
  rw [View.canon_unit_zero zeros, View.ld_unit_zero zeros, View.ld_unit_zero zeros, View.ld_unit_zero zeros]
  funext i
  pointwise [k0_pay7, k0_pay5, k0_pay4, sum_eq, grad, delta, mean, square]

theorem out_m : out0_6 r w p v = mean (grad (b := 256) (c := 384) r) p := by
  unfold out0_6
  rw [View.canon_unit_zero zeros, View.ld_unit_zero zeros]
  funext i
  pointwise [k0_pay1, k0_pay4, sum_eq, grad, mean]

theorem out_v : out0_7 r w p v = square (grad (b := 256) (c := 384) r) v := by
  unfold out0_7
  rw [View.canon_unit_zero zeros, View.ld_unit_zero zeros]
  funext i
  pointwise [k0_pay2, k0_pay5, sum_eq, grad, square]

end Body

/-! ## The arrays that the call leaves -/

variable (m : (ℓ : Loc nD τ sig) → Buf (Elt Ideal) ℓ) (c : Dev nD)

/-- The gradient, of the arguments. -/
abbrev g₀ : At 1 512 384 → EReal := grad (b := 512) (c := 384) (m ((c : Thread nD τ).loc main_arg0))

theorem final_g : (dats m 0 c).arrAt 4 cfg0.N = g₀ m c := by
  refine (dats m 0 c).arrAt_eq_of_covers 4 _ (by decide +kernel) fun t hf y => ?_
  rw [g₀, ← V_main_arg0 m c]
  blk_simp
  rw [after0_4, out_g]
  refine grad_block fun s => ?_
  blk_ext [iblk, idx t]

theorem final_d : (dats m 0 c).arrAt 5 cfg0.N = delta (g₀ m c) (m ((c : Thread nD τ).loc main_arg1)) (m ((c : Thread nD τ).loc main_arg2))
    (m ((c : Thread nD τ).loc main_arg3)) := by
  refine (dats m 0 c).arrAt_eq_of_covers 5 _ (by decide +kernel) fun t hf y => ?_
  rw [g₀, ← V_main_arg0 m c, ← V_main_arg1 m c, ← V_main_arg2 m c, ← V_main_arg3 m c]
  blk_simp
  rw [after0_5, out_d]
  refine delta_block (grad_block fun s => ?_) ?_ ?_ ?_ <;> blk_ext [iblk, idx t]

theorem final_m : (dats m 0 c).arrAt 6 cfg0.N = mean (g₀ m c) (m ((c : Thread nD τ).loc main_arg2)) := by
  refine (dats m 0 c).arrAt_eq_of_covers 6 _ (by decide +kernel) fun t hf y => ?_
  rw [g₀, ← V_main_arg0 m c, ← V_main_arg2 m c]
  blk_simp
  rw [after0_6, out_m]
  refine mean_block (grad_block fun s => ?_) ?_ <;> blk_ext [iblk, idx t]

theorem final_v : (dats m 0 c).arrAt 7 cfg0.N = square (g₀ m c) (m ((c : Thread nD τ).loc main_arg3)) := by
  refine (dats m 0 c).arrAt_eq_of_covers 7 _ (by decide +kernel) fun t hf y => ?_
  rw [g₀, ← V_main_arg0 m c, ← V_main_arg3 m c]
  blk_simp
  rw [after0_7, out_v]
  refine square_block (grad_block fun s => ?_) ?_ <;> blk_ext [iblk, idx t]

theorem algebraic : Cert.algebraic_KernelAdamUqIdeal_ReferenceAdamUqIdeal
    (hKernelAdamUqIdeal := Cert.KernelAdamUqIdeal.Gen.facts) (hReferenceAdamUqIdeal := Cert.ReferenceAdamUqIdeal.Gen.facts) := by
  intro m g m' g' _ hm
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run _ _ _).mono (fun r h c => ?_) (Cert.ReferenceAdamUqIdeal.Value.run m' g')⟩
  obtain ⟨h0, h1, h2, h3⟩ := hm c
  refine ⟨(h c).1.trans ?_, (h c).2.1.trans ?_, (h c).2.2.1.trans ?_, (h c).2.2.2.1.trans ?_, (h c).2.2.2.2⟩
  · rw [h0]
    refine Eq.trans ?_ (final_g m c).symm
    funext i
    pointwise [grad]
  · rw [h0, h1, h2, h3]
    refine Eq.trans ?_ (final_d m c).symm
    funext i
    pointwise [delta, mean, square, grad]
  · rw [h0, h2]
    refine Eq.trans ?_ (final_m m c).symm
    funext i
    pointwise [mean, grad]
  · rw [h0, h3]
    refine Eq.trans ?_ (final_v m c).symm
    funext i
    pointwise [square, grad]

/-- The reference runs and leaves its arguments and every semaphore as they were. -/
theorem ref_frame : Cert.quiescent_ReferenceAdamUqIdeal (hReferenceAdamUqIdeal := Cert.ReferenceAdamUqIdeal.Gen.facts) := fun m g _ =>
  (θ_run _ _ _).mono (fun _ h => ⟨fun c => (h c).2.2.2.2, sem_eq_zero_of_no_sems rfl _⟩) (Cert.ReferenceAdamUqIdeal.Value.run m g)

end Cert.Opt.AdamUq

end
-- ==== Proof.Opt.AdamUkv.lean ====
module

public import proofs.«01_k».proof.Defs
public import proofs.«01_k».proof.Proof.Opt.AdamW
public import proofs.«01_k».proof.Proof.Gen.KernelAdamUkvIdeal.Value
public import proofs.«01_k».proof.Proof.Gen.ReferenceAdamUkvIdeal
public import proofs.«01_k».proof.Proof.Gen.ReferenceAdamUkvIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamUkv

open Idealize.ShloMosaic Idealize.ShloMosaic.TcCoe Idealize.SL.Sem
open Cert.KernelAdamUkvIdeal Cert.KernelAdamUkvIdeal.Gen

theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-! ## What the body stores, of the blocks that it loads -/

section Body

variable (r : Vec Ideal S8x256x512 .bf16) (w p v : Vec Ideal S1x256x512 .f32)

theorem sum_eq (a : Fin 256) (b : Fin 512) : k0_pay8 r w p v (ix2 a b) = ∑ s : Fin 8, r (ix3 s a b) := by
  unfold k0_pay8
  pointwise [k0_pay3]
  exact eight fun s => r (ix3 s a b)

theorem out_g : out0_4 r w p v = grad (b := 256) (c := 512) r := by
  unfold out0_4
  rw [View.canon_unit_zero zeros]
  funext i
  pointwise [k0_pay6, sum_eq, grad]

theorem out_d : out0_5 r w p v = delta (grad (b := 256) (c := 512) r) w p v := by
  unfold out0_5
  rw [View.canon_unit_zero zeros, View.ld_unit_zero zeros, View.ld_unit_zero zeros, View.ld_unit_zero zeros]
  funext i
  pointwise [k0_pay7, k0_pay5, k0_pay4, sum_eq, grad, delta, mean, square]

theorem out_m : out0_6 r w p v = mean (grad (b := 256) (c := 512) r) p := by
  unfold out0_6
  rw [View.canon_unit_zero zeros, View.ld_unit_zero zeros]
  funext i
  pointwise [k0_pay1, k0_pay4, sum_eq, grad, mean]

theorem out_v : out0_7 r w p v = square (grad (b := 256) (c := 512) r) v := by
  unfold out0_7
  rw [View.canon_unit_zero zeros, View.ld_unit_zero zeros]
  funext i
  pointwise [k0_pay2, k0_pay5, sum_eq, grad, square]

end Body

/-! ## The arrays that the call leaves -/

variable (m : (ℓ : Loc nD τ sig) → Buf (Elt Ideal) ℓ) (c : Dev nD)

/-- The gradient, of the arguments. -/
abbrev g₀ : At 1 512 512 → EReal := grad (b := 512) (c := 512) (m ((c : Thread nD τ).loc main_arg0))

theorem final_g : (dats m 0 c).arrAt 4 cfg0.N = g₀ m c := by
  refine (dats m 0 c).arrAt_eq_of_covers 4 _ (by decide +kernel) fun t hf y => ?_
  rw [g₀, ← V_main_arg0 m c]
  blk_simp
  rw [after0_4, out_g]
  refine grad_block fun s => ?_
  blk_ext [iblk, idx t]

theorem final_d : (dats m 0 c).arrAt 5 cfg0.N = delta (g₀ m c) (m ((c : Thread nD τ).loc main_arg1)) (m ((c : Thread nD τ).loc main_arg2))
    (m ((c : Thread nD τ).loc main_arg3)) := by
  refine (dats m 0 c).arrAt_eq_of_covers 5 _ (by decide +kernel) fun t hf y => ?_
  rw [g₀, ← V_main_arg0 m c, ← V_main_arg1 m c, ← V_main_arg2 m c, ← V_main_arg3 m c]
  blk_simp
  rw [after0_5, out_d]
  refine delta_block (grad_block fun s => ?_) ?_ ?_ ?_ <;> blk_ext [iblk, idx t]

theorem final_m : (dats m 0 c).arrAt 6 cfg0.N = mean (g₀ m c) (m ((c : Thread nD τ).loc main_arg2)) := by
  refine (dats m 0 c).arrAt_eq_of_covers 6 _ (by decide +kernel) fun t hf y => ?_
  rw [g₀, ← V_main_arg0 m c, ← V_main_arg2 m c]
  blk_simp
  rw [after0_6, out_m]
  refine mean_block (grad_block fun s => ?_) ?_ <;> blk_ext [iblk, idx t]

theorem final_v : (dats m 0 c).arrAt 7 cfg0.N = square (g₀ m c) (m ((c : Thread nD τ).loc main_arg3)) := by
  refine (dats m 0 c).arrAt_eq_of_covers 7 _ (by decide +kernel) fun t hf y => ?_
  rw [g₀, ← V_main_arg0 m c, ← V_main_arg3 m c]
  blk_simp
  rw [after0_7, out_v]
  refine square_block (grad_block fun s => ?_) ?_ <;> blk_ext [iblk, idx t]

theorem algebraic : Cert.algebraic_KernelAdamUkvIdeal_ReferenceAdamUkvIdeal
    (hKernelAdamUkvIdeal := Cert.KernelAdamUkvIdeal.Gen.facts) (hReferenceAdamUkvIdeal := Cert.ReferenceAdamUkvIdeal.Gen.facts) := by
  intro m g m' g' _ hm
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g,
    (θ_run _ _ _).mono (fun r h c => ?_) (Cert.ReferenceAdamUkvIdeal.Value.run m' g')⟩
  obtain ⟨h0, h1, h2, h3⟩ := hm c
  refine ⟨(h c).1.trans ?_, (h c).2.1.trans ?_, (h c).2.2.1.trans ?_, (h c).2.2.2.1.trans ?_, (h c).2.2.2.2⟩
  · rw [h0]
    refine Eq.trans ?_ (final_g m c).symm
    funext i
    pointwise [grad]
  · rw [h0, h1, h2, h3]
    refine Eq.trans ?_ (final_d m c).symm
    funext i
    pointwise [delta, mean, square, grad]
  · rw [h0, h2]
    refine Eq.trans ?_ (final_m m c).symm
    funext i
    pointwise [mean, grad]
  · rw [h0, h3]
    refine Eq.trans ?_ (final_v m c).symm
    funext i
    pointwise [square, grad]

/-- The reference runs and leaves its arguments and every semaphore as they were. -/
theorem ref_frame : Cert.quiescent_ReferenceAdamUkvIdeal (hReferenceAdamUkvIdeal := Cert.ReferenceAdamUkvIdeal.Gen.facts) := fun m g _ =>
  (θ_run _ _ _).mono (fun _ h => ⟨fun c => (h c).2.2.2.2, sem_eq_zero_of_no_sems rfl _⟩) (Cert.ReferenceAdamUkvIdeal.Value.run m g)

end Cert.Opt.AdamUkv

end
-- ==== Proof.Opt.AdamDown.lean ====
module

public import proofs.«01_k».proof.Defs
public import proofs.«01_k».proof.Proof.Opt.AdamW
public import proofs.«01_k».proof.Proof.Gen.KernelAdamDownIdeal.Value
public import proofs.«01_k».proof.Proof.Gen.ReferenceAdamDownIdeal
public import proofs.«01_k».proof.Proof.Gen.ReferenceAdamDownIdeal.Run
public import Idealize.ShloMosaic.Lib.Pipeline.ValueKit
public import Idealize.ShloMosaic.Lib.Claim
public import Idealize.ShloMosaic.Lib.Quiescent

@[expose] public section

set_option maxRecDepth 16384

noncomputable section

namespace Cert.Opt.AdamDown

open Idealize.ShloMosaic Idealize.ShloMosaic.TcCoe Idealize.SL.Sem
open Cert.KernelAdamDownIdeal Cert.KernelAdamDownIdeal.Gen

theorem layer : ∀ t : Fin cfg0.N, (grid0.coords t 0).val = t.val / 16 ∧ t.val / 16 < 2 :=
  (by decide +kernel : ∀ t : Fin grid0.N, _)

/-- The parts of a layer move only while that layer is computed. -/
theorem recv₀ : ∀ t : Fin cfg0.N, (grid0.coords t 0).val ≠ 1 → win0_0.index t = ![0, t.val % 16, 0] :=
  (by decide +kernel : ∀ t : Fin grid0.N, _)

theorem recv₁ : ∀ t : Fin cfg0.N, (grid0.coords t 0).val = 1 → win0_1.index t = ![0, t.val % 16, 0] :=
  (by decide +kernel : ∀ t : Fin grid0.N, _)

theorem idx : ∀ t : Fin cfg0.N, win0_2.index t = ![t.val / 16, t.val % 16, 0] ∧ win0_3.index t = ![t.val / 16, t.val % 16, 0]
    ∧ win0_4.index t = ![t.val / 16, t.val % 16, 0] ∧ win0_5.index t = ![t.val / 16, t.val % 16, 0]
    ∧ win0_6.index t = ![t.val / 16, t.val % 16, 0] ∧ win0_7.index t = ![t.val / 16, t.val % 16, 0]
    ∧ win0_8.index t = ![t.val / 16, t.val % 16, 0] :=
  (by decide +kernel : ∀ t : Fin grid0.N, _)

/-! ## What the body stores, of the blocks that it loads -/

section Body

variable (j : grid0.Coords) (r₀ r₁ : Vec Ideal S8x64x2048 .bf16) (w p v : Vec Ideal S1x64x2048 .f32)

theorem sum_eq (a : Fin 64) (b : Fin 2048) :
    k0_pay10 j r₀ r₁ w p v (ix2 a b) = pick (b := 64) (c := 2048) (j 0).val r₀ r₁ a b := by
  unfold k0_pay10
  have h : (Scalar.cmpi .eq (BitVec.ofNat 32 (j 0).val) 1#32) = if (j 0).val = 1 then 1#1 else 0#1 := by
    generalize j 0 = l
    revert l
    decide
  rw [h]
  unfold pick
  by_cases hj : (j 0).val = 1
  · rw [if_pos hj, if_pos hj]
    pointwise [k0_pay4, k0_pay3]
    exact eight fun s => r₁ (ix3 s a b)
  · rw [if_neg hj, if_neg hj]
    pointwise [k0_pay4, k0_pay3]
    exact eight fun s => r₀ (ix3 s a b)

theorem out_g : out0_5 j r₀ r₁ w p v = one (b := 64) (c := 2048) (j 0).val r₀ r₁ := by
  unfold out0_5
  rw [View.canon_unit_zero zeros]
  funext i
  pointwise [k0_pay8, sum_eq, one]

theorem out_d : out0_6 j r₀ r₁ w p v = delta (one (b := 64) (c := 2048) (j 0).val r₀ r₁) w p v := by
  unfold out0_6
  rw [View.canon_unit_zero zeros, View.ld_unit_zero zeros, View.ld_unit_zero zeros, View.ld_unit_zero zeros]
  funext i
  pointwise [k0_pay9, k0_pay7, k0_pay6, k0_pay5, sum_eq, one, delta, mean, square]

theorem out_m : out0_7 j r₀ r₁ w p v = mean (one (b := 64) (c := 2048) (j 0).val r₀ r₁) p := by
  unfold out0_7
  rw [View.canon_unit_zero zeros, View.ld_unit_zero zeros]
  funext i
  pointwise [k0_pay1, k0_pay6, sum_eq, one, mean]

theorem out_v : out0_8 j r₀ r₁ w p v = square (one (b := 64) (c := 2048) (j 0).val r₀ r₁) v := by
  unfold out0_8
  rw [View.canon_unit_zero zeros, View.ld_unit_zero zeros]
  funext i
  pointwise [k0_pay2, k0_pay7, sum_eq, one, square]

end Body

/-! ## The arrays that the call leaves -/

variable (m : (ℓ : Loc nD τ sig) → Buf (Elt Ideal) ℓ) (c : Dev nD)

/-- The gradient, of the arguments. -/
abbrev g₀ : At 2 1024 2048 → EReal :=
  both (b := 1024) (c := 2048) (m ((c : Thread nD τ).loc main_arg0)) (m ((c : Thread nD τ).loc main_arg1))

theorem final_g : (dats m 0 c).arrAt 5 cfg0.N = g₀ m c := by
  refine (dats m 0 c).arrAt_eq_of_covers 5 _ (by decide +kernel) fun t hf y => ?_
  rw [g₀, ← V_main_arg0 m c, ← V_main_arg1 m c]
  blk_simp
  rw [after0_5, out_g]
  refine one_block ?_ (fun h s => ?_) fun h s => ?_
  · simp [layer t, idx t]
  · blk_ext [iblk, idx t, recv₁ t h]
  · blk_ext [iblk, idx t, recv₀ t h]

theorem final_d : (dats m 0 c).arrAt 6 cfg0.N = delta (g₀ m c) (m ((c : Thread nD τ).loc main_arg2)) (m ((c : Thread nD τ).loc main_arg3))
    (m ((c : Thread nD τ).loc main_arg4)) := by
  refine (dats m 0 c).arrAt_eq_of_covers 6 _ (by decide +kernel) fun t hf y => ?_
  rw [g₀, ← V_main_arg0 m c, ← V_main_arg1 m c, ← V_main_arg2 m c, ← V_main_arg3 m c, ← V_main_arg4 m c]
  blk_simp
  rw [after0_6, out_d]
  refine delta_block (one_block ?_ (fun h s => ?_) fun h s => ?_) ?_ ?_ ?_
  · simp [layer t, idx t]
  · blk_ext [iblk, idx t, recv₁ t h]
  · blk_ext [iblk, idx t, recv₀ t h]
  all_goals blk_ext [iblk, idx t]

theorem final_m : (dats m 0 c).arrAt 7 cfg0.N = mean (g₀ m c) (m ((c : Thread nD τ).loc main_arg3)) := by
  refine (dats m 0 c).arrAt_eq_of_covers 7 _ (by decide +kernel) fun t hf y => ?_
  rw [g₀, ← V_main_arg0 m c, ← V_main_arg1 m c, ← V_main_arg3 m c]
  blk_simp
  rw [after0_7, out_m]
  refine mean_block (one_block ?_ (fun h s => ?_) fun h s => ?_) ?_
  · simp [layer t, idx t]
  · blk_ext [iblk, idx t, recv₁ t h]
  · blk_ext [iblk, idx t, recv₀ t h]
  · blk_ext [iblk, idx t]

theorem final_v : (dats m 0 c).arrAt 8 cfg0.N = square (g₀ m c) (m ((c : Thread nD τ).loc main_arg4)) := by
  refine (dats m 0 c).arrAt_eq_of_covers 8 _ (by decide +kernel) fun t hf y => ?_
  rw [g₀, ← V_main_arg0 m c, ← V_main_arg1 m c, ← V_main_arg4 m c]
  blk_simp
  rw [after0_8, out_v]
  refine square_block (one_block ?_ (fun h s => ?_) fun h s => ?_) ?_
  · simp [layer t, idx t]
  · blk_ext [iblk, idx t, recv₁ t h]
  · blk_ext [iblk, idx t, recv₀ t h]
  · blk_ext [iblk, idx t]

theorem algebraic : Cert.algebraic_KernelAdamDownIdeal_ReferenceAdamDownIdeal
    (hKernelAdamDownIdeal := Cert.KernelAdamDownIdeal.Gen.facts) (hReferenceAdamDownIdeal := Cert.ReferenceAdamDownIdeal.Gen.facts) := by
  intro m g m' g' _ hm
  refine ⟨fun c => (dats m 0 c).arrAt 5 cfg0.N, fun c => (dats m 0 c).arrAt 6 cfg0.N, fun c => (dats m 0 c).arrAt 7 cfg0.N,
    fun c => (dats m 0 c).arrAt 8 cfg0.N, Value.run_blocks m g,
    (θ_run _ _ _).mono (fun r h c => ?_) (Cert.ReferenceAdamDownIdeal.Value.run m' g')⟩
  obtain ⟨h0, h1, h2, h3, h4⟩ := hm c
  refine ⟨(h c).1.trans ?_, (h c).2.1.trans ?_, (h c).2.2.1.trans ?_, (h c).2.2.2.1.trans ?_, (h c).2.2.2.2⟩
  · rw [h0, h1]
    refine Eq.trans ?_ (final_g m c).symm
    funext i
    pointwise [both, pick]
    exact choose (i 0).isLt _ _
  · rw [h0, h1, h2, h3, h4]
    refine Eq.trans ?_ (final_d m c).symm
    funext i
    pointwise [delta, mean, square, both, pick]
    rw [choose (i 0).isLt]
  · rw [h0, h1, h3]
    refine Eq.trans ?_ (final_m m c).symm
    funext i
    pointwise [mean, both, pick]
    rw [choose (i 0).isLt]
  · rw [h0, h1, h4]
    refine Eq.trans ?_ (final_v m c).symm
    funext i
    pointwise [square, both, pick]
    rw [choose (i 0).isLt]

/-- The reference runs and leaves its arguments and every semaphore as they were. -/
theorem ref_frame : Cert.quiescent_ReferenceAdamDownIdeal (hReferenceAdamDownIdeal := Cert.ReferenceAdamDownIdeal.Gen.facts) := fun m g _ =>
  (θ_run _ _ _).mono (fun _ h => ⟨fun c => (h c).2.2.2.2, sem_eq_zero_of_no_sems rfl _⟩) (Cert.ReferenceAdamDownIdeal.Value.run m g)

end Cert.Opt.AdamDown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Run
public import proofs.«01_k».proof.Proof.RefFrame
public import proofs.«01_k».proof.Proof.Printed.Run
public import proofs.«01_k».proof.Proof.Value.Alg
public import proofs.«01_k».proof.Proof.Mlp.DwDown
public import proofs.«01_k».proof.Proof.Mlp.Du
public import proofs.«01_k».proof.Proof.Mlp.DwUp
public import proofs.«01_k».proof.Proof.Mlp.Dh
public import proofs.«01_k».proof.Proof.Mlp.Up
public import proofs.«01_k».proof.Proof.Mlp.Down
public import proofs.«01_k».proof.Proof.Proj.In
public import proofs.«01_k».proof.Proof.Proj.Out
public import proofs.«01_k».proof.Proof.Proj.Do
public import proofs.«01_k».proof.Proof.Proj.DwO
public import proofs.«01_k».proof.Proof.Proj.DwA
public import proofs.«01_k».proof.Proof.Proj.DhA
public import proofs.«01_k».proof.Proof.Proj.InB
public import proofs.«01_k».proof.Proof.Proj.DwB
public import proofs.«01_k».proof.Proof.Proj.DhB
public import proofs.«01_k».proof.Proof.Proj.Lat
public import proofs.«01_k».proof.Proof.Proj.DwLat
public import proofs.«01_k».proof.Proof.Proj.DhLat
public import proofs.«01_k».proof.Proof.Proj.Head
public import proofs.«01_k».proof.Proof.Proj.DwHead
public import proofs.«01_k».proof.Proof.Proj.DcHead
public import proofs.«01_k».proof.Proof.Opt.Adam
public import proofs.«01_k».proof.Proof.Opt.AdamUp
public import proofs.«01_k».proof.Proof.Opt.AdamIn
public import proofs.«01_k».proof.Proof.Opt.AdamLat
public import proofs.«01_k».proof.Proof.Opt.AdamUq
public import proofs.«01_k».proof.Proof.Opt.AdamUkv
public import proofs.«01_k».proof.Proof.Opt.AdamDown
public import proofs.«01_k».proof.Proof.Gen.KernelDwDown
public import proofs.«01_k».proof.Proof.Gen.KernelDwDown.Frame
public import proofs.«01_k».proof.Proof.Gen.KernelDwDownIdeal.Value
public import proofs.«01_k».proof.Proof.Gen.ReferenceDwDownIdeal.Run
public import proofs.«01_k».proof.Proof.Gen.KernelDu
public import proofs.«01_k».proof.Proof.Gen.KernelDu.Frame
public import proofs.«01_k».proof.Proof.Gen.KernelDuIdeal.Value
public import proofs.«01_k».proof.Proof.Gen.ReferenceDuIdeal.Run
public import proofs.«01_k».proof.Proof.Gen.KernelDwUp
public import proofs.«01_k».proof.Proof.Gen.KernelDwUp.Frame
public import proofs.«01_k».proof.Proof.Gen.KernelDwUpIdeal.Value
public import proofs.«01_k».proof.Proof.Gen.ReferenceDwUpIdeal.Run
public import proofs.«01_k».proof.Proof.Gen.KernelDh
public import proofs.«01_k».proof.Proof.Gen.KernelDh.Frame
public import proofs.«01_k».proof.Proof.Gen.KernelDhIdeal.Value
public import proofs.«01_k».proof.Proof.Gen.ReferenceDhIdeal.Run
public import proofs.«01_k».proof.Proof.Gen.KernelUp
public import proofs.«01_k».proof.Proof.Gen.KernelUp.Frame
public import proofs.«01_k».proof.Proof.Gen.KernelUpIdeal.Value
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.KernelIn
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelOut
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.KernelDo
public import proofs.«01_k».proof.Proof.Gen.KernelDo.Frame
public import proofs.«01_k».proof.Proof.Gen.KernelDoIdeal.Value
public import proofs.«01_k».proof.Proof.Gen.ReferenceDoIdeal.Run
public import proofs.«01_k».proof.Proof.Gen.KernelDwO
public import proofs.«01_k».proof.Proof.Gen.KernelDwO.Frame
public import proofs.«01_k».proof.Proof.Gen.KernelDwOIdeal.Value
public import proofs.«01_k».proof.Proof.Gen.ReferenceDwOIdeal.Run
public import proofs.«01_k».proof.Proof.Gen.KernelDwA
public import proofs.«01_k».proof.Proof.Gen.KernelDwA.Frame
public import proofs.«01_k».proof.Proof.Gen.KernelDwAIdeal.Value
public import proofs.«01_k».proof.Proof.Gen.ReferenceDwAIdeal.Run
public import proofs.«01_k».proof.Proof.Gen.KernelDhA
public import proofs.«01_k».proof.Proof.Gen.KernelDhA.Frame
public import proofs.«01_k».proof.Proof.Gen.KernelDhAIdeal.Value
public import proofs.«01_k».proof.Proof.Gen.ReferenceDhAIdeal.Run
public import proofs.«01_k».proof.Proof.Gen.KernelInB
public import proofs.«01_k».proof.Proof.Gen.KernelInB.Frame
public import proofs.«01_k».proof.Proof.Gen.KernelInBIdeal.Value
public import proofs.«01_k».proof.Proof.Gen.ReferenceInBIdeal.Run
public import proofs.«01_k».proof.Proof.Gen.KernelDwB
public import proofs.«01_k».proof.Proof.Gen.KernelDwB.Frame
public import proofs.«01_k».proof.Proof.Gen.KernelDwBIdeal.Value
public import proofs.«01_k».proof.Proof.Gen.ReferenceDwBIdeal.Run
public import proofs.«01_k».proof.Proof.Gen.KernelDhB
public import proofs.«01_k».proof.Proof.Gen.KernelDhB.Frame
public import proofs.«01_k».proof.Proof.Gen.KernelDhBIdeal.Value
public import proofs.«01_k».proof.Proof.Gen.ReferenceDhBIdeal.Run
public import proofs.«01_k».proof.Proof.Gen.KernelLat
public import proofs.«01_k».proof.Proof.Gen.KernelLat.Frame
public import proofs.«01_k».proof.Proof.Gen.KernelLatIdeal.Value
public import proofs.«01_k».proof.Proof.Gen.ReferenceLatIdeal.Run
public import proofs.«01_k».proof.Proof.Gen.KernelDwLat
public import proofs.«01_k».proof.Proof.Gen.KernelDwLat.Frame
public import proofs.«01_k».proof.Proof.Gen.KernelDwLatIdeal.Value
public import proofs.«01_k».proof.Proof.Gen.ReferenceDwLatIdeal.Run
public import proofs.«01_k».proof.Proof.Gen.KernelDhLat
public import proofs.«01_k».proof.Proof.Gen.KernelDhLat.Frame
public import proofs.«01_k».proof.Proof.Gen.KernelDhLatIdeal.Value
public import proofs.«01_k».proof.Proof.Gen.ReferenceDhLatIdeal.Run
public import proofs.«01_k».proof.Proof.Gen.KernelHead
public import proofs.«01_k».proof.Proof.Gen.KernelHead.Frame
public import proofs.«01_k».proof.Proof.Gen.KernelHeadIdeal.Value
public import proofs.«01_k».proof.Proof.Gen.ReferenceHeadIdeal.Run
public import proofs.«01_k».proof.Proof.Gen.KernelDwHead
public import proofs.«01_k».proof.Proof.Gen.KernelDwHead.Frame
public import proofs.«01_k».proof.Proof.Gen.KernelDwHeadIdeal.Value
public import proofs.«01_k».proof.Proof.Gen.ReferenceDwHeadIdeal.Run
public import proofs.«01_k».proof.Proof.Gen.KernelDcHead
public import proofs.«01_k».proof.Proof.Gen.KernelDcHead.Frame
public import proofs.«01_k».proof.Proof.Gen.KernelDcHeadIdeal.Value
public import proofs.«01_k».proof.Proof.Gen.ReferenceDcHeadIdeal.Run
public import proofs.«01_k».proof.Proof.Gen.KernelAdam
public import proofs.«01_k».proof.Proof.Gen.KernelAdam.Frame
public import proofs.«01_k».proof.Proof.Gen.KernelAdamIdeal.Value
public import proofs.«01_k».proof.Proof.Gen.ReferenceAdamIdeal.Run
public import proofs.«01_k».proof.Proof.Gen.KernelAdamUp
public import proofs.«01_k».proof.Proof.Gen.KernelAdamUp.Frame
public import proofs.«01_k».proof.Proof.Gen.KernelAdamUpIdeal.Value
public import proofs.«01_k».proof.Proof.Gen.ReferenceAdamUpIdeal.Run
public import proofs.«01_k».proof.Proof.Gen.KernelAdamIn
public import proofs.«01_k».proof.Proof.Gen.KernelAdamIn.Frame
public import proofs.«01_k».proof.Proof.Gen.KernelAdamInIdeal.Value
public import proofs.«01_k».proof.Proof.Gen.ReferenceAdamInIdeal.Run
public import proofs.«01_k».proof.Proof.Gen.KernelAdamLat
public import proofs.«01_k».proof.Proof.Gen.KernelAdamLat.Frame
public import proofs.«01_k».proof.Proof.Gen.KernelAdamLatIdeal.Value
public import proofs.«01_k».proof.Proof.Gen.ReferenceAdamLatIdeal.Run
public import proofs.«01_k».proof.Proof.Gen.KernelAdamUq
public import proofs.«01_k».proof.Proof.Gen.KernelAdamUq.Frame
public import proofs.«01_k».proof.Proof.Gen.KernelAdamUqIdeal.Value
public import proofs.«01_k».proof.Proof.Gen.ReferenceAdamUqIdeal.Run
public import proofs.«01_k».proof.Proof.Gen.KernelAdamUkv
public import proofs.«01_k».proof.Proof.Gen.KernelAdamUkv.Frame
public import proofs.«01_k».proof.Proof.Gen.KernelAdamUkvIdeal.Value
public import proofs.«01_k».proof.Proof.Gen.ReferenceAdamUkvIdeal.Run
public import proofs.«01_k».proof.Proof.Gen.KernelAdamDown
public import proofs.«01_k».proof.Proof.Gen.KernelAdamDown.Frame
public import proofs.«01_k».proof.Proof.Gen.KernelAdamDownIdeal.Value
public import proofs.«01_k».proof.Proof.Gen.ReferenceAdamDownIdeal.Run
public import Idealize.ShloMosaic.Adequacy
public import Idealize.ShloMosaic.Init

@[expose] public section

noncomputable section

namespace Cert.Proof

open Idealize.ShloMosaic Idealize.SL.Sem

theorem pre_facts : Cert.Pre_finite.Facts where
  bcast_S_S4096x4096 := by decide
  bcast_S_S4096x2048 := by decide

theorem claim : Cert.Claim := ⟨Cert.Kernel.Gen.facts, Cert.KernelIdeal.Gen.facts, Cert.ReferenceIdeal.Gen.facts,
  Cert.KernelDwDown.Gen.facts, Cert.KernelDwDownIdeal.Gen.facts, Cert.ReferenceDwDownIdeal.Gen.facts,
  Cert.KernelDu.Gen.facts, Cert.KernelDuIdeal.Gen.facts, Cert.ReferenceDuIdeal.Gen.facts,
  Cert.KernelDwUp.Gen.facts, Cert.KernelDwUpIdeal.Gen.facts, Cert.ReferenceDwUpIdeal.Gen.facts,
  Cert.KernelDh.Gen.facts, Cert.KernelDhIdeal.Gen.facts, Cert.ReferenceDhIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelDo.Gen.facts, Cert.KernelDoIdeal.Gen.facts, Cert.ReferenceDoIdeal.Gen.facts,
  Cert.KernelDwO.Gen.facts, Cert.KernelDwOIdeal.Gen.facts, Cert.ReferenceDwOIdeal.Gen.facts,
  Cert.KernelDwA.Gen.facts, Cert.KernelDwAIdeal.Gen.facts, Cert.ReferenceDwAIdeal.Gen.facts,
  Cert.KernelDhA.Gen.facts, Cert.KernelDhAIdeal.Gen.facts, Cert.ReferenceDhAIdeal.Gen.facts,
  Cert.KernelInB.Gen.facts, Cert.KernelInBIdeal.Gen.facts, Cert.ReferenceInBIdeal.Gen.facts,
  Cert.KernelDwB.Gen.facts, Cert.KernelDwBIdeal.Gen.facts, Cert.ReferenceDwBIdeal.Gen.facts,
  Cert.KernelDhB.Gen.facts, Cert.KernelDhBIdeal.Gen.facts, Cert.ReferenceDhBIdeal.Gen.facts,
  Cert.KernelLat.Gen.facts, Cert.KernelLatIdeal.Gen.facts, Cert.ReferenceLatIdeal.Gen.facts,
  Cert.KernelDwLat.Gen.facts, Cert.KernelDwLatIdeal.Gen.facts, Cert.ReferenceDwLatIdeal.Gen.facts,
  Cert.KernelDhLat.Gen.facts, Cert.KernelDhLatIdeal.Gen.facts, Cert.ReferenceDhLatIdeal.Gen.facts,
  Cert.KernelHead.Gen.facts, Cert.KernelHeadIdeal.Gen.facts, Cert.ReferenceHeadIdeal.Gen.facts,
  Cert.KernelDwHead.Gen.facts, Cert.KernelDwHeadIdeal.Gen.facts, Cert.ReferenceDwHeadIdeal.Gen.facts,
  Cert.KernelDcHead.Gen.facts, Cert.KernelDcHeadIdeal.Gen.facts, Cert.ReferenceDcHeadIdeal.Gen.facts,
  Cert.KernelAdam.Gen.facts, Cert.KernelAdamIdeal.Gen.facts, Cert.ReferenceAdamIdeal.Gen.facts,
  Cert.KernelAdamUp.Gen.facts, Cert.KernelAdamUpIdeal.Gen.facts, Cert.ReferenceAdamUpIdeal.Gen.facts,
  Cert.KernelAdamIn.Gen.facts, Cert.KernelAdamInIdeal.Gen.facts, Cert.ReferenceAdamInIdeal.Gen.facts,
  Cert.KernelAdamLat.Gen.facts, Cert.KernelAdamLatIdeal.Gen.facts, Cert.ReferenceAdamLatIdeal.Gen.facts,
  Cert.KernelAdamUq.Gen.facts, Cert.KernelAdamUqIdeal.Gen.facts, Cert.ReferenceAdamUqIdeal.Gen.facts,
  Cert.KernelAdamUkv.Gen.facts, Cert.KernelAdamUkvIdeal.Gen.facts, Cert.ReferenceAdamUkvIdeal.Gen.facts,
  Cert.KernelAdamDown.Gen.facts, Cert.KernelAdamDownIdeal.Gen.facts, Cert.ReferenceAdamDownIdeal.Gen.facts,
  pre_facts,
  fun m g _ => Cert.Printed.frame m g, fun m g _ => Cert.Stick.frame m g, fun m g _ => Cert.Stick.frame m g,
  fun m g _ => Cert.Stick.ref_frame m g, fun m g _ => Cert.Stick.ref_frame m g,
  fun m g _ => Cert.KernelDwDown.Gen.frame m g, fun m g _ => Cert.KernelDwDownIdeal.Gen.frame m g, Cert.Mlp.DwDown.ref_frame,
  fun m g _ => Cert.KernelDu.Gen.frame m g, fun m g _ => Cert.KernelDuIdeal.Gen.frame m g, Cert.Mlp.Du.ref_frame,
  fun m g _ => Cert.KernelDwUp.Gen.frame m g, fun m g _ => Cert.KernelDwUpIdeal.Gen.frame m g, Cert.Mlp.DwUp.ref_frame,
  fun m g _ => Cert.KernelDh.Gen.frame m g, fun m g _ => Cert.KernelDhIdeal.Gen.frame m g, Cert.Mlp.Dh.ref_frame,
  fun m g _ => Cert.KernelUp.Gen.frame m g, fun m g _ => Cert.KernelUpIdeal.Gen.frame m g, Cert.Mlp.Up.ref_frame,
  fun m g _ => Cert.KernelDown.Gen.frame m g, fun m g _ => Cert.KernelDownIdeal.Gen.frame m g, Cert.Mlp.Down.ref_frame,
  fun m g _ => Cert.KernelIn.Gen.frame m g, fun m g _ => Cert.KernelInIdeal.Gen.frame m g, Cert.Proj.In.ref_frame,
  fun m g _ => Cert.KernelOut.Gen.frame m g, fun m g _ => Cert.KernelOutIdeal.Gen.frame m g, Cert.Proj.Out.ref_frame,
  fun m g _ => Cert.KernelDo.Gen.frame m g, fun m g _ => Cert.KernelDoIdeal.Gen.frame m g, Cert.Proj.Do.ref_frame,
  fun m g _ => Cert.KernelDwO.Gen.frame m g, fun m g _ => Cert.KernelDwOIdeal.Gen.frame m g, Cert.Proj.DwO.ref_frame,
  fun m g _ => Cert.KernelDwA.Gen.frame m g, fun m g _ => Cert.KernelDwAIdeal.Gen.frame m g, Cert.Proj.DwA.ref_frame,
  fun m g _ => Cert.KernelDhA.Gen.frame m g, fun m g _ => Cert.KernelDhAIdeal.Gen.frame m g, Cert.Proj.DhA.ref_frame,
  fun m g _ => Cert.KernelInB.Gen.frame m g, fun m g _ => Cert.KernelInBIdeal.Gen.frame m g, Cert.Proj.InB.ref_frame,
  fun m g _ => Cert.KernelDwB.Gen.frame m g, fun m g _ => Cert.KernelDwBIdeal.Gen.frame m g, Cert.Proj.DwB.ref_frame,
  fun m g _ => Cert.KernelDhB.Gen.frame m g, fun m g _ => Cert.KernelDhBIdeal.Gen.frame m g, Cert.Proj.DhB.ref_frame,
  fun m g _ => Cert.KernelLat.Gen.frame m g, fun m g _ => Cert.KernelLatIdeal.Gen.frame m g, Cert.Proj.Lat.ref_frame,
  fun m g _ => Cert.KernelDwLat.Gen.frame m g, fun m g _ => Cert.KernelDwLatIdeal.Gen.frame m g, Cert.Proj.DwLat.ref_frame,
  fun m g _ => Cert.KernelDhLat.Gen.frame m g, fun m g _ => Cert.KernelDhLatIdeal.Gen.frame m g, Cert.Proj.DhLat.ref_frame,
  fun m g _ => Cert.KernelHead.Gen.frame m g, fun m g _ => Cert.KernelHeadIdeal.Gen.frame m g, Cert.Proj.Head.ref_frame,
  fun m g _ => Cert.KernelDwHead.Gen.frame m g, fun m g _ => Cert.KernelDwHeadIdeal.Gen.frame m g, Cert.Proj.DwHead.ref_frame,
  fun m g _ => Cert.KernelDcHead.Gen.frame m g, fun m g _ => Cert.KernelDcHeadIdeal.Gen.frame m g, Cert.Proj.DcHead.ref_frame,
  fun m g _ => Cert.KernelAdam.Gen.frame m g, fun m g _ => Cert.KernelAdamIdeal.Gen.frame m g, Cert.Opt.Adam.ref_frame,
  fun m g _ => Cert.KernelAdamUp.Gen.frame m g, fun m g _ => Cert.KernelAdamUpIdeal.Gen.frame m g, Cert.Opt.AdamUp.ref_frame,
  fun m g _ => Cert.KernelAdamIn.Gen.frame m g, fun m g _ => Cert.KernelAdamInIdeal.Gen.frame m g, Cert.Opt.AdamIn.ref_frame,
  fun m g _ => Cert.KernelAdamLat.Gen.frame m g, fun m g _ => Cert.KernelAdamLatIdeal.Gen.frame m g, Cert.Opt.AdamLat.ref_frame,
  fun m g _ => Cert.KernelAdamUq.Gen.frame m g, fun m g _ => Cert.KernelAdamUqIdeal.Gen.frame m g, Cert.Opt.AdamUq.ref_frame,
  fun m g _ => Cert.KernelAdamUkv.Gen.frame m g, fun m g _ => Cert.KernelAdamUkvIdeal.Gen.frame m g, Cert.Opt.AdamUkv.ref_frame,
  fun m g _ => Cert.KernelAdamDown.Gen.frame m g, fun m g _ => Cert.KernelAdamDownIdeal.Gen.frame m g, Cert.Opt.AdamDown.ref_frame,
  ⟨IdealRules.named_const.statement Cert.KernelIdeal.κ "scale_log2e" .f32 _ _ rfl, IdealRules.named_const.statement Cert.KernelIdeal.κ "inv_ln2" .f32 _ _ rfl⟩,
  Cert.Stick.algebraic pre_facts,
  trivial, Cert.Mlp.DwDown.algebraic,
  trivial, Cert.Mlp.Du.algebraic,
  trivial, Cert.Mlp.DwUp.algebraic,
  trivial, Cert.Mlp.Dh.algebraic,
  trivial, Cert.Mlp.Up.algebraic,
  trivial, Cert.Mlp.Down.algebraic,
  trivial, Cert.Proj.In.algebraic,
  trivial, Cert.Proj.Out.algebraic,
  trivial, Cert.Proj.Do.algebraic,
  trivial, Cert.Proj.DwO.algebraic,
  trivial, Cert.Proj.DwA.algebraic,
  trivial, Cert.Proj.DhA.algebraic,
  trivial, Cert.Proj.InB.algebraic,
  trivial, Cert.Proj.DwB.algebraic,
  trivial, Cert.Proj.DhB.algebraic,
  trivial, Cert.Proj.Lat.algebraic,
  trivial, Cert.Proj.DwLat.algebraic,
  trivial, Cert.Proj.DhLat.algebraic,
  trivial, Cert.Proj.Head.algebraic,
  trivial, Cert.Proj.DwHead.algebraic,
  trivial, Cert.Proj.DcHead.algebraic,
  trivial, Cert.Opt.Adam.algebraic,
  trivial, Cert.Opt.AdamUp.algebraic,
  trivial, Cert.Opt.AdamIn.algebraic,
  trivial, Cert.Opt.AdamLat.algebraic,
  trivial, Cert.Opt.AdamUq.algebraic,
  trivial, Cert.Opt.AdamUkv.algebraic,
  trivial, Cert.Opt.AdamDown.algebraic⟩

end Cert.Proof

end
